-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)) (v4 : (c : Dev Cert.Kernel15Ideal.nD) → Buf (Elt Ideal) ((c.tc : Thread Cert.Kernel15Ideal.nD Cert.Kernel15Ideal.τ).loc Cert.Kernel15Ideal.main_v1_4)) (v5 : (c : Dev Cert.Kernel15Ideal.nD) → Buf (Elt Ideal) ((c.tc : Thread Cert.Kernel15Ideal.nD Cert.Kernel15Ideal.τ).loc Cert.Kernel15Ideal.main_v1_5)) (v6 : (c : Dev Cert.Kernel15Ideal.nD) → Buf (Elt Ideal) ((c.tc : Thread Cert.Kernel15Ideal.nD Cert.Kernel15Ideal.τ).loc Cert.Kernel15Ideal.main_v1_6)) (v7 : (c : Dev Cert.Kernel15Ideal.nD) → Buf (Elt Ideal) ((c.tc : Thread Cert.Kernel15Ideal.nD Cert.Kernel15Ideal.τ).loc Cert.Kernel15Ideal.main_v1_7)) (v8 : (c : Dev Cert.Kernel15Ideal.nD) → Buf (Elt Ideal) ((c.tc : Thread Cert.Kernel15Ideal.nD Cert.Kernel15Ideal.τ).loc Cert.Kernel15Ideal.main_v1_8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_v1_4) = v4 c
          ∧ r.2.mem ((c.tc : Thread Cert.Kernel15Ideal.nD Cert.Kernel15Ideal.τ).loc Cert.Kernel15Ideal.main_v1_5) = v5 c
          ∧ r.2.mem ((c.tc : Thread Cert.Kernel15Ideal.nD Cert.Kernel15Ideal.τ).loc Cert.Kernel15Ideal.main_v1_6) = v6 c
          ∧ r.2.mem ((c.tc : Thread Cert.Kernel15Ideal.nD Cert.Kernel15Ideal.τ).loc Cert.Kernel15Ideal.main_v1_7) = v7 c
          ∧ r.2.mem ((c.tc : Thread Cert.Kernel15Ideal.nD Cert.Kernel15Ideal.τ).loc Cert.Kernel15Ideal.main_v1_8) = v8 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v58) = v0 c
          ∧ r.2.mem ((c.tc : Thread Cert.Reference15Ideal.nD Cert.Reference15Ideal.τ).loc Cert.Reference15Ideal.main_v59) = v1 c
          ∧ r.2.mem ((c.tc : Thread Cert.Reference15Ideal.nD Cert.Reference15Ideal.τ).loc Cert.Reference15Ideal.main_v60) = v2 c
          ∧ r.2.mem ((c.tc : Thread Cert.Reference15Ideal.nD Cert.Reference15Ideal.τ).loc Cert.Reference15Ideal.main_v57) = v3 c
          ∧ r.2.mem ((c.tc : Thread Cert.Reference15Ideal.nD Cert.Reference15Ideal.τ).loc Cert.Reference15Ideal.main_v56) = v4 c
          ∧ r.2.mem ((c.tc : Thread Cert.Reference15Ideal.nD Cert.Reference15Ideal.τ).loc Cert.Reference15Ideal.main_v55) = v5 c
          ∧ r.2.mem ((c.tc : Thread Cert.Reference15Ideal.nD Cert.Reference15Ideal.τ).loc Cert.Reference15Ideal.main_v61) = v6 c
          ∧ r.2.mem ((c.tc : Thread Cert.Reference15Ideal.nD Cert.Reference15Ideal.τ).loc Cert.Reference15Ideal.main_v62) = v7 c
          ∧ r.2.mem ((c.tc : Thread Cert.Reference15Ideal.nD Cert.Reference15Ideal.τ).loc Cert.Reference15Ideal.main_v63) = v8 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v35) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_v26) = v1 c
          ∧ r.2.mem ((c.tc : Thread Cert.Reference35Ideal.nD Cert.Reference35Ideal.τ).loc Cert.Reference35Ideal.main_v7) = v2 c
          ∧ r.2.mem ((c.tc : Thread Cert.Reference35Ideal.nD Cert.Reference35Ideal.τ).loc Cert.Reference35Ideal.main_v13) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_v26) = v1 c
          ∧ r.2.mem ((c.tc : Thread Cert.Reference36Ideal.nD Cert.Reference36Ideal.τ).loc Cert.Reference36Ideal.main_v7) = v2 c
          ∧ r.2.mem ((c.tc : Thread Cert.Reference36Ideal.nD Cert.Reference36Ideal.τ).loc Cert.Reference36Ideal.main_v13) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S4096x6144 : Shape := ⟨2, ![4096, 6144]⟩
abbrev S4096x8 : Shape := ⟨2, ![4096, 8]⟩
abbrev S4096x512 : Shape := ⟨2, ![4096, 512]⟩
abbrev S4096x1536 : Shape := ⟨2, ![4096, 1536]⟩
abbrev S_ : Shape := ⟨0, ![]⟩

class Facts : Prop where
  slices_S4096x6144_S4096x1536_0_0 : S4096x6144.Slices ![0, 0] S4096x1536
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x6144 .f32) (main_arg1 : FVec F S4096x8 .f32) (main_arg2 : FVec F S4096x512 .f32) : IVec S_ 1 :=
  let main_v0 : FVec F S4096x1536 .f32 := (extractStridedSlice S4096x1536 ![0, 0] · slices_S4096x6144_S4096x1536_0_0) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S4096x8 .f32 := Host.absf main_arg1
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_v5 main_v6
  let main_c_1 : IVec S_ 1 := constantI S_ 1 1#1
  let main_v8 : IVec S_ 1 := (fun x v => Host.reduce IntOp.andi x v reducesTo_S4096x8_S_d0_1 h_S_) main_v7 main_c_1
  let main_v9 : IVec S_ 1 := andi main_v4 main_v8
  let main_v10 : FVec F S4096x512 .f32 := Host.absf main_arg2
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v9 main_v13
  main_v14
-- ==== Kernel.lean ====
abbrev S4096x6144 : Shape := ⟨2, ![4096, 6144]⟩
abbrev S4096x8 : Shape := ⟨2, ![4096, 8]⟩
abbrev S4096x512 : Shape := ⟨2, ![4096, 512]⟩
abbrev S2x2048x8 : Shape := ⟨3, ![2, 2048, 8]⟩
abbrev S2x8x2048 : Shape := ⟨3, ![2, 8, 2048]⟩
abbrev S2048 : Shape := ⟨1, ![2048]⟩
abbrev S2x8x2048x1 : Shape := ⟨4, ![2, 8, 2048, 1]⟩
abbrev S2x8x1x2048 : Shape := ⟨4, ![2, 8, 1, 2048]⟩
abbrev S2x8x2048x2048 : Shape := ⟨4, ![2, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x2048x8x64 : Shape := ⟨4, ![2, 2048, 8, 64]⟩
abbrev S2x8x2048x64 : Shape := ⟨4, ![2, 8, 2048, 64]⟩
abbrev S8x2x2048 : Shape := ⟨3, ![8, 2, 2048]⟩
abbrev S8x2048x2 : Shape := ⟨3, ![8, 2048, 2]⟩
abbrev S2x2048x4x2 : Shape := ⟨4, ![2, 2048, 4, 2]⟩
abbrev S2x4x2x2048 : Shape := ⟨4, ![2, 4, 2, 2048]⟩
abbrev S2048x128 : Shape := ⟨2, ![2048, 128]⟩
abbrev S1x2048x2 : Shape := ⟨3, ![1, 2048, 2]⟩
abbrev S1x2x2048 : Shape := ⟨3, ![1, 2, 2048]⟩
abbrev S2x2048x128 : Shape := ⟨3, ![2, 2048, 128]⟩
abbrev S2048x2 : Shape := ⟨2, ![2048, 2]⟩
abbrev S256x64 : Shape := ⟨2, ![256, 64]⟩
abbrev S256x128 : Shape := ⟨2, ![256, 128]⟩
abbrev S1x256x128 : Shape := ⟨3, ![1, 256, 128]⟩
abbrev S1x512x128 : Shape := ⟨3, ![1, 512, 128]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S1x1x512 : Shape := ⟨3, ![1, 1, 512]⟩
abbrev S1x512 : Shape := ⟨2, ![1, 512]⟩
abbrev S1x2048x64 : Shape := ⟨3, ![1, 2048, 64]⟩
abbrev S2048x64 : Shape := ⟨2, ![2048, 64]⟩
abbrev S1x2048x1 : Shape := ⟨3, ![1, 2048, 1]⟩
abbrev S2x4x2048x2 : Shape := ⟨4, ![2, 4, 2048, 2]⟩

abbrev nBuf : Space → Nat
  | .hbm => 66
  | .vmem => 29
  | .smem => 0
  | _ => 0

abbrev bufTy : (tb : Table) → Fin (tcTables nBuf tb) → BufTy
  | .hbm, ⟨0, _⟩ => ⟨S4096x6144, .f32⟩
  | .hbm, ⟨1, _⟩ => ⟨S4096x8, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S2x2048x8, .f32⟩
  | .hbm, ⟨7, _⟩ => ⟨S2x8x2048, .f32⟩
  | .hbm, ⟨8, _⟩ => ⟨S2048, .i32⟩
  | .hbm, ⟨9, _⟩ => ⟨S2x8x2048x1, .f32⟩
  | .hbm, ⟨10, _⟩ => ⟨S2x8x1x2048, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2x8x2048x2048, .i1⟩
  | .hbm, ⟨21, _⟩ => ⟨S2x8x2048x2048, .f32⟩
  | .hbm, ⟨22, _⟩ => ⟨S2x8x2048x2048, .f32⟩
  | .hbm, ⟨23, _⟩ => ⟨S2x2048x8x64, .f32⟩
  | .hbm, ⟨24, _⟩ => ⟨S2x8x2048x64, .f32⟩
  | .hbm, ⟨25, _⟩ => ⟨S2x2048x8x64, .f32⟩
  | .hbm, ⟨26, _⟩ => ⟨S2x8x2048x64, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .f32⟩
  | .hbm, ⟨43, _⟩ => ⟨S2x2048x8x64, .f32⟩
  | .hbm, ⟨44, _⟩ => ⟨S2x8x2048x64, .f32⟩
  | .hbm, ⟨45, _⟩ => ⟨S2x8x2048x64, .f32⟩
  | .hbm, ⟨46, _⟩ => ⟨S2x2048x8x64, .f32⟩
  | .hbm, ⟨47, _⟩ => ⟨S4096x512, .f32⟩
  | .hbm, ⟨48, _⟩ => ⟨S2x2048x8, .f32⟩
  | .hbm, ⟨49, _⟩ => ⟨S2x8x2048, .f32⟩
  | .hbm, ⟨50, _⟩ => ⟨S2x8x2048x1, .f32⟩
  | .hbm, ⟨51, _⟩ => ⟨S2x8x2048x1, .f32⟩
  | .hbm, ⟨52, _⟩ => ⟨S2x8x2048, .f32⟩
  | .hbm, ⟨53, _⟩ => ⟨S2x8x2048, .f32⟩
  | .hbm, ⟨54, _⟩ => ⟨S8x2x2048, .f32⟩
  | .hbm, ⟨55, _⟩ => ⟨S8x2048x2, .f32⟩
  | .hbm, ⟨56, _⟩ => ⟨S2x2048x4x2, .f32⟩
  | .hbm, ⟨57, _⟩ => ⟨S2x4x2x2048, .f32⟩
  | .hbm, ⟨58, _⟩ => ⟨S8x2x2048, .f32⟩
  | .hbm, ⟨59, _⟩ => ⟨S4096x512, .bf16⟩
  | .hbm, ⟨60, _⟩ => ⟨S4096x512, .bf16⟩
  | .hbm, ⟨61, _⟩ => ⟨S4096x512, .bf16⟩
  | .hbm, ⟨62, _⟩ => ⟨S8x2048x2, .f32⟩
  | .hbm, ⟨63, _⟩ => ⟨S2x4x2048x2, .f32⟩
  | .hbm, ⟨64, _⟩ => ⟨S2x2048x4x2, .f32⟩
  | .hbm, ⟨65, _⟩ => ⟨S4096x8, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x2, .f32⟩
  | .local _ .vmem, ⟨11, _⟩ => ⟨S1x2048x2, .f32⟩
  | .local _ .vmem, ⟨12, _⟩ => ⟨S1x2x2048, .f32⟩
  | .local _ .vmem, ⟨13, _⟩ => ⟨S1x2x2048, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x2, .f32⟩
  | .local _ .vmem, ⟨21, _⟩ => ⟨S1x2048x2, .f32⟩
  | .local _ .vmem, ⟨22, _⟩ => ⟨S2x2048x128, .bf16⟩
  | .local _ .vmem, ⟨23, _⟩ => ⟨S2x2048x128, .bf16⟩
  | .local _ .vmem, ⟨24, _⟩ => ⟨S2x2048x128, .bf16⟩
  | .local _ .vmem, ⟨25, _⟩ => ⟨S2x2048x128, .bf16⟩
  | .local _ .vmem, ⟨26, _⟩ => ⟨S2x2048x128, .f32⟩
  | .local _ .vmem, ⟨27, _⟩ => ⟨S2x2048x128, .f32⟩
  | .local _ .vmem, ⟨28, _⟩ => ⟨S2048x2, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v50_2 : Ref sig .tc := ⟨.hbm, 61, rfl⟩
abbrev main_v50_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v43 : BitVec 32 := Scalar.muli arg20 c256_i32
  v43
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v43 : BitVec 32 := Scalar.muli arg20 c256_i32
  let v44 : BitVec 32 := v43
  let v45 : Index := Scalar.indexCast v44
  let c0_55 : Index := 0#32
  ![v45.toNat, 0]
def k0_off2 (k0_t1 : Fin k0_t1_loop.trips) : Fin 3 → Nat :=
  let c0_60 : Index := 0#32
  let c0_i32 : BitVec 32 := 0#32
  let c1_i32 : BitVec 32 := 1#32
  let arg20 : BitVec 32 := Scf.iv c0_i32 c1_i32 k0_t1
  let c256_i32 : BitVec 32 := 256#32
  let v43 : BitVec 32 := Scalar.muli arg20 c256_i32
  let v44 : BitVec 32 := v43
  let v58 : Index := Scalar.indexCast v44
  let c0_61 : Index := 0#32
  ![0, v58.toNat, 0]
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v43 : BitVec 32 := Scalar.muli arg20 c256_i32
  let v44 : BitVec 32 := v43
  let v62 : Index := Scalar.indexCast v44
  let c64_62 : Index := 64#32
  ![v62.toNat, 64]
def k0_off4 (k0_t1 : Fin k0_t1_loop.trips) : Fin 3 → Nat :=
  let c1_67 : Index := 1#32
  let c0_i32 : BitVec 32 := 0#32
  let c1_i32 : BitVec 32 := 1#32
  let arg20 : BitVec 32 := Scf.iv c0_i32 c1_i32 k0_t1
  let c256_i32 : BitVec 32 := 256#32
  let v43 : BitVec 32 := Scalar.muli arg20 c256_i32
  let v44 : BitVec 32 := v43
  let v75 : Index := Scalar.indexCast v44
  let c0_68 : Index := 0#32
  ![1, v75.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg20 : BitVec 32 := Scf.iv c0_i32_1 c1_i32_3 k0_t2
  let c256_i32 : BitVec 32 := 256#32
  let v43 : BitVec 32 := Scalar.muli arg20 c256_i32
  v43
def k0_off5 (k0_t2 : Fin k0_t2_loop.trips) : Fin 2 → Nat :=
  let c0_i32_1 : BitVec 32 := 0#32
  let c1_i32_3 : BitVec 32 := 1#32
  let arg20 : BitVec 32 := Scf.iv c0_i32_1 c1_i32_3 k0_t2
  let c256_i32 : BitVec 32 := 256#32
  let v43 : BitVec 32 := Scalar.muli arg20 c256_i32
  let v44 : BitVec 32 := v43
  let v45 : Index := Scalar.indexCast v44
  let c0_55 : Index := 0#32
  ![v45.toNat, 0]
def k0_off6 (k0_t2 : Fin k0_t2_loop.trips) : Fin 3 → Nat :=
  let c0_59 : Index := 0#32
  let c0_i32_1 : BitVec 32 := 0#32
  let c1_i32_3 : BitVec 32 := 1#32
  let arg20 : BitVec 32 := Scf.iv c0_i32_1 c1_i32_3 k0_t2
  let c256_i32 : BitVec 32 := 256#32
  let v43 : BitVec 32 := Scalar.muli arg20 c256_i32
  let v44 : BitVec 32 := v43
  let v56 : Index := Scalar.indexCast v44
  let c0_60 : Index := 0#32
  ![0, v56.toNat, 0]
def k0_off7 (k0_t2 : Fin k0_t2_loop.trips) : Fin 2 → Nat :=
  let c0_i32_1 : BitVec 32 := 0#32
  let c1_i32_3 : BitVec 32 := 1#32
  let arg20 : BitVec 32 := Scf.iv c0_i32_1 c1_i32_3 k0_t2
  let c256_i32 : BitVec 32 := 256#32
  let v43 : BitVec 32 := Scalar.muli arg20 c256_i32
  let v44 : BitVec 32 := v43
  let v60 : Index := Scalar.indexCast v44
  let c64_61 : Index := 64#32
  ![v60.toNat, 64]
def k0_off8 (k0_t2 : Fin k0_t2_loop.trips) : Fin 3 → Nat :=
  let c1_65 : Index := 1#32
  let c0_i32_1 : BitVec 32 := 0#32
  let c1_i32_3 : BitVec 32 := 1#32
  let arg20 : BitVec 32 := Scf.iv c0_i32_1 c1_i32_3 k0_t2
  let c256_i32 : BitVec 32 := 256#32
  let v43 : BitVec 32 := Scalar.muli arg20 c256_i32
  let v44 : BitVec 32 := v43
  let v71 : Index := Scalar.indexCast v44
  let c0_66 : Index := 0#32
  ![1, v71.toNat, 0]
@[reducible] def k0_t3_loop : Scf.Loop 32 :=
  let c0_i32_5 : BitVec 32 := 0#32
  let c8_i32_6 : BitVec 32 := 8#32
  let v2 : BitVec 32 := Scalar.addi c0_i32_5 c8_i32_6
  let c1_i32_7 : BitVec 32 := 1#32
  ⟨c0_i32_5, v2, c1_i32_7⟩
def k0_mult3 (k0_t3 : Fin k0_t3_loop.trips) : BitVec 32 :=
  let c0_i32_5 : BitVec 32 := 0#32
  let c1_i32_7 : BitVec 32 := 1#32
  let arg20 : BitVec 32 := Scf.iv c0_i32_5 c1_i32_7 k0_t3
  let c256_i32 : BitVec 32 := 256#32
  let v43 : BitVec 32 := Scalar.muli arg20 c256_i32
  v43
def k0_off9 (k0_t3 : Fin k0_t3_loop.trips) : Fin 2 → Nat :=
  let c0_i32_5 : BitVec 32 := 0#32
  let c1_i32_7 : BitVec 32 := 1#32
  let arg20 : BitVec 32 := Scf.iv c0_i32_5 c1_i32_7 k0_t3
  let c256_i32 : BitVec 32 := 256#32
  let v43 : BitVec 32 := Scalar.muli arg20 c256_i32
  let v44 : BitVec 32 := v43
  let v45 : Index := Scalar.indexCast v44
  let c0_55 : Index := 0#32
  ![v45.toNat, 0]
def k0_off10 (k0_t3 : Fin k0_t3_loop.trips) : Fin 3 → Nat :=
  let c0_57 : Index := 0#32
  let c0_i32_5 : BitVec 32 := 0#32
  let c1_i32_7 : BitVec 32 := 1#32
  let arg20 : BitVec 32 := Scf.iv c0_i32_5 c1_i32_7 k0_t3
  let c256_i32 : BitVec 32 := 256#32
  let v43 : BitVec 32 := Scalar.muli arg20 c256_i32
  let v44 : BitVec 32 := v43
  let v50 : Index := Scalar.indexCast v44
  let c0_58 : Index := 0#32
  ![0, v50.toNat, 0]
def k0_off11 (k0_t3 : Fin k0_t3_loop.trips) : Fin 2 → Nat :=
  let c0_i32_5 : BitVec 32 := 0#32
  let c1_i32_7 : BitVec 32 := 1#32
  let arg20 : BitVec 32 := Scf.iv c0_i32_5 c1_i32_7 k0_t3
  let c256_i32 : BitVec 32 := 256#32
  let v43 : BitVec 32 := Scalar.muli arg20 c256_i32
  let v44 : BitVec 32 := v43
  let v54 : Index := Scalar.indexCast v44
  let c64_59 : Index := 64#32
  ![v54.toNat, 64]
def k0_off12 (k0_t3 : Fin k0_t3_loop.trips) : Fin 3 → Nat :=
  let c1_61 : Index := 1#32
  let c0_i32_5 : BitVec 32 := 0#32
  let c1_i32_7 : BitVec 32 := 1#32
  let arg20 : BitVec 32 := Scf.iv c0_i32_5 c1_i32_7 k0_t3
  let c256_i32 : BitVec 32 := 256#32
  let v43 : BitVec 32 := Scalar.muli arg20 c256_i32
  let v44 : BitVec 32 := v43
  let v59 : Index := Scalar.indexCast v44
  let c0_62 : Index := 0#32
  ![1, v59.toNat, 0]
@[reducible] def k0_t4_loop : Scf.Loop 32 :=
  let c0_i32_9 : BitVec 32 := 0#32
  let c8_i32_10 : BitVec 32 := 8#32
  let v3 : BitVec 32 := Scalar.addi c0_i32_9 c8_i32_10
  let c1_i32_11 : BitVec 32 := 1#32
  ⟨c0_i32_9, v3, c1_i32_11⟩
def k0_mult4 (k0_t4 : Fin k0_t4_loop.trips) : BitVec 32 :=
  let c0_i32_9 : BitVec 32 := 0#32
  let c1_i32_11 : BitVec 32 := 1#32
  let arg20 : BitVec 32 := Scf.iv c0_i32_9 c1_i32_11 k0_t4
  let c256_i32 : BitVec 32 := 256#32
  let v43 : BitVec 32 := Scalar.muli arg20 c256_i32
  v43
def k0_off13 (k0_t4 : Fin k0_t4_loop.trips) : Fin 2 → Nat :=
  let c0_i32_9 : BitVec 32 := 0#32
  let c1_i32_11 : BitVec 32 := 1#32
  let arg20 : BitVec 32 := Scf.iv c0_i32_9 c1_i32_11 k0_t4
  let c256_i32 : BitVec 32 := 256#32
  let v43 : BitVec 32 := Scalar.muli arg20 c256_i32
  let v44 : BitVec 32 := v43
  let v45 : Index := Scalar.indexCast v44
  let c0_55 : Index := 0#32
  ![v45.toNat, 0]
def k0_off14 (k0_t4 : Fin k0_t4_loop.trips) : Fin 3 → Nat :=
  let c0_57 : Index := 0#32
  let c0_i32_9 : BitVec 32 := 0#32
  let c1_i32_11 : BitVec 32 := 1#32
  let arg20 : BitVec 32 := Scf.iv c0_i32_9 c1_i32_11 k0_t4
  let c256_i32 : BitVec 32 := 256#32
  let v43 : BitVec 32 := Scalar.muli arg20 c256_i32
  let v44 : BitVec 32 := v43
  let v50 : Index := Scalar.indexCast v44
  let c0_58 : Index := 0#32
  ![0, v50.toNat, 0]
def k0_off15 (k0_t4 : Fin k0_t4_loop.trips) : Fin 2 → Nat :=
  let c0_i32_9 : BitVec 32 := 0#32
  let c1_i32_11 : BitVec 32 := 1#32
  let arg20 : BitVec 32 := Scf.iv c0_i32_9 c1_i32_11 k0_t4
  let c256_i32 : BitVec 32 := 256#32
  let v43 : BitVec 32 := Scalar.muli arg20 c256_i32
  let v44 : BitVec 32 := v43
  let v54 : Index := Scalar.indexCast v44
  let c64_59 : Index := 64#32
  ![v54.toNat, 64]
def k0_off16 (k0_t4 : Fin k0_t4_loop.trips) : Fin 3 → Nat :=
  let c1_61 : Index := 1#32
  let c0_i32_9 : BitVec 32 := 0#32
  let c1_i32_11 : BitVec 32 := 1#32
  let arg20 : BitVec 32 := Scf.iv c0_i32_9 c1_i32_11 k0_t4
  let c256_i32 : BitVec 32 := 256#32
  let v43 : BitVec 32 := Scalar.muli arg20 c256_i32
  let v44 : BitVec 32 := v43
  let v59 : Index := Scalar.indexCast v44
  let c0_62 : Index := 0#32
  ![1, v59.toNat, 0]
@[reducible] def k0_t5_loop : Scf.Loop 32 :=
  let c0_i32_19 : BitVec 32 := 0#32
  let c4_i32 : BitVec 32 := 4#32
  let v12 : BitVec 32 := Scalar.addi c0_i32_19 c4_i32
  let c1_i32_20 : BitVec 32 := 1#32
  ⟨c0_i32_19, v12, c1_i32_20⟩
def k0_mult5 (k0_t5 : Fin k0_t5_loop.trips) : BitVec 32 :=
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  v43
def k0_off17 (k0_t5 : Fin k0_t5_loop.trips) : Fin 3 → Nat :=
  let c0_55 : Index := 0#32
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v45 : Index := Scalar.indexCast v44
  let c0_56 : Index := 0#32
  ![0, v45.toNat, 0]
def k0_off18 (k0_t5 : Fin k0_t5_loop.trips) : Fin 3 → Nat :=
  let c1_57 : Index := 1#32
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v48 : Index := Scalar.indexCast v44
  let c0_58 : Index := 0#32
  ![1, v48.toNat, 0]
def k0_off19 (k0_t5 : Fin k0_t5_loop.trips) : Fin 2 → Nat :=
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v57 : Index := Scalar.indexCast v44
  let c0_63 : Index := 0#32
  ![v57.toNat, 0]
def k0_off20 (k0_t5 : Fin k0_t5_loop.trips) : Fin 2 → Nat :=
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v65 : Index := Scalar.indexCast v44
  let c64_66 : Index := 64#32
  ![v65.toNat, 64]
def k0_off21 (k0_t5 : Fin k0_t5_loop.trips) : Fin 3 → Nat :=
  let c0_69 : Index := 0#32
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v73 : Index := Scalar.indexCast v44
  let c0_70 : Index := 0#32
  ![0, v73.toNat, 0]
def k0_off22 (k0_t5 : Fin k0_t5_loop.trips) : Fin 3 → Nat :=
  let c0_71 : Index := 0#32
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v76 : Index := Scalar.indexCast v44
  let c1_72 : Index := 1#32
  ![0, v76.toNat, 1]
@[reducible] def k0_t6_loop (k0_t5 : Fin k0_t5_loop.trips) : Scf.Loop 32 :=
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_85 : BitVec 32 := 1#32
  ⟨c0_i32_83, v103, c1_i32_85⟩
def k0_mult6 (k0_t5 : Fin k0_t5_loop.trips) (k0_t6 : Fin (k0_t6_loop k0_t5).trips) : BitVec 32 :=
  let c0_i32_83 : BitVec 32 := 0#32
  let c1_i32_85 : BitVec 32 := 1#32
  let arg21 : BitVec 32 := Scf.iv c0_i32_83 c1_i32_85 k0_t6
  let c512_i32_147 : BitVec 32 := 512#32
  let v253 : BitVec 32 := Scalar.muli arg21 c512_i32_147
  v253
def k0_off23 (k0_t5 : Fin k0_t5_loop.trips) (k0_t6 : Fin (k0_t6_loop k0_t5).trips) : Fin 3 → Nat :=
  let c0_148 : Index := 0#32
  let c0_i32_83 : BitVec 32 := 0#32
  let c1_i32_85 : BitVec 32 := 1#32
  let arg21 : BitVec 32 := Scf.iv c0_i32_83 c1_i32_85 k0_t6
  let c512_i32_147 : BitVec 32 := 512#32
  let v253 : BitVec 32 := Scalar.muli arg21 c512_i32_147
  let v254 : BitVec 32 := v253
  let v255 : Index := Scalar.indexCast v254
  let c0_149 : Index := 0#32
  ![0, v255.toNat, 0]
def k0_off24 (k0_t5 : Fin k0_t5_loop.trips) (k0_t6 : Fin (k0_t6_loop k0_t5).trips) : Fin 3 → Nat :=
  let c0_151 : Index := 0#32
  let c0_152 : Index := 0#32
  let c0_i32_83 : BitVec 32 := 0#32
  let c1_i32_85 : BitVec 32 := 1#32
  let arg21 : BitVec 32 := Scf.iv c0_i32_83 c1_i32_85 k0_t6
  let c512_i32_147 : BitVec 32 := 512#32
  let v253 : BitVec 32 := Scalar.muli arg21 c512_i32_147
  let v254 : BitVec 32 := v253
  let v259 : Index := Scalar.indexCast v254
  ![0, 0, v259.toNat]
def k0_off25 (k0_t5 : Fin k0_t5_loop.trips) (k0_t6 : Fin (k0_t6_loop k0_t5).trips) : Fin 3 → Nat :=
  let c1_167 : Index := 1#32
  let c0_i32_83 : BitVec 32 := 0#32
  let c1_i32_85 : BitVec 32 := 1#32
  let arg21 : BitVec 32 := Scf.iv c0_i32_83 c1_i32_85 k0_t6
  let c512_i32_147 : BitVec 32 := 512#32
  let v253 : BitVec 32 := Scalar.muli arg21 c512_i32_147
  let v254 : BitVec 32 := v253
  let v296 : Index := Scalar.indexCast v254
  let c0_168 : Index := 0#32
  ![1, v296.toNat, 0]
def k0_off26 (k0_t5 : Fin k0_t5_loop.trips) (k0_t6 : Fin (k0_t6_loop k0_t5).trips) : Fin 3 → Nat :=
  let c0_170 : Index := 0#32
  let c1_171 : Index := 1#32
  let c0_i32_83 : BitVec 32 := 0#32
  let c1_i32_85 : BitVec 32 := 1#32
  let arg21 : BitVec 32 := Scf.iv c0_i32_83 c1_i32_85 k0_t6
  let c512_i32_147 : BitVec 32 := 512#32
  let v253 : BitVec 32 := Scalar.muli arg21 c512_i32_147
  let v254 : BitVec 32 := v253
  let v300 : Index := Scalar.indexCast v254
  ![0, 1, v300.toNat]
@[reducible] def k0_t7_loop (k0_t5 : Fin k0_t5_loop.trips) : Scf.Loop 32 :=
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let v100 : BitVec 32 := Scalar.addi c0_i32_83 v99
  let c1_i32_86 : BitVec 32 := 1#32
  ⟨v103, v100, c1_i32_86⟩
def k0_mult7 (k0_t5 : Fin k0_t5_loop.trips) (k0_t7 : Fin (k0_t7_loop k0_t5).trips) : BitVec 32 :=
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_86 : BitVec 32 := 1#32
  let arg21 : BitVec 32 := Scf.iv v103 c1_i32_86 k0_t7
  let c512_i32_147 : BitVec 32 := 512#32
  let v253 : BitVec 32 := Scalar.muli arg21 c512_i32_147
  v253
def k0_off27 (k0_t5 : Fin k0_t5_loop.trips) (k0_t7 : Fin (k0_t7_loop k0_t5).trips) : Fin 3 → Nat :=
  let c0_148 : Index := 0#32
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_86 : BitVec 32 := 1#32
  let arg21 : BitVec 32 := Scf.iv v103 c1_i32_86 k0_t7
  let c512_i32_147 : BitVec 32 := 512#32
  let v253 : BitVec 32 := Scalar.muli arg21 c512_i32_147
  let v254 : BitVec 32 := v253
  let v255 : Index := Scalar.indexCast v254
  let c0_149 : Index := 0#32
  ![0, v255.toNat, 0]
def k0_off28 (k0_t5 : Fin k0_t5_loop.trips) (k0_t7 : Fin (k0_t7_loop k0_t5).trips) : Fin 3 → Nat :=
  let c0_151 : Index := 0#32
  let c0_152 : Index := 0#32
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_86 : BitVec 32 := 1#32
  let arg21 : BitVec 32 := Scf.iv v103 c1_i32_86 k0_t7
  let c512_i32_147 : BitVec 32 := 512#32
  let v253 : BitVec 32 := Scalar.muli arg21 c512_i32_147
  let v254 : BitVec 32 := v253
  let v259 : Index := Scalar.indexCast v254
  ![0, 0, v259.toNat]
def k0_off29 (k0_t5 : Fin k0_t5_loop.trips) (k0_t7 : Fin (k0_t7_loop k0_t5).trips) : Fin 3 → Nat :=
  let c1_167 : Index := 1#32
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_86 : BitVec 32 := 1#32
  let arg21 : BitVec 32 := Scf.iv v103 c1_i32_86 k0_t7
  let c512_i32_147 : BitVec 32 := 512#32
  let v253 : BitVec 32 := Scalar.muli arg21 c512_i32_147
  let v254 : BitVec 32 := v253
  let v296 : Index := Scalar.indexCast v254
  let c0_168 : Index := 0#32
  ![1, v296.toNat, 0]
def k0_off30 (k0_t5 : Fin k0_t5_loop.trips) (k0_t7 : Fin (k0_t7_loop k0_t5).trips) : Fin 3 → Nat :=
  let c0_170 : Index := 0#32
  let c1_171 : Index := 1#32
  let c0_i32_83 : BitVec 32 := 0#32
  let c0_i32_19 : BitVec 32 := 0#32
  let c1_i32_20 : BitVec 32 := 1#32
  let arg20 : BitVec 32 := Scf.iv c0_i32_19 c1_i32_20 k0_t5
  let c512_i32_75 : BitVec 32 := 512#32
  let v81 : BitVec 32 := Scalar.muli arg20 c512_i32_75
  let c0_i32_77 : BitVec 32 := 0#32
  let v83 : BitVec 1 := Scalar.cmpi .sgt v81 c0_i32_77
  let v84 : BitVec 32 := Scalar.extui v83
  let c0_i32_78 : BitVec 32 := 0#32
  let v85 : BitVec 1 := Scalar.cmpi .slt v81 c0_i32_78
  let v86 : BitVec 32 := Scalar.extui v85
  let v87 : BitVec 32 := Scalar.subi v84 v86
  let c512_i32_76 : BitVec 32 := 512#32
  let c0_i32_79 : BitVec 32 := 0#32
  let v88 : BitVec 1 := Scalar.cmpi .sgt c512_i32_76 c0_i32_79
  let v89 : BitVec 32 := Scalar.extui v88
  let c0_i32_80 : BitVec 32 := 0#32
  let v90 : BitVec 1 := Scalar.cmpi .slt c512_i32_76 c0_i32_80
  let v91 : BitVec 32 := Scalar.extui v90
  let v92 : BitVec 32 := Scalar.subi v89 v91
  let v93 : BitVec 1 := Scalar.cmpi .ne v87 v92
  let v94 : BitVec 32 := Scalar.remsi v81 c512_i32_76
  let c0_i32_81 : BitVec 32 := 0#32
  let v95 : BitVec 1 := Scalar.cmpi .ne v94 c0_i32_81
  let v96 : BitVec 1 := Scalar.andi v93 v95
  let v82 : BitVec 32 := Scalar.divsi v81 c512_i32_76
  let c1_i32_82 : BitVec 32 := 1#32
  let v97 : BitVec 32 := Scalar.subi v82 c1_i32_82
  let v98 : BitVec 32 := Scalar.select v96 v97 v82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_86 : BitVec 32 := 1#32
  let arg21 : BitVec 32 := Scf.iv v103 c1_i32_86 k0_t7
  let c512_i32_147 : BitVec 32 := 512#32
  let v253 : BitVec 32 := Scalar.muli arg21 c512_i32_147
  let v254 : BitVec 32 := v253
  let v300 : Index := Scalar.indexCast v254
  ![0, 1, v300.toNat]
def k0_mult8 (k0_t5 : Fin k0_t5_loop.trips) : BitVec 32 :=
  let c0_i32_19 : BitVec 32 := 0#32
  let c1_i32_20 : BitVec 32 := 1#32
  let arg20 : BitVec 32 := Scf.iv c0_i32_19 c1_i32_20 k0_t5
  let c512_i32_87 : BitVec 32 := 512#32
  let v106 : BitVec 32 := Scalar.muli arg20 c512_i32_87
  let c0_i32_89 : BitVec 32 := 0#32
  let v108 : BitVec 1 := Scalar.cmpi .sgt v106 c0_i32_89
  let v109 : BitVec 32 := Scalar.extui v108
  let c0_i32_90 : BitVec 32 := 0#32
  let v110 : BitVec 1 := Scalar.cmpi .slt v106 c0_i32_90
  let v111 : BitVec 32 := Scalar.extui v110
  let v112 : BitVec 32 := Scalar.subi v109 v111
  let c512_i32_88 : BitVec 32 := 512#32
  let c0_i32_91 : BitVec 32 := 0#32
  let v113 : BitVec 1 := Scalar.cmpi .sgt c512_i32_88 c0_i32_91
  let v114 : BitVec 32 := Scalar.extui v113
  let c0_i32_92 : BitVec 32 := 0#32
  let v115 : BitVec 1 := Scalar.cmpi .slt c512_i32_88 c0_i32_92
  let v116 : BitVec 32 := Scalar.extui v115
  let v117 : BitVec 32 := Scalar.subi v114 v116
  let v118 : BitVec 1 := Scalar.cmpi .ne v112 v117
  let v119 : BitVec 32 := Scalar.remsi v106 c512_i32_88
  let c0_i32_93 : BitVec 32 := 0#32
  let v120 : BitVec 1 := Scalar.cmpi .ne v119 c0_i32_93
  let v121 : BitVec 1 := Scalar.andi v118 v120
  let v107 : BitVec 32 := Scalar.divsi v106 c512_i32_88
  let c1_i32_94 : BitVec 32 := 1#32
  let v122 : BitVec 32 := Scalar.subi v107 c1_i32_94
  let v123 : BitVec 32 := Scalar.select v121 v122 v107
  let c0_i32_95 : BitVec 32 := 0#32
  let v124 : BitVec 32 := Scalar.addi v123 c0_i32_95
  let c512_i32_96 : BitVec 32 := 512#32
  let v125 : BitVec 32 := Scalar.muli v124 c512_i32_96
  v125
def k0_off31 (k0_t5 : Fin k0_t5_loop.trips) : Fin 3 → Nat :=
  let c0_97 : Index := 0#32
  let c0_i32_19 : BitVec 32 := 0#32
  let c1_i32_20 : BitVec 32 := 1#32
  let arg20 : BitVec 32 := Scf.iv c0_i32_19 c1_i32_20 k0_t5
  let c512_i32_87 : BitVec 32 := 512#32
  let v106 : BitVec 32 := Scalar.muli arg20 c512_i32_87
  let c0_i32_89 : BitVec 32 := 0#32
  let v108 : BitVec 1 := Scalar.cmpi .sgt v106 c0_i32_89
  let v109 : BitVec 32 := Scalar.extui v108
  let c0_i32_90 : BitVec 32 := 0#32
  let v110 : BitVec 1 := Scalar.cmpi .slt v106 c0_i32_90
  let v111 : BitVec 32 := Scalar.extui v110
  let v112 : BitVec 32 := Scalar.subi v109 v111
  let c512_i32_88 : BitVec 32 := 512#32
  let c0_i32_91 : BitVec 32 := 0#32
  let v113 : BitVec 1 := Scalar.cmpi .sgt c512_i32_88 c0_i32_91
  let v114 : BitVec 32 := Scalar.extui v113
  let c0_i32_92 : BitVec 32 := 0#32
  let v115 : BitVec 1 := Scalar.cmpi .slt c512_i32_88 c0_i32_92
  let v116 : BitVec 32 := Scalar.extui v115
  let v117 : BitVec 32 := Scalar.subi v114 v116
  let v118 : BitVec 1 := Scalar.cmpi .ne v112 v117
  let v119 : BitVec 32 := Scalar.remsi v106 c512_i32_88
  let c0_i32_93 : BitVec 32 := 0#32
  let v120 : BitVec 1 := Scalar.cmpi .ne v119 c0_i32_93
  let v121 : BitVec 1 := Scalar.andi v118 v120
  let v107 : BitVec 32 := Scalar.divsi v106 c512_i32_88
  let c1_i32_94 : BitVec 32 := 1#32
  let v122 : BitVec 32 := Scalar.subi v107 c1_i32_94
  let v123 : BitVec 32 := Scalar.select v121 v122 v107
  let c0_i32_95 : BitVec 32 := 0#32
  let v124 : BitVec 32 := Scalar.addi v123 c0_i32_95
  let c512_i32_96 : BitVec 32 := 512#32
  let v125 : BitVec 32 := Scalar.muli v124 c512_i32_96
  let v126 : BitVec 32 := v125
  let v127 : Index := Scalar.indexCast v126
  let c0_98 : Index := 0#32
  ![0, v127.toNat, 0]
def k0_off32 (k0_t5 : Fin k0_t5_loop.trips) : Fin 3 → Nat :=
  let c0_100 : Index := 0#32
  let c0_101 : Index := 0#32
  let c0_i32_19 : BitVec 32 := 0#32
  let c1_i32_20 : BitVec 32 := 1#32
  let arg20 : BitVec 32 := Scf.iv c0_i32_19 c1_i32_20 k0_t5
  let c512_i32_87 : BitVec 32 := 512#32
  let v106 : BitVec 32 := Scalar.muli arg20 c512_i32_87
  let c0_i32_89 : BitVec 32 := 0#32
  let v108 : BitVec 1 := Scalar.cmpi .sgt v106 c0_i32_89
  let v109 : BitVec 32 := Scalar.extui v108
  let c0_i32_90 : BitVec 32 := 0#32
  let v110 : BitVec 1 := Scalar.cmpi .slt v106 c0_i32_90
  let v111 : BitVec 32 := Scalar.extui v110
  let v112 : BitVec 32 := Scalar.subi v109 v111
  let c512_i32_88 : BitVec 32 := 512#32
  let c0_i32_91 : BitVec 32 := 0#32
  let v113 : BitVec 1 := Scalar.cmpi .sgt c512_i32_88 c0_i32_91
  let v114 : BitVec 32 := Scalar.extui v113
  let c0_i32_92 : BitVec 32 := 0#32
  let v115 : BitVec 1 := Scalar.cmpi .slt c512_i32_88 c0_i32_92
  let v116 : BitVec 32 := Scalar.extui v115
  let v117 : BitVec 32 := Scalar.subi v114 v116
  let v118 : BitVec 1 := Scalar.cmpi .ne v112 v117
  let v119 : BitVec 32 := Scalar.remsi v106 c512_i32_88
  let c0_i32_93 : BitVec 32 := 0#32
  let v120 : BitVec 1 := Scalar.cmpi .ne v119 c0_i32_93
  let v121 : BitVec 1 := Scalar.andi v118 v120
  let v107 : BitVec 32 := Scalar.divsi v106 c512_i32_88
  let c1_i32_94 : BitVec 32 := 1#32
  let v122 : BitVec 32 := Scalar.subi v107 c1_i32_94
  let v123 : BitVec 32 := Scalar.select v121 v122 v107
  let c0_i32_95 : BitVec 32 := 0#32
  let v124 : BitVec 32 := Scalar.addi v123 c0_i32_95
  let c512_i32_96 : BitVec 32 := 512#32
  let v125 : BitVec 32 := Scalar.muli v124 c512_i32_96
  let v126 : BitVec 32 := v125
  let v131 : Index := Scalar.indexCast v126
  ![0, 0, v131.toNat]
def k0_off33 (k0_t5 : Fin k0_t5_loop.trips) : Fin 3 → Nat :=
  let c1_119 : Index := 1#32
  let c0_i32_19 : BitVec 32 := 0#32
  let c1_i32_20 : BitVec 32 := 1#32
  let arg20 : BitVec 32 := Scf.iv c0_i32_19 c1_i32_20 k0_t5
  let c512_i32_87 : BitVec 32 := 512#32
  let v106 : BitVec 32 := Scalar.muli arg20 c512_i32_87
  let c0_i32_89 : BitVec 32 := 0#32
  let v108 : BitVec 1 := Scalar.cmpi .sgt v106 c0_i32_89
  let v109 : BitVec 32 := Scalar.extui v108
  let c0_i32_90 : BitVec 32 := 0#32
  let v110 : BitVec 1 := Scalar.cmpi .slt v106 c0_i32_90
  let v111 : BitVec 32 := Scalar.extui v110
  let v112 : BitVec 32 := Scalar.subi v109 v111
  let c512_i32_88 : BitVec 32 := 512#32
  let c0_i32_91 : BitVec 32 := 0#32
  let v113 : BitVec 1 := Scalar.cmpi .sgt c512_i32_88 c0_i32_91
  let v114 : BitVec 32 := Scalar.extui v113
  let c0_i32_92 : BitVec 32 := 0#32
  let v115 : BitVec 1 := Scalar.cmpi .slt c512_i32_88 c0_i32_92
  let v116 : BitVec 32 := Scalar.extui v115
  let v117 : BitVec 32 := Scalar.subi v114 v116
  let v118 : BitVec 1 := Scalar.cmpi .ne v112 v117
  let v119 : BitVec 32 := Scalar.remsi v106 c512_i32_88
  let c0_i32_93 : BitVec 32 := 0#32
  let v120 : BitVec 1 := Scalar.cmpi .ne v119 c0_i32_93
  let v121 : BitVec 1 := Scalar.andi v118 v120
  let v107 : BitVec 32 := Scalar.divsi v106 c512_i32_88
  let c1_i32_94 : BitVec 32 := 1#32
  let v122 : BitVec 32 := Scalar.subi v107 c1_i32_94
  let v123 : BitVec 32 := Scalar.select v121 v122 v107
  let c0_i32_95 : BitVec 32 := 0#32
  let v124 : BitVec 32 := Scalar.addi v123 c0_i32_95
  let c512_i32_96 : BitVec 32 := 512#32
  let v125 : BitVec 32 := Scalar.muli v124 c512_i32_96
  let v126 : BitVec 32 := v125
  let v179 : Index := Scalar.indexCast v126
  let c0_120 : Index := 0#32
  ![1, v179.toNat, 0]
def k0_off34 (k0_t5 : Fin k0_t5_loop.trips) : Fin 3 → Nat :=
  let c0_122 : Index := 0#32
  let c1_123 : Index := 1#32
  let c0_i32_19 : BitVec 32 := 0#32
  let c1_i32_20 : BitVec 32 := 1#32
  let arg20 : BitVec 32 := Scf.iv c0_i32_19 c1_i32_20 k0_t5
  let c512_i32_87 : BitVec 32 := 512#32
  let v106 : BitVec 32 := Scalar.muli arg20 c512_i32_87
  let c0_i32_89 : BitVec 32 := 0#32
  let v108 : BitVec 1 := Scalar.cmpi .sgt v106 c0_i32_89
  let v109 : BitVec 32 := Scalar.extui v108
  let c0_i32_90 : BitVec 32 := 0#32
  let v110 : BitVec 1 := Scalar.cmpi .slt v106 c0_i32_90
  let v111 : BitVec 32 := Scalar.extui v110
  let v112 : BitVec 32 := Scalar.subi v109 v111
  let c512_i32_88 : BitVec 32 := 512#32
  let c0_i32_91 : BitVec 32 := 0#32
  let v113 : BitVec 1 := Scalar.cmpi .sgt c512_i32_88 c0_i32_91
  let v114 : BitVec 32 := Scalar.extui v113
  let c0_i32_92 : BitVec 32 := 0#32
  let v115 : BitVec 1 := Scalar.cmpi .slt c512_i32_88 c0_i32_92
  let v116 : BitVec 32 := Scalar.extui v115
  let v117 : BitVec 32 := Scalar.subi v114 v116
  let v118 : BitVec 1 := Scalar.cmpi .ne v112 v117
  let v119 : BitVec 32 := Scalar.remsi v106 c512_i32_88
  let c0_i32_93 : BitVec 32 := 0#32
  let v120 : BitVec 1 := Scalar.cmpi .ne v119 c0_i32_93
  let v121 : BitVec 1 := Scalar.andi v118 v120
  let v107 : BitVec 32 := Scalar.divsi v106 c512_i32_88
  let c1_i32_94 : BitVec 32 := 1#32
  let v122 : BitVec 32 := Scalar.subi v107 c1_i32_94
  let v123 : BitVec 32 := Scalar.select v121 v122 v107
  let c0_i32_95 : BitVec 32 := 0#32
  let v124 : BitVec 32 := Scalar.addi v123 c0_i32_95
  let c512_i32_96 : BitVec 32 := 512#32
  let v125 : BitVec 32 := Scalar.muli v124 c512_i32_96
  let v126 : BitVec 32 := v125
  let v183 : Index := Scalar.indexCast v126
  ![0, 1, v183.toNat]
def k0_off35 (k0_t5 : Fin k0_t5_loop.trips) : Fin 2 → Nat :=
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v238 : Index := Scalar.indexCast v44
  let c0_143 : Index := 0#32
  ![v238.toNat, 0]
def k0_off36 (k0_t5 : Fin k0_t5_loop.trips) : Fin 2 → Nat :=
  let c0_i32_19 : BitVec 32 := 0#32
  let c1_i32_20 : BitVec 32 := 1#32
  let arg20 : BitVec 32 := Scf.iv c0_i32_19 c1_i32_20 k0_t5
  let c512_i32 : BitVec 32 := 512#32
  let v43 : BitVec 32 := Scalar.muli arg20 c512_i32
  let v44 : BitVec 32 := v43
  let v249 : Index := Scalar.indexCast v44
  let c1_146 : Index := 1#32
  ![v249.toNat, 1]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x6144 : Shape := ⟨2, ![4096, 6144]⟩
abbrev S4096x8 : Shape := ⟨2, ![4096, 8]⟩
abbrev S4096x512 : Shape := ⟨2, ![4096, 512]⟩
abbrev S2x2048x8 : Shape := ⟨3, ![2, 2048, 8]⟩
abbrev S2x8x2048 : Shape := ⟨3, ![2, 8, 2048]⟩
abbrev S2048 : Shape := ⟨1, ![2048]⟩
abbrev S2x8x2048x1 : Shape := ⟨4, ![2, 8, 2048, 1]⟩
abbrev S2x8x1x2048 : Shape := ⟨4, ![2, 8, 1, 2048]⟩
abbrev S2x8x2048x2048 : Shape := ⟨4, ![2, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x2048x8x64 : Shape := ⟨4, ![2, 2048, 8, 64]⟩
abbrev S2x8x2048x64 : Shape := ⟨4, ![2, 8, 2048, 64]⟩
abbrev S2x8x64x2048 : Shape := ⟨4, ![2, 8, 64, 2048]⟩

abbrev nBuf : Space → Nat
  | .hbm => 127
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x8, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S2x2048x8, .f32⟩
  | .hbm, ⟨7, _⟩ => ⟨S2x8x2048, .f32⟩
  | .hbm, ⟨8, _⟩ => ⟨S2048, .i32⟩
  | .hbm, ⟨9, _⟩ => ⟨S2x8x2048x1, .f32⟩
  | .hbm, ⟨10, _⟩ => ⟨S2x8x1x2048, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2x8x2048x2048, .i1⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048x2048, .f32⟩
  | .hbm, ⟨25, _⟩ => ⟨S2x2048x8x64, .f32⟩
  | .hbm, ⟨26, _⟩ => ⟨S2x8x2048x64, .f32⟩
  | .hbm, ⟨27, _⟩ => ⟨S2x2048x8x64, .f32⟩
  | .hbm, ⟨28, _⟩ => ⟨S2x8x2048x64, .f32⟩
  | .hbm, ⟨29, _⟩ => ⟨S2x8x2048x2048, .f32⟩
  | .hbm, ⟨30, _⟩ => ⟨S_, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .i1⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S_, .f32⟩
  | .hbm, ⟨46, _⟩ => ⟨S2x8x2048, .f32⟩
  | .hbm, ⟨47, _⟩ => ⟨S2x8x2048, .i1⟩
  | .hbm, ⟨48, _⟩ => ⟨S_, .f32⟩
  | .hbm, ⟨49, _⟩ => ⟨S2x8x2048, .f32⟩
  | .hbm, ⟨50, _⟩ => ⟨S2x8x2048, .i1⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S_, .f32⟩
  | .hbm, ⟨56, _⟩ => ⟨S2x8x2048, .f32⟩
  | .hbm, ⟨57, _⟩ => ⟨S2x8x2048, .f32⟩
  | .hbm, ⟨58, _⟩ => ⟨S2x8x2048, .f32⟩
  | .hbm, ⟨59, _⟩ => ⟨S2x8x2048x1, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S_, .f32⟩
  | .hbm, ⟨64, _⟩ => ⟨S2x8x2048, .f32⟩
  | .hbm, ⟨65, _⟩ => ⟨S2x8x2048x1, .f32⟩
  | .hbm, ⟨66, _⟩ => ⟨S2x8x2048x2048, .f32⟩
  | .hbm, ⟨67, _⟩ => ⟨S2x8x2048x2048, .f32⟩
  | .hbm, ⟨68, _⟩ => ⟨S2x8x2048x1, .f32⟩
  | .hbm, ⟨69, _⟩ => ⟨S_, .f32⟩
  | .hbm, ⟨70, _⟩ => ⟨S2x8x2048x1, .f32⟩
  | .hbm, ⟨71, _⟩ => ⟨S2x8x2048x1, .f32⟩
  | .hbm, ⟨72, _⟩ => ⟨S2x2048x8x64, .f32⟩
  | .hbm, ⟨73, _⟩ => ⟨S2x8x2048x64, .f32⟩
  | .hbm, ⟨74, _⟩ => ⟨S2x8x2048x64, .f32⟩
  | .hbm, ⟨75, _⟩ => ⟨S2x2048x8x64, .f32⟩
  | .hbm, ⟨76, _⟩ => ⟨S4096x512, .f32⟩
  | .hbm, ⟨77, _⟩ => ⟨S2x2048x8x64, .f32⟩
  | .hbm, ⟨78, _⟩ => ⟨S2x8x2048x64, .f32⟩
  | .hbm, ⟨79, _⟩ => ⟨S2x8x64x2048, .f32⟩
  | .hbm, ⟨80, _⟩ => ⟨S2x8x2048x64, .f32⟩
  | .hbm, ⟨81, _⟩ => ⟨S2x8x2048x2048, .f32⟩
  | .hbm, ⟨82, _⟩ => ⟨S2x2048x8x64, .f32⟩
  | .hbm, ⟨83, _⟩ => ⟨S4096x512, .f32⟩
  | .hbm, ⟨84, _⟩ => ⟨S2x8x2048x2048, .f32⟩
  | .hbm, ⟨85, _⟩ => ⟨S2x8x2048x2048, .f32⟩
  | .hbm, ⟨86, _⟩ => ⟨S2x8x2048x2048, .f32⟩
  | .hbm, ⟨87, _⟩ => ⟨S_, .f32⟩
  | .hbm, ⟨88, _⟩ => ⟨S2x8x2048, .f32⟩
  | .hbm, ⟨89, _⟩ => ⟨S2x8x2048x1, .f32⟩
  | .hbm, ⟨90, _⟩ => ⟨S2x8x2048x1, .f32⟩
  | .hbm, ⟨91, _⟩ => ⟨S2x8x2048x2048, .f32⟩
  | .hbm, ⟨92, _⟩ => ⟨S2x8x2048x2048, .f32⟩
  | .hbm, ⟨93, _⟩ => ⟨S_, .f32⟩
  | .hbm, ⟨94, _⟩ => ⟨S2x8x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S_, .f32⟩
  | .hbm, ⟨99, _⟩ => ⟨S2x8x2048x2048, .f32⟩
  | .hbm, ⟨100, _⟩ => ⟨S2x8x2048x2048, .f32⟩
  | .hbm, ⟨101, _⟩ => ⟨S2x8x2048x64, .f32⟩
  | .hbm, ⟨102, _⟩ => ⟨S2x8x2048x64, .f32⟩
  | .hbm, ⟨103, _⟩ => ⟨S2x2048x8x64, .f32⟩
  | .hbm, ⟨104, _⟩ => ⟨S4096x512, .f32⟩
  | .hbm, ⟨105, _⟩ => ⟨S2x2048x8x64, .f32⟩
  | .hbm, ⟨106, _⟩ => ⟨S4096x512, .f32⟩
  | .hbm, ⟨107, _⟩ => ⟨S_, .f32⟩
  | .hbm, ⟨108, _⟩ => ⟨S2x8x2048x2048, .f32⟩
  | .hbm, ⟨109, _⟩ => ⟨S2x8x2048x2048, .f32⟩
  | .hbm, ⟨110, _⟩ => ⟨S_, .f32⟩
  | .hbm, ⟨111, _⟩ => ⟨S2x8x2048, .f32⟩
  | .hbm, ⟨112, _⟩ => ⟨S2x8x2048x1, .f32⟩
  | .hbm, ⟨113, _⟩ => ⟨S2x8x2048x2048, .f32⟩
  | .hbm, ⟨114, _⟩ => ⟨S_, .f32⟩
  | .hbm, ⟨115, _⟩ => ⟨S2x8x2048, .f32⟩
  | .hbm, ⟨116, _⟩ => ⟨S2x8x1x2048, .f32⟩
  | .hbm, ⟨117, _⟩ => ⟨S_, .f32⟩
  | .hbm, ⟨118, _⟩ => ⟨S2x8x2048, .f32⟩
  | .hbm, ⟨119, _⟩ => ⟨S_, .f32⟩
  | .hbm, ⟨120, _⟩ => ⟨S2x8x2048, .f32⟩
  | .hbm, ⟨121, _⟩ => ⟨S2x8x2048, .f32⟩
  | .hbm, ⟨122, _⟩ => ⟨S2x2048x8, .f32⟩
  | .hbm, ⟨123, _⟩ => ⟨S4096x8, .f32⟩
  | .hbm, ⟨124, _⟩ => ⟨S4096x512, .bf16⟩
  | .hbm, ⟨125, _⟩ => ⟨S4096x512, .bf16⟩
  | .hbm, ⟨126, _⟩ => ⟨S4096x512, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16_1 : Ref sig .tc := ⟨.hbm, 20, rfl⟩
abbrev main_call0_v1 : Ref sig .tc := ⟨.hbm, 21, rfl⟩
abbrev main_v16_0 : Ref sig .tc := ⟨.hbm, 22, rfl⟩
abbrev main_call0_cst : Ref sig .tc := ⟨.hbm, 23, rfl⟩
abbrev main_v16_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call1_cst : Ref sig .tc := ⟨.hbm, 107, rfl⟩
abbrev main_call1_v0 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x1024, .bf16⟩
  | .hbm, ⟨7, _⟩ => ⟨S4096x1024, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x4096, .bf16⟩
  | .hbm, ⟨4, _⟩ => ⟨S1024x4096, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S4096x6144 : Shape := ⟨2, ![4096, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x6144, .bf16⟩
  | .hbm, ⟨4, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S1024x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x6144 : Shape := ⟨2, ![4096, 6144]⟩
abbrev S1024x6144 : Shape := ⟨2, ![1024, 6144]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S4096x6144, .bf16⟩
  | .hbm, ⟨4, _⟩ => ⟨S1024x6144, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x6144 : Shape := ⟨2, ![4096, 6144]⟩
abbrev S1024x6144 : Shape := ⟨2, ![1024, 6144]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x6144, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel8.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x1024, .bf16⟩
  | .hbm, ⟨3, _⟩ => ⟨S1024x6144, .bf16⟩
  | .hbm, ⟨4, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S4096x512 : Shape := ⟨2, ![4096, 512]⟩
abbrev S3x512x1024 : Shape := ⟨3, ![3, 512, 1024]⟩
abbrev S4096x6144 : Shape := ⟨2, ![4096, 6144]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 16
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512x1024, .f32⟩
  | .hbm, ⟨5, _⟩ => ⟨S4096x6144, .f32⟩
  | .hbm, ⟨6, _⟩ => ⟨S3x512x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S3x512x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference15Ideal.lean ====
abbrev S4096x1024 : Shape := ⟨2, ![4096, 1024]⟩
abbrev S4096x512 : Shape := ⟨2, ![4096, 512]⟩
abbrev S3x512x1024 : Shape := ⟨3, ![3, 512, 1024]⟩
abbrev S4096x6144 : Shape := ⟨2, ![4096, 6144]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512x1024, .f32⟩
  | .hbm, ⟨5, _⟩ => ⟨S4096x6144, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x512x1024, .f32⟩
  | .hbm, ⟨10, _⟩ => ⟨S512x1024, .f32⟩
  | .hbm, ⟨11, _⟩ => ⟨S4096x1024, .f32⟩
  | .hbm, ⟨12, _⟩ => ⟨S1x512x1024, .f32⟩
  | .hbm, ⟨13, _⟩ => ⟨S512x1024, .f32⟩
  | .hbm, ⟨14, _⟩ => ⟨S4096x1024, .f32⟩
  | .hbm, ⟨15, _⟩ => ⟨S1x512x1024, .f32⟩
  | .hbm, ⟨16, _⟩ => ⟨S512x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel16.lean ====
abbrev S4096x512 : Shape := ⟨2, ![4096, 512]⟩
abbrev S3x512x1024 : Shape := ⟨3, ![3, 512, 1024]⟩
abbrev S4096x6144 : Shape := ⟨2, ![4096, 6144]⟩
abbrev S4096x1024 : Shape := ⟨2, ![4096, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S3x512x1024, .f32⟩
  | .hbm, ⟨4, _⟩ => ⟨S4096x6144, .f32⟩
  | .hbm, ⟨5, _⟩ => ⟨S3x512x1024, .bf16⟩
  | .hbm, ⟨6, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S3x512x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4096x512 : Shape := ⟨2, ![4096, 512]⟩
abbrev S3x512x1024 : Shape := ⟨3, ![3, 512, 1024]⟩
abbrev S4096x6144 : Shape := ⟨2, ![4096, 6144]⟩
abbrev S4096x1024 : Shape := ⟨2, ![4096, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S3x512x1024, .f32⟩
  | .hbm, ⟨4, _⟩ => ⟨S4096x6144, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x512x1024, .f32⟩
  | .hbm, ⟨9, _⟩ => ⟨S512x1024, .f32⟩
  | .hbm, ⟨10, _⟩ => ⟨S4096x1024, .f32⟩
  | .hbm, ⟨11, _⟩ => ⟨S1x512x1024, .f32⟩
  | .hbm, ⟨12, _⟩ => ⟨S512x1024, .f32⟩
  | .hbm, ⟨13, _⟩ => ⟨S4096x1024, .f32⟩
  | .hbm, ⟨14, _⟩ => ⟨S1x512x1024, .f32⟩
  | .hbm, ⟨15, _⟩ => ⟨S512x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel17.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x384, .bf16⟩
  | .hbm, ⟨3, _⟩ => ⟨S384x1024, .bf16⟩
  | .hbm, ⟨4, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1024, .f32⟩
  | .hbm, ⟨2, _⟩ => ⟨S4096x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x384 : Shape := ⟨2, ![4096, 384]⟩
abbrev S4096x1024 : Shape := ⟨2, ![4096, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S4096x384, .bf16⟩
  | .hbm, ⟨3, _⟩ => ⟨S4096x1024, .bf16⟩
  | .hbm, ⟨4, _⟩ => ⟨S384x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x1024, .f32⟩
  | .hbm, ⟨2, _⟩ => ⟨S_, .f32⟩
  | .hbm, ⟨3, _⟩ => ⟨S384x1024, .f32⟩
  | .hbm, ⟨4, _⟩ => ⟨S4096x1024, .f32⟩
  | .hbm, ⟨5, _⟩ => ⟨S1024x384, .f32⟩
  | .hbm, ⟨6, _⟩ => ⟨S384x1024, .f32⟩
  | .hbm, ⟨7, _⟩ => ⟨S384x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4096x1024 : Shape := ⟨2, ![4096, 1024]⟩
abbrev S384x1024 : Shape := ⟨2, ![384, 1024]⟩
abbrev S4096x384 : Shape := ⟨2, ![4096, 384]⟩
abbrev S1024x1024 : Shape := ⟨2, ![1024, 1024]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S384x1024, .f32⟩
  | .hbm, ⟨2, _⟩ => ⟨S4096x1024, .bf16⟩
  | .hbm, ⟨3, _⟩ => ⟨S384x1024, .bf16⟩
  | .hbm, ⟨4, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S384x1024 : Shape := ⟨2, ![384, 1024]⟩
abbrev S_ : Shape := ⟨0, ![]⟩
abbrev S4096x384 : Shape := ⟨2, ![4096, 384]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S384x1024, .f32⟩
  | .hbm, ⟨2, _⟩ => ⟨S_, .f32⟩
  | .hbm, ⟨3, _⟩ => ⟨S4096x384, .f32⟩
  | .hbm, ⟨4, _⟩ => ⟨S4096x1024, .f32⟩
  | .hbm, ⟨5, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S256x1024 : Shape := ⟨2, ![256, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x1024, .bf16⟩
  | .hbm, ⟨3, _⟩ => ⟨S256x1024, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .bf16⟩
  | .hbm, ⟨3, _⟩ => ⟨S512x1024, .f32⟩
  | .local _ .vmem, ⟨0, _⟩ => ⟨S512x1024, .f32⟩
  | .local _ .vmem, ⟨1, _⟩ => ⟨S1024x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S512x1024 : Shape := ⟨2, ![512, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .bf16⟩
  | .hbm, ⟨3, _⟩ => ⟨S1024x1024, .bf16⟩
  | .local _ .vmem, ⟨0, _⟩ => ⟨S512x1024, .f32⟩
  | .local _ .vmem, ⟨1, _⟩ => ⟨S512x1024, .bf16⟩
  | .local _ .vmem, ⟨2, _⟩ => ⟨S1024x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S512x1024 : Shape := ⟨2, ![512, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S4x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S512x1024 : Shape := ⟨2, ![512, 1024]⟩
abbrev S4x512x1024 : Shape := ⟨3, ![4, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S4x512x1024, .bf16⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S4x1024 : Shape := ⟨2, ![4, 1024]⟩
abbrev S8x4x1024 : Shape := ⟨3, ![8, 4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S8x4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S4x1024 : Shape := ⟨2, ![4, 1024]⟩
abbrev S8x4x1024 : Shape := ⟨3, ![8, 4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S4x8 : Shape := ⟨2, ![4, 8]⟩
abbrev S8x4x8 : Shape := ⟨3, ![8, 4, 8]⟩
abbrev S1x4x8 : Shape := ⟨3, ![1, 4, 8]⟩

abbrev nBuf : Space → Nat
  | .hbm => 8
  | .vmem => 8
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S8x4x8, .f32⟩
  | .hbm, ⟨4, _⟩ => ⟨S4x8, .f32⟩
  | .hbm, ⟨5, _⟩ => ⟨S4x8, .f32⟩
  | .hbm, ⟨6, _⟩ => ⟨S4x8, .f32⟩
  | .hbm, ⟨7, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S8x4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | .local _ .vmem, ⟨7, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S4x8 : Shape := ⟨2, ![4, 8]⟩
abbrev S8x4x8 : Shape := ⟨3, ![8, 4, 8]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S8x4x8, .f32⟩
  | .hbm, ⟨4, _⟩ => ⟨S_, .f32⟩
  | .hbm, ⟨5, _⟩ => ⟨S4x8, .f32⟩
  | .hbm, ⟨6, _⟩ => ⟨S_, .f32⟩
  | .hbm, ⟨7, _⟩ => ⟨S4x8, .f32⟩
  | .hbm, ⟨8, _⟩ => ⟨S4x8, .f32⟩
  | .hbm, ⟨9, _⟩ => ⟨S_, .f32⟩
  | .hbm, ⟨10, _⟩ => ⟨S4x8, .f32⟩
  | .hbm, ⟨11, _⟩ => ⟨S4x8, .f32⟩
  | .hbm, ⟨12, _⟩ => ⟨S4x8, .f32⟩
  | .hbm, ⟨13, _⟩ => ⟨S_, .f32⟩
  | .hbm, ⟨14, _⟩ => ⟨S4x8, .f32⟩
  | .hbm, ⟨15, _⟩ => ⟨S4x8, .f32⟩
  | .hbm, ⟨16, _⟩ => ⟨S4x8, .f32⟩
  | .hbm, ⟨17, _⟩ => ⟨S_, .f32⟩
  | .hbm, ⟨18, _⟩ => ⟨S4x8, .f32⟩
  | .hbm, ⟨19, _⟩ => ⟨S4x8, .f32⟩
  | .hbm, ⟨20, _⟩ => ⟨S4x8, .f32⟩
  | .hbm, ⟨21, _⟩ => ⟨S_, .f32⟩
  | .hbm, ⟨22, _⟩ => ⟨S4x8, .f32⟩
  | .hbm, ⟨23, _⟩ => ⟨S4x8, .f32⟩
  | .hbm, ⟨24, _⟩ => ⟨S_, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S_, .f32⟩
  | .hbm, ⟨29, _⟩ => ⟨S4x8, .f32⟩
  | .hbm, ⟨30, _⟩ => ⟨S4x8, .f32⟩
  | .hbm, ⟨31, _⟩ => ⟨S4x8, .f32⟩
  | .hbm, ⟨32, _⟩ => ⟨S_, .f32⟩
  | .hbm, ⟨33, _⟩ => ⟨S4x8, .f32⟩
  | .hbm, ⟨34, _⟩ => ⟨S4x8, .f32⟩
  | .hbm, ⟨35, _⟩ => ⟨S4x8, .f32⟩
  | .hbm, ⟨36, _⟩ => ⟨S_, .f32⟩
  | .hbm, ⟨37, _⟩ => ⟨S4x8, .f32⟩
  | .hbm, ⟨38, _⟩ => ⟨S4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S4x384 : Shape := ⟨2, ![4, 384]⟩
abbrev S8x4x384 : Shape := ⟨3, ![8, 4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S8x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S8x4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S4x384 : Shape := ⟨2, ![4, 384]⟩
abbrev S8x4x384 : Shape := ⟨3, ![8, 4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S8x4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S4x256 : Shape := ⟨2, ![4, 256]⟩
abbrev S8x4x256 : Shape := ⟨3, ![8, 4, 256]⟩
abbrev S1x4x256 : Shape := ⟨3, ![1, 4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S8x4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S8x4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference30Ideal.lean ====
abbrev S4x256 : Shape := ⟨2, ![4, 256]⟩
abbrev S8x4x256 : Shape := ⟨3, ![8, 4, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S8x4x256, .f32⟩
  | .hbm, ⟨4, _⟩ => ⟨S_, .f32⟩
  | .hbm, ⟨5, _⟩ => ⟨S4x256, .f32⟩
  | .hbm, ⟨6, _⟩ => ⟨S_, .f32⟩
  | .hbm, ⟨7, _⟩ => ⟨S4x256, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S_, .f32⟩
  | .hbm, ⟨14, _⟩ => ⟨S4x256, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x256, .f32⟩
  | .hbm, ⟨21, _⟩ => ⟨S_, .f32⟩
  | .hbm, ⟨22, _⟩ => ⟨S4x256, .f32⟩
  | .hbm, ⟨23, _⟩ => ⟨S4x256, .f32⟩
  | .hbm, ⟨24, _⟩ => ⟨S_, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S4x256, .f32⟩
  | .hbm, ⟨32, _⟩ => ⟨S_, .f32⟩
  | .hbm, ⟨33, _⟩ => ⟨S4x256, .f32⟩
  | .hbm, ⟨34, _⟩ => ⟨S4x256, .f32⟩
  | .hbm, ⟨35, _⟩ => ⟨S4x256, .f32⟩
  | .hbm, ⟨36, _⟩ => ⟨S_, .f32⟩
  | .hbm, ⟨37, _⟩ => ⟨S4x256, .f32⟩
  | .hbm, ⟨38, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S1024x128 : Shape := ⟨2, ![1024, 128]⟩
abbrev S4x1024x128 : Shape := ⟨3, ![4, 1024, 128]⟩
abbrev S512x128 : Shape := ⟨2, ![512, 128]⟩
abbrev S4x512x128 : Shape := ⟨3, ![4, 512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S4x1024x128, .bf16⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4x512x128, .bf16⟩
  | .local _ .vmem, ⟨7, _⟩ => ⟨S4x512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S1024x128 : Shape := ⟨2, ![1024, 128]⟩
abbrev S4x1024x128 : Shape := ⟨3, ![4, 1024, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S4x1024x128, .bf16⟩
  | .hbm, ⟨4, _⟩ => ⟨S4x1024x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S6144x128 : Shape := ⟨2, ![6144, 128]⟩
abbrev S4x6144x128 : Shape := ⟨3, ![4, 6144, 128]⟩
abbrev S512x128 : Shape := ⟨2, ![512, 128]⟩
abbrev S4x512x128 : Shape := ⟨3, ![4, 512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S6144x128, .f32⟩
  | .hbm, ⟨1, _⟩ => ⟨S6144x128, .f32⟩
  | .hbm, ⟨2, _⟩ => ⟨S6144x128, .f32⟩
  | .hbm, ⟨3, _⟩ => ⟨S4x6144x128, .bf16⟩
  | .hbm, ⟨4, _⟩ => ⟨S6144x128, .f32⟩
  | .hbm, ⟨5, _⟩ => ⟨S6144x128, .f32⟩
  | .hbm, ⟨6, _⟩ => ⟨S6144x128, .f32⟩
  | .hbm, ⟨7, _⟩ => ⟨S6144x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4x512x128, .bf16⟩
  | .local _ .vmem, ⟨7, _⟩ => ⟨S4x512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S6144x128 : Shape := ⟨2, ![6144, 128]⟩
abbrev S4x6144x128 : Shape := ⟨3, ![4, 6144, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S6144x128, .f32⟩
  | .hbm, ⟨1, _⟩ => ⟨S6144x128, .f32⟩
  | .hbm, ⟨2, _⟩ => ⟨S6144x128, .f32⟩
  | .hbm, ⟨3, _⟩ => ⟨S4x6144x128, .bf16⟩
  | .hbm, ⟨4, _⟩ => ⟨S4x6144x128, .f32⟩
  | .hbm, ⟨5, _⟩ => ⟨S_, .f32⟩
  | .hbm, ⟨6, _⟩ => ⟨S6144x128, .f32⟩
  | .hbm, ⟨7, _⟩ => ⟨S_, .f32⟩
  | .hbm, ⟨8, _⟩ => ⟨S6144x128, .f32⟩
  | .hbm, ⟨9, _⟩ => ⟨S6144x128, .f32⟩
  | .hbm, ⟨10, _⟩ => ⟨S_, .f32⟩
  | .hbm, ⟨11, _⟩ => ⟨S6144x128, .f32⟩
  | .hbm, ⟨12, _⟩ => ⟨S6144x128, .f32⟩
  | .hbm, ⟨13, _⟩ => ⟨S6144x128, .f32⟩
  | .hbm, ⟨14, _⟩ => ⟨S_, .f32⟩
  | .hbm, ⟨15, _⟩ => ⟨S6144x128, .f32⟩
  | .hbm, ⟨16, _⟩ => ⟨S6144x128, .f32⟩
  | .hbm, ⟨17, _⟩ => ⟨S6144x128, .f32⟩
  | .hbm, ⟨18, _⟩ => ⟨S_, .f32⟩
  | .hbm, ⟨19, _⟩ => ⟨S6144x128, .f32⟩
  | .hbm, ⟨20, _⟩ => ⟨S6144x128, .f32⟩
  | .hbm, ⟨21, _⟩ => ⟨S6144x128, .f32⟩
  | .hbm, ⟨22, _⟩ => ⟨S_, .f32⟩
  | .hbm, ⟨23, _⟩ => ⟨S6144x128, .f32⟩
  | .hbm, ⟨24, _⟩ => ⟨S6144x128, .f32⟩
  | .hbm, ⟨25, _⟩ => ⟨S_, .f32⟩
  | .hbm, ⟨26, _⟩ => ⟨S6144x128, .f32⟩
  | .hbm, ⟨27, _⟩ => ⟨S6144x128, .f32⟩
  | .hbm, ⟨28, _⟩ => ⟨S6144x128, .f32⟩
  | .hbm, ⟨29, _⟩ => ⟨S_, .f32⟩
  | .hbm, ⟨30, _⟩ => ⟨S6144x128, .f32⟩
  | .hbm, ⟨31, _⟩ => ⟨S6144x128, .f32⟩
  | .hbm, ⟨32, _⟩ => ⟨S6144x128, .f32⟩
  | .hbm, ⟨33, _⟩ => ⟨S_, .f32⟩
  | .hbm, ⟨34, _⟩ => ⟨S6144x128, .f32⟩
  | .hbm, ⟨35, _⟩ => ⟨S6144x128, .f32⟩
  | .hbm, ⟨36, _⟩ => ⟨S6144x128, .f32⟩
  | .hbm, ⟨37, _⟩ => ⟨S_, .f32⟩
  | .hbm, ⟨38, _⟩ => ⟨S6144x128, .f32⟩
  | .hbm, ⟨39, _⟩ => ⟨S6144x128, .f32⟩
  | _, _ => ⟨S6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S4096x512 : Shape := ⟨2, ![4096, 512]⟩
abbrev S4x4096x512 : Shape := ⟨3, ![4, 4096, 512]⟩
abbrev S512x512 : Shape := ⟨2, ![512, 512]⟩
abbrev S4x512x512 : Shape := ⟨3, ![4, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x4096x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x512x512, .bf16⟩
  | .local _ .vmem, ⟨7, _⟩ => ⟨S4x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S4096x512 : Shape := ⟨2, ![4096, 512]⟩
abbrev S4x4096x512 : Shape := ⟨3, ![4, 4096, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x4096x512, .bf16⟩
  | .hbm, ⟨4, _⟩ => ⟨S4x4096x512, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel34.lean ====
abbrev S2048x1024 : Shape := ⟨2, ![2048, 1024]⟩
abbrev S4x2048x1024 : Shape := ⟨3, ![4, 2048, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x512x1024, .bf16⟩
  | .local _ .vmem, ⟨7, _⟩ => ⟨S4x512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S2048x1024 : Shape := ⟨2, ![2048, 1024]⟩
abbrev S4x2048x1024 : Shape := ⟨3, ![4, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2048x1024, .bf16⟩
  | .hbm, ⟨4, _⟩ => ⟨S4x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S1536x96 : Shape := ⟨2, ![1536, 96]⟩
abbrev S4x1536x128 : Shape := ⟨3, ![4, 1536, 128]⟩
abbrev S512x96 : Shape := ⟨2, ![512, 96]⟩
abbrev S4x512x128 : Shape := ⟨3, ![4, 512, 128]⟩
abbrev S1x512x128 : Shape := ⟨3, ![1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1536x96, .f32⟩
  | .hbm, ⟨1, _⟩ => ⟨S1536x96, .f32⟩
  | .hbm, ⟨2, _⟩ => ⟨S1536x96, .f32⟩
  | .hbm, ⟨3, _⟩ => ⟨S4x1536x128, .bf16⟩
  | .hbm, ⟨4, _⟩ => ⟨S1536x96, .f32⟩
  | .hbm, ⟨5, _⟩ => ⟨S1536x96, .f32⟩
  | .hbm, ⟨6, _⟩ => ⟨S1536x96, .f32⟩
  | .hbm, ⟨7, _⟩ => ⟨S1536x96, .f32⟩
  | .local _ .vmem, ⟨0, _⟩ => ⟨S512x96, .f32⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x96, .f32⟩
  | .local _ .vmem, ⟨5, _⟩ => ⟨S512x96, .f32⟩
  | .local _ .vmem, ⟨6, _⟩ => ⟨S4x512x128, .bf16⟩
  | .local _ .vmem, ⟨7, _⟩ => ⟨S4x512x128, .bf16⟩
  | .local _ .vmem, ⟨8, _⟩ => ⟨S512x96, .f32⟩
  | .local _ .vmem, ⟨9, _⟩ => ⟨S512x96, .f32⟩
  | .local _ .vmem, ⟨10, _⟩ => ⟨S512x96, .f32⟩
  | .local _ .vmem, ⟨11, _⟩ => ⟨S512x96, .f32⟩
  | .local _ .vmem, ⟨12, _⟩ => ⟨S512x96, .f32⟩
  | .local _ .vmem, ⟨13, _⟩ => ⟨S512x96, .f32⟩
  | .local _ .vmem, ⟨14, _⟩ => ⟨S512x96, .f32⟩
  | .local _ .vmem, ⟨15, _⟩ => ⟨S512x96, .f32⟩
  | _, _ => ⟨S1536x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S1536x96 : Shape := ⟨2, ![1536, 96]⟩
abbrev S4x1536x128 : Shape := ⟨3, ![4, 1536, 128]⟩
abbrev S4x1536x96 : Shape := ⟨3, ![4, 1536, 96]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1536x96, .f32⟩
  | .hbm, ⟨1, _⟩ => ⟨S1536x96, .f32⟩
  | .hbm, ⟨2, _⟩ => ⟨S1536x96, .f32⟩
  | .hbm, ⟨3, _⟩ => ⟨S4x1536x128, .bf16⟩
  | .hbm, ⟨4, _⟩ => ⟨S4x1536x96, .bf16⟩
  | .hbm, ⟨5, _⟩ => ⟨S4x1536x96, .f32⟩
  | .hbm, ⟨6, _⟩ => ⟨S_, .f32⟩
  | .hbm, ⟨7, _⟩ => ⟨S1536x96, .f32⟩
  | .hbm, ⟨8, _⟩ => ⟨S_, .f32⟩
  | .hbm, ⟨9, _⟩ => ⟨S1536x96, .f32⟩
  | .hbm, ⟨10, _⟩ => ⟨S1536x96, .f32⟩
  | .hbm, ⟨11, _⟩ => ⟨S_, .f32⟩
  | .hbm, ⟨12, _⟩ => ⟨S1536x96, .f32⟩
  | .hbm, ⟨13, _⟩ => ⟨S1536x96, .f32⟩
  | .hbm, ⟨14, _⟩ => ⟨S1536x96, .f32⟩
  | .hbm, ⟨15, _⟩ => ⟨S_, .f32⟩
  | .hbm, ⟨16, _⟩ => ⟨S1536x96, .f32⟩
  | .hbm, ⟨17, _⟩ => ⟨S1536x96, .f32⟩
  | .hbm, ⟨18, _⟩ => ⟨S1536x96, .f32⟩
  | .hbm, ⟨19, _⟩ => ⟨S_, .f32⟩
  | .hbm, ⟨20, _⟩ => ⟨S1536x96, .f32⟩
  | .hbm, ⟨21, _⟩ => ⟨S1536x96, .f32⟩
  | .hbm, ⟨22, _⟩ => ⟨S1536x96, .f32⟩
  | .hbm, ⟨23, _⟩ => ⟨S_, .f32⟩
  | .hbm, ⟨24, _⟩ => ⟨S1536x96, .f32⟩
  | .hbm, ⟨25, _⟩ => ⟨S1536x96, .f32⟩
  | .hbm, ⟨26, _⟩ => ⟨S_, .f32⟩
  | .hbm, ⟨27, _⟩ => ⟨S1536x96, .f32⟩
  | .hbm, ⟨28, _⟩ => ⟨S1536x96, .f32⟩
  | .hbm, ⟨29, _⟩ => ⟨S1536x96, .f32⟩
  | .hbm, ⟨30, _⟩ => ⟨S_, .f32⟩
  | .hbm, ⟨31, _⟩ => ⟨S1536x96, .f32⟩
  | .hbm, ⟨32, _⟩ => ⟨S1536x96, .f32⟩
  | .hbm, ⟨33, _⟩ => ⟨S1536x96, .f32⟩
  | .hbm, ⟨34, _⟩ => ⟨S_, .f32⟩
  | .hbm, ⟨35, _⟩ => ⟨S1536x96, .f32⟩
  | .hbm, ⟨36, _⟩ => ⟨S1536x96, .f32⟩
  | .hbm, ⟨37, _⟩ => ⟨S1536x96, .f32⟩
  | .hbm, ⟨38, _⟩ => ⟨S_, .f32⟩
  | .hbm, ⟨39, _⟩ => ⟨S1536x96, .f32⟩
  | .hbm, ⟨40, _⟩ => ⟨S1536x96, .f32⟩
  | _, _ => ⟨S1536x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel36.lean ====
abbrev S4096x725 : Shape := ⟨2, ![4096, 725]⟩
abbrev S4x4096x768 : Shape := ⟨3, ![4, 4096, 768]⟩
abbrev S512x725 : Shape := ⟨2, ![512, 725]⟩
abbrev S4x512x768 : Shape := ⟨3, ![4, 512, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x725, .f32⟩
  | .hbm, ⟨1, _⟩ => ⟨S4096x725, .f32⟩
  | .hbm, ⟨2, _⟩ => ⟨S4096x725, .f32⟩
  | .hbm, ⟨3, _⟩ => ⟨S4x4096x768, .bf16⟩
  | .hbm, ⟨4, _⟩ => ⟨S4096x725, .f32⟩
  | .hbm, ⟨5, _⟩ => ⟨S4096x725, .f32⟩
  | .hbm, ⟨6, _⟩ => ⟨S4096x725, .f32⟩
  | .hbm, ⟨7, _⟩ => ⟨S4096x725, .f32⟩
  | .local _ .vmem, ⟨0, _⟩ => ⟨S512x725, .f32⟩
  | .local _ .vmem, ⟨1, _⟩ => ⟨S512x725, .f32⟩
  | .local _ .vmem, ⟨2, _⟩ => ⟨S512x725, .f32⟩
  | .local _ .vmem, ⟨3, _⟩ => ⟨S512x725, .f32⟩
  | .local _ .vmem, ⟨4, _⟩ => ⟨S512x725, .f32⟩
  | .local _ .vmem, ⟨5, _⟩ => ⟨S512x725, .f32⟩
  | .local _ .vmem, ⟨6, _⟩ => ⟨S4x512x768, .bf16⟩
  | .local _ .vmem, ⟨7, _⟩ => ⟨S4x512x768, .bf16⟩
  | .local _ .vmem, ⟨8, _⟩ => ⟨S512x725, .f32⟩
  | .local _ .vmem, ⟨9, _⟩ => ⟨S512x725, .f32⟩
  | .local _ .vmem, ⟨10, _⟩ => ⟨S512x725, .f32⟩
  | .local _ .vmem, ⟨11, _⟩ => ⟨S512x725, .f32⟩
  | .local _ .vmem, ⟨12, _⟩ => ⟨S512x725, .f32⟩
  | .local _ .vmem, ⟨13, _⟩ => ⟨S512x725, .f32⟩
  | .local _ .vmem, ⟨14, _⟩ => ⟨S512x725, .f32⟩
  | .local _ .vmem, ⟨15, _⟩ => ⟨S512x725, .f32⟩
  | _, _ => ⟨S4096x725, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x725 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x725 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x725 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x725 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x725 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x725 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x725 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S4096x725 : Shape := ⟨2, ![4096, 725]⟩
abbrev S4x4096x768 : Shape := ⟨3, ![4, 4096, 768]⟩
abbrev S4x4096x725 : Shape := ⟨3, ![4, 4096, 725]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x725, .f32⟩
  | .hbm, ⟨1, _⟩ => ⟨S4096x725, .f32⟩
  | .hbm, ⟨2, _⟩ => ⟨S4096x725, .f32⟩
  | .hbm, ⟨3, _⟩ => ⟨S4x4096x768, .bf16⟩
  | .hbm, ⟨4, _⟩ => ⟨S4x4096x725, .bf16⟩
  | .hbm, ⟨5, _⟩ => ⟨S4x4096x725, .f32⟩
  | .hbm, ⟨6, _⟩ => ⟨S_, .f32⟩
  | .hbm, ⟨7, _⟩ => ⟨S4096x725, .f32⟩
  | .hbm, ⟨8, _⟩ => ⟨S_, .f32⟩
  | .hbm, ⟨9, _⟩ => ⟨S4096x725, .f32⟩
  | .hbm, ⟨10, _⟩ => ⟨S4096x725, .f32⟩
  | .hbm, ⟨11, _⟩ => ⟨S_, .f32⟩
  | .hbm, ⟨12, _⟩ => ⟨S4096x725, .f32⟩
  | .hbm, ⟨13, _⟩ => ⟨S4096x725, .f32⟩
  | .hbm, ⟨14, _⟩ => ⟨S4096x725, .f32⟩
  | .hbm, ⟨15, _⟩ => ⟨S_, .f32⟩
  | .hbm, ⟨16, _⟩ => ⟨S4096x725, .f32⟩
  | .hbm, ⟨17, _⟩ => ⟨S4096x725, .f32⟩
  | .hbm, ⟨18, _⟩ => ⟨S4096x725, .f32⟩
  | .hbm, ⟨19, _⟩ => ⟨S_, .f32⟩
  | .hbm, ⟨20, _⟩ => ⟨S4096x725, .f32⟩
  | .hbm, ⟨21, _⟩ => ⟨S4096x725, .f32⟩
  | .hbm, ⟨22, _⟩ => ⟨S4096x725, .f32⟩
  | .hbm, ⟨23, _⟩ => ⟨S_, .f32⟩
  | .hbm, ⟨24, _⟩ => ⟨S4096x725, .f32⟩
  | .hbm, ⟨25, _⟩ => ⟨S4096x725, .f32⟩
  | .hbm, ⟨26, _⟩ => ⟨S_, .f32⟩
  | .hbm, ⟨27, _⟩ => ⟨S4096x725, .f32⟩
  | .hbm, ⟨28, _⟩ => ⟨S4096x725, .f32⟩
  | .hbm, ⟨29, _⟩ => ⟨S4096x725, .f32⟩
  | .hbm, ⟨30, _⟩ => ⟨S_, .f32⟩
  | .hbm, ⟨31, _⟩ => ⟨S4096x725, .f32⟩
  | .hbm, ⟨32, _⟩ => ⟨S4096x725, .f32⟩
  | .hbm, ⟨33, _⟩ => ⟨S4096x725, .f32⟩
  | .hbm, ⟨34, _⟩ => ⟨S_, .f32⟩
  | .hbm, ⟨35, _⟩ => ⟨S4096x725, .f32⟩
  | .hbm, ⟨36, _⟩ => ⟨S4096x725, .f32⟩
  | .hbm, ⟨37, _⟩ => ⟨S4096x725, .f32⟩
  | .hbm, ⟨38, _⟩ => ⟨S_, .f32⟩
  | .hbm, ⟨39, _⟩ => ⟨S4096x725, .f32⟩
  | .hbm, ⟨40, _⟩ => ⟨S4096x725, .f32⟩
  | _, _ => ⟨S4096x725, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.KernelIdeal.State.lean ====
module

public import proofs.«01_k».proof.Proof.Gen.KernelIdeal.Skeleton
public import Idealize.ShloMosaic.Lib.VecWindow

/-!
# What the backward kernel leaves, as pure functions of its blocks

The body of `fox_bwd` for one batch row and one pair of heads: it widens the query, key, value and cotangent blocks
to 128 lanes, then goes over the square of 512 × 512 tiles, and adds to the key and value accumulators tile by tile.
Everything here is a function on plain arrays; the run module shows that the program computes these.
-/

@[expose] public section

noncomputable section

namespace Cert.KernelIdeal.Fox

open Idealize.ShloMosaic Idealize.ShloMosaic.VecWindow Cert.KernelIdeal.Gen

variable {F : FTy → Type} [FloatOps F] [Named F]

/-! ## Windows -/

theorem tile_inb (h : Fin 2) (j : Fin 4) : ∀ a, (![h.val, 512 * j.val, 0] : Fin 3 → ℕ) a + S1x512x128.size a ≤ S2x2048x128.size a := by
  revert h j; decide
theorem slab_inb (h : Fin 2) (j : Fin 8) : ∀ a, (![h.val, 256 * j.val, 0] : Fin 3 → ℕ) a + S1x256x128.size a ≤ S2x2048x128.size a := by
  revert h j; decide
theorem crow_inb (h : Fin 2) (j : Fin 4) : ∀ a, (![0, h.val, 512 * j.val] : Fin 3 → ℕ) a + S1x1x512.size a ≤ S1x2x2048.size a := by
  revert h j; decide
theorem lcol_inb (h : Fin 2) (j : Fin 4) : ∀ a, (![0, 512 * j.val, h.val] : Fin 3 → ℕ) a + S1x512x1.size a ≤ S1x2048x2.size a := by
  revert h j; decide
theorem half_inb (h : Fin 2) (j : Fin 4) : ∀ a, (![512 * j.val, 64 * h.val] : Fin 2 → ℕ) a + S512x64.size a ≤ S2048x128.size a := by
  revert h j; decide
theorem quart_inb (h : Fin 2) (j : Fin 8) : ∀ a, (![256 * j.val, 64 * h.val] : Fin 2 → ℕ) a + S256x64.size a ≤ S2048x128.size a := by
  revert h j; decide

/-- Rows `512 j …` of head `h`. -/
def tile {e : EltTy} (X : Vec F S2x2048x128 e) (h : Fin 2) (j : Fin 4) : Vec F S1x512x128 e :=
  window X ![h.val, 512 * j.val, 0] S1x512x128.size (tile_inb h j)
def setTile {e : EltTy} (X : Vec F S2x2048x128 e) (h : Fin 2) (j : Fin 4) (w : Vec F S1x512x128 e) : Vec F S2x2048x128 e :=
  put X ![h.val, 512 * j.val, 0] S1x512x128.size w
/-- The decay of the keys `512 j …`, head `h`. -/
def crow (X : Vec F S1x2x2048 .f32) (h : Fin 2) (j : Fin 4) : Vec F S1x1x512 .f32 :=
  window X ![0, h.val, 512 * j.val] S1x1x512.size (crow_inb h j)
/-- The log-sum-exp of the queries `512 j …`, head `h`. -/
def lcol (X : Vec F S1x2048x2 .f32) (h : Fin 2) (j : Fin 4) : Vec F S1x512x1 .f32 :=
  window X ![0, 512 * j.val, h.val] S1x512x1.size (lcol_inb h j)
/-- Rows `512 j …` of the head `h`'s 64 lanes. -/
def half {e : EltTy} (X : Vec F S2048x128 e) (h : Fin 2) (j : Fin 4) : Vec F S512x64 e :=
  window X ![512 * j.val, 64 * h.val] S512x64.size (half_inb h j)
/-- Rows `256 j …` of the head `h`'s 64 lanes. -/
def quart {e : EltTy} (X : Vec F S2048x128 e) (h : Fin 2) (j : Fin 8) : Vec F S256x64 e :=
  window X ![256 * j.val, 64 * h.val] S256x64.size (quart_inb h j)

theorem tile_setTile_ne {e : EltTy} (X : Vec F S2x2048x128 e) (h h' : Fin 2) (j j' : Fin 4) (w : Vec F S1x512x128 e) (hh : h ≠ h') :
    tile (setTile X h j w) h' j' = tile X h' j' := by
  refine window_put_of_disjoint X _ _ _ _ (tile_inb h' j') w (0 : Fin 3) ?_
  show h'.val + 1 ≤ h.val ∨ h.val + 1 ≤ h'.val
  have : h.val ≠ h'.val := fun e => hh (Fin.ext e)
  omega

/-! ## Staging: eight slabs of 256 rows a head -/

/-- Slab `k` of both heads written. -/
def stageStep (p0 p1 : Vec F S256x64 .f32 → FVec F S1x256x128 .bf16) (x : Vec F S2048x128 .f32) (k : Fin 8)
    (A : Vec F S2x2048x128 .bf16) : Vec F S2x2048x128 .bf16 :=
  put (put A ![0, 256 * k.val, 0] S1x256x128.size (p0 (quart x 0 k))) ![1, 256 * k.val, 0] S1x256x128.size (p1 (quart x 1 k))
def stage (p0 p1 : Vec F S256x64 .f32 → FVec F S1x256x128 .bf16) (x : Vec F S2048x128 .f32) (A : Vec F S2x2048x128 .bf16) :
    ℕ → Vec F S2x2048x128 .bf16
  | 0 => A
  | k + 1 => if h : k < 8 then stageStep p0 p1 x ⟨k, h⟩ (stage p0 p1 x A k) else stage p0 p1 x A k
/-- All the slabs at once. -/
def staged (p0 p1 : Vec F S256x64 .f32 → FVec F S1x256x128 .bf16) (x : Vec F S2048x128 .f32) : Vec F S2x2048x128 .bf16 :=
  fun y => (if (y (0 : Fin 3)).val = 0 then p0 (quart x 0 ⟨(y (1 : Fin 3)).val / 256, by have : (y (1 : Fin 3)).val < 2048 := (y (1 : Fin 3)).isLt; omega⟩)
      else p1 (quart x 1 ⟨(y (1 : Fin 3)).val / 256, by have : (y (1 : Fin 3)).val < 2048 := (y (1 : Fin 3)).isLt; omega⟩))
    (fun a => match a with
      | 0 => (0 : Fin 1)
      | 1 => (⟨(y (1 : Fin 3)).val % 256, Nat.mod_lt _ (by decide)⟩ : Fin 256)
      | 2 => (y (2 : Fin 3) : Fin 128))

/-! ## The tiles below the diagonal -/

abbrev Acc (F : FTy → Type) := Vec F S2x2048x128 .f32

/-- One tile: the two query accumulators, and the key and value accumulators of both heads. -/
def step6 (v47 v50 v53 v56 : FVec F S512x128 .bf16) (v64 v72 v75 v78 : FVec F S512x1 .f32)
    (cr : Vec F S1x2x2048 .f32) (kh vh : Vec F S2x2048x128 .bf16) (j : Fin 4)
    (s : (FVec F S512x128 .f32 × FVec F S512x128 .f32) × Acc F × Acc F) : (FVec F S512x128 .f32 × FVec F S512x128 .f32) × Acc F × Acc F :=
  ((k0_pay6 v47 v53 v64 v75 s.1.1 (tile kh 0 j) (crow cr 0 j) (tile vh 0 j), k0_pay13 v50 v56 v72 v78 s.1.2 (tile kh 1 j) (crow cr 1 j) (tile vh 1 j)),
    setTile (setTile s.2.1 0 j (k0_pay8 (k0_pay7 v47 v53 v64 v75 (tile kh 0 j) (crow cr 0 j) (tile vh 0 j) (tile s.2.1 0 j)))) 1 j
      (k0_pay40 (k0_pay14 (tile s.2.1 1 j)) (k0_pay15 v50 v56 v72 v78 (tile kh 1 j) (crow cr 1 j) (tile vh 1 j))),
    setTile (setTile s.2.2 0 j (k0_pay4 v47 v53 v75 (tile kh 0 j) (crow cr 0 j) (tile s.2.2 0 j))) 1 j
      (k0_pay11 v50 v56 v78 (tile kh 1 j) (crow cr 1 j) (tile s.2.2 1 j)))

def st6 (v47 v50 v53 v56 : FVec F S512x128 .bf16) (v64 v72 v75 v78 : FVec F S512x1 .f32)
    (cr : Vec F S1x2x2048 .f32) (kh vh : Vec F S2x2048x128 .bf16)
    (s : (FVec F S512x128 .f32 × FVec F S512x128 .f32) × Acc F × Acc F) : ℕ → (FVec F S512x128 .f32 × FVec F S512x128 .f32) × Acc F × Acc F
  | 0 => s
  | j + 1 => if h : j < 4 then step6 v47 v50 v53 v56 v64 v72 v75 v78 cr kh vh ⟨j, h⟩ (st6 v47 v50 v53 v56 v64 v72 v75 v78 cr kh vh s j)
      else st6 v47 v50 v53 v56 v64 v72 v75 v78 cr kh vh s j

/-! ## The tile on the diagonal and the whole row of tiles -/

/-- The words of the diagonal tile's mask. -/
def w107 (a : BitVec 32) : BitVec 32 := Scalar.divsi (Scalar.muli a 512#32) 512#32
def w121 (a : BitVec 32) : BitVec 1 :=
  Scalar.andi
    (Scalar.cmpi .ne (Scalar.subi (Scalar.extui (Scalar.cmpi .sgt (Scalar.muli a 512#32) 0#32)) (Scalar.extui (Scalar.cmpi .slt (Scalar.muli a 512#32) 0#32)) : BitVec 32)
      (Scalar.subi (Scalar.extui (Scalar.cmpi .sgt (512#32 : BitVec 32) 0#32)) (Scalar.extui (Scalar.cmpi .slt (512#32 : BitVec 32) 0#32)) : BitVec 32))
    (Scalar.cmpi .ne (Scalar.remsi (Scalar.muli a 512#32) 512#32) 0#32)
def w125 (a : BitVec 32) : BitVec 32 :=
  Scalar.muli (Scalar.addi (Scalar.select (w121 a) (Scalar.subi (w107 a) 1#32) (w107 a)) 0#32) 512#32

/-- What one row of tiles is computed from. -/
structure Ins (F : FTy → Type) where
  qh : Vec F S2x2048x128 .bf16
  kh : Vec F S2x2048x128 .bf16
  vh : Vec F S2x2048x128 .bf16
  dh : Vec F S2x2048x128 .bf16
  o : Vec F S2048x128 .f32
  d : Vec F S2048x128 .f32
  lse : Vec F S1x2048x2 .f32
  cr : Vec F S1x2x2048 .f32

variable (I : Ins F)

/-- The tiles left of the diagonal, of row `i`. -/
def left (i : Fin 4) (A : Acc F × Acc F) : (FVec F S512x128 .f32 × FVec F S512x128 .f32) × Acc F × Acc F :=
  st6 (k0_pay30 (tile I.qh 0 i)) (k0_pay31 (tile I.qh 1 i)) (k0_pay32 (tile I.dh 0 i)) (k0_pay33 (tile I.dh 1 i))
    (k0_pay34 (half I.d 0 i) (half I.o 0 i)) (k0_pay35 (half I.d 1 i) (half I.o 1 i)) (k0_pay36 (lcol I.lse 0 i)) (k0_pay37 (lcol I.lse 1 i))
    I.cr I.kh I.vh ((k0_pay38, k0_pay39), A) i.val

/-- The probabilities of the diagonal tile, head 0 and head 1. -/
def diag0 (i : Fin 4) : FVec F S512x512 .f32 :=
  k0_pay43 (Scf.iv 0#32 1#32 i.val) (k0_pay30 (tile I.qh 0 i)) (k0_pay36 (lcol I.lse 0 i)) (w107 (Scf.iv 0#32 1#32 i.val)) (w121 (Scf.iv 0#32 1#32 i.val))
    (tile I.kh 0 i) (crow I.cr 0 i)
def diag1 (i : Fin 4) : FVec F S512x512 .f32 :=
  k0_pay50 (Scf.iv 0#32 1#32 i.val) (k0_pay31 (tile I.qh 1 i)) (k0_pay37 (lcol I.lse 1 i)) (w125 (Scf.iv 0#32 1#32 i.val))
    (tile I.kh 1 i) (crow I.cr 1 i)

/-- The key and value accumulators after row `i` of tiles. -/
def rowAcc (i : Fin 4) (A : Acc F × Acc F) : Acc F × Acc F :=
  (setTile (setTile (left I i A).2.1 0 i
      (k0_pay48 (k0_pay30 (tile I.qh 0 i)) (k0_pay32 (tile I.dh 0 i)) (k0_pay34 (half I.d 0 i) (half I.o 0 i)) (diag0 I i) (k0_pay45 (tile I.vh 0 i)) (tile (left I i A).2.1 0 i))) 1 i
      (k0_pay55 (k0_pay31 (tile I.qh 1 i)) (k0_pay33 (tile I.dh 1 i)) (k0_pay35 (half I.d 1 i) (half I.o 1 i)) (diag1 I i) (tile I.vh 1 i) (tile (left I i A).2.1 1 i)),
    setTile (setTile (left I i A).2.2 0 i
      (k0_pay44 (Scf.iv 0#32 1#32 i.val) (k0_pay30 (tile I.qh 0 i)) (k0_pay32 (tile I.dh 0 i)) (k0_pay36 (lcol I.lse 0 i)) (w107 (Scf.iv 0#32 1#32 i.val)) (w121 (Scf.iv 0#32 1#32 i.val))
        (tile I.kh 0 i) (crow I.cr 0 i) (tile (left I i A).2.2 0 i))) 1 i
      (k0_pay52 (k0_pay33 (tile I.dh 1 i)) (diag1 I i) (k0_pay51 (tile (left I i A).2.2 1 i))))

/-- The query accumulators of row `i`, head 0 and head 1. -/
def rowQ0 (i : Fin 4) (A : Acc F × Acc F) : FVec F S512x128 .f32 :=
  k0_pay47 (k0_pay32 (tile I.dh 0 i)) (k0_pay34 (half I.d 0 i) (half I.o 0 i)) (left I i A).1.1 (k0_pay42 (tile I.kh 0 i)) (diag0 I i) (k0_pay45 (tile I.vh 0 i))
def rowQ1 (i : Fin 4) (A : Acc F × Acc F) : FVec F S512x128 .f32 :=
  k0_pay54 (k0_pay33 (tile I.dh 1 i)) (k0_pay35 (half I.d 1 i) (half I.o 1 i)) (left I i A).1.2 (k0_pay49 (tile I.kh 1 i)) (diag1 I i) (tile I.vh 1 i)
/-- The rows of the query gradient, head 1 (head 0's are `k0_pay56` of the accumulator). -/
def rowD1 (i : Fin 4) (A : Acc F × Acc F) : FVec F S512x64 .f32 :=
  k0_pay58 (k0_pay33 (tile I.dh 1 i)) (k0_pay35 (half I.d 1 i) (half I.o 1 i)) (left I i A).1.2 (k0_pay49 (tile I.kh 1 i)) (diag1 I i) (tile I.vh 1 i)

/-- The accumulators before row `n`. -/
def accs : ℕ → Acc F × Acc F
  | 0 => (k0_pay67, k0_pay68)
  | n + 1 => if h : n < 4 then rowAcc I ⟨n, h⟩ (accs n) else accs n

/-- The query-gradient block before row `n`, from what it held at first. -/
def dqs (X : Vec F S2048x128 .bf16) : ℕ → Vec F S2048x128 .bf16
  | 0 => X
  | n + 1 => if h : n < 4 then
      put (put (dqs X n) ![512 * n, 0] S512x64.size (k0_pay56 (rowQ0 I ⟨n, h⟩ (accs I n)))) ![512 * n, 64] S512x64.size (k0_pay69 (rowD1 I ⟨n, h⟩ (accs I n)))
    else dqs X n

/-- The row sums of the score gradient before row `n`. -/
def rss (X : Vec F S2048x2 .f32) : ℕ → Vec F S2048x2 .f32
  | 0 => X
  | n + 1 => if h : n < 4 then
      put (put (rss X n) ![512 * n, 0] S512x1.size (k0_pay57 (rowQ0 I ⟨n, h⟩ (accs I n)))) ![512 * n, 1] S512x1.size (k0_pay70 (rowQ1 I ⟨n, h⟩ (accs I n)))
    else rss X n

/-! ## The blocks handed back -/

theorem dk_inb (h : Fin 2) : ∀ a, (![h.val, 0, 0] : Fin 3 → ℕ) a + S1x2048x64.size a ≤ S2x2048x128.size a := by revert h; decide
theorem col_inb (h : Fin 2) : ∀ a, (![h.val, 0, 65] : Fin 3 → ℕ) a + S1x2048x1.size a ≤ S2x2048x128.size a := by revert h; decide
theorem rs_inb (h : Fin 2) : ∀ a, (![0, h.val] : Fin 2 → ℕ) a + S2048x1.size a ≤ S2048x2.size a := by revert h; decide

/-- The first 64 lanes of head `h`. -/
def lanes (X : Acc F) (h : Fin 2) : Vec F S1x2048x64 .f32 := window X ![h.val, 0, 0] S1x2048x64.size (dk_inb h)
/-- Lane 65 of head `h`. -/
def lane65 (X : Acc F) (h : Fin 2) : Vec F S1x2048x1 .f32 := window X ![h.val, 0, 65] S1x2048x1.size (col_inb h)
def rcol (X : Vec F S2048x2 .f32) (h : Fin 2) : Vec F S2048x1 .f32 := window X ![0, h.val] S2048x1.size (rs_inb h)

def outDk (A : Acc F) (X : Vec F S2048x128 .bf16) : Vec F S2048x128 .bf16 :=
  put (put X ![0, 0] S2048x64.size (k0_pay71 (lanes A 0))) ![0, 64] S2048x64.size (k0_pay74 (lanes A 1))
def outDv (A : Acc F) (X : Vec F S2048x128 .bf16) : Vec F S2048x128 .bf16 :=
  put (put X ![0, 0] S2048x64.size (k0_pay72 (lanes A 0))) ![0, 64] S2048x64.size (k0_pay75 (lanes A 1))
def outDc (R : Vec F S2048x2 .f32) (A : Acc F) (X : Vec F S1x2048x2 .f32) : Vec F S1x2048x2 .f32 :=
  put (put X ![0, 0, 0] S1x2048x1.size (k0_pay73 (rcol R 0) (lane65 A 0))) ![0, 0, 1] S1x2048x1.size (k0_pay1 (k0_pay76 (rcol R 1) (lane65 A 1)))

end Cert.KernelIdeal.Fox
-- ==== Proof.KernelIdeal.Trips.lean ====
module

public import proofs.«01_k».proof.Proof.KernelIdeal.State
public import Idealize.ShloMosaic.Lib.Exec
public import Idealize.ShloMosaic.Lib.Tactic
public import Idealize.ShloMosaic.Lib.LoopRemainder
public import Idealize.ShloMosaic.Lib.Pipeline.Kit

/-!
# The trips of the backward kernel's loops

Each trip run once, at a symbolic trip, from buffers that hold plain arrays to buffers that hold the arrays of State.lean.
-/

@[expose] public section

set_option maxRecDepth 8192
set_option maxHeartbeats 4000000

noncomputable section

namespace Cert.KernelIdeal.Fox

open Idealize.ShloMosaic Idealize.ShloMosaic.VecWindow Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer of the core held at the contents that read `X`. -/
abbrev at_ (c : Dev nD) {s : Shape} {e : EltTy} (m : Memref sig .tc .vmem s e) (h : m.IsWhole) (X : Vec F s e) : sProp 𝕄 :=
  m.view.loc (c : Thread nD τ) ↦[m.view.set]{fullShare} h.unread X

theorem unread_writes_cons {s : Shape} {e : EltTy} {m : Memref sig .tc .vmem s e} (h : m.IsWhole) (f : m.view.ty.Contents (Elt F))
    {off off' size : Fin s.rank → ℕ} (inb : ∀ a, off a + size a ≤ s.size a) (w : (Rect.unit off size inb).shape.Idx → Elt F e)
    (L : List (View.Piece (Elt F) s e)) (ho : off = off') :
    m.view.writes (Elt F) f (⟨Rect.unit off size inb, w⟩ :: L) = h.unread (put (m.view.read (Elt F) (m.view.writes (Elt F) f L)) off' size w) :=
  h.eq_unread (View.read_writes_cons_put _ _ inb w L ho)

theorem trips5 : k0_t5_loop.trips = 4 := by decide +kernel
theorem trips6 : ∀ k : Fin k0_t5_loop.trips, (k0_t6_loop k).trips = k.val := by decide +kernel

def t6 {k : Fin k0_t5_loop.trips} (j : Fin (k0_t6_loop k).trips) : Fin 4 :=
  ⟨j.val, lt_of_lt_of_le (lt_of_lt_of_le j.isLt (k0_t6_abs k).2.1) (by decide)⟩
def t5 (k : Fin k0_t5_loop.trips) : Fin 4 := ⟨k.val, lt_of_lt_of_le k.isLt k0_t5_abs.2.1⟩

/-! ### Reads and writes of tiles -/

section
variable {e : EltTy} {m : Memref sig .tc .vmem S2x2048x128 e} (f : m.view.ty.Contents (Elt F)) (k : Fin k0_t5_loop.trips)
theorem read_off23' (j : Fin (k0_t6_loop k).trips) (inb) :
    m.view.readAt (Elt F) (Rect.unit (s := S2x2048x128) (k0_off23 k j) ![1, 512, 128] inb).toLoadRect f = tile (m.view.read (Elt F) f) 0 (t6 j) :=
  View.readAt_unit m.view f inb (k0_off23_eq k j) (tile_inb 0 (t6 j))
theorem read_off25' (j : Fin (k0_t6_loop k).trips) (inb) :
    m.view.readAt (Elt F) (Rect.unit (s := S2x2048x128) (k0_off25 k j) ![1, 512, 128] inb).toLoadRect f = tile (m.view.read (Elt F) f) 1 (t6 j) :=
  View.readAt_unit m.view f inb (k0_off25_eq k j) (tile_inb 1 (t6 j))
theorem read_off17' (inb) :
    m.view.readAt (Elt F) (Rect.unit (s := S2x2048x128) (k0_off17 k) ![1, 512, 128] inb).toLoadRect f = tile (m.view.read (Elt F) f) 0 (t5 k) :=
  View.readAt_unit m.view f inb (k0_off17_eq k) (tile_inb 0 (t5 k))
theorem read_off18' (inb) :
    m.view.readAt (Elt F) (Rect.unit (s := S2x2048x128) (k0_off18 k) ![1, 512, 128] inb).toLoadRect f = tile (m.view.read (Elt F) f) 1 (t5 k) :=
  View.readAt_unit m.view f inb (k0_off18_eq k) (tile_inb 1 (t5 k))
theorem read_off31' (inb) :
    m.view.readAt (Elt F) (Rect.unit (s := S2x2048x128) (k0_off31 k) ![1, 512, 128] inb).toLoadRect f = tile (m.view.read (Elt F) f) 0 (t5 k) :=
  View.readAt_unit m.view f inb (k0_off31_eq k) (tile_inb 0 (t5 k))
theorem read_off33' (inb) :
    m.view.readAt (Elt F) (Rect.unit (s := S2x2048x128) (k0_off33 k) ![1, 512, 128] inb).toLoadRect f = tile (m.view.read (Elt F) f) 1 (t5 k) :=
  View.readAt_unit m.view f inb (k0_off33_eq k) (tile_inb 1 (t5 k))
end
section
variable {m : Memref sig .tc .vmem S1x2x2048 .f32} (f : m.view.ty.Contents (Elt F)) (k : Fin k0_t5_loop.trips)
theorem read_off24' (j : Fin (k0_t6_loop k).trips) (inb) :
    m.view.readAt (Elt F) (Rect.unit (s := S1x2x2048) (k0_off24 k j) ![1, 1, 512] inb).toLoadRect f = crow (m.view.read (Elt F) f) 0 (t6 j) :=
  View.readAt_unit m.view f inb (k0_off24_eq k j) (crow_inb 0 (t6 j))
theorem read_off26' (j : Fin (k0_t6_loop k).trips) (inb) :
    m.view.readAt (Elt F) (Rect.unit (s := S1x2x2048) (k0_off26 k j) ![1, 1, 512] inb).toLoadRect f = crow (m.view.read (Elt F) f) 1 (t6 j) :=
  View.readAt_unit m.view f inb (k0_off26_eq k j) (crow_inb 1 (t6 j))
theorem read_off32' (inb) :
    m.view.readAt (Elt F) (Rect.unit (s := S1x2x2048) (k0_off32 k) ![1, 1, 512] inb).toLoadRect f = crow (m.view.read (Elt F) f) 0 (t5 k) :=
  View.readAt_unit m.view f inb (k0_off32_eq k) (crow_inb 0 (t5 k))
theorem read_off34' (inb) :
    m.view.readAt (Elt F) (Rect.unit (s := S1x2x2048) (k0_off34 k) ![1, 1, 512] inb).toLoadRect f = crow (m.view.read (Elt F) f) 1 (t5 k) :=
  View.readAt_unit m.view f inb (k0_off34_eq k) (crow_inb 1 (t5 k))
end
section
variable {m : Memref sig .tc .vmem S1x2048x2 .f32} (f : m.view.ty.Contents (Elt F)) (k : Fin k0_t5_loop.trips)
theorem read_off21' (inb) :
    m.view.readAt (Elt F) (Rect.unit (s := S1x2048x2) (k0_off21 k) ![1, 512, 1] inb).toLoadRect f = lcol (m.view.read (Elt F) f) 0 (t5 k) :=
  View.readAt_unit m.view f inb (k0_off21_eq k) (lcol_inb 0 (t5 k))
theorem read_off22' (inb) :
    m.view.readAt (Elt F) (Rect.unit (s := S1x2048x2) (k0_off22 k) ![1, 512, 1] inb).toLoadRect f = lcol (m.view.read (Elt F) f) 1 (t5 k) :=
  View.readAt_unit m.view f inb (k0_off22_eq k) (lcol_inb 1 (t5 k))
end
section
variable {e : EltTy} {m : Memref sig .tc .vmem S2048x128 e} (f : m.view.ty.Contents (Elt F)) (k : Fin k0_t5_loop.trips)
theorem read_off19' (inb) :
    m.view.readAt (Elt F) (Rect.unit (s := S2048x128) (k0_off19 k) ![512, 64] inb).toLoadRect f = half (m.view.read (Elt F) f) 0 (t5 k) :=
  View.readAt_unit m.view f inb (k0_off19_eq k) (half_inb 0 (t5 k))
theorem read_off20' (inb) :
    m.view.readAt (Elt F) (Rect.unit (s := S2048x128) (k0_off20 k) ![512, 64] inb).toLoadRect f = half (m.view.read (Elt F) f) 1 (t5 k) :=
  View.readAt_unit m.view f inb (k0_off20_eq k) (half_inb 1 (t5 k))
end
section
variable {e : EltTy} {m : Memref sig .tc .vmem S2x2048x128 e} (h : m.IsWhole) (f : m.view.ty.Contents (Elt F)) (k : Fin k0_t5_loop.trips)
theorem write_off23' (j : Fin (k0_t6_loop k).trips) (inb) (w : Vec F S1x512x128 e) (L : List (View.Piece (Elt F) S2x2048x128 e)) :
    m.view.writes (Elt F) f (⟨Rect.unit (s := S2x2048x128) (k0_off23 k j) ![1, 512, 128] inb, w⟩ :: L) = h.unread (setTile (m.view.read (Elt F) (m.view.writes (Elt F) f L)) 0 (t6 j) w) :=
  unread_writes_cons h f inb w L (k0_off23_eq k j)
theorem write_off25' (j : Fin (k0_t6_loop k).trips) (inb) (w : Vec F S1x512x128 e) (L : List (View.Piece (Elt F) S2x2048x128 e)) :
    m.view.writes (Elt F) f (⟨Rect.unit (s := S2x2048x128) (k0_off25 k j) ![1, 512, 128] inb, w⟩ :: L) = h.unread (setTile (m.view.read (Elt F) (m.view.writes (Elt F) f L)) 1 (t6 j) w) :=
  unread_writes_cons h f inb w L (k0_off25_eq k j)
theorem write_off31' (inb) (w : Vec F S1x512x128 e) (L : List (View.Piece (Elt F) S2x2048x128 e)) :
    m.view.writes (Elt F) f (⟨Rect.unit (s := S2x2048x128) (k0_off31 k) ![1, 512, 128] inb, w⟩ :: L) = h.unread (setTile (m.view.read (Elt F) (m.view.writes (Elt F) f L)) 0 (t5 k) w) :=
  unread_writes_cons h f inb w L (k0_off31_eq k)
theorem write_off33' (inb) (w : Vec F S1x512x128 e) (L : List (View.Piece (Elt F) S2x2048x128 e)) :
    m.view.writes (Elt F) f (⟨Rect.unit (s := S2x2048x128) (k0_off33 k) ![1, 512, 128] inb, w⟩ :: L) = h.unread (setTile (m.view.read (Elt F) (m.view.writes (Elt F) f L)) 1 (t5 k) w) :=
  unread_writes_cons h f inb w L (k0_off33_eq k)
end
section
variable {e : EltTy} {m : Memref sig .tc .vmem S2048x128 e} (h : m.IsWhole) (f : m.view.ty.Contents (Elt F)) (k : Fin k0_t5_loop.trips)
theorem write_off19 (inb) (w : Vec F S512x64 e) (L : List (View.Piece (Elt F) S2048x128 e)) :
    m.view.writes (Elt F) f (⟨Rect.unit (s := S2048x128) (k0_off19 k) S512x64.size inb, w⟩ :: L) = h.unread (put (m.view.read (Elt F) (m.view.writes (Elt F) f L)) ![512 * k.val, 0] S512x64.size w) :=
  unread_writes_cons h f inb w L (k0_off19_eq k)
theorem write_off20 (inb) (w : Vec F S512x64 e) (L : List (View.Piece (Elt F) S2048x128 e)) :
    m.view.writes (Elt F) f (⟨Rect.unit (s := S2048x128) (k0_off20 k) S512x64.size inb, w⟩ :: L) = h.unread (put (m.view.read (Elt F) (m.view.writes (Elt F) f L)) ![512 * k.val, 64] S512x64.size w) :=
  unread_writes_cons h f inb w L (k0_off20_eq k)
end
section
variable {m : Memref sig .tc .vmem S2048x2 .f32} (h : m.IsWhole) (f : m.view.ty.Contents (Elt F)) (k : Fin k0_t5_loop.trips)
theorem write_off35 (inb) (w : Vec F S512x1 .f32) (L : List (View.Piece (Elt F) S2048x2 .f32)) :
    m.view.writes (Elt F) f (⟨Rect.unit (s := S2048x2) (k0_off35 k) S512x1.size inb, w⟩ :: L) = h.unread (put (m.view.read (Elt F) (m.view.writes (Elt F) f L)) ![512 * k.val, 0] S512x1.size w) :=
  unread_writes_cons h f inb w L (k0_off35_eq k)
theorem write_off36 (inb) (w : Vec F S512x1 .f32) (L : List (View.Piece (Elt F) S2048x2 .f32)) :
    m.view.writes (Elt F) f (⟨Rect.unit (s := S2048x2) (k0_off36 k) S512x1.size inb, w⟩ :: L) = h.unread (put (m.view.read (Elt F) (m.view.writes (Elt F) f L)) ![512 * k.val, 1] S512x1.size w) :=
  unread_writes_cons h f inb w L (k0_off36_eq k)
end

variable (c : Dev nD) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x2 .f32) (harg7 : arg7.IsWhole) (arg8 : Memref sig .tc .vmem S1x2x2048 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2048x2 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .bf16) (harg16 : arg16.IsWhole) (arg17 : Memref sig .tc .vmem S2x2048x128 .f32) (harg17 : arg17.IsWhole) (arg18 : Memref sig .tc .vmem S2x2048x128 .f32) (harg18 : arg18.IsWhole) (arg19 : Memref sig .tc .vmem S2048x2 .f32) (harg19 : arg19.IsWhole)

theorem trip6 (k0_t5 : Fin k0_t5_loop.trips) (arg20 : BitVec 32) (v47 : FVec F S512x128 .bf16) (v50 : FVec F S512x128 .bf16) (v53 : FVec F S512x128 .bf16) (v56 : FVec F S512x128 .bf16) (v64 : FVec F S512x1 .f32) (v72 : FVec F S512x1 .f32) (v75 : FVec F S512x1 .f32) (v78 : FVec F S512x1 .f32) (v79 : FVec F S512x128 .f32) (v80 : FVec F S512x128 .f32)
    (cr : Vec F S1x2x2048 .f32) (kh vh : Vec F S2x2048x128 .bf16) (s : (FVec F S512x128 .f32 × FVec F S512x128 .f32) × Acc F × Acc F) (j : Fin (k0_t6_loop k0_t5).trips) :
    iprop(at_ c arg8 harg8 cr ∗ at_ c arg14 harg14 kh ∗ at_ c arg15 harg15 vh ∗ at_ c arg17 harg17 s.2.1 ∗ at_ c arg18 harg18 s.2.2)
      ⊢ wp frame (wpE (defs₀ (F := F)) Variants.none (c : Thread nD τ) none) E (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t5 arg20 v47 v50 v53 v56 v64 v72 v75 v78 v79 v80 j s.1)
          (fun yld => iprop(⌜yld = (step6 v47 v50 v53 v56 v64 v72 v75 v78 cr kh vh (t6 j) s).1⌝ ∗ at_ c arg8 harg8 cr ∗ at_ c arg14 harg14 kh ∗ at_ c arg15 harg15 vh
            ∗ at_ c arg17 harg17 (step6 v47 v50 v53 v56 v64 v72 v75 v78 cr kh vh (t6 j) s).2.1 ∗ at_ c arg18 harg18 (step6 v47 v50 v53 v56 v64 v72 v75 v78 cr kh vh (t6 j) s).2.2)) := by
  obtain ⟨⟨s1, s2⟩, A17, A18⟩ := s
  unfold k0_t6_body
  iintro ⟨H8, H14, H15, H17, H18⟩
  sl_exec
  sl_step
  sl_unfold_run_names
  simp only [read_off24', read_off26', read_off23', read_off25', write_off23' harg17, write_off23' harg18, write_off25' harg17, write_off25' harg18,
    View.writes_nil, Memref.IsWhole.read_unread, tile_setTile_ne _ 0 1 _ _ _ (by decide)]
  unfold at_
  isplitr; · ipureintro; first | trivial | rfl
  isplitl [H8]; · iexact H8
  isplitl [H14]; · iexact H14
  isplitl [H15]; · iexact H15
  isplitl [H17]; · iexact H17
  iexact H18

theorem loop6 (k : Fin k0_t5_loop.trips) (arg20 : BitVec 32) (v47 v50 v53 v56 : FVec F S512x128 .bf16) (v64 v72 v75 v78 : FVec F S512x1 .f32) (v79 v80 : FVec F S512x128 .f32)
    (cr : Vec F S1x2x2048 .f32) (kh vh : Vec F S2x2048x128 .bf16) (s : (FVec F S512x128 .f32 × FVec F S512x128 .f32) × Acc F × Acc F) :
    iprop(at_ c arg8 harg8 cr ∗ at_ c arg14 harg14 kh ∗ at_ c arg15 harg15 vh ∗ at_ c arg17 harg17 s.2.1 ∗ at_ c arg18 harg18 s.2.2)
      ⊢ wp frame (wpE (defs₀ (F := F)) Variants.none (c : Thread nD τ) none) E
          (Scf.Loop.for (k0_t6_loop k) (k0_t6_ok k) s.1 (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v50 v53 v56 v64 v72 v75 v78 v79 v80))
          (fun r => iprop(⌜r = (st6 v47 v50 v53 v56 v64 v72 v75 v78 cr kh vh s k.val).1⌝ ∗ at_ c arg8 harg8 cr ∗ at_ c arg14 harg14 kh ∗ at_ c arg15 harg15 vh
            ∗ at_ c arg17 harg17 (st6 v47 v50 v53 v56 v64 v72 v75 v78 cr kh vh s k.val).2.1 ∗ at_ c arg18 harg18 (st6 v47 v50 v53 v56 v64 v72 v75 v78 cr kh vh s k.val).2.2)) := by
  refine BIBase.Entails.trans ?_ (Scf.wp_for frame (wpE (defs₀ (F := F)) Variants.none (c : Thread nD τ) none) E _ _ _ (k0_t6_ok k) s.1 _
    (fun n acc => iprop(⌜acc = (st6 v47 v50 v53 v56 v64 v72 v75 v78 cr kh vh s n).1⌝ ∗ at_ c arg8 harg8 cr ∗ at_ c arg14 harg14 kh ∗ at_ c arg15 harg15 vh
            ∗ at_ c arg17 harg17 (st6 v47 v50 v53 v56 v64 v72 v75 v78 cr kh vh s n).2.1 ∗ at_ c arg18 harg18 (st6 v47 v50 v53 v56 v64 v72 v75 v78 cr kh vh s n).2.2)) ?_)
  · iintro ⟨H8, H14, H15, H17, H18⟩
    isplitl
    · isplitr; · ipureintro; first | trivial | rfl
      isplitl [H8]; · iexact H8
      isplitl [H14]; · iexact H14
      isplitl [H15]; · iexact H15
      isplitl [H17]; · iexact H17
      iexact H18
    · rw [show Scf.trips (k0_t6_loop k).lb (k0_t6_loop k).ub (k0_t6_loop k).st = k.val from trips6 k]
      iintro %acc H
      iexact H
  · intro j acc
    iintro ⟨%hacc, H⟩
    subst hacc
    have e : st6 v47 v50 v53 v56 v64 v72 v75 v78 cr kh vh s (j.val + 1) = step6 v47 v50 v53 v56 v64 v72 v75 v78 cr kh vh (t6 j) (st6 v47 v50 v53 v56 v64 v72 v75 v78 cr kh vh s j.val) :=
      dif_pos (t6 j).isLt
    rw [e]
    iapply (trip6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v50 v53 v56 v64 v72 v75 v78 v79 v80 cr kh vh (st6 v47 v50 v53 v56 v64 v72 v75 v78 cr kh vh s j.val) j)
    iexact H

theorem part5 (I : Ins F) (k : Fin k0_t5_loop.trips) :
    iprop(at_ c arg5 harg5 I.o ∗ at_ c arg6 harg6 I.d ∗ at_ c arg7 harg7 I.lse ∗ at_ c arg13 harg13 I.qh ∗ at_ c arg16 harg16 I.dh)
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 1#32 k)
          (fun r => iprop(⌜r = ⟨Scf.iv 0#32 1#32 k.val, Scalar.muli (Scf.iv 0#32 1#32 k.val) 512#32, k0_pay30 (tile I.qh 0 (t5 k)), k0_pay31 (tile I.qh 1 (t5 k)), k0_pay32 (tile I.dh 0 (t5 k)), k0_pay33 (tile I.dh 1 (t5 k)),
    k0_pay34 (half I.d 0 (t5 k)) (half I.o 0 (t5 k)), k0_pay35 (half I.d 1 (t5 k)) (half I.o 1 (t5 k)), k0_pay36 (lcol I.lse 0 (t5 k)), k0_pay37 (lcol I.lse 1 (t5 k)), k0_pay38 (F := F), k0_pay39 (F := F)⟩⌝
            ∗ at_ c arg5 harg5 I.o ∗ at_ c arg6 harg6 I.d ∗ at_ c arg7 harg7 I.lse ∗ at_ c arg13 harg13 I.qh ∗ at_ c arg16 harg16 I.dh)) := by
  rw [k0_part5_eq_skeleton]
  unfold k0_part5_skel
  iintro ⟨H5, H6, H7, H13, H16⟩
  sl_exec
  sl_step
  sl_unfold_run_names
  simp only [read_off17', read_off18', read_off19', read_off20', read_off21', read_off22', read_off31', read_off32', read_off33', read_off34', Memref.IsWhole.read_unread]
  unfold at_
  isplitr; · ipureintro; first | trivial | rfl
  isplitl [H5]; · iexact H5
  isplitl [H6]; · iexact H6
  isplitl [H7]; · iexact H7
  isplitl [H13]; · iexact H13
  iexact H16

theorem part6 (k : Fin k0_t5_loop.trips) (arg20 : BitVec 32) (v47 v50 v53 v56 : FVec F S512x128 .bf16) (v64 v72 v75 v78 : FVec F S512x1 .f32) (v79 v80 : FVec F S512x128 .f32)
    (cr : Vec F S1x2x2048 .f32) (kh vh : Vec F S2x2048x128 .bf16) (A : Acc F × Acc F) :
    iprop(at_ c arg8 harg8 cr ∗ at_ c arg14 harg14 kh ∗ at_ c arg15 harg15 vh ∗ at_ c arg17 harg17 A.1 ∗ at_ c arg18 harg18 A.2)
      ⊢ wp frame (wpE (defs₀ (F := F)) Variants.none (c : Thread nD τ) none) E
          (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v50 v53 v56 v64 v72 v75 v78 v79 v80)
          (fun r => iprop(⌜r = ⟨(st6 v47 v50 v53 v56 v64 v72 v75 v78 cr kh vh ((v79, v80), A) k.val).1.1, (st6 v47 v50 v53 v56 v64 v72 v75 v78 cr kh vh ((v79, v80), A) k.val).1.2, w107 arg20, w121 arg20⟩⌝
            ∗ at_ c arg8 harg8 cr ∗ at_ c arg14 harg14 kh ∗ at_ c arg15 harg15 vh
            ∗ at_ c arg17 harg17 (st6 v47 v50 v53 v56 v64 v72 v75 v78 cr kh vh ((v79, v80), A) k.val).2.1 ∗ at_ c arg18 harg18 (st6 v47 v50 v53 v56 v64 v72 v75 v78 cr kh vh ((v79, v80), A) k.val).2.2)) := by
  rw [k0_part6_eq_skeleton]
  unfold k0_part6_skel
  dsimp only
  rw [wp_bind]
  iintro H
  iapply (wp_wand_r Idealize.ShloMosaic.frame (wpE (defs₀ (F := F)) Variants.none (c : Thread nD τ) none) E)
  isplitl [H]
  · iapply (loop6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v50 v53 v56 v64 v72 v75 v78 v79 v80 cr kh vh ((v79, v80), A))
    iexact H
  iintro %r ⟨%hr, H8, H14, H15, H17, H18⟩
  subst hr
  sl_exec
  sl_step
  isplitr; · ipureintro; first | trivial | rfl
  isplitl [H8]; · iexact H8
  isplitl [H14]; · iexact H14
  isplitl [H15]; · iexact H15
  isplitl [H17]; · iexact H17
  iexact H18

theorem part7 (k : Fin k0_t5_loop.trips) (arg20 : BitVec 32) (v47 v53 : FVec F S512x128 .bf16) (v75 : FVec F S512x1 .f32) (v107 : BitVec 32) (v121 : BitVec 1)
    (cr : Vec F S1x2x2048 .f32) (kh vh : Vec F S2x2048x128 .bf16) (A18 : Acc F) :
    iprop(at_ c arg8 harg8 cr ∗ at_ c arg14 harg14 kh ∗ at_ c arg15 harg15 vh ∗ at_ c arg18 harg18 A18)
      ⊢ wp frame (wpE (defs₀ (F := F)) Variants.none (c : Thread nD τ) none) E
          (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v53 v75 v107 v121)
          (fun r => iprop(⌜r = ⟨Scalar.muli (Scalar.addi (Scalar.select v121 (Scalar.subi v107 1#32) v107) 0#32) 512#32, Scalar.muli (Scalar.addi (Scalar.select v121 (Scalar.subi v107 1#32) v107) 0#32) 512#32,
              k0_pay42 (tile kh 0 (t5 k)), k0_pay43 arg20 v47 v75 v107 v121 (tile kh 0 (t5 k)) (crow cr 0 (t5 k)), k0_pay45 (tile vh 0 (t5 k))⟩⌝
            ∗ at_ c arg8 harg8 cr ∗ at_ c arg14 harg14 kh ∗ at_ c arg15 harg15 vh
            ∗ at_ c arg18 harg18 (setTile A18 0 (t5 k) (k0_pay44 arg20 v47 v53 v75 v107 v121 (tile kh 0 (t5 k)) (crow cr 0 (t5 k)) (tile A18 0 (t5 k)))))) := by
  rw [k0_part7_eq_skeleton]
  unfold k0_part7_skel
  iintro ⟨H8, H14, H15, H18⟩
  sl_exec
  sl_step
  sl_unfold_run_names
  simp only [read_off17', read_off18', read_off19', read_off20', read_off21', read_off22', read_off31', read_off32', read_off33', read_off34', write_off31' harg18, View.writes_nil, Memref.IsWhole.read_unread]
  unfold at_
  isplitr; · ipureintro; first | trivial | rfl
  isplitl [H8]; · iexact H8
  isplitl [H14]; · iexact H14
  isplitl [H15]; · iexact H15
  iexact H18

theorem part8 (k : Fin k0_t5_loop.trips) (arg20 : BitVec 32) (v47 v50 v53 : FVec F S512x128 .bf16) (v64 v78 : FVec F S512x1 .f32) (v105_0 : FVec F S512x128 .f32) (v125 v126 : BitVec 32)
    (v129 : FVec F S512x128 .bf16) (v149 : FVec F S512x512 .f32) (v162 : FVec F S512x128 .bf16)
    (cr : Vec F S1x2x2048 .f32) (kh : Vec F S2x2048x128 .bf16) (A17 A18 : Acc F) :
    iprop(at_ c arg8 harg8 cr ∗ at_ c arg14 harg14 kh ∗ at_ c arg17 harg17 A17 ∗ at_ c arg18 harg18 A18)
      ⊢ wp frame (wpE (defs₀ (F := F)) Variants.none (c : Thread nD τ) none) E
          (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k arg20 v47 v50 v53 v64 v78 v105_0 v125 v126 v129 v149 v162)
          (fun r => iprop(⌜r = ⟨k0_pay47 v53 v64 v105_0 v129 v149 v162, k0_pay49 (tile kh 1 (t5 k)), k0_pay50 arg20 v50 v78 v125 (tile kh 1 (t5 k)) (crow cr 1 (t5 k)), k0_pay51 (tile A18 1 (t5 k))⟩⌝
            ∗ at_ c arg8 harg8 cr ∗ at_ c arg14 harg14 kh
            ∗ at_ c arg17 harg17 (setTile A17 0 (t5 k) (k0_pay48 v47 v53 v64 v149 v162 (tile A17 0 (t5 k)))) ∗ at_ c arg18 harg18 A18)) := by
  rw [k0_part8_eq_skeleton]
  unfold k0_part8_skel
  iintro ⟨H8, H14, H17, H18⟩
  sl_exec
  sl_step
  sl_unfold_run_names
  simp only [read_off17', read_off18', read_off19', read_off20', read_off21', read_off22', read_off31', read_off32', read_off33', read_off34', write_off31' harg17, View.writes_nil, Memref.IsWhole.read_unread]
  unfold at_
  isplitr; · ipureintro; first | trivial | rfl
  isplitl [H8]; · iexact H8
  isplitl [H14]; · iexact H14
  isplitl [H17]; · iexact H17
  iexact H18

theorem part9 (k : Fin k0_t5_loop.trips) (v44 : BitVec 32) (v50 v56 : FVec F S512x128 .bf16) (v72 : FVec F S512x1 .f32) (v105_1 : FVec F S512x128 .f32) (v126 : BitVec 32)
    (v169 : FVec F S512x128 .f32) (v181 : FVec F S512x128 .bf16) (v201 : FVec F S512x512 .f32) (v204 : FVec F S512x128 .f32)
    (vh : Vec F S2x2048x128 .bf16) (A17 A18 : Acc F) (X9 : Vec F S2048x128 .bf16) (X19 : Vec F S2048x2 .f32) :
    iprop(at_ c arg9 harg9 X9 ∗ at_ c arg15 harg15 vh ∗ at_ c arg17 harg17 A17 ∗ at_ c arg18 harg18 A18 ∗ at_ c arg19 harg19 X19)
      ⊢ wp frame (wpE (defs₀ (F := F)) Variants.none (c : Thread nD τ) none) E
          (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v44 v50 v56 v72 v105_1 v126 v169 v181 v201 v204)
          (fun r => iprop(⌜r = ⟨k0_pay54 v56 v72 v105_1 v181 v201 (tile vh 1 (t5 k)), k0_pay58 v56 v72 v105_1 v181 v201 (tile vh 1 (t5 k))⟩⌝
            ∗ at_ c arg9 harg9 (put X9 ![512 * k.val, 0] S512x64.size (k0_pay56 v169)) ∗ at_ c arg15 harg15 vh
            ∗ at_ c arg17 harg17 (setTile A17 1 (t5 k) (k0_pay55 v50 v56 v72 v201 (tile vh 1 (t5 k)) (tile A17 1 (t5 k)))) ∗ at_ c arg18 harg18 (setTile A18 1 (t5 k) (k0_pay52 v56 v201 v204))
            ∗ at_ c arg19 harg19 (put X19 ![512 * k.val, 0] S512x1.size (k0_pay57 v169)))) := by
  rw [k0_part9_eq_skeleton]
  unfold k0_part9_skel
  iintro ⟨H9, H15, H17, H18, H19⟩
  sl_exec
  sl_step
  sl_unfold_run_names
  simp only [read_off17', read_off18', read_off19', read_off20', read_off21', read_off22', read_off31', read_off32', read_off33', read_off34', write_off33' harg17, write_off33' harg18, write_off19 harg9, write_off35 harg19, View.writes_nil, Memref.IsWhole.read_unread]
  unfold at_
  isplitr; · ipureintro; first | trivial | rfl
  isplitl [H9]; · iexact H9
  isplitl [H15]; · iexact H15
  isplitl [H17]; · iexact H17
  isplitl [H18]; · iexact H18
  iexact H19

theorem trip5 (I : Ins F) (A : Acc F × Acc F) (X9 : Vec F S2048x128 .bf16) (X19 : Vec F S2048x2 .f32) (k : Fin k0_t5_loop.trips) :
    iprop(at_ c arg5 harg5 I.o ∗ at_ c arg6 harg6 I.d ∗ at_ c arg7 harg7 I.lse ∗ at_ c arg8 harg8 I.cr ∗ at_ c arg9 harg9 X9
        ∗ at_ c arg13 harg13 I.qh ∗ at_ c arg14 harg14 I.kh ∗ at_ c arg15 harg15 I.vh ∗ at_ c arg16 harg16 I.dh
        ∗ at_ c arg17 harg17 A.1 ∗ at_ c arg18 harg18 A.2 ∗ at_ c arg19 harg19 X19)
      ⊢ wp frame (wpE (defs₀ (F := F)) Variants.none (c : Thread nD τ) none) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k ⟨⟩)
          (fun _ => iprop(at_ c arg5 harg5 I.o ∗ at_ c arg6 harg6 I.d ∗ at_ c arg7 harg7 I.lse ∗ at_ c arg8 harg8 I.cr
            ∗ at_ c arg9 harg9 (put (put X9 ![512 * k.val, 0] S512x64.size (k0_pay56 (rowQ0 I (t5 k) A))) ![512 * k.val, 64] S512x64.size (k0_pay69 (rowD1 I (t5 k) A)))
            ∗ at_ c arg13 harg13 I.qh ∗ at_ c arg14 harg14 I.kh ∗ at_ c arg15 harg15 I.vh ∗ at_ c arg16 harg16 I.dh
            ∗ at_ c arg17 harg17 (rowAcc I (t5 k) A).1 ∗ at_ c arg18 harg18 (rowAcc I (t5 k) A).2
            ∗ at_ c arg19 harg19 (put (put X19 ![512 * k.val, 0] S512x1.size (k0_pay57 (rowQ0 I (t5 k) A))) ![512 * k.val, 1] S512x1.size (k0_pay70 (rowQ1 I (t5 k) A))))) := by
  unfold k0_t5_body
  iintro ⟨H5, H6, H7, H8, H9, H13, H14, H15, H16, H17, H18, H19⟩
  rw [wp_bind]
  iapply (wp_wand_r Idealize.ShloMosaic.frame (wpE (defs₀ (F := F)) Variants.none (c : Thread nD τ) none) E)
  isplitl [H5 H6 H7 H13 H16]
  · iapply (part5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I k)
    isplitl [H5]; · iexact H5
    isplitl [H6]; · iexact H6
    isplitl [H7]; · iexact H7
    isplitl [H13]; · iexact H13
    iexact H16
  iintro %r ⟨%hr, H5, H6, H7, H13, H16⟩
  subst hr
  dsimp only
  rw [wp_bind]
  iapply (wp_wand_r Idealize.ShloMosaic.frame (wpE (defs₀ (F := F)) Variants.none (c : Thread nD τ) none) E)
  isplitl [H8 H14 H15 H17 H18]
  · iapply (part6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k _ _ _ _ _ _ _ _ _ _ _ I.cr I.kh I.vh A)
    isplitl [H8]; · iexact H8
    isplitl [H14]; · iexact H14
    isplitl [H15]; · iexact H15
    isplitl [H17]; · iexact H17
    iexact H18
  iintro %r ⟨%hr, H8, H14, H15, H17, H18⟩
  subst hr
  dsimp only
  rw [wp_bind]
  iapply (wp_wand_r Idealize.ShloMosaic.frame (wpE (defs₀ (F := F)) Variants.none (c : Thread nD τ) none) E)
  isplitl [H8 H14 H15 H18]
  · iapply (part7 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k _ _ _ _ _ _ I.cr I.kh I.vh (left I (t5 k) A).2.2)
    isplitl [H8]; · iexact H8
    isplitl [H14]; · iexact H14
    isplitl [H15]; · iexact H15
    iexact H18
  iintro %r ⟨%hr, H8, H14, H15, H18⟩
  subst hr
  dsimp only
  rw [wp_bind]
  iapply (wp_wand_r Idealize.ShloMosaic.frame (wpE (defs₀ (F := F)) Variants.none (c : Thread nD τ) none) E)
  isplitl [H8 H14 H17 H18]
  · iapply (part8 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k _ _ _ _ _ _ _ _ _ _ _ _ I.cr I.kh (left I (t5 k) A).2.1 _)
    isplitl [H8]; · iexact H8
    isplitl [H14]; · iexact H14
    isplitl [H17]; · iexact H17
    iexact H18
  iintro %r ⟨%hr, H8, H14, H17, H18⟩
  subst hr
  dsimp only
  rw [wp_bind]
  iapply (wp_wand_r Idealize.ShloMosaic.frame (wpE (defs₀ (F := F)) Variants.none (c : Thread nD τ) none) E)
  isplitl [H9 H15 H17 H18 H19]
  · iapply (part9 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k _ _ _ _ _ _ _ _ _ _ I.vh _ _ X9 X19)
    isplitl [H9]; · iexact H9
    isplitl [H15]; · iexact H15
    isplitl [H17]; · iexact H17
    isplitl [H18]; · iexact H18
    iexact H19
  iintro %r ⟨%hr, H9, H15, H17, H18, H19⟩
  subst hr
  dsimp only
  sl_exec
  sl_step
  simp only [write_off20 harg9, write_off36 harg19, View.writes_nil, Memref.IsWhole.read_unread, tile_setTile_ne _ 0 1 _ _ _ (by decide)]
  unfold at_
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  isplitl [H17]; · iexact H17
  isplitl [H18]; · iexact H18
  iexact H19

def q1 (k : Fin k0_t1_loop.trips) : Fin 8 := ⟨k.val, lt_of_lt_of_le k.isLt k0_t1_abs.2.1⟩
theorem trips1 : k0_t1_loop.trips = 8 := by decide +kernel

theorem trip1 (x : Vec F S2048x128 .f32) (A : Vec F S2x2048x128 .bf16) (k : Fin k0_t1_loop.trips) :
    iprop(at_ c arg2 harg2 x ∗ at_ c arg13 harg13 A)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k ⟨⟩)
          (fun _ => iprop(at_ c arg2 harg2 x ∗ at_ c arg13 harg13 (stageStep k0_pay59 k0_pay60 x (q1 k) A))) := by
  unfold k0_t1_body
  iintro ⟨Hx, HA⟩
  sl_exec
  sl_step
  sl_unfold_run_names
  have r0 : ∀ (f : arg2.view.ty.Contents (Elt F)) inb, arg2.view.readAt (Elt F) (Rect.unit (s := S2048x128) (k0_off1 k) ![256, 64] inb).toLoadRect f = quart (arg2.view.read (Elt F) f) 0 (q1 k) :=
    fun f inb => View.readAt_unit arg2.view f inb (k0_off1_eq k) (quart_inb 0 (q1 k))
  have r1 : ∀ (f : arg2.view.ty.Contents (Elt F)) inb, arg2.view.readAt (Elt F) (Rect.unit (s := S2048x128) (k0_off3 k) ![256, 64] inb).toLoadRect f = quart (arg2.view.read (Elt F) f) 1 (q1 k) :=
    fun f inb => View.readAt_unit arg2.view f inb (k0_off3_eq k) (quart_inb 1 (q1 k))
  have w0 : ∀ (f : arg13.view.ty.Contents (Elt F)) inb (w : Vec F S1x256x128 .bf16) (L : List (View.Piece (Elt F) S2x2048x128 .bf16)),
      arg13.view.writes (Elt F) f (⟨Rect.unit (s := S2x2048x128) (k0_off2 k) ![1, 256, 128] inb, w⟩ :: L) = harg13.unread (put (arg13.view.read (Elt F) (arg13.view.writes (Elt F) f L)) ![0, 256 * k.val, 0] S1x256x128.size w) :=
    fun f inb w L => unread_writes_cons harg13 f inb w L (k0_off2_eq k)
  have w1 : ∀ (f : arg13.view.ty.Contents (Elt F)) inb (w : Vec F S1x256x128 .bf16) (L : List (View.Piece (Elt F) S2x2048x128 .bf16)),
      arg13.view.writes (Elt F) f (⟨Rect.unit (s := S2x2048x128) (k0_off4 k) ![1, 256, 128] inb, w⟩ :: L) = harg13.unread (put (arg13.view.read (Elt F) (arg13.view.writes (Elt F) f L)) ![1, 256 * k.val, 0] S1x256x128.size w) :=
    fun f inb w L => unread_writes_cons harg13 f inb w L (k0_off4_eq k)
  simp only [r0, r1, w0, w1, View.writes_nil, Memref.IsWhole.read_unread]
  unfold at_
  isplitl [Hx]; · iexact Hx
  iexact HA

theorem loop1 (x : Vec F S2048x128 .f32) (A : Vec F S2x2048x128 .bf16) :
    iprop(at_ c arg2 harg2 x ∗ at_ c arg13 harg13 A)
      ⊢ wp frame (wpE (defs₀ (F := F)) Variants.none (c : Thread nD τ) none) E
          (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
          (fun _ => iprop(at_ c arg2 harg2 x ∗ at_ c arg13 harg13 (stage k0_pay59 k0_pay60 x A 8))) := by
  refine BIBase.Entails.trans ?_ (Scf.wp_for frame (wpE (defs₀ (F := F)) Variants.none (c : Thread nD τ) none) E _ _ _ k0_t1_ok _ _
    (fun n _ => iprop(at_ c arg2 harg2 x ∗ at_ c arg13 harg13 (stage k0_pay59 k0_pay60 x A n))) ?_)
  · iintro ⟨Hx, HA⟩
    isplitl
    · isplitl [Hx]; · iexact Hx
      iexact HA
    · rw [show Scf.trips k0_t1_loop.lb k0_t1_loop.ub k0_t1_loop.st = 8 from trips1]
      iintro %acc H
      iexact H
  · intro j acc
    iintro H
    have e : stage k0_pay59 k0_pay60 x A (j.val + 1) = stageStep k0_pay59 k0_pay60 x (q1 j) (stage k0_pay59 k0_pay60 x A j.val) :=
      dif_pos (q1 j).isLt
    rw [e]
    iapply (trip1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x (stage k0_pay59 k0_pay60 x A j.val) j)
    iexact H

def q2 (k : Fin k0_t2_loop.trips) : Fin 8 := ⟨k.val, lt_of_lt_of_le k.isLt k0_t2_abs.2.1⟩
theorem trips2 : k0_t2_loop.trips = 8 := by decide +kernel

theorem trip2 (x : Vec F S2048x128 .f32) (A : Vec F S2x2048x128 .bf16) (k : Fin k0_t2_loop.trips) :
    iprop(at_ c arg3 harg3 x ∗ at_ c arg14 harg14 A)
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k ⟨⟩)
          (fun _ => iprop(at_ c arg3 harg3 x ∗ at_ c arg14 harg14 (stageStep k0_pay61 k0_pay62 x (q2 k) A))) := by
  unfold k0_t2_body
  iintro ⟨Hx, HA⟩
  sl_exec
  sl_step
  sl_unfold_run_names
  have r0 : ∀ (f : arg3.view.ty.Contents (Elt F)) inb, arg3.view.readAt (Elt F) (Rect.unit (s := S2048x128) (k0_off5 k) ![256, 64] inb).toLoadRect f = quart (arg3.view.read (Elt F) f) 0 (q2 k) :=
    fun f inb => View.readAt_unit arg3.view f inb (k0_off5_eq k) (quart_inb 0 (q2 k))
  have r1 : ∀ (f : arg3.view.ty.Contents (Elt F)) inb, arg3.view.readAt (Elt F) (Rect.unit (s := S2048x128) (k0_off7 k) ![256, 64] inb).toLoadRect f = quart (arg3.view.read (Elt F) f) 1 (q2 k) :=
    fun f inb => View.readAt_unit arg3.view f inb (k0_off7_eq k) (quart_inb 1 (q2 k))
  have w0 : ∀ (f : arg14.view.ty.Contents (Elt F)) inb (w : Vec F S1x256x128 .bf16) (L : List (View.Piece (Elt F) S2x2048x128 .bf16)),
      arg14.view.writes (Elt F) f (⟨Rect.unit (s := S2x2048x128) (k0_off6 k) ![1, 256, 128] inb, w⟩ :: L) = harg14.unread (put (arg14.view.read (Elt F) (arg14.view.writes (Elt F) f L)) ![0, 256 * k.val, 0] S1x256x128.size w) :=
    fun f inb w L => unread_writes_cons harg14 f inb w L (k0_off6_eq k)
  have w1 : ∀ (f : arg14.view.ty.Contents (Elt F)) inb (w : Vec F S1x256x128 .bf16) (L : List (View.Piece (Elt F) S2x2048x128 .bf16)),
      arg14.view.writes (Elt F) f (⟨Rect.unit (s := S2x2048x128) (k0_off8 k) ![1, 256, 128] inb, w⟩ :: L) = harg14.unread (put (arg14.view.read (Elt F) (arg14.view.writes (Elt F) f L)) ![1, 256 * k.val, 0] S1x256x128.size w) :=
    fun f inb w L => unread_writes_cons harg14 f inb w L (k0_off8_eq k)
  simp only [r0, r1, w0, w1, View.writes_nil, Memref.IsWhole.read_unread]
  unfold at_
  isplitl [Hx]; · iexact Hx
  iexact HA

theorem loop2 (x : Vec F S2048x128 .f32) (A : Vec F S2x2048x128 .bf16) :
    iprop(at_ c arg3 harg3 x ∗ at_ c arg14 harg14 A)
      ⊢ wp frame (wpE (defs₀ (F := F)) Variants.none (c : Thread nD τ) none) E
          (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
          (fun _ => iprop(at_ c arg3 harg3 x ∗ at_ c arg14 harg14 (stage k0_pay61 k0_pay62 x A 8))) := by
  refine BIBase.Entails.trans ?_ (Scf.wp_for frame (wpE (defs₀ (F := F)) Variants.none (c : Thread nD τ) none) E _ _ _ k0_t2_ok _ _
    (fun n _ => iprop(at_ c arg3 harg3 x ∗ at_ c arg14 harg14 (stage k0_pay61 k0_pay62 x A n))) ?_)
  · iintro ⟨Hx, HA⟩
    isplitl
    · isplitl [Hx]; · iexact Hx
      iexact HA
    · rw [show Scf.trips k0_t2_loop.lb k0_t2_loop.ub k0_t2_loop.st = 8 from trips2]
      iintro %acc H
      iexact H
  · intro j acc
    iintro H
    have e : stage k0_pay61 k0_pay62 x A (j.val + 1) = stageStep k0_pay61 k0_pay62 x (q2 j) (stage k0_pay61 k0_pay62 x A j.val) :=
      dif_pos (q2 j).isLt
    rw [e]
    iapply (trip2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x (stage k0_pay61 k0_pay62 x A j.val) j)
    iexact H

def q3 (k : Fin k0_t3_loop.trips) : Fin 8 := ⟨k.val, lt_of_lt_of_le k.isLt k0_t3_abs.2.1⟩
theorem trips3 : k0_t3_loop.trips = 8 := by decide +kernel

theorem trip3 (x : Vec F S2048x128 .f32) (A : Vec F S2x2048x128 .bf16) (k : Fin k0_t3_loop.trips) :
    iprop(at_ c arg4 harg4 x ∗ at_ c arg15 harg15 A)
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k ⟨⟩)
          (fun _ => iprop(at_ c arg4 harg4 x ∗ at_ c arg15 harg15 (stageStep k0_pay63 k0_pay64 x (q3 k) A))) := by
  unfold k0_t3_body
  iintro ⟨Hx, HA⟩
  sl_exec
  sl_step
  sl_unfold_run_names
  have r0 : ∀ (f : arg4.view.ty.Contents (Elt F)) inb, arg4.view.readAt (Elt F) (Rect.unit (s := S2048x128) (k0_off9 k) ![256, 64] inb).toLoadRect f = quart (arg4.view.read (Elt F) f) 0 (q3 k) :=
    fun f inb => View.readAt_unit arg4.view f inb (k0_off9_eq k) (quart_inb 0 (q3 k))
  have r1 : ∀ (f : arg4.view.ty.Contents (Elt F)) inb, arg4.view.readAt (Elt F) (Rect.unit (s := S2048x128) (k0_off11 k) ![256, 64] inb).toLoadRect f = quart (arg4.view.read (Elt F) f) 1 (q3 k) :=
    fun f inb => View.readAt_unit arg4.view f inb (k0_off11_eq k) (quart_inb 1 (q3 k))
  have w0 : ∀ (f : arg15.view.ty.Contents (Elt F)) inb (w : Vec F S1x256x128 .bf16) (L : List (View.Piece (Elt F) S2x2048x128 .bf16)),
      arg15.view.writes (Elt F) f (⟨Rect.unit (s := S2x2048x128) (k0_off10 k) ![1, 256, 128] inb, w⟩ :: L) = harg15.unread (put (arg15.view.read (Elt F) (arg15.view.writes (Elt F) f L)) ![0, 256 * k.val, 0] S1x256x128.size w) :=
    fun f inb w L => unread_writes_cons harg15 f inb w L (k0_off10_eq k)
  have w1 : ∀ (f : arg15.view.ty.Contents (Elt F)) inb (w : Vec F S1x256x128 .bf16) (L : List (View.Piece (Elt F) S2x2048x128 .bf16)),
      arg15.view.writes (Elt F) f (⟨Rect.unit (s := S2x2048x128) (k0_off12 k) ![1, 256, 128] inb, w⟩ :: L) = harg15.unread (put (arg15.view.read (Elt F) (arg15.view.writes (Elt F) f L)) ![1, 256 * k.val, 0] S1x256x128.size w) :=
    fun f inb w L => unread_writes_cons harg15 f inb w L (k0_off12_eq k)
  simp only [r0, r1, w0, w1, View.writes_nil, Memref.IsWhole.read_unread]
  unfold at_
  isplitl [Hx]; · iexact Hx
  iexact HA

theorem loop3 (x : Vec F S2048x128 .f32) (A : Vec F S2x2048x128 .bf16) :
    iprop(at_ c arg4 harg4 x ∗ at_ c arg15 harg15 A)
      ⊢ wp frame (wpE (defs₀ (F := F)) Variants.none (c : Thread nD τ) none) E
          (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
          (fun _ => iprop(at_ c arg4 harg4 x ∗ at_ c arg15 harg15 (stage k0_pay63 k0_pay64 x A 8))) := by
  refine BIBase.Entails.trans ?_ (Scf.wp_for frame (wpE (defs₀ (F := F)) Variants.none (c : Thread nD τ) none) E _ _ _ k0_t3_ok _ _
    (fun n _ => iprop(at_ c arg4 harg4 x ∗ at_ c arg15 harg15 (stage k0_pay63 k0_pay64 x A n))) ?_)
  · iintro ⟨Hx, HA⟩
    isplitl
    · isplitl [Hx]; · iexact Hx
      iexact HA
    · rw [show Scf.trips k0_t3_loop.lb k0_t3_loop.ub k0_t3_loop.st = 8 from trips3]
      iintro %acc H
      iexact H
  · intro j acc
    iintro H
    have e : stage k0_pay63 k0_pay64 x A (j.val + 1) = stageStep k0_pay63 k0_pay64 x (q3 j) (stage k0_pay63 k0_pay64 x A j.val) :=
      dif_pos (q3 j).isLt
    rw [e]
    iapply (trip3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x (stage k0_pay63 k0_pay64 x A j.val) j)
    iexact H

def q4 (k : Fin k0_t4_loop.trips) : Fin 8 := ⟨k.val, lt_of_lt_of_le k.isLt k0_t4_abs.2.1⟩
theorem trips4 : k0_t4_loop.trips = 8 := by decide +kernel

theorem trip4 (x : Vec F S2048x128 .f32) (A : Vec F S2x2048x128 .bf16) (k : Fin k0_t4_loop.trips) :
    iprop(at_ c arg6 harg6 x ∗ at_ c arg16 harg16 A)
      ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k ⟨⟩)
          (fun _ => iprop(at_ c arg6 harg6 x ∗ at_ c arg16 harg16 (stageStep k0_pay65 k0_pay66 x (q4 k) A))) := by
  unfold k0_t4_body
  iintro ⟨Hx, HA⟩
  sl_exec
  sl_step
  sl_unfold_run_names
  have r0 : ∀ (f : arg6.view.ty.Contents (Elt F)) inb, arg6.view.readAt (Elt F) (Rect.unit (s := S2048x128) (k0_off13 k) ![256, 64] inb).toLoadRect f = quart (arg6.view.read (Elt F) f) 0 (q4 k) :=
    fun f inb => View.readAt_unit arg6.view f inb (k0_off13_eq k) (quart_inb 0 (q4 k))
  have r1 : ∀ (f : arg6.view.ty.Contents (Elt F)) inb, arg6.view.readAt (Elt F) (Rect.unit (s := S2048x128) (k0_off15 k) ![256, 64] inb).toLoadRect f = quart (arg6.view.read (Elt F) f) 1 (q4 k) :=
    fun f inb => View.readAt_unit arg6.view f inb (k0_off15_eq k) (quart_inb 1 (q4 k))
  have w0 : ∀ (f : arg16.view.ty.Contents (Elt F)) inb (w : Vec F S1x256x128 .bf16) (L : List (View.Piece (Elt F) S2x2048x128 .bf16)),
      arg16.view.writes (Elt F) f (⟨Rect.unit (s := S2x2048x128) (k0_off14 k) ![1, 256, 128] inb, w⟩ :: L) = harg16.unread (put (arg16.view.read (Elt F) (arg16.view.writes (Elt F) f L)) ![0, 256 * k.val, 0] S1x256x128.size w) :=
    fun f inb w L => unread_writes_cons harg16 f inb w L (k0_off14_eq k)
  have w1 : ∀ (f : arg16.view.ty.Contents (Elt F)) inb (w : Vec F S1x256x128 .bf16) (L : List (View.Piece (Elt F) S2x2048x128 .bf16)),
      arg16.view.writes (Elt F) f (⟨Rect.unit (s := S2x2048x128) (k0_off16 k) ![1, 256, 128] inb, w⟩ :: L) = harg16.unread (put (arg16.view.read (Elt F) (arg16.view.writes (Elt F) f L)) ![1, 256 * k.val, 0] S1x256x128.size w) :=
    fun f inb w L => unread_writes_cons harg16 f inb w L (k0_off16_eq k)
  simp only [r0, r1, w0, w1, View.writes_nil, Memref.IsWhole.read_unread]
  unfold at_
  isplitl [Hx]; · iexact Hx
  iexact HA

theorem loop4 (x : Vec F S2048x128 .f32) (A : Vec F S2x2048x128 .bf16) :
    iprop(at_ c arg6 harg6 x ∗ at_ c arg16 harg16 A)
      ⊢ wp frame (wpE (defs₀ (F := F)) Variants.none (c : Thread nD τ) none) E
          (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
          (fun _ => iprop(at_ c arg6 harg6 x ∗ at_ c arg16 harg16 (stage k0_pay65 k0_pay66 x A 8))) := by
  refine BIBase.Entails.trans ?_ (Scf.wp_for frame (wpE (defs₀ (F := F)) Variants.none (c : Thread nD τ) none) E _ _ _ k0_t4_ok _ _
    (fun n _ => iprop(at_ c arg6 harg6 x ∗ at_ c arg16 harg16 (stage k0_pay65 k0_pay66 x A n))) ?_)
  · iintro ⟨Hx, HA⟩
    isplitl
    · isplitl [Hx]; · iexact Hx
      iexact HA
    · rw [show Scf.trips k0_t4_loop.lb k0_t4_loop.ub k0_t4_loop.st = 8 from trips4]
      iintro %acc H
      iexact H
  · intro j acc
    iintro H
    have e : stage k0_pay65 k0_pay66 x A (j.val + 1) = stageStep k0_pay65 k0_pay66 x (q4 j) (stage k0_pay65 k0_pay66 x A j.val) :=
      dif_pos (q4 j).isLt
    rw [e]
    iapply (trip4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x (stage k0_pay65 k0_pay66 x A j.val) j)
    iexact H

theorem loop5 (I : Ins F) (X9 : Vec F S2048x128 .bf16) (X19 : Vec F S2048x2 .f32) :
    iprop(at_ c arg5 harg5 I.o ∗ at_ c arg6 harg6 I.d ∗ at_ c arg7 harg7 I.lse ∗ at_ c arg8 harg8 I.cr ∗ at_ c arg9 harg9 X9
        ∗ at_ c arg13 harg13 I.qh ∗ at_ c arg14 harg14 I.kh ∗ at_ c arg15 harg15 I.vh ∗ at_ c arg16 harg16 I.dh
        ∗ at_ c arg17 harg17 k0_pay67 ∗ at_ c arg18 harg18 k0_pay68 ∗ at_ c arg19 harg19 X19)
      ⊢ wp frame (wpE (defs₀ (F := F)) Variants.none (c : Thread nD τ) none) E
          (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
          (fun _ => iprop(at_ c arg5 harg5 I.o ∗ at_ c arg6 harg6 I.d ∗ at_ c arg7 harg7 I.lse ∗ at_ c arg8 harg8 I.cr
            ∗ at_ c arg9 harg9 (dqs I X9 4)
            ∗ at_ c arg13 harg13 I.qh ∗ at_ c arg14 harg14 I.kh ∗ at_ c arg15 harg15 I.vh ∗ at_ c arg16 harg16 I.dh
            ∗ at_ c arg17 harg17 (accs I 4).1 ∗ at_ c arg18 harg18 (accs I 4).2
            ∗ at_ c arg19 harg19 (rss I X19 4))) := by
  refine BIBase.Entails.trans ?_ (Scf.wp_for frame (wpE (defs₀ (F := F)) Variants.none (c : Thread nD τ) none) E _ _ _ k0_t5_ok _ _
    (fun n _ => iprop(at_ c arg5 harg5 I.o ∗ at_ c arg6 harg6 I.d ∗ at_ c arg7 harg7 I.lse ∗ at_ c arg8 harg8 I.cr
            ∗ at_ c arg9 harg9 (dqs I X9 n)
            ∗ at_ c arg13 harg13 I.qh ∗ at_ c arg14 harg14 I.kh ∗ at_ c arg15 harg15 I.vh ∗ at_ c arg16 harg16 I.dh
            ∗ at_ c arg17 harg17 (accs I n).1 ∗ at_ c arg18 harg18 (accs I n).2
            ∗ at_ c arg19 harg19 (rss I X19 n))) ?_)
  · iintro H
    isplitl
    · iexact H
    · rw [show Scf.trips k0_t5_loop.lb k0_t5_loop.ub k0_t5_loop.st = 4 from trips5]
      iintro %acc H
      iexact H
  · intro j acc
    iintro H
    have e : accs I (j.val + 1) = rowAcc I (t5 j) (accs I j.val) := dif_pos (t5 j).isLt
    have e9 : dqs I X9 (j.val + 1) = put (put (dqs I X9 j.val) ![512 * j.val, 0] S512x64.size (k0_pay56 (rowQ0 I (t5 j) (accs I j.val)))) ![512 * j.val, 64] S512x64.size (k0_pay69 (rowD1 I (t5 j) (accs I j.val))) :=
      dif_pos (t5 j).isLt
    have e19 : rss I X19 (j.val + 1) = put (put (rss I X19 j.val) ![512 * j.val, 0] S512x1.size (k0_pay57 (rowQ0 I (t5 j) (accs I j.val)))) ![512 * j.val, 1] S512x1.size (k0_pay70 (rowQ1 I (t5 j) (accs I j.val))) :=
      dif_pos (t5 j).isLt
    rw [e, e9, e19]
    iapply (trip5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (accs I j.val) (dqs I X9 j.val) (rss I X19 j.val) j)
    iexact H

end Cert.KernelIdeal.Fox
-- ==== Proof.KernelIdeal.Cover.lean ====
module

public import proofs.«01_k».proof.Proof.KernelIdeal.State
public import Idealize.ShloMosaic.Lib.ValueIdxCore

/-!
  What the stores of a trip leave, element by element. Every block is written in full, so what it held before does not
  matter: the staged copies, the query-gradient block, the row sums and the blocks handed back are named here as
  functions of the inputs alone.
-/

@[expose] public section
set_option maxRecDepth 16384

noncomputable section
namespace Cert.KernelIdeal.Fox
open Idealize.ShloMosaic Idealize.ShloMosaic.ValueIdx Idealize.ShloMosaic.VecWindow
open Cert.KernelIdeal Cert.KernelIdeal.Gen

variable {F : FTy → Type} [FloatOps F] [Named F]

/-- Inside the window, `put` reads the payload. -/
theorem put_in {s : Shape} {α : Type} (x : s.Idx → α) (off size : Fin s.rank → ℕ) (w : ((a : Fin s.rank) → Fin (size a)) → α)
    (y : s.Idx) (z : (a : Fin s.rank) → Fin (size a)) (h : ∀ a, (y a).val = off a + (z a).val) : put x off size w y = w z := by
  have hh : ∀ a, off a ≤ (y a).val ∧ (y a).val < off a + size a := fun a => by have := h a; have := (z a).isLt; omega
  refine (dif_pos hh).trans (congrArg w (funext fun a => Fin.ext ?_))
  show (y a).val - off a = (z a).val
  have := h a; omega
/-- Outside it, what was there. -/
theorem put_out {s : Shape} {α : Type} (x : s.Idx → α) (off size : Fin s.rank → ℕ) (w : ((a : Fin s.rank) → Fin (size a)) → α)
    (y : s.Idx) (a : Fin s.rank) (h : (y a).val < off a ∨ off a + size a ≤ (y a).val) : put x off size w y = x y :=
  dif_neg fun hh => by have := hh a; omega

/-! ## Staging -/

theorem stage_apply (p0 p1 : Vec F S256x64 .f32 → FVec F S1x256x128 .bf16) (x : Vec F S2048x128 .f32) (A : Vec F S2x2048x128 .bf16) :
    ∀ n : ℕ, n ≤ 8 → ∀ (h : Fin 2) (r : Fin 2048) (l : Fin 128), r.val < 256 * n →
      stage p0 p1 x A n (ix3 h r l) = staged p0 p1 x (ix3 h r l)
  | 0, _, _, r, _, hr => absurd hr (by omega)
  | n + 1, hn, h, r, l, hr => by
    have hlt : n < 8 := by omega
    have e : stage p0 p1 x A (n + 1) = stageStep p0 p1 x ⟨n, hlt⟩ (stage p0 p1 x A n) := dif_pos hlt
    rw [e]
    unfold stageStep
    by_cases hc : r.val < 256 * n
    · rw [put_out _ _ _ _ _ (1 : Fin 3) (Or.inl hc), put_out _ _ _ _ _ (1 : Fin 3) (Or.inl hc)]
      exact stage_apply p0 p1 x A n (by omega) h r l hc
    · have hq : r.val / 256 = n := by omega
      have hk : (⟨r.val / 256, by omega⟩ : Fin 8) = ⟨n, hlt⟩ := Fin.ext hq
      match h with
      | 0 =>
        rw [put_out _ _ _ _ _ (0 : Fin 3) (Or.inl (by show (0 : ℕ) < 1; omega)),
          put_in (s := S2x2048x128) _ ![0, 256 * n, 0] S1x256x128.size _ (ix3 (0 : Fin 2) r l) (ix3 (0 : Fin 1) (⟨r.val % 256, by omega⟩ : Fin 256) l) (fun a => match a with
            | ⟨0, _⟩ => rfl | ⟨1, _⟩ => by show r.val = 256 * n + r.val % 256; omega | ⟨2, _⟩ => by show l.val = 0 + l.val; omega), ← hk]
        exact congrArg _ (funext fun a => match a with | ⟨0, _⟩ => rfl | ⟨1, _⟩ => rfl | ⟨2, _⟩ => rfl)
      | 1 =>
        rw [put_in (s := S2x2048x128) _ ![1, 256 * n, 0] S1x256x128.size _ (ix3 (1 : Fin 2) r l) (ix3 (0 : Fin 1) (⟨r.val % 256, by omega⟩ : Fin 256) l) (fun a => match a with
            | ⟨0, _⟩ => rfl | ⟨1, _⟩ => by show r.val = 256 * n + r.val % 256; omega | ⟨2, _⟩ => by show l.val = 0 + l.val; omega), ← hk]
        exact congrArg _ (funext fun a => match a with | ⟨0, _⟩ => rfl | ⟨1, _⟩ => rfl | ⟨2, _⟩ => rfl)

theorem stage_eq (p0 p1 : Vec F S256x64 .f32 → FVec F S1x256x128 .bf16) (x : Vec F S2048x128 .f32) (A : Vec F S2x2048x128 .bf16) :
    stage p0 p1 x A 8 = staged p0 p1 x := by
  funext y
  obtain ⟨h, r, l, rfl⟩ : ∃ (h : Fin 2) (r : Fin 2048) (l : Fin 128), y = ix3 h r l := ⟨y 0, y 1, y 2, eq_ix3 y⟩
  exact stage_apply p0 p1 x A 8 le_rfl h r l (by have := r.isLt; omega)

/-! ## The query gradient and the row sums -/

variable (I : Ins F)

/-- The query-gradient block. -/
def dqF : Vec F S2048x128 .bf16 := fun y =>
  if h : (y (1 : Fin 2)).val < 64 then
    k0_pay56 (rowQ0 I ⟨(y (0 : Fin 2)).val / 512, by have : (y (0 : Fin 2)).val < 2048 := (y (0 : Fin 2)).isLt; omega⟩ (accs I ((y (0 : Fin 2)).val / 512)))
      (ix2 (⟨(y (0 : Fin 2)).val % 512, by omega⟩ : Fin 512) (⟨(y (1 : Fin 2)).val, h⟩ : Fin 64))
  else
    k0_pay69 (rowD1 I ⟨(y (0 : Fin 2)).val / 512, by have : (y (0 : Fin 2)).val < 2048 := (y (0 : Fin 2)).isLt; omega⟩ (accs I ((y (0 : Fin 2)).val / 512)))
      (ix2 (⟨(y (0 : Fin 2)).val % 512, by omega⟩ : Fin 512) (⟨(y (1 : Fin 2)).val - 64, by have : (y (1 : Fin 2)).val < 128 := (y (1 : Fin 2)).isLt; omega⟩ : Fin 64))

/-- The row sums, one column a head. -/
def rsF : Vec F S2048x2 .f32 := fun y =>
  if (y (1 : Fin 2)).val = 0 then
    k0_pay57 (rowQ0 I ⟨(y (0 : Fin 2)).val / 512, by have : (y (0 : Fin 2)).val < 2048 := (y (0 : Fin 2)).isLt; omega⟩ (accs I ((y (0 : Fin 2)).val / 512)))
      (ix2 (⟨(y (0 : Fin 2)).val % 512, by omega⟩ : Fin 512) (0 : Fin 1))
  else
    k0_pay70 (rowQ1 I ⟨(y (0 : Fin 2)).val / 512, by have : (y (0 : Fin 2)).val < 2048 := (y (0 : Fin 2)).isLt; omega⟩ (accs I ((y (0 : Fin 2)).val / 512)))
      (ix2 (⟨(y (0 : Fin 2)).val % 512, by omega⟩ : Fin 512) (0 : Fin 1))

theorem dqs_apply (X : Vec F S2048x128 .bf16) :
    ∀ n : ℕ, n ≤ 4 → ∀ (r : Fin 2048) (l : Fin 128), r.val < 512 * n → dqs I X n (ix2 r l) = dqF I (ix2 r l)
  | 0, _, r, _, hr => absurd hr (by omega)
  | n + 1, hn, r, l, hr => by
    have hlt : n < 4 := by omega
    have e : dqs I X (n + 1) = put (put (dqs I X n) ![512 * n, 0] S512x64.size (k0_pay56 (rowQ0 I ⟨n, hlt⟩ (accs I n)))) ![512 * n, 64] S512x64.size (k0_pay69 (rowD1 I ⟨n, hlt⟩ (accs I n))) := dif_pos hlt
    rw [e]
    by_cases hc : r.val < 512 * n
    · rw [put_out _ _ _ _ _ (0 : Fin 2) (Or.inl hc), put_out _ _ _ _ _ (0 : Fin 2) (Or.inl hc)]
      exact dqs_apply X n (by omega) r l hc
    · obtain rfl : n = r.val / 512 := by omega
      by_cases hl : l.val < 64
      · rw [put_out _ _ _ _ _ (1 : Fin 2) (Or.inl hl),
          put_in (s := S2048x128) _ ![512 * (r.val / 512), 0] S512x64.size _ (ix2 r l) (ix2 (⟨r.val % 512, by omega⟩ : Fin 512) (⟨l.val, hl⟩ : Fin 64)) (fun a => match a with
            | ⟨0, _⟩ => by show r.val = 512 * (r.val / 512) + r.val % 512; omega | ⟨1, _⟩ => by show l.val = 0 + l.val; omega)]
        symm; exact dif_pos hl
      · rw [put_in (s := S2048x128) _ ![512 * (r.val / 512), 64] S512x64.size _ (ix2 r l) (ix2 (⟨r.val % 512, by omega⟩ : Fin 512) (⟨l.val - 64, by omega⟩ : Fin 64)) (fun a => match a with
            | ⟨0, _⟩ => by show r.val = 512 * (r.val / 512) + r.val % 512; omega | ⟨1, _⟩ => by show l.val = 64 + (l.val - 64); omega)]
        symm; exact dif_neg hl

theorem dqs_eq (X : Vec F S2048x128 .bf16) : dqs I X 4 = dqF I := by
  funext y
  obtain ⟨r, l, rfl⟩ : ∃ (r : Fin 2048) (l : Fin 128), y = ix2 r l := ⟨y 0, y 1, eq_ix2 y⟩
  exact dqs_apply I X 4 le_rfl r l (by have := r.isLt; omega)

theorem rss_apply (X : Vec F S2048x2 .f32) :
    ∀ n : ℕ, n ≤ 4 → ∀ (r : Fin 2048) (h : Fin 2), r.val < 512 * n → rss I X n (ix2 r h) = rsF I (ix2 r h)
  | 0, _, r, _, hr => absurd hr (by omega)
  | n + 1, hn, r, h, hr => by
    have hlt : n < 4 := by omega
    have e : rss I X (n + 1) = put (put (rss I X n) ![512 * n, 0] S512x1.size (k0_pay57 (rowQ0 I ⟨n, hlt⟩ (accs I n)))) ![512 * n, 1] S512x1.size (k0_pay70 (rowQ1 I ⟨n, hlt⟩ (accs I n))) := dif_pos hlt
    rw [e]
    by_cases hc : r.val < 512 * n
    · rw [put_out _ _ _ _ _ (0 : Fin 2) (Or.inl hc), put_out _ _ _ _ _ (0 : Fin 2) (Or.inl hc)]
      exact rss_apply X n (by omega) r h hc
    · obtain rfl : n = r.val / 512 := by omega
      match h with
      | 0 =>
        rw [put_out _ _ _ _ _ (1 : Fin 2) (Or.inl (by show (0 : ℕ) < 1; omega)),
          put_in (s := S2048x2) _ ![512 * (r.val / 512), 0] S512x1.size _ (ix2 r (0 : Fin 2)) (ix2 (⟨r.val % 512, by omega⟩ : Fin 512) (0 : Fin 1)) (fun a => match a with
            | ⟨0, _⟩ => by show r.val = 512 * (r.val / 512) + r.val % 512; omega | ⟨1, _⟩ => rfl)]
        rfl
      | 1 =>
        rw [put_in (s := S2048x2) _ ![512 * (r.val / 512), 1] S512x1.size _ (ix2 r (1 : Fin 2)) (ix2 (⟨r.val % 512, by omega⟩ : Fin 512) (0 : Fin 1)) (fun a => match a with
            | ⟨0, _⟩ => by show r.val = 512 * (r.val / 512) + r.val % 512; omega | ⟨1, _⟩ => rfl)]
        rfl

theorem rss_eq (X : Vec F S2048x2 .f32) : rss I X 4 = rsF I := by
  funext y
  obtain ⟨r, l, rfl⟩ : ∃ (r : Fin 2048) (l : Fin 2), y = ix2 r l := ⟨y 0, y 1, eq_ix2 y⟩
  exact rss_apply I X 4 le_rfl r l (by have := r.isLt; omega)

/-! ## The blocks handed back -/

/-- Two heads of 64 lanes side by side. -/
def pair64 (a b : Vec F S2048x64 .bf16) : Vec F S2048x128 .bf16 := fun y =>
  if h : (y (1 : Fin 2)).val < 64 then a (ix2 (y (0 : Fin 2) : Fin 2048) (⟨(y (1 : Fin 2)).val, h⟩ : Fin 64))
  else b (ix2 (y (0 : Fin 2) : Fin 2048) (⟨(y (1 : Fin 2)).val - 64, by have : (y (1 : Fin 2)).val < 128 := (y (1 : Fin 2)).isLt; omega⟩ : Fin 64))
/-- Two heads of one column side by side. -/
def pair1 (a b : Vec F S1x2048x1 .f32) : Vec F S1x2048x2 .f32 := fun y =>
  if (y (2 : Fin 3)).val = 0 then a (ix3 (0 : Fin 1) (y (1 : Fin 3) : Fin 2048) (0 : Fin 1)) else b (ix3 (0 : Fin 1) (y (1 : Fin 3) : Fin 2048) (0 : Fin 1))

theorem put64_eq (a b : Vec F S2048x64 .bf16) (X : Vec F S2048x128 .bf16) :
    put (put X ![0, 0] S2048x64.size a) ![0, 64] S2048x64.size b = pair64 a b := by
  funext y
  obtain ⟨r, l, rfl⟩ : ∃ (r : Fin 2048) (l : Fin 128), y = ix2 r l := ⟨y 0, y 1, eq_ix2 y⟩
  by_cases hl : l.val < 64
  · rw [put_out _ _ _ _ _ (1 : Fin 2) (Or.inl hl),
      put_in (s := S2048x128) _ ![0, 0] S2048x64.size _ (ix2 r l) (ix2 r (⟨l.val, hl⟩ : Fin 64)) (fun a => match a with
        | ⟨0, _⟩ => by show r.val = 0 + r.val; omega | ⟨1, _⟩ => by show l.val = 0 + l.val; omega)]
    symm; exact dif_pos hl
  · rw [put_in (s := S2048x128) _ ![0, 64] S2048x64.size _ (ix2 r l) (ix2 r (⟨l.val - 64, by omega⟩ : Fin 64)) (fun a => match a with
        | ⟨0, _⟩ => by show r.val = 0 + r.val; omega | ⟨1, _⟩ => by show l.val = 64 + (l.val - 64); omega)]
    symm; exact dif_neg hl

theorem put1_eq (a b : Vec F S1x2048x1 .f32) (X : Vec F S1x2048x2 .f32) :
    put (put X ![0, 0, 0] S1x2048x1.size a) ![0, 0, 1] S1x2048x1.size b = pair1 a b := by
  funext y
  obtain ⟨z, r, h, rfl⟩ : ∃ (z : Fin 1) (r : Fin 2048) (h : Fin 2), y = ix3 z r h := ⟨y 0, y 1, y 2, eq_ix3 y⟩
  obtain rfl : z = 0 := Subsingleton.elim _ _
  match h with
  | 0 =>
    rw [put_out _ _ _ _ _ (2 : Fin 3) (Or.inl (by show (0 : ℕ) < 1; omega)),
      put_in (s := S1x2048x2) _ ![0, 0, 0] S1x2048x1.size _ (ix3 (0 : Fin 1) r (0 : Fin 2)) (ix3 (0 : Fin 1) r (0 : Fin 1)) (fun a => match a with
        | ⟨0, _⟩ => rfl | ⟨1, _⟩ => by show r.val = 0 + r.val; omega | ⟨2, _⟩ => rfl)]
    rfl
  | 1 =>
    rw [put_in (s := S1x2048x2) _ ![0, 0, 1] S1x2048x1.size _ (ix3 (0 : Fin 1) r (1 : Fin 2)) (ix3 (0 : Fin 1) r (0 : Fin 1)) (fun a => match a with
        | ⟨0, _⟩ => rfl | ⟨1, _⟩ => by show r.val = 0 + r.val; omega | ⟨2, _⟩ => rfl)]
    rfl

/-- The key, value and decay gradients of a block. -/
def dkF : Vec F S2048x128 .bf16 := pair64 (k0_pay71 (lanes (accs I 4).1 0)) (k0_pay74 (lanes (accs I 4).1 1))
def dvF : Vec F S2048x128 .bf16 := pair64 (k0_pay72 (lanes (accs I 4).2 0)) (k0_pay75 (lanes (accs I 4).2 1))
def dcF : Vec F S1x2048x2 .f32 :=
  pair1 (k0_pay73 (rcol (rsF I) 0) (lane65 (accs I 4).1 0)) (k0_pay1 (k0_pay76 (rcol (rsF I) 1) (lane65 (accs I 4).1 1)))

theorem outDk_eq (X : Vec F S2048x128 .bf16) : outDk (accs I 4).1 X = dkF I := put64_eq _ _ X
theorem outDv_eq (X : Vec F S2048x128 .bf16) : outDv (accs I 4).2 X = dvF I := put64_eq _ _ X
theorem outDc_eq (Y : Vec F S2048x2 .f32) (X : Vec F S1x2048x2 .f32) : outDc (rss I Y 4) (accs I 4).1 X = dcF I := by
  rw [rss_eq]; exact put1_eq _ _ X

/-- What the body computes from, of its seven input blocks. -/
def ins (q k v o d : Vec F S2048x128 .f32) (lse : Vec F S1x2048x2 .f32) (cr : Vec F S1x2x2048 .f32) : Ins F :=
  ⟨staged k0_pay59 k0_pay60 q, staged k0_pay61 k0_pay62 k, staged k0_pay63 k0_pay64 v, staged k0_pay65 k0_pay66 d, o, d, lse, cr⟩

end Cert.KernelIdeal.Fox
-- ==== Proof.KernelIdeal.Body.lean ====
module

public import proofs.«01_k».proof.Proof.KernelIdeal.Trips
public import proofs.«01_k».proof.Proof.KernelIdeal.Cover

/-!
# The body of the backward kernel, run once

From its seven input blocks, whatever the output blocks and the scratch buffers hold, to the four output blocks of Cover.lean.
-/

@[expose] public section

set_option maxRecDepth 8192
set_option maxHeartbeats 4000000

noncomputable section

namespace Cert.KernelIdeal.Fox

open Idealize.ShloMosaic Idealize.ShloMosaic.VecWindow Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of a window at literal offsets. -/
theorem read_win {s : Shape} {e : EltTy} {m : Memref sig .tc .vmem s e} (f : m.view.ty.Contents (Elt F)) {off size : Fin s.rank → ℕ}
    (inb : ∀ a, off a + size a ≤ s.size a) :
    m.view.readAt (Elt F) (Rect.unit off size inb).toLoadRect f = window (m.view.read (Elt F) f) off size inb := View.readAt_unit _ f inb rfl inb
theorem write_win {s : Shape} {e : EltTy} {m : Memref sig .tc .vmem s e} (h : m.IsWhole) (f : m.view.ty.Contents (Elt F)) {off size : Fin s.rank → ℕ}
    (inb : ∀ a, off a + size a ≤ s.size a) (w : (Rect.unit off size inb).shape.Idx → Elt F e) (L : List (View.Piece (Elt F) s e)) :
    m.view.writes (Elt F) f (⟨Rect.unit off size inb, w⟩ :: L) = h.unread (put (m.view.read (Elt F) (m.view.writes (Elt F) f L)) off size w) :=
  unread_writes_cons h f inb w L rfl
theorem write_all {s : Shape} {e : EltTy} {m : Memref sig .tc .vmem s e} (h : m.IsWhole) (f : m.view.ty.Contents (Elt F)) {off : Fin s.rank → ℕ}
    (inb : ∀ a, off a + s.size a ≤ s.size a) (w : (Rect.unit off s.size inb).shape.Idx → Elt F e) (L : List (View.Piece (Elt F) s e)) :
    m.view.writes (Elt F) f (⟨Rect.unit off s.size inb, w⟩ :: L) = h.unread w :=
  h.eq_unread (View.read_writes_full _ f inb w L)

theorem own_is (c : Dev nD) {s : Shape} {e : EltTy} {m : Memref sig .tc .vmem s e} (h : m.IsWhole) {X : Vec F s e} :
    (at_ c m h X : sProp 𝕄) ⊢ owns (c : Thread nD τ) m fullShare X := by
  unfold owns at_
  iintro H
  iexists (h.unread X)
  isplitr; · ipureintro; exact h.read_unread X
  iexact H
theorem own_to (c : Dev nD) {s : Shape} {e : EltTy} {m : Memref sig .tc .vmem s e} (h : m.IsWhole) {X : Vec F s e} :
    (owns (c : Thread nD τ) m fullShare X : sProp 𝕄) ⊢ at_ c m h X := by
  unfold owns at_
  iintro ⟨%f, %hf, H⟩
  obtain rfl := h.eq_unread hf
  iexact H
theorem own_any (c : Dev nD) {s : Shape} {e : EltTy} {m : Memref sig .tc .vmem s e} (h : m.IsWhole) {X : Vec F s e} :
    (at_ c m h X : sProp 𝕄) ⊢ iprop(∃ d, owns (c : Thread nD τ) m fullShare d) := by
  iintro H
  iexists X
  iapply (own_is c h)
  iexact H

variable (c : Dev nD) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x2 .f32) (harg7 : arg7.IsWhole) (arg8 : Memref sig .tc .vmem S1x2x2048 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2048x2 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .bf16) (harg16 : arg16.IsWhole) (arg17 : Memref sig .tc .vmem S2x2048x128 .f32) (harg17 : arg17.IsWhole) (arg18 : Memref sig .tc .vmem S2x2048x128 .f32) (harg18 : arg18.IsWhole) (arg19 : Memref sig .tc .vmem S2048x2 .f32) (harg19 : arg19.IsWhole)

theorem part10 (x0 x1 x2 x3 x4 : Vec F S2048x128 .f32) (x5 : Vec F S1x2048x2 .f32) (x6 : Vec F S1x2x2048 .f32)
    (X9 X10 : Vec F S2048x128 .bf16) (A13 A14 A15 A16 : Vec F S2x2048x128 .bf16) (A17 A18 : Vec F S2x2048x128 .f32) (A19 : Vec F S2048x2 .f32) :
    iprop(at_ c arg2 harg2 x0 ∗ at_ c arg3 harg3 x1 ∗ at_ c arg4 harg4 x2 ∗ at_ c arg5 harg5 x3 ∗ at_ c arg6 harg6 x4 ∗ at_ c arg7 harg7 x5 ∗ at_ c arg8 harg8 x6
        ∗ at_ c arg9 harg9 X9 ∗ at_ c arg10 harg10 X10 ∗ at_ c arg13 harg13 A13 ∗ at_ c arg14 harg14 A14 ∗ at_ c arg15 harg15 A15 ∗ at_ c arg16 harg16 A16
        ∗ at_ c arg17 harg17 A17 ∗ at_ c arg18 harg18 A18 ∗ at_ c arg19 harg19 A19)
      ⊢ wp frame (wpE (defs₀ (F := F)) Variants.none (c : Thread nD τ) none) E (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(at_ c arg2 harg2 x0 ∗ at_ c arg3 harg3 x1 ∗ at_ c arg4 harg4 x2 ∗ at_ c arg5 harg5 x3 ∗ at_ c arg6 harg6 x4 ∗ at_ c arg7 harg7 x5 ∗ at_ c arg8 harg8 x6
            ∗ at_ c arg9 harg9 (dqF (ins x0 x1 x2 x3 x4 x5 x6))
            ∗ at_ c arg10 harg10 (put X10 ![0, 0] S2048x64.size (k0_pay71 (lanes (accs (ins x0 x1 x2 x3 x4 x5 x6) 4).1 0)))
            ∗ at_ c arg13 harg13 (ins x0 x1 x2 x3 x4 x5 x6).qh ∗ at_ c arg14 harg14 (ins x0 x1 x2 x3 x4 x5 x6).kh ∗ at_ c arg15 harg15 (ins x0 x1 x2 x3 x4 x5 x6).vh
            ∗ at_ c arg16 harg16 (ins x0 x1 x2 x3 x4 x5 x6).dh
            ∗ at_ c arg17 harg17 (accs (ins x0 x1 x2 x3 x4 x5 x6) 4).1 ∗ at_ c arg18 harg18 (accs (ins x0 x1 x2 x3 x4 x5 x6) 4).2
            ∗ at_ c arg19 harg19 (rss (ins x0 x1 x2 x3 x4 x5 x6) A19 4))) := by
  rw [k0_part10_eq_skeleton]; unfold k0_part10_skel
  iintro ⟨H2, H3, H4, H5, H6, H7, H8, H9, H10, H13, H14, H15, H16, H17, H18, H19⟩
  rw [wp_bind]
  iapply (wp_wand_r Idealize.ShloMosaic.frame (wpE (defs₀ (F := F)) Variants.none (c : Thread nD τ) none) E)
  isplitl [H2 H13]
  · iapply (loop1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 A13)
    isplitl [H2]; · iexact H2
    iexact H13
  iintro %r ⟨H2, H13⟩
  rw [wp_bind]
  iapply (wp_wand_r Idealize.ShloMosaic.frame (wpE (defs₀ (F := F)) Variants.none (c : Thread nD τ) none) E)
  isplitl [H3 H14]
  · iapply (loop2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 A14)
    isplitl [H3]; · iexact H3
    iexact H14
  iintro %r ⟨H3, H14⟩
  rw [wp_bind]
  iapply (wp_wand_r Idealize.ShloMosaic.frame (wpE (defs₀ (F := F)) Variants.none (c : Thread nD τ) none) E)
  isplitl [H4 H15]
  · iapply (loop3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 A15)
    isplitl [H4]; · iexact H4
    iexact H15
  iintro %r ⟨H4, H15⟩
  rw [wp_bind]
  iapply (wp_wand_r Idealize.ShloMosaic.frame (wpE (defs₀ (F := F)) Variants.none (c : Thread nD τ) none) E)
  isplitl [H6 H16]
  · iapply (loop4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x4 A16)
    isplitl [H6]; · iexact H6
    iexact H16
  iintro %r ⟨H6, H16⟩
  rw [stage_eq, stage_eq, stage_eq, stage_eq]
  unfold at_
  sl_exec
  sl_unfold_run_names
  simp only [write_all harg17, write_all harg18]
  rw [wp_bind]
  iapply (wp_wand_r Idealize.ShloMosaic.frame (wpE (defs₀ (F := F)) Variants.none (c : Thread nD τ) none) E)
  isplitl [H5 H6 H7 H8 H9 H13 H14 H15 H16 H17 H18 H19]
  · iapply (loop5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (ins x0 x1 x2 x3 x4 x5 x6) X9 A19)
    isplitl [H5]; · iexact H5
    isplitl [H6]; · iexact H6
    isplitl [H7]; · iexact H7
    isplitl [H8]; · iexact H8
    isplitl [H9]; · iexact H9
    isplitl [H13]; · iexact H13
    isplitl [H14]; · iexact H14
    isplitl [H15]; · iexact H15
    isplitl [H16]; · iexact H16
    isplitl [H17]; · iexact H17
    isplitl [H18]; · iexact H18
    iexact H19
  iintro %r ⟨H5, H6, H7, H8, H9, H13, H14, H15, H16, H17, H18, H19⟩
  unfold at_
  rw [dqs_eq]
  sl_exec
  sl_step
  sl_unfold_run_names
  simp only [write_win harg10, read_win, View.writes_nil, Memref.IsWhole.read_unread]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  isplitl [H15]; · iexact H15
  isplitl [H16]; · iexact H16
  isplitl [H17]; · iexact H17
  isplitl [H18]; · iexact H18
  iexact H19

theorem part11 (X10 X11 : Vec F S2048x128 .bf16) (X12 : Vec F S1x2048x2 .f32) (A17 A18 : Vec F S2x2048x128 .f32) (A19 : Vec F S2048x2 .f32) :
    iprop(at_ c arg10 harg10 X10 ∗ at_ c arg11 harg11 X11 ∗ at_ c arg12 harg12 X12 ∗ at_ c arg17 harg17 A17 ∗ at_ c arg18 harg18 A18 ∗ at_ c arg19 harg19 A19)
      ⊢ wp frame (wpE (defs₀ (F := F)) Variants.none (c : Thread nD τ) none) E (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun r => iprop(⌜r = k0_pay76 (rcol A19 1) (lane65 A17 1)⌝
            ∗ at_ c arg10 harg10 (put X10 ![0, 64] S2048x64.size (k0_pay74 (lanes A17 1)))
            ∗ at_ c arg11 harg11 (outDv A18 X11)
            ∗ at_ c arg12 harg12 (put X12 ![0, 0, 0] S1x2048x1.size (k0_pay73 (rcol A19 0) (lane65 A17 0)))
            ∗ at_ c arg17 harg17 A17 ∗ at_ c arg18 harg18 A18 ∗ at_ c arg19 harg19 A19)) := by
  rw [k0_part11_eq_skeleton]; unfold k0_part11_skel
  iintro ⟨H10, H11, H12, H17, H18, H19⟩
  unfold at_
  sl_exec
  sl_step
  sl_unfold_run_names
  simp only [write_win harg10, write_win harg11, write_win harg12, read_win, View.writes_nil, Memref.IsWhole.read_unread]
  isplitr; · ipureintro; first | trivial | rfl
  isplitl [H10]; · iexact H10
  isplitl [H11]; · iexact H11
  isplitl [H12]; · iexact H12
  isplitl [H17]; · iexact H17
  isplitl [H18]; · iexact H18
  iexact H19

/-- One run of the body. -/
theorem body_run (x0 x1 x2 x3 x4 : Vec F S2048x128 .f32) (x5 : Vec F S1x2048x2 .f32) (x6 : Vec F S1x2x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6
            ∗ owns (c : Thread nD τ) arg9 fullShare (dqF (ins x0 x1 x2 x3 x4 x5 x6)) ∗ owns (c : Thread nD τ) arg10 fullShare (dkF (ins x0 x1 x2 x3 x4 x5 x6))
            ∗ owns (c : Thread nD τ) arg11 fullShare (dvF (ins x0 x1 x2 x3 x4 x5 x6)) ∗ owns (c : Thread nD τ) arg12 fullShare (dcF (ins x0 x1 x2 x3 x4 x5 x6))
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [cc0_fox_bwd_eq_skeleton]; unfold cc0_fox_bwd_skel
  iintro ⟨H2, H3, H4, H5, H6, H7, H8,
    ⟨%X9, H9⟩, ⟨%X10, H10⟩, ⟨%X11, H11⟩, ⟨%X12, H12⟩,
    ⟨%A13, H13⟩, ⟨%A14, H14⟩, ⟨%A15, H15⟩, ⟨%A16, H16⟩,
    ⟨%A17, H17⟩, ⟨%A18, H18⟩, ⟨%A19, H19⟩, Hk⟩
  rw [wp_bind]
  iapply (wp_wand_r Idealize.ShloMosaic.frame (wpE (defs₀ (F := F)) Variants.none (c : Thread nD τ) none) E)
  isplitl [H2 H3 H4 H5 H6 H7 H8 H9 H10 H13 H14 H15 H16 H17 H18 H19]
  · iapply (part10 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 X9 X10 A13 A14 A15 A16 A17 A18 A19)
    isplitl [H2]; · iapply (own_to c harg2); iexact H2
    isplitl [H3]; · iapply (own_to c harg3); iexact H3
    isplitl [H4]; · iapply (own_to c harg4); iexact H4
    isplitl [H5]; · iapply (own_to c harg5); iexact H5
    isplitl [H6]; · iapply (own_to c harg6); iexact H6
    isplitl [H7]; · iapply (own_to c harg7); iexact H7
    isplitl [H8]; · iapply (own_to c harg8); iexact H8
    isplitl [H9]; · iapply (own_to c harg9); iexact H9
    isplitl [H10]; · iapply (own_to c harg10); iexact H10
    isplitl [H13]; · iapply (own_to c harg13); iexact H13
    isplitl [H14]; · iapply (own_to c harg14); iexact H14
    isplitl [H15]; · iapply (own_to c harg15); iexact H15
    isplitl [H16]; · iapply (own_to c harg16); iexact H16
    isplitl [H17]; · iapply (own_to c harg17); iexact H17
    isplitl [H18]; · iapply (own_to c harg18); iexact H18
    iapply (own_to c harg19); iexact H19
  iintro %r ⟨H2, H3, H4, H5, H6, H7, H8, H9, H10, H13, H14, H15, H16, H17, H18, H19⟩
  rw [wp_bind]
  iapply (wp_wand_r Idealize.ShloMosaic.frame (wpE (defs₀ (F := F)) Variants.none (c : Thread nD τ) none) E)
  isplitl [H10 H11 H12 H17 H18 H19]
  · iapply (part11 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (put X10 ![0, 0] S2048x64.size (k0_pay71 (lanes (accs (ins x0 x1 x2 x3 x4 x5 x6) 4).1 0))) X11 X12
      (accs (ins x0 x1 x2 x3 x4 x5 x6) 4).1 (accs (ins x0 x1 x2 x3 x4 x5 x6) 4).2 (rss (ins x0 x1 x2 x3 x4 x5 x6) A19 4))
    isplitl [H10]; · iexact H10
    isplitl [H11]; · iapply (own_to c harg11); iexact H11
    isplitl [H12]; · iapply (own_to c harg12); iexact H12
    isplitl [H17]; · iexact H17
    isplitl [H18]; · iexact H18
    iexact H19
  iintro %r ⟨%hr, H10, H11, H12, H17, H18, H19⟩
  subst hr
  unfold at_
  sl_exec
  sl_step
  sl_unfold_run_names
  simp only [write_win harg12, View.writes_nil, Memref.IsWhole.read_unread]
  iapply Hk
  have eK := outDk_eq (ins x0 x1 x2 x3 x4 x5 x6) X10
  have eV := outDv_eq (ins x0 x1 x2 x3 x4 x5 x6) X11
  have eC := outDc_eq (ins x0 x1 x2 x3 x4 x5 x6) A19 X12
  rw [← eK, ← eV, ← eC]
  isplitl [H2]; · iapply (own_is c harg2); iexact H2
  isplitl [H3]; · iapply (own_is c harg3); iexact H3
  isplitl [H4]; · iapply (own_is c harg4); iexact H4
  isplitl [H5]; · iapply (own_is c harg5); iexact H5
  isplitl [H6]; · iapply (own_is c harg6); iexact H6
  isplitl [H7]; · iapply (own_is c harg7); iexact H7
  isplitl [H8]; · iapply (own_is c harg8); iexact H8
  isplitl [H9]; · iapply (own_is c harg9); iexact H9
  isplitl [H10]; · iapply (own_is c harg10); iexact H10
  isplitl [H11]; · iapply (own_is c harg11); iexact H11
  isplitl [H12]; · iapply (own_is c harg12); iexact H12
  isplitl [H13]; · iapply (own_any c harg13); iexact H13
  isplitl [H14]; · iapply (own_any c harg14); iexact H14
  isplitl [H15]; · iapply (own_any c harg15); iexact H15
  isplitl [H16]; · iapply (own_any c harg16); iexact H16
  isplitl [H17]; · iapply (own_any c harg17); iexact H17
  isplitl [H18]; · iapply (own_any c harg18); iexact H18
  iapply (own_any c harg19); iexact H19

end Cert.KernelIdeal.Fox
-- ==== Proof.KernelIdeal.Run.lean ====
module

public import proofs.«01_k».proof.Proof.KernelIdeal.Body
public import proofs.«01_k».proof.Proof.Gen.KernelIdeal.Frame
public import Idealize.ShloMosaic.Lib.Claim

/-!
# The run of the backward kernel, and its frame

The body's run at every grid point gives the pipeline's run: every output array ends at the blocks the body leaves
(State.lean, Cover.lean), and the argument arrays end as they were.
-/

@[expose] public section

set_option maxRecDepth 16384

noncomputable section

namespace Cert.KernelIdeal.Fox

open Idealize.ShloMosaic Idealize.ShloMosaic.VecWindow Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs of a point -/

abbrev sc0 : Memref sig .tc .vmem S2x2048x128 .bf16 := Memref.whole cc0_scratch0
abbrev sc1 : Memref sig .tc .vmem S2x2048x128 .bf16 := Memref.whole cc0_scratch1
abbrev sc2 : Memref sig .tc .vmem S2x2048x128 .bf16 := Memref.whole cc0_scratch2
abbrev sc3 : Memref sig .tc .vmem S2x2048x128 .bf16 := Memref.whole cc0_scratch3
abbrev sc4 : Memref sig .tc .vmem S2x2048x128 .f32 := Memref.whole cc0_scratch4
abbrev sc5 : Memref sig .tc .vmem S2x2048x128 .f32 := Memref.whole cc0_scratch5
abbrev sc6 : Memref sig .tc .vmem S2048x2 .f32 := Memref.whole cc0_scratch6
abbrev ms0 (t : Fin cfg0.N) : Memref sig .tc .vmem S2048x128 .f32 := win0_0.stage (cfg0.slots t 0)
abbrev ms1 (t : Fin cfg0.N) : Memref sig .tc .vmem S2048x128 .f32 := win0_1.stage (cfg0.slots t 1)
abbrev ms2 (t : Fin cfg0.N) : Memref sig .tc .vmem S2048x128 .f32 := win0_2.stage (cfg0.slots t 2)
abbrev ms3 (t : Fin cfg0.N) : Memref sig .tc .vmem S2048x128 .f32 := win0_3.stage (cfg0.slots t 3)
abbrev ms4 (t : Fin cfg0.N) : Memref sig .tc .vmem S2048x128 .f32 := win0_4.stage (cfg0.slots t 4)
abbrev ms5 (t : Fin cfg0.N) : Memref sig .tc .vmem S1x2048x2 .f32 := win0_5.stage (cfg0.slots t 5)
abbrev ms6 (t : Fin cfg0.N) : Memref sig .tc .vmem S1x2x2048 .f32 := win0_6.stage (cfg0.slots t 6)
abbrev ms7 (t : Fin cfg0.N) : Memref sig .tc .vmem S2048x128 .bf16 := win0_7.stage (cfg0.slots t 7)
abbrev ms8 (t : Fin cfg0.N) : Memref sig .tc .vmem S2048x128 .bf16 := win0_8.stage (cfg0.slots t 8)
abbrev ms9 (t : Fin cfg0.N) : Memref sig .tc .vmem S2048x128 .bf16 := win0_9.stage (cfg0.slots t 9)
abbrev ms10 (t : Fin cfg0.N) : Memref sig .tc .vmem S1x2048x2 .f32 := win0_10.stage (cfg0.slots t 10)

/-- The scratch buffers and the generator register, as owned memrefs. -/
theorem held_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-! ## The proof data -/

/-- What point `t`'s input blocks stage. -/
def insAt (c : Dev nD) (t : Fin cfg0.N) : Ins F :=
  ins (iblk m c 0 t) (iblk m c 1 t) (iblk m c 2 t) (iblk m c 3 t) (iblk m c 4 t) (iblk m c 5 t) (iblk m c 6 t)

/-- The proof data: the arrays as the region finds them, every input block left in place, every output block at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqF (insAt m c t)
    | ⟨8, _⟩ => dkF (insAt m c t)
    | ⟨9, _⟩ => dvF (insAt m c t)
    | ⟨10, _⟩ => dcF (insAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqF (insAt m c t) := by dsimp only [dats]
theorem after_8 (c : Dev nD) (t : Fin cfg0.N) : (dats m 0 c).after 8 t = dkF (insAt m c t) := by dsimp only [dats]
theorem after_9 (c : Dev nD) (t : Fin cfg0.N) : (dats m 0 c).after 9 t = dvF (insAt m c t) := by dsimp only [dats]
theorem after_10 (c : Dev nD) (t : Fin cfg0.N) : (dats m 0 c).after 10 t = dcF (insAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, held_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, with the pipeline's arrays at the blocks the body leaves, the later host lines run, and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.KernelIdeal.Fox
-- ==== Proof.Reference.Math.lean ====
/-
  The mathematics that the kernel and the reference share, for one head: real queries, keys, values, output cotangents and cumulative log gates, and over them the
  masked logits, their exponentials, the row sums, and the gradients. The kernel reads a row's normaliser as one number, the row's maximum plus the logarithm of its sum,
  and subtracts it in the exponent; the reference divides by the sum. Both are shown equal to one real formula.
-/
module

public import Idealize.ShloMosaic.PureOps.Ideal.Laws

@[expose] public section

noncomputable section
namespace Cert.Fox
open Idealize.ShloMosaic

/-- A sum of reals, seen among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One head's real data. -/
structure Head where
  q : Fin 2048 → Fin 64 → ℝ
  k : Fin 2048 → Fin 64 → ℝ
  v : Fin 2048 → Fin 64 → ℝ
  g : Fin 2048 → Fin 64 → ℝ
  C : Fin 2048 → ℝ

variable (A : Head) (t u : Fin 2048) (d : Fin 64)

/-- The scale of the logits, one over the square root of the head's width. -/
abbrev eighth : EReal := ((1/8 : ℝ) : EReal)

/-- The masked logit, among the extended reals: `⊥` where the key comes after the query. -/
def logit : EReal :=
  (∑ x, (A.q t x : EReal) * (A.k u x : EReal)) * eighth + (if u ≤ t then (A.C t : EReal) - (A.C u : EReal) else ⊥)

/-- The logit where it is not masked. -/
def z : ℝ := (∑ x, A.q t x * A.k u x) * (1/8) + (A.C t - A.C u)

theorem logit_eq : logit A t u = if u ≤ t then (z A t u : EReal) else ⊥ := by
  unfold logit z
  split
  · rw [EReal.coe_add, EReal.coe_mul, coe_sum, EReal.coe_sub]
    simp only [EReal.coe_mul]
  · simp

/-- A row's greatest logit. -/
def top : EReal := Finset.univ.fold max ⊥ fun u => logit A t u

theorem top_real : ∃ r : ℝ, top A t = r := by
  have h1 : top A t ≠ ⊤ := by
    have : top A t < ⊤ := by
      unfold top
      rw [Finset.fold_max_lt]
      refine ⟨bot_lt_top, fun u _ => ?_⟩
      rw [logit_eq]; split
      · exact EReal.coe_lt_top _
      · exact bot_lt_top
    exact this.ne
  have h2 : top A t ≠ ⊥ := by
    have : (z A t t : EReal) ≤ top A t := by
      unfold top
      rw [Finset.le_fold_max]
      exact Or.inr ⟨t, Finset.mem_univ _, by rw [logit_eq, if_pos le_rfl]⟩
    intro h; rw [h] at this
    exact absurd (le_bot_iff.mp this) (EReal.coe_ne_bot _)
  exact ⟨(top A t).toReal, (EReal.coe_toReal h1 h2).symm⟩

/-- A row's greatest logit, as a real. -/
def M : ℝ := (top_real A t).choose
theorem top_eq : top A t = (M A t : EReal) := (top_real A t).choose_spec

/-- The exponentials of a row, of the logits less the row's greatest. -/
def e : ℝ := if u ≤ t then Real.exp (z A t u - M A t) else 0
/-- Their sum. -/
def L : ℝ := ∑ u, e A t u

theorem exp_eq : Ideal.exp (logit A t u - top A t) = (e A t u : EReal) := by
  rw [logit_eq, top_eq]; unfold e
  split
  · rw [← EReal.coe_sub, Ideal.exp_coe]
  · rw [EReal.bot_sub]; simp

theorem sum_eq : ∑ u, Ideal.exp (logit A t u - top A t) = (L A t : EReal) := by
  unfold L; rw [coe_sum]; exact Finset.sum_congr rfl fun u _ => exp_eq A t u

theorem e_nonneg : 0 ≤ e A t u := by unfold e; split; exacts [(Real.exp_pos _).le, le_rfl]
theorem L_pos : 0 < L A t := by
  unfold L
  refine lt_of_lt_of_le ?_ (Finset.single_le_sum (fun u _ => e_nonneg A t u) (Finset.mem_univ t))
  unfold e; rw [if_pos le_rfl]; exact Real.exp_pos _

/-- The attention weight. -/
def p : ℝ := e A t u / L A t
/-- The cotangent of the attention weight. -/
def dp : ℝ := ∑ x, A.g t x * A.v u x
/-- The output. -/
def o : ℝ := ∑ u, p A t u * A.v u d
/-- The cotangent of the logit. -/
def ds : ℝ := p A t u * (dp A t u - ∑ u', p A t u' * dp A t u')

theorem p_masked (h : ¬ u ≤ t) : p A t u = 0 := by unfold p e; rw [if_neg h, zero_div]
theorem ds_masked (h : ¬ u ≤ t) : ds A t u = 0 := by unfold ds; rw [p_masked A t u h, zero_mul]

/-- The gradients of one head. -/
def dq : ℝ := (∑ u, ds A t u * A.k u d) * (1/8)
def dk : ℝ := (∑ t, ds A t u * A.q t d) * (1/8)
def dv : ℝ := ∑ t, p A t u * A.g t d
def dC : ℝ := (∑ u, ds A t u) - ∑ t', ds A t' t

/-! ## What the kernel reads -/

theorem div_eq : Ideal.div (e A t u : EReal) (L A t : EReal) = (p A t u : EReal) := by
  rw [Ideal.div_coe (L_pos A t).ne', ← EReal.coe_mul]; unfold p; rw [mul_one_div]

theorem out_eq : ∑ u, Ideal.div (e A t u : EReal) (L A t : EReal) * (A.v u d : EReal) = (o A t d : EReal) := by
  unfold o; rw [coe_sum]
  exact Finset.sum_congr rfl fun u _ => by rw [div_eq, EReal.coe_mul]

/-- The saved normaliser of a row, less the row's cumulative gate. -/
def lse : ℝ := M A t + Real.log (L A t) - A.C t
theorem lse_eq : (top A t + Ideal.log (L A t : EReal)) - (A.C t : EReal) = (lse A t : EReal) := by
  rw [top_eq, Ideal.log_coe, if_neg (not_le.mpr (L_pos A t)), ← EReal.coe_add, ← EReal.coe_sub]; rfl

/-- The weight, as the kernel recomputes it from the saved normaliser. -/
theorem weight_eq :
    (if u ≤ t then Ideal.exp ((∑ x, (A.q t x : EReal) * eighth * (A.k u x : EReal)) - (A.C u : EReal) - (lse A t : EReal)) else 0) = (p A t u : EReal) := by
  split
  · rename_i h
    have hs : (∑ x, (A.q t x : EReal) * eighth * (A.k u x : EReal)) = (((∑ x, A.q t x * A.k u x) * (1/8) : ℝ) : EReal) := by
      rw [Finset.sum_mul, coe_sum]
      refine Finset.sum_congr rfl fun x _ => ?_
      rw [← EReal.coe_mul, ← EReal.coe_mul]; congr 1; ring
    rw [hs, ← EReal.coe_sub, ← EReal.coe_sub, Ideal.exp_coe]
    congr 1
    unfold p e lse z
    rw [if_pos h, show (∑ x, A.q t x * A.k u x) * (1/8) - A.C u - (M A t + Real.log (L A t) - A.C t)
      = ((∑ x, A.q t x * A.k u x) * (1/8) + (A.C t - A.C u) - M A t) - Real.log (L A t) by ring, Real.exp_sub, Real.exp_log (L_pos A t)]
  · rename_i h
    rw [p_masked A t u h]; rfl

theorem dp_eq : ∑ x, (A.g t x : EReal) * (A.v u x : EReal) = (dp A t u : EReal) := by
  unfold dp; rw [coe_sum]; exact Finset.sum_congr rfl fun x _ => (EReal.coe_mul _ _).symm

theorem delta_real : ∑ x, A.g t x * o A t x = ∑ u, p A t u * dp A t u := by
  unfold o dp
  simp only [Finset.mul_sum]
  rw [Finset.sum_comm]
  exact Finset.sum_congr rfl fun u _ => Finset.sum_congr rfl fun x _ => by ring

/-- The row correction, as the kernel computes it from the output. -/
theorem delta_eq : ∑ x, (A.g t x : EReal) * (o A t x : EReal) = ((∑ u, p A t u * dp A t u : ℝ) : EReal) := by
  rw [← delta_real, coe_sum]; exact Finset.sum_congr rfl fun x _ => (EReal.coe_mul _ _).symm

theorem grad_eq : (p A t u : EReal) * ((dp A t u : EReal) - ((∑ u, p A t u * dp A t u : ℝ) : EReal)) = (ds A t u : EReal) := by
  unfold ds; rw [EReal.coe_mul, EReal.coe_sub]

theorem dq_kernel : (∑ u, (ds A t u : EReal) * (A.k u d : EReal)) * eighth = (dq A t d : EReal) := by
  unfold dq; rw [EReal.coe_mul, coe_sum]; simp only [EReal.coe_mul]
theorem dk_kernel : ∑ t, (ds A t u : EReal) * ((A.q t d : EReal) * eighth) = (dk A u d : EReal) := by
  unfold dk; rw [Finset.sum_mul, coe_sum]
  refine Finset.sum_congr rfl fun t _ => ?_
  rw [← EReal.coe_mul, ← EReal.coe_mul]; congr 1; ring
theorem dv_kernel : ∑ t, (p A t u : EReal) * (A.g t d : EReal) = (dv A u d : EReal) := by
  unfold dv; rw [coe_sum]; simp only [EReal.coe_mul]
theorem dC_kernel : (∑ u, (ds A t u : EReal) * 1) - ∑ t', (ds A t' t : EReal) * 1 = (dC A t : EReal) := by
  unfold dC; rw [EReal.coe_sub, coe_sum, coe_sum]; simp only [mul_one]

/-! ## What the reference reads -/

/-- The logit's cotangent, as the derivative of the quotient writes it. -/
theorem ds_reference :
    (Ideal.div (dp A t u : EReal) (L A t : EReal)
      + -∑ u', (dp A t u' : EReal) * Ideal.div 1 ((L A t : EReal) * (L A t : EReal)) * (e A t u' : EReal)) * (e A t u : EReal) = (ds A t u : EReal) := by
  have hL := (L_pos A t).ne'
  have hs : (∑ u', (dp A t u' : EReal) * Ideal.div 1 ((L A t : EReal) * (L A t : EReal)) * (e A t u' : EReal))
      = ((∑ u', dp A t u' * (1 / (L A t * L A t)) * e A t u' : ℝ) : EReal) := by
    rw [coe_sum]
    refine Finset.sum_congr rfl fun u' _ => ?_
    rw [← EReal.coe_mul (L A t), Ideal.div_coe (mul_ne_zero hL hL), one_mul, ← EReal.coe_mul, ← EReal.coe_mul]
  rw [hs, Ideal.div_coe hL, ← EReal.coe_mul, ← EReal.coe_neg, ← EReal.coe_add, ← EReal.coe_mul]
  congr 1
  unfold ds p
  have hr : (∑ u', e A t u' / L A t * dp A t u') = (∑ u', dp A t u' * (1 / (L A t * L A t)) * e A t u') * L A t := by
    rw [Finset.sum_mul]
    exact Finset.sum_congr rfl fun u' _ => by field_simp
  rw [hr]
  field_simp
  ring

theorem dq_reference : ∑ u, (ds A t u : EReal) * eighth * (A.k u d : EReal) = (dq A t d : EReal) := by
  unfold dq; rw [Finset.sum_mul, coe_sum]
  refine Finset.sum_congr rfl fun u _ => ?_
  rw [← EReal.coe_mul, ← EReal.coe_mul]; congr 1; ring
theorem dk_reference : ∑ t, (ds A t u : EReal) * eighth * (A.q t d : EReal) = (dk A u d : EReal) := by
  unfold dk; rw [Finset.sum_mul, coe_sum]
  refine Finset.sum_congr rfl fun t _ => ?_
  rw [← EReal.coe_mul, ← EReal.coe_mul]; congr 1; ring
theorem dv_reference : ∑ t, (A.g t d : EReal) * (p A t u : EReal) = (dv A u d : EReal) := by
  unfold dv; rw [coe_sum]
  exact Finset.sum_congr rfl fun t _ => by rw [EReal.coe_mul, mul_comm]
theorem dC_reference :
    (∑ t', -(if t ≤ t' then (ds A t' t : EReal) else 0)) + (∑ u, if u ≤ t then (ds A t u : EReal) else 0) = (dC A t : EReal) := by
  have h1 : (∑ t', -(if t ≤ t' then (ds A t' t : EReal) else 0)) = ((-∑ t', ds A t' t : ℝ) : EReal) := by
    rw [← Finset.sum_neg_distrib, coe_sum]
    refine Finset.sum_congr rfl fun t' _ => ?_
    split
    · rw [EReal.coe_neg]
    · rename_i h; rw [ds_masked A t' t h, neg_zero, neg_zero]; rfl
  have h2 : (∑ u, if u ≤ t then (ds A t u : EReal) else 0) = ((∑ u, ds A t u : ℝ) : EReal) := by
    rw [coe_sum]
    refine Finset.sum_congr rfl fun u _ => ?_
    split
    · rfl
    · rename_i h; rw [ds_masked A t u h]; rfl
  rw [h1, h2, ← EReal.coe_add]; congr 1; unfold dC; ring

end Cert.Fox
-- ==== Proof.Reference.Read.lean ====
/-
  The reference's four results, read at an index: each is the gradient of one head, the real formula of Math.lean.
-/
module

public import proofs.«01_k».proof.Proof.Gen.ReferenceIdeal.Read
public import proofs.«01_k».proof.Proof.Reference.Math
public import Idealize.ShloMosaic.Lib.Pointwise

@[expose] public section
set_option maxRecDepth 16384

noncomputable section
namespace Cert.Fox
open Idealize.ShloMosaic
open Cert.ReferenceIdeal Cert.ReferenceIdeal.Read

/-- The row of the arrays that holds token `t` of sequence `b`. -/
def tok (b : Fin 2) (t : Fin 2048) : Fin 4096 := ⟨b.val * 2048 + t.val, by omega⟩
/-- The column of a 512-wide array that holds lane `d` of head `h`. -/
def col (h : Fin 8) (d : Fin 64) : Fin 512 := ⟨h.val * 64 + d.val, by omega⟩
/-- The same among the projection's columns, `n` columns on. -/
def pcol (n : ℕ) (hn : n ≤ 1024) (h : Fin 8) (d : Fin 64) : Fin 6144 := ⟨n + (h.val * 64 + d.val), by omega⟩

variable (x0 : Vec Ideal S4096x6144 .f32) (x1 : Vec Ideal S4096x8 .f32) (x2 : Vec Ideal S4096x512 .f32)

/-- The three arrays hold the real data of the heads. -/
structure Holds (A : Fin 2 → Fin 8 → Head) : Prop where
  q : ∀ b h t d, x0 (ix2 (tok b t) (pcol 0 (by omega) h d)) = (((A b h).q t d : ℝ) : EReal)
  k : ∀ b h t d, x0 (ix2 (tok b t) (pcol 512 (by omega) h d)) = (((A b h).k t d : ℝ) : EReal)
  v : ∀ b h t d, x0 (ix2 (tok b t) (pcol 1024 (by omega) h d)) = (((A b h).v t d : ℝ) : EReal)
  g : ∀ b h t d, x2 (ix2 (tok b t) (col h d)) = (((A b h).g t d : ℝ) : EReal)
  C : ∀ b h t, x1 (ix2 (tok b t) h) = (((A b h).C t : ℝ) : EReal)

theorem eighth_word : Ideal.ofBits .f32 0x3E000000#32 = eighth := by
  simp [Ideal.ofBits, Ideal.ieee]; rw [← EReal.coe_mul]; norm_num
theorem bot_word : Ideal.ofBits .f32 0xFF800000#32 = ⊥ := by
  simp [Ideal.ofBits, Ideal.ieee]

/-- The causal comparison, on coordinates. -/
theorem select_le {α : Type} (t u : Fin 2048) (x y : α) :
    Scalar.select (IntOp.cmpi CmpIPredicate.sle (BitVec.ofNat 32 u.val) (BitVec.ofNat 32 t.val)) x y = if u ≤ t then x else y := by
  have h : IntOp.cmpi CmpIPredicate.sle (BitVec.ofNat 32 u.val) (BitVec.ofNat 32 t.val) = if u ≤ t then 1#1 else 0#1 := by
    unfold IntOp.cmpi
    have : (BitVec.ofNat 32 u.val).sle (BitVec.ofNat 32 t.val) = decide (u ≤ t) := by
      rw [BitVec.sle_eq_decide]
      congr 1
      rw [BitVec.toInt_eq_toNat_of_lt (by simp; omega), BitVec.toInt_eq_toNat_of_lt (by simp; omega)]
      simp only [BitVec.toNat_ofNat, Fin.le_def, eq_iff_iff]
      rw [Nat.mod_eq_of_lt (by omega), Nat.mod_eq_of_lt (by omega)]
      omega
    show BitVec.ofBool _ = _
    rw [this]
    by_cases hc : u ≤ t <;> simp [hc]
  rw [h]
  split <;> rfl

/-- A row maximum, as the fold of `max` over the row. -/
theorem rowMax (y : FVec Ideal (⟨4, ![2, 8, 2048, 2048]⟩ : Shape) .f32) (c : FVec Ideal (⟨0, ![]⟩ : Shape) .f32)
    (h : (⟨4, ![2, 8, 2048, 2048]⟩ : Shape).ReducesTo [3] (⟨3, ![2, 8, 2048]⟩ : Shape)) (hu : 0 < (⟨0, ![]⟩ : Shape).numel) (b : Fin 2) (i : Fin 8) (t : Fin 2048) :
    Host.reduce FloatOps.maximumf y c h hu (ix3 b i t)
      = Finset.univ.fold max (c (Shape.Idx.first hu)) fun k : Fin 2048 => y (ix4 b i t k) := by
  simp only [pointwise]

variable {x0 x1 x2} {A : Fin 2 → Fin 8 → Head} (H : Holds x0 x1 x2 A) (b : Fin 2) (h : Fin 8) (t u : Fin 2048) (d : Fin 64)
include H

theorem Holds.q_apply : val_main_v18 x0 (ix4 b h t d) = (((A b h).q t d : ℝ) : EReal) := by
  rw [← H.q]
  pointwise [val_main_v18, val_main_v17, val_main_v0]
  unfold tok pcol; congr 2; ext; simp
theorem Holds.k_apply : val_main_v20 x0 (ix4 b h t d) = (((A b h).k t d : ℝ) : EReal) := by
  rw [← H.k]
  pointwise [val_main_v20, val_main_v19, val_main_v1]
  rfl
theorem Holds.v_apply : val_main_v54 x0 (ix4 b h t d) = (((A b h).v t d : ℝ) : EReal) := by
  rw [← H.v]
  pointwise [val_main_v54, val_main_v53, val_main_v2]
  rfl
theorem Holds.g_apply : val_main_v59 x2 (ix4 b h t d) = (((A b h).g t d : ℝ) : EReal) := by
  rw [← H.g]
  pointwise [val_main_v59, val_main_v58]
  rfl

theorem Holds.logit_apply : val_main_v24 x0 x1 (ix4 b h t u) = logit (A b h) t u := by
  unfold logit
  simp only [← H.q_apply, ← H.k_apply, ← H.C, ← eighth_word, ← bot_word, ← select_le]
  pointwise [val_main_v24, val_main_v23, val_main_v16_0, val_main_v10, val_main_v8, val_main_v9, val_main_v6, val_main_v7, val_main_v4, val_main_v3, val_main_v22,
    val_main_cst_0, val_main_cst, val_main_v21, val_main_v16_1, val_main_v15, val_main_v14, val_main_v13, val_main_v12, val_main_v11, val_main_v5, val_main_call0_v1]
  rfl

theorem Holds.rowTop_apply : val_main_v25 x0 x1 (ix3 b h t) = top (A b h) t := by
  unfold val_main_v25
  rw [rowMax]
  unfold top
  rw [show (fun k : Fin 2048 => val_main_v24 x0 x1 (ix4 b h t k)) = fun u => logit (A b h) t u from funext fun k => H.logit_apply b h t k]
  exact congrArg (fun c => Finset.univ.fold max c fun u => logit (A b h) t u) bot_word

theorem Holds.top_apply : val_main_v32 x0 x1 (ix3 b h t) = top (A b h) t := by
  rw [val_main_v32_apply, val_main_v31_apply, val_main_cst_3_apply, H.rowTop_apply]
  show max (Ideal.ofBits .f32 0xFF800000#32) (top (A b h) t) = _
  rw [bot_word, max_eq_right bot_le]

theorem Holds.exp_apply : val_main_v45 x0 x1 (ix4 b h t u) = (e (A b h) t u : EReal) := by
  rw [← exp_eq, ← H.logit_apply, ← H.top_apply]
  pointwise [val_main_v45, val_main_v44, val_main_v43, val_main_v42]

theorem Holds.sum_apply : val_main_v46 x0 x1 (ix3 b h t) = (L (A b h) t : EReal) := by
  pointwise [val_main_v46, val_main_cst_9]
  simp only [H.exp_apply]
  unfold L; rw [coe_sum]

theorem Holds.ds_apply : val_main_v76 x0 x1 x2 (ix4 b h t u) = (ds (A b h) t u : EReal) := by
  pointwise [val_main_v76, val_main_v75, val_main_v74, val_main_v73, val_main_v72, val_main_v71, val_main_v70, val_main_v69, val_main_v68, val_main_v67, val_main_v66,
    val_main_v65, val_main_v52, val_main_v51,val_main_v50, val_main_v47, val_main_v62, val_main_cst_10, val_main_cst_11, val_main_cst_12]
  simp only [H.g_apply, H.v_apply, H.sum_apply, H.exp_apply, dp_eq, Fin.sum_univ_one, Finset.univ_unique, Finset.sum_singleton]
  exact ds_reference (A b h) t u

theorem Holds.p_apply : val_main_v49 x0 x1 (ix4 b h t u) = (p (A b h) t u : EReal) := by
  pointwise [val_main_v49, val_main_v48, val_main_v47]
  rw [H.exp_apply, H.sum_apply, div_eq]

theorem Holds.dv_apply : val_main_v98 x0 x1 x2 (ix2 (tok b u) (col h d)) = (dv (A b h) u d : EReal) := by
  unfold tok col
  pointwise [val_main_v98, val_main_v64, val_main_v63, val_main_v61, val_main_v60]
  simp only [H.g_apply, H.p_apply]
  exact dv_reference (A b h) u d

theorem Holds.dk_apply : val_main_v97 x0 x1 x2 (ix2 (tok b u) (col h d)) = (dk (A b h) u d : EReal) := by
  unfold tok col
  pointwise [val_main_v97, val_main_v82, val_main_v81, val_main_v79, val_main_v78, val_main_v77, val_main_cst_13]
  simp only [H.ds_apply, H.q_apply, eighth_word]
  exact dk_reference (A b h) u d

theorem Holds.dq_apply : val_main_v96 x0 x1 x2 (ix2 (tok b t) (col h d)) = (dq (A b h) t d : EReal) := by
  unfold tok col
  pointwise [val_main_v96, val_main_v84, val_main_v83, val_main_v80, val_main_v78, val_main_v77, val_main_cst_13]
  simp only [H.ds_apply, H.k_apply, eighth_word]
  exact dq_reference (A b h) t d

theorem Holds.dC_apply : val_main_v95 x0 x1 x2 (ix2 (tok b t) h) = (dC (A b h) t : EReal) := by
  unfold tok
  pointwise [val_main_v95, val_main_v94, val_main_v93, val_main_v92, val_main_v91, val_main_v90, val_main_v89, val_main_v88, val_main_v87, val_main_v86, val_main_v85,
    val_main_v16_1, val_main_v16_2, val_main_call0_cst, val_main_v15, val_main_v14, val_main_v13, val_main_v12, val_main_v11, val_main_v5, val_main_cst_14,
    val_main_cst_15, val_main_cst_16, val_main_cst_17, val_main_call1_v0, val_main_call1_cst]
  simp only [H.ds_apply, select_le, Fin.sum_univ_one, Finset.univ_unique, Finset.sum_singleton]
  exact dC_reference (A b h) t

end Cert.Fox
-- ==== Proof.KernelIdeal.Host.lean ====
/-
  What the host prepares for the kernel's call, at an index: the output block, the rows' saved normalisers less their cumulative gates, and the gates laid along the
  lanes, each as the real formula of Reference/Math.lean.
-/
module

public import proofs.«01_k».proof.Proof.KernelIdeal.Run
public import proofs.«01_k».proof.Proof.Reference.Read
public import Idealize.ShloMosaic.Lib.Pointwise
public import Idealize.ShloMosaic.Lib.StableHlo.ReadAt

@[expose] public section
set_option maxRecDepth 16384

noncomputable section
namespace Cert.KernelIdeal.Fox
open Idealize.ShloMosaic
open Cert.KernelIdeal Cert.KernelIdeal.Gen
open Cert.Fox (Holds tok col pcol)

variable (x0 : Vec Ideal S4096x6144 .f32) (x1 : Vec Ideal S4096x8 .f32) (x2 : Vec Ideal S4096x512 .f32)

/-! ## The host's arrays, named -/

def hM : Vec Ideal S2x8x2048x1 .f32 :=
  broadcastInDim S2x8x2048x1 ![0, 1, 2] bcast_S2x8x2048_S2x8x2048x1_0_1_2 (ReferenceIdeal.Read.val_main_v25 x0 x1)
def hE : Vec Ideal S2x8x2048x2048 .f32 :=
  Host.exp (subf (ReferenceIdeal.Read.val_main_v24 x0 x1) (broadcastInDim S2x8x2048x2048 ![0, 1, 2, 3] bcast_S2x8x2048x1_S2x8x2048x2048_0_1_2_3 (hM x0 x1)))
def hS : (⟨S2x8x2048, .f32⟩ : BufTy).Contents (Elt Ideal) :=
  Host.reduceAdd (F := Ideal) (hE x0 x1) (constant S_ .f32 0x00000000#32) reducesTo_S2x8x2048x2048_S2x8x2048_d3 h_S_
def hL : Vec Ideal S2x8x2048x1 .f32 :=
  broadcastInDim S2x8x2048x1 ![0, 1, 2] bcast_S2x8x2048_S2x8x2048x1_0_1_2 (hS x0 x1)
def hP : Vec Ideal S2x8x2048x2048 .f32 :=
  Host.divf (F := Ideal) (φ := .f32) (hE x0 x1) (broadcastInDim S2x8x2048x2048 ![0, 1, 2, 3] bcast_S2x8x2048x1_S2x8x2048x2048_0_1_2_3 (hL x0 x1))
def hD : (⟨S2x8x2048x64, .f32⟩ : BufTy).Contents (Elt Ideal) :=
  Host.dotGeneral (F := Ideal) (φ₁ := .f32) (φ₂ := .f32) dot_S2x8x2048x2048_S2x8x2048x64_S2x8x2048x64_3_2_2_3_01_01 none (hP x0 x1) (ReferenceIdeal.Read.val_main_v54 x0)
def hO : Vec Ideal S4096x512 .f32 :=
  shapeCast S4096x512
    (transpose S2x2048x8x64 [0, 2, 1, 3] (hD x0 x1)
      transposes_S2x8x2048x64_S2x2048x8x64_0_2_1_3)
    shapeCasts_S2x2048x8x64_S4096x512
def hR : Vec Ideal S2x8x2048 .f32 :=
  subf (shapeCast S2x8x2048 (addf (hM x0 x1) (Host.log (hL x0 x1))) shapeCasts_S2x8x2048x1_S2x8x2048) (ReferenceIdeal.Read.val_main_v4 x1)
def hLse : Vec Ideal S8x2048x2 .f32 :=
  transpose S8x2048x2 [0, 2, 1] (shapeCast S8x2x2048 (hR x0 x1) shapeCasts_S2x8x2048_S8x2x2048) transposes_S8x2x2048_S8x2048x2_0_2_1
def hCr : Vec Ideal S8x2x2048 .f32 :=
  shapeCast S8x2x2048
    (transpose S2x4x2x2048 [0, 2, 3, 1] (shapeCast S2x2048x4x2 x1 shapeCasts_S4096x8_S2x2048x4x2) transposes_S2x2048x4x2_S2x4x2x2048_0_2_3_1)
    shapeCasts_S2x4x2x2048_S8x2x2048

section
variable (m : (ℓ : Loc nD τ sig) → Buf (Elt Ideal) ℓ) (c : Dev nD)
abbrev a0 : Vec Ideal S4096x6144 .f32 := m (c, Proc.devRef .tc main_arg0)
abbrev a1 : Vec Ideal S4096x8 .f32 := m (c, Proc.devRef .tc main_arg1)
abbrev a2 : Vec Ideal S4096x512 .f32 := m (c, Proc.devRef .tc main_arg2)

theorem V_arg0 : (V m c main_arg0 : Vec Ideal S4096x6144 .f32) = a0 m c := by
  unfold Gen.V Gen.V0; after_reads_simp
theorem V_arg2 : (V m c main_arg2 : Vec Ideal S4096x512 .f32) = a2 m c := by
  unfold Gen.V Gen.V0; after_reads_simp
theorem V_o : (V m c main_v38 : Vec Ideal S4096x512 .f32) = hO (a0 m c) (a1 m c) := by
  unfold Gen.V Gen.V0; after_reads_simp
  try simp -implicitDefEqProofs only [StableHlo.TRef.toBuf, StableHlo.TRef.ofBuf, cast_cast, cast_eq]
  rfl
theorem V_lse : (V m c main_v46 : Vec Ideal S8x2048x2 .f32) = hLse (a0 m c) (a1 m c) := by
  unfold Gen.V Gen.V0; after_reads_simp
  try simp -implicitDefEqProofs only [StableHlo.TRef.toBuf, StableHlo.TRef.ofBuf, cast_cast, cast_eq]
  rfl
theorem V_cr : (V m c main_v49 : Vec Ideal S8x2x2048 .f32) = hCr (a1 m c) := by
  unfold Gen.V Gen.V0; after_reads_simp
  try simp -implicitDefEqProofs only [StableHlo.TRef.toBuf, StableHlo.TRef.ofBuf, cast_cast, cast_eq]
  rfl
end

/-! ## At an index -/

/-- The pair of heads of grid point `n`, and its sequence. -/
def pairOf (b : Fin 2) (n : Fin 4) : Fin 8 := ⟨b.val * 4 + n.val, by omega⟩
def headOf (n : Fin 4) (h : Fin 2) : Fin 8 := ⟨n.val * 2 + h.val, by omega⟩

variable {x0 x1 x2} {A : Fin 2 → Fin 8 → Cert.Fox.Head} (H : Holds x0 x1 x2 A) (b : Fin 2) (h : Fin 8) (t u : Fin 2048) (d : Fin 64)

theorem rows_apply (y z : Vec Ideal S2x8x2048x1 .f32) (w : Vec Ideal S2x8x2048 .f32) (b : Fin 2) (h : Fin 8) (t : Fin 2048) :
    (subf (F := Ideal) (φ := .f32) (shapeCast S2x8x2048 (addf (F := Ideal) (φ := .f32) y (Host.log (F := Ideal) (φ := .f32) z)) shapeCasts_S2x8x2048x1_S2x8x2048) w) (ix3 b h t)
      = (y (ix4 b h t 0) + Ideal.log (z (ix4 b h t 0))) - w (ix3 b h t) := by
  pointwise

include H
theorem hM_apply : hM x0 x1 (ix4 b h t 0) = Cert.Fox.top (A b h) t := by
  rw [← H.rowTop_apply]
  unfold hM
  generalize ReferenceIdeal.Read.val_main_v25 x0 x1 = y
  pointwise
theorem hE_apply : hE x0 x1 (ix4 b h t u) = (Cert.Fox.e (A b h) t u : EReal) := by
  rw [← Cert.Fox.exp_eq, ← H.logit_apply, ← hM_apply H]
  unfold hE
  generalize ReferenceIdeal.Read.val_main_v24 x0 x1 = y
  generalize hM x0 x1 = z
  pointwise
theorem hL_apply : hL x0 x1 (ix4 b h t 0) = (Cert.Fox.L (A b h) t : EReal) := by
  rw [← Cert.Fox.sum_eq]
  simp only [Cert.Fox.exp_eq, ← hE_apply H]
  unfold hL hS
  generalize hE x0 x1 = y
  pointwise
theorem hP_apply : hP x0 x1 (ix4 b h t u) = (Cert.Fox.p (A b h) t u : EReal) := by
  rw [← Cert.Fox.div_eq, ← hE_apply H, ← hL_apply H]
  unfold hP
  generalize hE x0 x1 = y
  generalize hL x0 x1 = z
  pointwise
theorem hO_apply : hO x0 x1 (ix2 (tok b t) (col h d)) = (Cert.Fox.o (A b h) t d : EReal) := by
  rw [← Cert.Fox.out_eq]
  simp only [Cert.Fox.div_eq, ← hP_apply H, ← H.v_apply]
  unfold tok col hO hD
  generalize hP x0 x1 = y
  generalize ReferenceIdeal.Read.val_main_v54 x0 = z
  pointwise
theorem gate_apply : ReferenceIdeal.Read.val_main_v4 x1 (ix3 b h t) = ((A b h).C t : EReal) := by
  rw [← H.C]
  unfold tok
  pointwise [ReferenceIdeal.Read.val_main_v4, ReferenceIdeal.Read.val_main_v3]
theorem hR_apply : hR x0 x1 (ix3 b h t) = (Cert.Fox.lse (A b h) t : EReal) := by
  rw [← Cert.Fox.lse_eq, ← gate_apply H, ← hM_apply H, ← hL_apply H]
  unfold hR
  generalize ReferenceIdeal.Read.val_main_v4 x1 = w
  generalize hM x0 x1 = y
  generalize hL x0 x1 = z
  exact rows_apply y z w b h t
theorem hLse_apply (n : Fin 4) (i : Fin 2) : hLse x0 x1 (ix3 (pairOf b n) t i) = (Cert.Fox.lse (A b (headOf n i)) t : EReal) := by
  rw [← hR_apply H]
  unfold pairOf hLse
  generalize hR x0 x1 = y
  pointwise
  congr 2; ext; simp only [headOf]; omega
theorem hCr_apply (n : Fin 4) (i : Fin 2) : hCr x1 (ix3 (pairOf b n) i t) = ((A b (headOf n i)).C t : EReal) := by
  rw [← H.C]
  unfold pairOf tok hCr
  pointwise
  rfl
end Cert.KernelIdeal.Fox
-- ==== Proof.KernelIdeal.Pay.lean ====
module

public import proofs.«01_k».proof.Proof.KernelIdeal.Cover
public import Idealize.ShloMosaic.Lib.Pointwise
public import Idealize.ShloMosaic.Lib.Tactic.WordOmega

/-!
# The body's payloads, element by element, over the extended reals
-/

@[expose] public section
set_option maxRecDepth 16384

noncomputable section
namespace Cert.KernelIdeal.Fox
open Idealize.ShloMosaic
open Cert.KernelIdeal Cert.KernelIdeal.Gen

/-- The scores of a tile, less the keys' decay and the queries' log-sum-exp. -/
def sc (q : FVec Ideal S512x128 .bf16) (l : FVec Ideal S512x1 .f32) (k : Vec Ideal S1x512x128 .bf16) (cr : Vec Ideal S1x1x512 .f32)
    (r c : Fin 512) : EReal :=
  (∑ x : Fin 128, (q (ix2 r x) : EReal) * (k (ix3 (0 : Fin 1) c x) : EReal)) - (cr (ix3 (0 : Fin 1) (0 : Fin 1) c) : EReal) - (l (ix2 r (0 : Fin 1)) : EReal)

/-- The cotangent of a tile's probabilities, less the row's correction. -/
def dsc (d : FVec Ideal S512x128 .bf16) (e : FVec Ideal S512x1 .f32) (v : Vec Ideal S1x512x128 .bf16) (r c : Fin 512) : EReal :=
  (∑ x : Fin 128, (d (ix2 r x) : EReal) * (v (ix3 (0 : Fin 1) c x) : EReal)) - (e (ix2 r (0 : Fin 1)) : EReal)

section
variable (q d : FVec Ideal S512x128 .bf16) (l e : FVec Ideal S512x1 .f32) (k v : Vec Ideal S1x512x128 .bf16) (cr : Vec Ideal S1x1x512 .f32)
  (r c : Fin 512) (x : Fin 128) (a : Vec Ideal S1x512x128 .f32) (b : FVec Ideal S512x128 .f32) (P : FVec Ideal S512x512 .f32)

theorem pay3_apply : k0_pay3 q l k cr (ix2 r c) = Ideal.exp (sc q l k cr r c) := by
  pointwise [k0_pay3, k0_pay2, sc]
theorem pay10_apply : k0_pay10 q l k cr (ix2 r c) = Ideal.exp (sc q l k cr r c) := by
  pointwise [k0_pay10, k0_pay9, sc]
theorem pay5_apply : k0_pay5 q d e l k cr v (ix2 r c) = Ideal.exp (sc q l k cr r c) * dsc d e v r c := by
  pointwise [k0_pay5, pay3_apply, dsc]
theorem pay12_apply : k0_pay12 q d e l k cr v (ix2 r c) = Ideal.exp (sc q l k cr r c) * dsc d e v r c := by
  pointwise [k0_pay12, pay10_apply, dsc]
theorem pay4_apply : k0_pay4 q d l k cr a (ix3 (0 : Fin 1) c x)
    = (a (ix3 (0 : Fin 1) c x) : EReal) + ∑ r : Fin 512, Ideal.exp (sc q l k cr r c) * (d (ix2 r x) : EReal) := by
  pointwise [k0_pay4, pay3_apply]
theorem pay11_apply : k0_pay11 q d l k cr a (ix3 (0 : Fin 1) c x)
    = (a (ix3 (0 : Fin 1) c x) : EReal) + ∑ r : Fin 512, Ideal.exp (sc q l k cr r c) * (d (ix2 r x) : EReal) := by
  pointwise [k0_pay11, pay10_apply]
theorem pay6_apply : k0_pay6 q d e l b k cr v (ix2 r x)
    = (b (ix2 r x) : EReal) + ∑ c : Fin 512, Ideal.exp (sc q l k cr r c) * dsc d e v r c * (k (ix3 (0 : Fin 1) c x) : EReal) := by
  pointwise [k0_pay6, pay5_apply, k0_pay2]
theorem pay13_apply : k0_pay13 q d e l b k cr v (ix2 r x)
    = (b (ix2 r x) : EReal) + ∑ c : Fin 512, Ideal.exp (sc q l k cr r c) * dsc d e v r c * (k (ix3 (0 : Fin 1) c x) : EReal) := by
  pointwise [k0_pay13, pay12_apply, k0_pay9]
theorem pay8_apply : k0_pay8 (k0_pay7 q d e l k cr v a) (ix3 (0 : Fin 1) c x)
    = (a (ix3 (0 : Fin 1) c x) : EReal) + ∑ r : Fin 512, Ideal.exp (sc q l k cr r c) * dsc d e v r c * (q (ix2 r x) : EReal) := by
  pointwise [k0_pay8, k0_pay7, pay5_apply]
theorem pay40_apply : k0_pay40 (k0_pay14 a) (k0_pay15 q d e l k cr v) (ix3 (0 : Fin 1) c x)
    = (a (ix3 (0 : Fin 1) c x) : EReal) + ∑ r : Fin 512, Ideal.exp (sc q l k cr r c) * dsc d e v r c * (q (ix2 r x) : EReal) := by
  pointwise [k0_pay40, k0_pay14, k0_pay15, pay12_apply]

/-! The diagonal tile, its probabilities given. -/

theorem pay46_apply : k0_pay46 d e P (k0_pay45 v) (ix2 r c) = (P (ix2 r c) : EReal) * dsc d e v r c := by
  pointwise [k0_pay46, k0_pay45, dsc]
theorem pay53_apply : k0_pay53 d e P v (ix2 r c) = (P (ix2 r c) : EReal) * dsc d e v r c := by
  pointwise [k0_pay53, dsc]
theorem pay47_apply : k0_pay47 d e b (k0_pay42 k) P (k0_pay45 v) (ix2 r x)
    = (b (ix2 r x) : EReal) + ∑ c : Fin 512, (P (ix2 r c) : EReal) * dsc d e v r c * (k (ix3 (0 : Fin 1) c x) : EReal) := by
  pointwise [k0_pay47, pay46_apply, k0_pay42]
theorem pay54_apply : k0_pay54 d e b (k0_pay49 k) P v (ix2 r x)
    = (b (ix2 r x) : EReal) + ∑ c : Fin 512, (P (ix2 r c) : EReal) * dsc d e v r c * (k (ix3 (0 : Fin 1) c x) : EReal) := by
  pointwise [k0_pay54, pay53_apply, k0_pay49]
theorem pay48_apply : k0_pay48 q d e P (k0_pay45 v) a (ix3 (0 : Fin 1) c x)
    = (a (ix3 (0 : Fin 1) c x) : EReal) + ∑ r : Fin 512, (P (ix2 r c) : EReal) * dsc d e v r c * (q (ix2 r x) : EReal) := by
  pointwise [k0_pay48, pay46_apply]
theorem pay55_apply : k0_pay55 q d e P v a (ix3 (0 : Fin 1) c x)
    = (a (ix3 (0 : Fin 1) c x) : EReal) + ∑ r : Fin 512, (P (ix2 r c) : EReal) * dsc d e v r c * (q (ix2 r x) : EReal) := by
  pointwise [k0_pay55, pay53_apply]
theorem pay52_apply : k0_pay52 d P (k0_pay51 a) (ix3 (0 : Fin 1) c x)
    = (a (ix3 (0 : Fin 1) c x) : EReal) + ∑ r : Fin 512, (P (ix2 r c) : EReal) * (d (ix2 r x) : EReal) := by
  pointwise [k0_pay52, k0_pay51]
theorem pay44_apply (w w' : BitVec 32) (w'' : BitVec 1) : k0_pay44 w q d l w' w'' k cr a (ix3 (0 : Fin 1) c x)
    = (a (ix3 (0 : Fin 1) c x) : EReal) + ∑ r : Fin 512, (k0_pay43 w q l w' w'' k cr (ix2 r c) : EReal) * (d (ix2 r x) : EReal) := by
  pointwise [k0_pay44]
end

/-! The mask's words: on the diagonal tile the key `c` is seen by the query `r` when `c ≤ r`. -/

theorem w125_eq (i : Fin 4) : w125 (Scf.iv 0#32 1#32 i.val) = BitVec.ofNat 32 (512 * i.val) := by revert i; decide
theorem row_eq (i : Fin 4) : Scalar.addi (Scalar.muli (Scf.iv 0#32 1#32 i.val) 512#32) 0#32 = BitVec.ofNat 32 (512 * i.val) := by revert i; decide
theorem mask_word (i : Fin 4) (r c : Fin 512) :
    IntOp.cmpi .sle (IntOp.addi (w125 (Scf.iv 0#32 1#32 i.val)) (BitVec.ofNat 32 c.val))
      (IntOp.addi (Scalar.addi (Scalar.muli (Scf.iv 0#32 1#32 i.val) 512#32) 0#32) (BitVec.ofNat 32 r.val)) = if c.val ≤ r.val then 1#1 else 0#1 := by
  rw [w125_eq, row_eq]
  have hi := i.isLt; have hr := r.isLt; have hc := c.isLt
  have e1 : IntOp.addi (BitVec.ofNat 32 (512 * i.val)) (BitVec.ofNat 32 c.val) = BitVec.ofNat 32 (512 * i.val + c.val) := (BitVec.ofNat_add _ _).symm
  have e2 : IntOp.addi (BitVec.ofNat 32 (512 * i.val)) (BitVec.ofNat 32 r.val) = BitVec.ofNat 32 (512 * i.val + r.val) := (BitVec.ofNat_add _ _).symm
  rw [e1, e2]
  have t1 : (BitVec.ofNat 32 (512 * i.val + c.val)).toInt = ((512 * i.val + c.val : ℕ) : ℤ) := by
    rw [BitVec.toInt_eq_toNat_of_lt] <;> rw [BitVec.toNat_ofNat] <;> omega
  have t2 : (BitVec.ofNat 32 (512 * i.val + r.val)).toInt = ((512 * i.val + r.val : ℕ) : ℤ) := by
    rw [BitVec.toInt_eq_toNat_of_lt] <;> rw [BitVec.toNat_ofNat] <;> omega
  show BitVec.ofBool (BitVec.sle _ _) = _
  rw [BitVec.sle, t1, t2]
  by_cases h : c.val ≤ r.val
  · rw [if_pos h, decide_eq_true (by omega)]; rfl
  · rw [if_neg h, decide_eq_false (by omega)]; rfl

theorem mask_named : (Named.named κ "mask" 0xF149F2CA#32 : Ideal .f32) = (⊥ : EReal) := rfl

theorem bot_sub' (x : EReal) : (⊥ : EReal) - x = ⊥ := by rw [sub_eq_add_neg, EReal.bot_add]

theorem diag0_apply (I : Ins Ideal) (i : Fin 4) (r c : Fin 512) :
    diag0 I i (ix2 r c) = if c.val ≤ r.val then Ideal.exp (sc (k0_pay30 (tile I.qh 0 i)) (k0_pay36 (lcol I.lse 0 i)) (tile I.kh 0 i) (crow I.cr 0 i) r c) else 0 := by
  unfold diag0
  pointwise [k0_pay43, k0_pay42, sc]
  have := mask_word i r c
  unfold w125 at this
  rw [this]
  by_cases h : c.val ≤ r.val
  · rw [if_pos h, if_pos h]; rfl
  · rw [if_neg h, if_neg h]
    show Ideal.exp ((⊥ : EReal) - _) = 0
    rw [bot_sub']; rfl

theorem diag1_apply (I : Ins Ideal) (i : Fin 4) (r c : Fin 512) :
    diag1 I i (ix2 r c) = if c.val ≤ r.val then Ideal.exp (sc (k0_pay31 (tile I.qh 1 i)) (k0_pay37 (lcol I.lse 1 i)) (tile I.kh 1 i) (crow I.cr 1 i) r c) else 0 := by
  unfold diag1
  pointwise [k0_pay50, k0_pay49, sc]
  rw [mask_word i r c]
  by_cases h : c.val ≤ r.val
  · rw [if_pos h, if_pos h]; rfl
  · rw [if_neg h, if_neg h]
    show Ideal.exp ((⊥ : EReal) - _) = 0
    rw [bot_sub']; rfl

/-! The changes of shape. -/

section
variable (t : Vec Ideal S1x512x128 .bf16) (u : Vec Ideal S1x512x1 .f32) (y z : FVec Ideal S512x64 .f32) (b : FVec Ideal S512x128 .f32)
  (A : Vec Ideal S1x2048x64 .f32) (B : Vec Ideal S2048x1 .f32) (C : Vec Ideal S1x2048x1 .f32) (r : Fin 512) (R : Fin 2048) (x : Fin 128) (d : Fin 64)

theorem pay30_apply : k0_pay30 t (ix2 r x) = t (ix3 (0 : Fin 1) r x) := by pointwise [k0_pay30]
theorem pay31_apply : k0_pay31 t (ix2 r x) = t (ix3 (0 : Fin 1) r x) := by pointwise [k0_pay31]
theorem pay32_apply : k0_pay32 t (ix2 r x) = t (ix3 (0 : Fin 1) r x) := by pointwise [k0_pay32]
theorem pay33_apply : k0_pay33 t (ix2 r x) = t (ix3 (0 : Fin 1) r x) := by pointwise [k0_pay33]
theorem pay34_apply : k0_pay34 y z (ix2 r (0 : Fin 1)) = ∑ d : Fin 64, (y (ix2 r d) : EReal) * (z (ix2 r d) : EReal) := by pointwise [k0_pay34]
theorem pay35_apply : k0_pay35 y z (ix2 r (0 : Fin 1)) = ∑ d : Fin 64, (y (ix2 r d) : EReal) * (z (ix2 r d) : EReal) := by pointwise [k0_pay35]
theorem pay36_apply : k0_pay36 u (ix2 r (0 : Fin 1)) = u (ix3 (0 : Fin 1) r (0 : Fin 1)) := by pointwise [k0_pay36]
theorem pay37_apply : k0_pay37 u (ix2 r (0 : Fin 1)) = u (ix3 (0 : Fin 1) r (0 : Fin 1)) := by pointwise [k0_pay37]
theorem pay38_apply : (k0_pay38 (F := Ideal)) (ix2 r x) = (0 : EReal) := by pointwise [k0_pay38]
theorem pay39_apply : (k0_pay39 (F := Ideal)) (ix2 r x) = (0 : EReal) := by pointwise [k0_pay39]
theorem pay67_apply (h : Fin 2) : (k0_pay67 (F := Ideal)) (ix3 h R x) = (0 : EReal) := by pointwise [k0_pay67]
theorem pay68_apply (h : Fin 2) : (k0_pay68 (F := Ideal)) (ix3 h R x) = (0 : EReal) := by pointwise [k0_pay68]
/-- An eighth. -/
def eighth : EReal := ((1 / 8 : ℝ) : EReal)
theorem eighth_word : Ideal.ofBits .f32 0x3E000000#32 = eighth := by
  unfold eighth
  simp [Ideal.ofBits, Ideal.ieee]
  rw [← EReal.coe_mul]
  norm_num
theorem pay56_apply : k0_pay56 b (ix2 r d) = (b (ix2 r (⟨d.val, by omega⟩ : Fin 128)) : EReal) * eighth := by
  pointwise [k0_pay56]
  rw [eighth_word]
theorem pay57_apply : k0_pay57 b (ix2 r (0 : Fin 1)) = b (ix2 r (64 : Fin 128)) := by pointwise [k0_pay57]; try rfl
theorem pay70_apply : k0_pay70 b (ix2 r (0 : Fin 1)) = b (ix2 r (64 : Fin 128)) := by pointwise [k0_pay70]; try rfl
theorem pay69_apply (v56 : FVec Ideal S512x128 .bf16) (v72 : FVec Ideal S512x1 .f32) (v181 : FVec Ideal S512x128 .bf16) (v201 : FVec Ideal S512x512 .f32) :
    k0_pay69 (k0_pay58 v56 v72 b v181 v201 t) (ix2 r d) = (k0_pay54 v56 v72 b v181 v201 t (ix2 r (⟨d.val, by omega⟩ : Fin 128)) : EReal) * eighth := by
  pointwise [k0_pay58, k0_pay69]
  rw [eighth_word]
theorem pay71_apply : k0_pay71 A (ix2 R d) = A (ix3 (0 : Fin 1) R d) := by pointwise [k0_pay71]
theorem pay72_apply : k0_pay72 A (ix2 R d) = A (ix3 (0 : Fin 1) R d) := by pointwise [k0_pay72]
theorem pay74_apply : k0_pay74 A (ix2 R d) = A (ix3 (0 : Fin 1) R d) := by pointwise [k0_pay74]
theorem pay75_apply : k0_pay75 A (ix2 R d) = A (ix3 (0 : Fin 1) R d) := by pointwise [k0_pay75]
theorem pay73_apply : k0_pay73 B C (ix3 (0 : Fin 1) R (0 : Fin 1)) = (B (ix2 R (0 : Fin 1)) : EReal) - (C (ix3 (0 : Fin 1) R (0 : Fin 1)) : EReal) := by pointwise [k0_pay73]
theorem pay76_apply : k0_pay1 (k0_pay76 B C) (ix3 (0 : Fin 1) R (0 : Fin 1)) = (B (ix2 R (0 : Fin 1)) : EReal) - (C (ix3 (0 : Fin 1) R (0 : Fin 1)) : EReal) := by pointwise [k0_pay76, k0_pay1]
end

/-! Staging: 64 lanes of data, then the marked lane. -/

section
variable (y : Vec Ideal S256x64 .f32) (r : Fin 256) (x : Fin 128)
theorem eq_word (n k : ℕ) (hn : n < 64) (hk : k < 64) (a b : EReal) :
    Scalar.select (IntOp.cmpi .eq (BitVec.ofNat 32 n) (BitVec.ofNat 32 k)) a b = if n = k then a else b := by
  by_cases h : n = k
  · subst h; rw [if_pos rfl]
    have : IntOp.cmpi .eq (BitVec.ofNat 32 n) (BitVec.ofNat 32 n) = 1#1 := by
      show BitVec.ofBool (decide _) = _
      rw [decide_eq_true rfl]; rfl
    rw [this]; rfl
  · rw [if_neg h]
    have : IntOp.cmpi .eq (BitVec.ofNat 32 n) (BitVec.ofNat 32 k) = 0#1 := by
      show BitVec.ofBool (decide _) = _
      rw [decide_eq_false]; · rfl
      intro e
      have := congrArg BitVec.toNat e
      rw [BitVec.toNat_ofNat, BitVec.toNat_ofNat] at this
      omega
    rw [this]; rfl

theorem pay59_apply : k0_pay59 y (ix3 (0 : Fin 1) r x) = if h : x.val < 64 then (y (ix2 r ⟨x.val, h⟩) : EReal) * eighth else if x.val = 65 then 1 else 0 := by
  pointwise [k0_pay59]
  rw [eighth_word]
  split
  · rfl
  · rename_i h
    rw [eq_word _ 1 (by omega) (by omega)]
    exact if_congr (by omega) rfl rfl
theorem pay60_apply : k0_pay60 y (ix3 (0 : Fin 1) r x) = if h : x.val < 64 then (y (ix2 r ⟨x.val, h⟩) : EReal) * eighth else if x.val = 65 then 1 else 0 := by
  pointwise [k0_pay60]
  rw [eighth_word]
  split
  · rfl
  · rename_i h
    rw [eq_word _ 1 (by omega) (by omega)]
    exact if_congr (by omega) rfl rfl
theorem pay61_apply : k0_pay61 y (ix3 (0 : Fin 1) r x) = if h : x.val < 64 then (y (ix2 r ⟨x.val, h⟩) : EReal) else if x.val = 64 then 1 else 0 := by
  pointwise [k0_pay61]
  skip
  split
  · rfl
  · rename_i h
    rw [eq_word _ 0 (by omega) (by omega)]
    exact if_congr (by omega) rfl rfl
theorem pay62_apply : k0_pay62 y (ix3 (0 : Fin 1) r x) = if h : x.val < 64 then (y (ix2 r ⟨x.val, h⟩) : EReal) else if x.val = 64 then 1 else 0 := by
  pointwise [k0_pay62]
  skip
  split
  · rfl
  · rename_i h
    rw [eq_word _ 0 (by omega) (by omega)]
    exact if_congr (by omega) rfl rfl
theorem pay63_apply : k0_pay63 y (ix3 (0 : Fin 1) r x) = if h : x.val < 64 then (y (ix2 r ⟨x.val, h⟩) : EReal) else 0 := by
  pointwise [k0_pay63]
theorem pay64_apply : k0_pay64 y (ix3 (0 : Fin 1) r x) = if h : x.val < 64 then (y (ix2 r ⟨x.val, h⟩) : EReal) else 0 := by
  pointwise [k0_pay64]
theorem pay65_apply : k0_pay65 y (ix3 (0 : Fin 1) r x) = if h : x.val < 64 then (y (ix2 r ⟨x.val, h⟩) : EReal) else 0 := by
  pointwise [k0_pay65]
theorem pay66_apply : k0_pay66 y (ix3 (0 : Fin 1) r x) = if h : x.val < 64 then (y (ix2 r ⟨x.val, h⟩) : EReal) else 0 := by
  pointwise [k0_pay66]
end

end Cert.KernelIdeal.Fox
-- ==== Proof.KernelIdeal.Closed.lean ====
module

public import proofs.«01_k».proof.Proof.KernelIdeal.Pay

/-!
# The sweep over the tiles, in closed form

Over the extended reals a masked entry has probability zero and cotangent zero, so each accumulator is a sum over all
the queries or all the keys, whatever tile they are met in. No array needs to be finite for this.
-/

@[expose] public section
set_option maxRecDepth 16384

noncomputable section
namespace Cert.KernelIdeal.Fox
open Idealize.ShloMosaic Idealize.ShloMosaic.VecWindow
open Cert.KernelIdeal Cert.KernelIdeal.Gen

/-! ## Reading windows -/

/-- Row `n` of 2048. -/
def row (n : ℕ) : Fin 2048 := ⟨n % 2048, Nat.mod_lt _ (by decide)⟩
theorem row_val {n : ℕ} (h : n < 2048) : (row n).val = n := Nat.mod_eq_of_lt h
/-- Lane `d` of head `h` among 128. -/
def lane (h : Fin 2) (d : Fin 64) : Fin 128 := ⟨64 * h.val + d.val, by omega⟩

section
variable {e : EltTy} (h : Fin 2) (j : Fin 4) (r : Fin 512) (x : Fin 128) (d : Fin 64)

theorem tile_apply (X : Vec Ideal S2x2048x128 e) : tile X h j (ix3 (0 : Fin 1) r x) = X (ix3 h (row (512 * j.val + r.val)) x) := by
  unfold tile window
  refine congrArg X (funext fun a => Fin.ext ?_)
  match a with
  | ⟨0, _⟩ => show h.val + 1 * 0 = h.val; omega
  | ⟨1, _⟩ => show 512 * j.val + 1 * r.val = (row (512 * j.val + r.val)).val; rw [row_val (by omega)]; omega
  | ⟨2, _⟩ => show 0 + 1 * x.val = x.val; omega
theorem crow_apply (X : Vec Ideal S1x2x2048 .f32) : crow X h j (ix3 (0 : Fin 1) (0 : Fin 1) r) = X (ix3 (0 : Fin 1) h (row (512 * j.val + r.val))) := by
  unfold crow window
  refine congrArg X (funext fun a => Fin.ext ?_)
  match a with
  | ⟨0, _⟩ => rfl
  | ⟨1, _⟩ => show h.val + 1 * 0 = h.val; omega
  | ⟨2, _⟩ => show 512 * j.val + 1 * r.val = (row (512 * j.val + r.val)).val; rw [row_val (by omega)]; omega
theorem lcol_apply (X : Vec Ideal S1x2048x2 .f32) : lcol X h j (ix3 (0 : Fin 1) r (0 : Fin 1)) = X (ix3 (0 : Fin 1) (row (512 * j.val + r.val)) h) := by
  unfold lcol window
  refine congrArg X (funext fun a => Fin.ext ?_)
  match a with
  | ⟨0, _⟩ => rfl
  | ⟨1, _⟩ => show 512 * j.val + 1 * r.val = (row (512 * j.val + r.val)).val; rw [row_val (by omega)]; omega
  | ⟨2, _⟩ => show h.val + 1 * 0 = h.val; omega
theorem half_apply (X : Vec Ideal S2048x128 e) : half X h j (ix2 r d) = X (ix2 (row (512 * j.val + r.val)) (lane h d)) := by
  unfold half window
  refine congrArg X (funext fun a => Fin.ext ?_)
  match a with
  | ⟨0, _⟩ => show 512 * j.val + 1 * r.val = (row (512 * j.val + r.val)).val; rw [row_val (by omega)]; omega
  | ⟨1, _⟩ => show 64 * h.val + 1 * d.val = 64 * h.val + d.val; omega
theorem quart_apply (X : Vec Ideal S2048x128 e) (k : Fin 8) (s : Fin 256) : quart X h k (ix2 s d) = X (ix2 (row (256 * k.val + s.val)) (lane h d)) := by
  unfold quart window
  refine congrArg X (funext fun a => Fin.ext ?_)
  match a with
  | ⟨0, _⟩ => show 256 * k.val + 1 * s.val = (row (256 * k.val + s.val)).val; rw [row_val (by omega)]; omega
  | ⟨1, _⟩ => show 64 * h.val + 1 * d.val = 64 * h.val + d.val; omega

/-- Row `u`'s place in its tile. -/
def inTile (u : Fin 2048) : Fin 512 := ⟨u.val % 512, Nat.mod_lt _ (by decide)⟩

theorem setTile_apply (X : Vec Ideal S2x2048x128 e) (w : Vec Ideal S1x512x128 e) (h' : Fin 2) (u : Fin 2048) :
    setTile X h j w (ix3 h' u x) = if h' = h ∧ u.val / 512 = j.val then w (ix3 (0 : Fin 1) (inTile u) x) else X (ix3 h' u x) := by
  unfold setTile
  by_cases c : h' = h ∧ u.val / 512 = j.val
  · rw [if_pos c]
    obtain ⟨rfl, hu⟩ := c
    exact put_in (s := S2x2048x128) X ![h'.val, 512 * j.val, 0] S1x512x128.size w (ix3 h' u x) (ix3 (0 : Fin 1) (inTile u) x) (fun a => match a with
      | ⟨0, _⟩ => by show h'.val = h'.val + 0; omega
      | ⟨1, _⟩ => by show u.val = 512 * j.val + u.val % 512; omega
      | ⟨2, _⟩ => by show x.val = 0 + x.val; omega)
  · rw [if_neg c]
    by_cases hh : h' = h
    · subst hh
      have hu : u.val / 512 ≠ j.val := fun e => c ⟨rfl, e⟩
      exact put_out (s := S2x2048x128) X ![h'.val, 512 * j.val, 0] S1x512x128.size w (ix3 h' u x) (1 : Fin 3)
        (by show u.val < 512 * j.val ∨ 512 * j.val + 512 ≤ u.val; omega)
    · have : h'.val ≠ h.val := fun e => hh (Fin.ext e)
      exact put_out (s := S2x2048x128) X ![h.val, 512 * j.val, 0] S1x512x128.size w (ix3 h' u x) (0 : Fin 3)
        (by show h'.val < h.val ∨ h.val + 1 ≤ h'.val; omega)

theorem setTile2_apply (X : Vec Ideal S2x2048x128 e) (w0 w1 : Vec Ideal S1x512x128 e) (u : Fin 2048) :
    setTile (setTile X 0 j w0) 1 j w1 (ix3 h u x)
      = if u.val / 512 = j.val then (if h = 0 then w0 (ix3 (0 : Fin 1) (inTile u) x) else w1 (ix3 (0 : Fin 1) (inTile u) x)) else X (ix3 h u x) := by
  rw [setTile_apply, setTile_apply]
  by_cases hu : u.val / 512 = j.val
  · rw [if_pos hu]
    match h with
    | 0 => rw [if_neg (by simp), if_pos ⟨rfl, hu⟩, if_pos rfl]
    | 1 => rw [if_pos ⟨rfl, hu⟩, if_neg (by simp)]
  · rw [if_neg (fun c => hu c.2), if_neg (fun c => hu c.2), if_neg hu]

theorem row_inTile (u : Fin 2048) (hu : u.val / 512 = j.val) : row (512 * j.val + (inTile u).val) = u :=
  Fin.ext (by rw [row_val (by show 512 * j.val + u.val % 512 < 2048; omega)]; show 512 * j.val + u.val % 512 = u.val; omega)
end

/-! ## The block's probabilities and score gradients -/

variable (I : Ins Ideal)

def Sx (h : Fin 2) (t u : Fin 2048) : EReal :=
  (∑ x : Fin 128, (I.qh (ix3 h t x) : EReal) * (I.kh (ix3 h u x) : EReal)) - (I.cr (ix3 (0 : Fin 1) h u) : EReal) - (I.lse (ix3 (0 : Fin 1) t h) : EReal)
def Px (h : Fin 2) (t u : Fin 2048) : EReal := if u.val ≤ t.val then Ideal.exp (Sx I h t u) else 0
def Dx (h : Fin 2) (t : Fin 2048) : EReal := ∑ d : Fin 64, (I.d (ix2 t (lane h d)) : EReal) * (I.o (ix2 t (lane h d)) : EReal)
def Gx (h : Fin 2) (t u : Fin 2048) : EReal :=
  Px I h t u * ((∑ x : Fin 128, (I.dh (ix3 h t x) : EReal) * (I.vh (ix3 h u x) : EReal)) - Dx I h t)

theorem Px_zero {h : Fin 2} {t u : Fin 2048} (c : t.val < u.val) : Px I h t u = 0 := if_neg (by omega)
theorem Gx_zero {h : Fin 2} {t u : Fin 2048} (c : t.val < u.val) : Gx I h t u = 0 := by unfold Gx; rw [Px_zero I c, zero_mul]

variable (i j : Fin 4) (r c : Fin 512)

theorem score0 : sc (k0_pay30 (tile I.qh 0 i)) (k0_pay36 (lcol I.lse 0 i)) (tile I.kh 0 j) (crow I.cr 0 j) r c = Sx I 0 (row (512 * i.val + r.val)) (row (512 * j.val + c.val)) := by
  simp only [sc, Sx, pay30_apply, pay36_apply, tile_apply, crow_apply, lcol_apply]
theorem score1 : sc (k0_pay31 (tile I.qh 1 i)) (k0_pay37 (lcol I.lse 1 i)) (tile I.kh 1 j) (crow I.cr 1 j) r c = Sx I 1 (row (512 * i.val + r.val)) (row (512 * j.val + c.val)) := by
  simp only [sc, Sx, pay31_apply, pay37_apply, tile_apply, crow_apply, lcol_apply]
theorem dsc0 : dsc (k0_pay32 (tile I.dh 0 i)) (k0_pay34 (half I.d 0 i) (half I.o 0 i)) (tile I.vh 0 j) r c
    = (∑ x : Fin 128, (I.dh (ix3 0 (row (512 * i.val + r.val)) x) : EReal) * (I.vh (ix3 0 (row (512 * j.val + c.val)) x) : EReal)) - Dx I 0 (row (512 * i.val + r.val)) := by
  simp only [dsc, Dx, pay32_apply, pay34_apply, tile_apply, half_apply]
theorem dsc1 : dsc (k0_pay33 (tile I.dh 1 i)) (k0_pay35 (half I.d 1 i) (half I.o 1 i)) (tile I.vh 1 j) r c
    = (∑ x : Fin 128, (I.dh (ix3 1 (row (512 * i.val + r.val)) x) : EReal) * (I.vh (ix3 1 (row (512 * j.val + c.val)) x) : EReal)) - Dx I 1 (row (512 * i.val + r.val)) := by
  simp only [dsc, Dx, pay33_apply, pay35_apply, tile_apply, half_apply]

theorem Px_below (h : Fin 2) (hj : j.val < i.val) : Px I h (row (512 * i.val + r.val)) (row (512 * j.val + c.val)) = Ideal.exp (Sx I h (row (512 * i.val + r.val)) (row (512 * j.val + c.val))) :=
  if_pos (by rw [row_val (by omega), row_val (by omega)]; omega)
theorem diag0_eq : diag0 I i (ix2 r c) = Px I 0 (row (512 * i.val + r.val)) (row (512 * i.val + c.val)) := by
  rw [diag0_apply, score0]; unfold Px
  exact if_congr (by rw [row_val (by omega), row_val (by omega)]; omega) rfl rfl
theorem diag1_eq : diag1 I i (ix2 r c) = Px I 1 (row (512 * i.val + r.val)) (row (512 * i.val + c.val)) := by
  rw [diag1_apply, score1]; unfold Px
  exact if_congr (by rw [row_val (by omega), row_val (by omega)]; omega) rfl rfl

/-! ## A row of tiles -/

/-- What the queries of tile `i` add to the key and value accumulators. -/
def addK (i : ℕ) (h : Fin 2) (u : Fin 2048) (x : Fin 128) : EReal :=
  ∑ r : Fin 512, Gx I h (row (512 * i + r.val)) u * (I.qh (ix3 h (row (512 * i + r.val)) x) : EReal)
def addV (i : ℕ) (h : Fin 2) (u : Fin 2048) (x : Fin 128) : EReal :=
  ∑ r : Fin 512, Px I h (row (512 * i + r.val)) u * (I.dh (ix3 h (row (512 * i + r.val)) x) : EReal)
/-- What the keys of tile `j` add to the accumulator of query `t`. -/
def addQ (j : ℕ) (h : Fin 2) (t : Fin 2048) (x : Fin 128) : EReal :=
  ∑ c : Fin 512, Gx I h t (row (512 * j + c.val)) * (I.kh (ix3 h (row (512 * j + c.val)) x) : EReal)

def stOf (i : Fin 4) (A : Acc Ideal × Acc Ideal) (n : ℕ) : (FVec Ideal S512x128 .f32 × FVec Ideal S512x128 .f32) × Acc Ideal × Acc Ideal :=
  st6 (k0_pay30 (tile I.qh 0 i)) (k0_pay31 (tile I.qh 1 i)) (k0_pay32 (tile I.dh 0 i)) (k0_pay33 (tile I.dh 1 i))
    (k0_pay34 (half I.d 0 i) (half I.o 0 i)) (k0_pay35 (half I.d 1 i) (half I.o 1 i)) (k0_pay36 (lcol I.lse 0 i)) (k0_pay37 (lcol I.lse 1 i))
    I.cr I.kh I.vh ((k0_pay38, k0_pay39), A) n

theorem stOf_eq (A : Acc Ideal × Acc Ideal) : ∀ n : ℕ, n ≤ i.val →
    (∀ r x, ((stOf I i A n).1.1 (ix2 r x) : EReal) = ∑ j ∈ Finset.range n, addQ I j 0 (row (512 * i.val + r.val)) x)
    ∧ (∀ r x, ((stOf I i A n).1.2 (ix2 r x) : EReal) = ∑ j ∈ Finset.range n, addQ I j 1 (row (512 * i.val + r.val)) x)
    ∧ (∀ h u x, ((stOf I i A n).2.1 (ix3 h u x) : EReal) = (A.1 (ix3 h u x) : EReal) + if u.val / 512 < n then addK I i.val h u x else 0)
    ∧ (∀ h u x, ((stOf I i A n).2.2 (ix3 h u x) : EReal) = (A.2 (ix3 h u x) : EReal) + if u.val / 512 < n then addV I i.val h u x else 0)
  | 0, _ => ⟨fun r x => by simp only [stOf, st6, Finset.range_zero, Finset.sum_empty]; exact pay38_apply r x,
      fun r x => by simp only [stOf, st6, Finset.range_zero, Finset.sum_empty]; exact pay39_apply r x,
      fun h u x => by rw [if_neg (by omega), add_zero]; rfl, fun h u x => by rw [if_neg (by omega), add_zero]; rfl⟩
  | n + 1, hn => by
    have hlt : n < 4 := by omega
    obtain ⟨h1, h2, h3, h4⟩ := stOf_eq A n (by omega)
    have e : stOf I i A (n + 1) = step6 (k0_pay30 (tile I.qh 0 i)) (k0_pay31 (tile I.qh 1 i)) (k0_pay32 (tile I.dh 0 i)) (k0_pay33 (tile I.dh 1 i))
        (k0_pay34 (half I.d 0 i) (half I.o 0 i)) (k0_pay35 (half I.d 1 i) (half I.o 1 i)) (k0_pay36 (lcol I.lse 0 i)) (k0_pay37 (lcol I.lse 1 i))
        I.cr I.kh I.vh ⟨n, hlt⟩ (stOf I i A n) := dif_pos hlt
    have hb : ∀ (h : Fin 2) (r c : Fin 512), Px I h (row (512 * i.val + r.val)) (row (512 * n + c.val)) = Ideal.exp (Sx I h (row (512 * i.val + r.val)) (row (512 * n + c.val))) :=
      fun h r c => Px_below I i ⟨n, hlt⟩ r c h hn
    rw [e]
    generalize stOf I i A n = s at h1 h2 h3 h4
    unfold step6
    refine ⟨fun r x => ?_, fun r x => ?_, fun h u x => ?_, fun h u x => ?_⟩
    · show (k0_pay6 (F := Ideal) _ _ _ _ _ _ _ _ (ix2 r x) : EReal) = _
      rw [pay6_apply, h1, Finset.sum_range_succ]
      simp only [score0, dsc0, tile_apply, addQ, Gx, hb]
    · show (k0_pay13 (F := Ideal) _ _ _ _ _ _ _ _ (ix2 r x) : EReal) = _
      rw [pay13_apply, h2, Finset.sum_range_succ]
      simp only [score1, dsc1, tile_apply, addQ, Gx, hb]
    · show (setTile (setTile s.2.1 0 ⟨n, hlt⟩ _) 1 ⟨n, hlt⟩ _ (ix3 h u x) : EReal) = _
      rw [setTile2_apply]
      by_cases hu : u.val / 512 = n
      · rw [if_pos hu, if_pos (show u.val / 512 < n + 1 by omega)]
        have hr := row_inTile ⟨n, hlt⟩ u hu
        have hb' := fun (h : Fin 2) (r : Fin 512) => hb h r (inTile u)
        simp only at hr
        match h with
        | 0 =>
          rw [if_pos rfl, pay8_apply]
          simp only [score0, dsc0, tile_apply, pay30_apply, addK, Gx, hr] at hb' ⊢
          simp only [hb', h3, if_neg (show ¬ u.val / 512 < n by omega), add_zero]
        | 1 =>
          rw [if_neg (show ¬ (1 : Fin 2) = 0 by decide), pay40_apply]
          simp only [score1, dsc1, tile_apply, pay31_apply, addK, Gx, hr] at hb' ⊢
          simp only [hb', h3, if_neg (show ¬ u.val / 512 < n by omega), add_zero]
      · rw [if_neg hu, h3]
        exact congrArg _ (if_congr (by omega) rfl rfl)
    · show (setTile (setTile s.2.2 0 ⟨n, hlt⟩ _) 1 ⟨n, hlt⟩ _ (ix3 h u x) : EReal) = _
      rw [setTile2_apply]
      by_cases hu : u.val / 512 = n
      · rw [if_pos hu, if_pos (show u.val / 512 < n + 1 by omega)]
        have hr := row_inTile ⟨n, hlt⟩ u hu
        have hb' := fun (h : Fin 2) (r : Fin 512) => hb h r (inTile u)
        simp only at hr
        match h with
        | 0 =>
          rw [if_pos rfl, pay4_apply]
          simp only [score0, tile_apply, pay32_apply, addV, hr] at hb' ⊢
          simp only [hb', h4, if_neg (show ¬ u.val / 512 < n by omega), add_zero]
        | 1 =>
          rw [if_neg (show ¬ (1 : Fin 2) = 0 by decide), pay11_apply]
          simp only [score1, tile_apply, pay33_apply, addV, hr] at hb' ⊢
          simp only [hb', h4, if_neg (show ¬ u.val / 512 < n by omega), add_zero]
      · rw [if_neg hu, h4]
        exact congrArg _ (if_congr (by omega) rfl rfl)

theorem left_eq (A : Acc Ideal × Acc Ideal) : left I i A = stOf I i A i.val := rfl

/-- A key after the query sees none of it. -/
theorem addK_zero (h : Fin 2) (u : Fin 2048) (x : Fin 128) (hu : i.val < u.val / 512) : addK I i.val h u x = 0 := by
  unfold addK
  refine Finset.sum_eq_zero fun r _ => ?_
  rw [Gx_zero I (by rw [row_val (by omega)]; omega), zero_mul]
theorem addV_zero (h : Fin 2) (u : Fin 2048) (x : Fin 128) (hu : i.val < u.val / 512) : addV I i.val h u x = 0 := by
  unfold addV
  refine Finset.sum_eq_zero fun r _ => ?_
  rw [Px_zero I (by rw [row_val (by omega)]; omega), zero_mul]
theorem addQ_zero (n : ℕ) (hn : n < 4) (h : Fin 2) (t : Fin 2048) (x : Fin 128) (ht : t.val / 512 < n) : addQ I n h t x = 0 := by
  unfold addQ
  refine Finset.sum_eq_zero fun c _ => ?_
  rw [Gx_zero I (by rw [row_val (by omega)]; omega), zero_mul]

theorem rowAcc_eq (A : Acc Ideal × Acc Ideal) :
    (∀ h u x, ((rowAcc I i A).1 (ix3 h u x) : EReal) = (A.1 (ix3 h u x) : EReal) + addK I i.val h u x)
    ∧ (∀ h u x, ((rowAcc I i A).2 (ix3 h u x) : EReal) = (A.2 (ix3 h u x) : EReal) + addV I i.val h u x) := by
  obtain ⟨-, -, h3, h4⟩ := stOf_eq I i A i.val le_rfl
  unfold rowAcc
  rw [left_eq]
  generalize stOf I i A i.val = s at h3 h4
  refine ⟨fun h u x => ?_, fun h u x => ?_⟩
  · show (setTile (setTile s.2.1 0 i _) 1 i _ (ix3 h u x) : EReal) = _
    rw [setTile2_apply]
    by_cases hu : u.val / 512 = i.val
    · rw [if_pos hu]
      have hr := row_inTile i u hu
      match h with
      | 0 =>
        rw [if_pos rfl, pay48_apply]
        simp only [diag0_eq, dsc0, tile_apply, pay30_apply, addK, Gx, hr, h3, if_neg (show ¬ u.val / 512 < i.val by omega), add_zero]
      | 1 =>
        rw [if_neg (show ¬ (1 : Fin 2) = 0 by decide), pay55_apply]
        simp only [diag1_eq, dsc1, tile_apply, pay31_apply, addK, Gx, hr, h3, if_neg (show ¬ u.val / 512 < i.val by omega), add_zero]
    · rw [if_neg hu, h3]
      by_cases hl : u.val / 512 < i.val
      · rw [if_pos hl]
      · rw [if_neg hl, addK_zero I i h u x (by omega)]
  · show (setTile (setTile s.2.2 0 i _) 1 i _ (ix3 h u x) : EReal) = _
    rw [setTile2_apply]
    by_cases hu : u.val / 512 = i.val
    · rw [if_pos hu]
      have hr := row_inTile i u hu
      match h with
      | 0 =>
        rw [if_pos rfl, pay44_apply]
        have hd := fun r => diag0_eq I i r (inTile u)
        unfold diag0 at hd
        simp only [hd, tile_apply, pay32_apply, addV, hr, h4, if_neg (show ¬ u.val / 512 < i.val by omega), add_zero]
      | 1 =>
        rw [if_neg (show ¬ (1 : Fin 2) = 0 by decide), pay52_apply]
        simp only [diag1_eq, tile_apply, pay33_apply, addV, hr, h4, if_neg (show ¬ u.val / 512 < i.val by omega), add_zero]
    · rw [if_neg hu, h4]
      by_cases hl : u.val / 512 < i.val
      · rw [if_pos hl]
      · rw [if_neg hl, addV_zero I i h u x (by omega)]

theorem accs_eq : ∀ n : ℕ, n ≤ 4 →
    (∀ h u x, ((accs I n).1 (ix3 h u x) : EReal) = ∑ i ∈ Finset.range n, addK I i h u x)
    ∧ (∀ h u x, ((accs I n).2 (ix3 h u x) : EReal) = ∑ i ∈ Finset.range n, addV I i h u x)
  | 0, _ => ⟨fun h u x => by rw [Finset.range_zero, Finset.sum_empty]; exact pay67_apply u x h,
      fun h u x => by rw [Finset.range_zero, Finset.sum_empty]; exact pay68_apply u x h⟩
  | n + 1, hn => by
    have hlt : n < 4 := by omega
    obtain ⟨h1, h2⟩ := accs_eq n (by omega)
    have e : accs I (n + 1) = rowAcc I ⟨n, hlt⟩ (accs I n) := dif_pos hlt
    obtain ⟨g1, g2⟩ := rowAcc_eq I ⟨n, hlt⟩ (accs I n)
    rw [e]
    exact ⟨fun h u x => by rw [g1, h1, Finset.sum_range_succ], fun h u x => by rw [g2, h2, Finset.sum_range_succ]⟩

/-- Four tiles of 512 rows are the 2048 rows. -/
theorem sum_tiles (f : Fin 2048 → EReal) : ∑ i ∈ Finset.range 4, ∑ r : Fin 512, f (row (512 * i + r.val)) = ∑ t : Fin 2048, f t := by
  rw [Fin.sum_univ_tiles 4 512 rfl f, Finset.sum_range]
  refine Finset.sum_congr rfl fun i _ => Finset.sum_congr rfl fun r _ => congrArg f (Fin.ext ?_)
  show (row (512 * i.val + r.val)).val = i.val * 512 + r.val
  rw [row_val (by omega)]; omega

theorem keyAcc_eq (h : Fin 2) (u : Fin 2048) (x : Fin 128) :
    ((accs I 4).1 (ix3 h u x) : EReal) = ∑ t : Fin 2048, Gx I h t u * (I.qh (ix3 h t x) : EReal) := by
  rw [(accs_eq I 4 le_rfl).1]; exact sum_tiles fun t => Gx I h t u * (I.qh (ix3 h t x) : EReal)
theorem valAcc_eq (h : Fin 2) (u : Fin 2048) (x : Fin 128) :
    ((accs I 4).2 (ix3 h u x) : EReal) = ∑ t : Fin 2048, Px I h t u * (I.dh (ix3 h t x) : EReal) := by
  rw [(accs_eq I 4 le_rfl).2]; exact sum_tiles fun t => Px I h t u * (I.dh (ix3 h t x) : EReal)

theorem addQ_sum (h : Fin 2) (x : Fin 128) :
    (∑ j ∈ Finset.range i.val, addQ I j h (row (512 * i.val + r.val)) x) + addQ I i.val h (row (512 * i.val + r.val)) x
      = ∑ u : Fin 2048, Gx I h (row (512 * i.val + r.val)) u * (I.kh (ix3 h u x) : EReal) := by
  rw [← Finset.sum_range_succ, ← sum_tiles (fun u => Gx I h (row (512 * i.val + r.val)) u * (I.kh (ix3 h u x) : EReal))]
  refine Finset.sum_subset (Finset.range_subset_range.mpr (by omega)) fun n hn hn' => ?_
  have h1 : n < 4 := Finset.mem_range.mp hn
  have h2 : ¬ n < i.val + 1 := fun c => hn' (Finset.mem_range.mpr c)
  exact addQ_zero I n h1 h _ x (by rw [row_val (by omega)]; omega)

theorem rowQ0_eq (A : Acc Ideal × Acc Ideal) (x : Fin 128) :
    (rowQ0 I i A (ix2 r x) : EReal) = ∑ u : Fin 2048, Gx I 0 (row (512 * i.val + r.val)) u * (I.kh (ix3 0 u x) : EReal) := by
  rw [← addQ_sum]
  unfold rowQ0
  rw [left_eq, pay47_apply, (stOf_eq I i A i.val le_rfl).1]
  simp only [diag0_eq, dsc0, tile_apply, addQ, Gx]
theorem rowQ1_eq (A : Acc Ideal × Acc Ideal) (x : Fin 128) :
    (rowQ1 I i A (ix2 r x) : EReal) = ∑ u : Fin 2048, Gx I 1 (row (512 * i.val + r.val)) u * (I.kh (ix3 1 u x) : EReal) := by
  rw [← addQ_sum]
  unfold rowQ1
  rw [left_eq, pay54_apply, (stOf_eq I i A i.val le_rfl).2.1]
  simp only [diag1_eq, dsc1, tile_apply, addQ, Gx]

/-! ## The blocks handed back -/

theorem split_row (t : Fin 2048) : row (512 * (t.val / 512) + t.val % 512) = t :=
  Fin.ext (by rw [row_val (by omega)]; omega)

theorem dqF_apply (h : Fin 2) (t : Fin 2048) (d : Fin 64) :
    (dqF I (ix2 t (lane h d)) : EReal) = (∑ u : Fin 2048, Gx I h t u * (I.kh (ix3 h u (⟨d.val, by omega⟩ : Fin 128)) : EReal)) * eighth := by
  have e := split_row t
  match h with
  | 0 =>
    have hl : (lane 0 d).val < 64 := by show 64 * 0 + d.val < 64; omega
    have hd : (⟨64 * 0 + d.val, hl⟩ : Fin 64) = d := Fin.ext (show 64 * 0 + d.val = d.val by omega)
    refine (dif_pos hl).trans ?_
    show (k0_pay56 (F := Ideal) (rowQ0 I ⟨t.val / 512, _⟩ (accs I (t.val / 512))) (ValueIdx.ix2 (⟨t.val % 512, _⟩ : Fin 512) (⟨64 * 0 + d.val, hl⟩ : Fin 64)) : EReal) = _
    rw [hd, ← ix2_eq_valueIdx, pay56_apply, rowQ0_eq]
    simp only [e]
  | 1 =>
    have hl : ¬ (lane 1 d).val < 64 := by show ¬ 64 * 1 + d.val < 64; omega
    have hd : (⟨64 * 1 + d.val - 64, by omega⟩ : Fin 64) = d := Fin.ext (show 64 * 1 + d.val - 64 = d.val by omega)
    refine (dif_neg hl).trans ?_
    show (k0_pay69 (F := Ideal) (rowD1 I ⟨t.val / 512, _⟩ (accs I (t.val / 512))) (ValueIdx.ix2 (⟨t.val % 512, _⟩ : Fin 512) (⟨64 * 1 + d.val - 64, _⟩ : Fin 64)) : EReal) = _
    unfold rowD1
    rw [hd, ← ix2_eq_valueIdx, pay69_apply]
    have := rowQ1_eq I ⟨t.val / 512, by omega⟩ ⟨t.val % 512, by omega⟩ (accs I (t.val / 512)) ⟨d.val, by omega⟩
    unfold rowQ1 at this
    simp only [e] at this
    rw [← this]

theorem rsF_apply (h : Fin 2) (t : Fin 2048) :
    (rsF I (ix2 t h) : EReal) = ∑ u : Fin 2048, Gx I h t u * (I.kh (ix3 h u (64 : Fin 128)) : EReal) := by
  have e := split_row t
  match h with
  | 0 =>
    refine (if_pos rfl).trans ?_
    show (k0_pay57 (F := Ideal) (rowQ0 I ⟨t.val / 512, _⟩ (accs I (t.val / 512))) (ValueIdx.ix2 (⟨t.val % 512, _⟩ : Fin 512) (0 : Fin 1)) : EReal) = _
    rw [← ix2_eq_valueIdx, pay57_apply, rowQ0_eq]
    simp only [e]
  | 1 =>
    refine (if_neg (show ¬ (1 : ℕ) = 0 by decide)).trans ?_
    show (k0_pay70 (F := Ideal) (rowQ1 I ⟨t.val / 512, _⟩ (accs I (t.val / 512))) (ValueIdx.ix2 (⟨t.val % 512, _⟩ : Fin 512) (0 : Fin 1)) : EReal) = _
    rw [← ix2_eq_valueIdx, pay70_apply, rowQ1_eq]
    simp only [e]

theorem lanes_apply (X : Acc Ideal) (h : Fin 2) (t : Fin 2048) (d : Fin 64) : lanes X h (ix3 (0 : Fin 1) t d) = X (ix3 h t (⟨d.val, by omega⟩ : Fin 128)) := by
  unfold lanes window
  refine congrArg X (funext fun a => Fin.ext ?_)
  match a with
  | ⟨0, _⟩ => show h.val + 1 * 0 = h.val; omega
  | ⟨1, _⟩ => show 0 + 1 * t.val = t.val; omega
  | ⟨2, _⟩ => show 0 + 1 * d.val = d.val; omega
theorem lane65_apply (X : Acc Ideal) (h : Fin 2) (t : Fin 2048) : lane65 X h (ix3 (0 : Fin 1) t (0 : Fin 1)) = X (ix3 h t (65 : Fin 128)) := by
  unfold lane65 window
  refine congrArg X (funext fun a => Fin.ext ?_)
  match a with
  | ⟨0, _⟩ => show h.val + 1 * 0 = h.val; omega
  | ⟨1, _⟩ => show 0 + 1 * t.val = t.val; omega
  | ⟨2, _⟩ => rfl
theorem rcol_apply (X : Vec Ideal S2048x2 .f32) (h : Fin 2) (t : Fin 2048) : rcol X h (ix2 t (0 : Fin 1)) = X (ix2 t h) := by
  unfold rcol window
  refine congrArg X (funext fun a => Fin.ext ?_)
  match a with
  | ⟨0, _⟩ => show 0 + 1 * t.val = t.val; omega
  | ⟨1, _⟩ => show h.val + 1 * 0 = h.val; omega

theorem pair64_apply (a b : Vec Ideal S2048x64 .bf16) (h : Fin 2) (t : Fin 2048) (d : Fin 64) :
    pair64 a b (ix2 t (lane h d)) = if h = 0 then a (ix2 t d) else b (ix2 t d) := by
  match h with
  | 0 =>
    have hl : (lane 0 d).val < 64 := by show 64 * 0 + d.val < 64; omega
    refine (dif_pos hl).trans ?_
    rw [if_pos rfl]
    show a (ValueIdx.ix2 t (⟨64 * 0 + d.val, hl⟩ : Fin 64)) = _
    rw [← ix2_eq_valueIdx]
    exact congrArg a (congrArg₂ ix2 rfl (Fin.ext (show 64 * 0 + d.val = d.val by omega)))
  | 1 =>
    have hl : ¬ (lane 1 d).val < 64 := by show ¬ 64 * 1 + d.val < 64; omega
    refine (dif_neg hl).trans ?_
    rw [if_neg (show ¬ (1 : Fin 2) = 0 by decide)]
    show b (ValueIdx.ix2 t (⟨64 * 1 + d.val - 64, _⟩ : Fin 64)) = _
    rw [← ix2_eq_valueIdx]
    exact congrArg b (congrArg₂ ix2 rfl (Fin.ext (show 64 * 1 + d.val - 64 = d.val by omega)))

theorem dkF_apply (h : Fin 2) (u : Fin 2048) (d : Fin 64) :
    (dkF I (ix2 u (lane h d)) : EReal) = ∑ t : Fin 2048, Gx I h t u * (I.qh (ix3 h t (⟨d.val, by omega⟩ : Fin 128)) : EReal) := by
  unfold dkF
  rw [pair64_apply, ← keyAcc_eq]
  match h with
  | 0 => rw [if_pos rfl, pay71_apply, lanes_apply]
  | 1 => rw [if_neg (show ¬ (1 : Fin 2) = 0 by decide), pay74_apply, lanes_apply]
theorem dvF_apply (h : Fin 2) (u : Fin 2048) (d : Fin 64) :
    (dvF I (ix2 u (lane h d)) : EReal) = ∑ t : Fin 2048, Px I h t u * (I.dh (ix3 h t (⟨d.val, by omega⟩ : Fin 128)) : EReal) := by
  unfold dvF
  rw [pair64_apply, ← valAcc_eq]
  match h with
  | 0 => rw [if_pos rfl, pay72_apply, lanes_apply]
  | 1 => rw [if_neg (show ¬ (1 : Fin 2) = 0 by decide), pay75_apply, lanes_apply]
theorem dcF_apply (h : Fin 2) (t : Fin 2048) :
    (dcF I (ix3 (0 : Fin 1) t h) : EReal) = (∑ u : Fin 2048, Gx I h t u * (I.kh (ix3 h u (64 : Fin 128)) : EReal))
      - ∑ t' : Fin 2048, Gx I h t' t * (I.qh (ix3 h t' (65 : Fin 128)) : EReal) := by
  rw [← rsF_apply, ← keyAcc_eq]
  match h with
  | 0 =>
    show (k0_pay73 (F := Ideal) (rcol (rsF I) 0) (lane65 (accs I 4).1 0) (ValueIdx.ix3 (0 : Fin 1) t (0 : Fin 1)) : EReal) = _
    rw [← ix3_eq_valueIdx, pay73_apply, rcol_apply, lane65_apply]
  | 1 =>
    show (k0_pay1 (k0_pay76 (F := Ideal) (rcol (rsF I) 1) (lane65 (accs I 4).1 1)) (ValueIdx.ix3 (0 : Fin 1) t (0 : Fin 1)) : EReal) = _
    rw [← ix3_eq_valueIdx, pay76_apply, rcol_apply, lane65_apply]

end Cert.KernelIdeal.Fox
-- ==== Proof.KernelIdeal.Block.lean ====
/-
  One grid point's two heads: where the point's blocks hold the heads' real data, the blocks the body leaves hold the heads' gradients (the formulas of
  Reference/Math.lean). The point stages queries, keys, values and cotangents in 128 lanes, 64 of data and then a marker lane each for the queries and the keys; no
  product of two staged rows sees the markers, and the two sums over a marker lane are the row and column sums of the logits' cotangents.
-/
module

public import proofs.«01_k».proof.Proof.KernelIdeal.Closed
public import proofs.«01_k».proof.Proof.KernelIdeal.Cover
public import proofs.«01_k».proof.Proof.Reference.Math

@[expose] public section
set_option maxRecDepth 16384

noncomputable section
namespace Cert.KernelIdeal.Fox
open Idealize.ShloMosaic Idealize.ShloMosaic.VecWindow
open Cert.KernelIdeal Cert.KernelIdeal.Gen

/-! ## The staged rows -/

section
variable (h : Fin 2) (t : Fin 2048) (l : Fin 128)

theorem staged_apply (p0 p1 : Vec Ideal S256x64 .f32 → FVec Ideal S1x256x128 .bf16) (x : Vec Ideal S2048x128 .f32) :
    staged p0 p1 x (ix3 h t l)
      = (if h.val = 0 then p0 (quart x 0 ⟨t.val / 256, by omega⟩) else p1 (quart x 1 ⟨t.val / 256, by omega⟩))
          (ix3 (0 : Fin 1) (⟨t.val % 256, Nat.mod_lt _ (by decide)⟩ : Fin 256) l) := by
  unfold staged
  refine congr rfl (funext fun a => ?_)
  match a with
  | 0 => rfl
  | 1 => rfl
  | 2 => rfl

theorem quart_row (x : Vec Ideal S2048x128 .f32) (d : Fin 64) :
    quart x h ⟨t.val / 256, by omega⟩ (ix2 (⟨t.val % 256, Nat.mod_lt _ (by decide)⟩ : Fin 256) d) = x (ix2 t (lane h d)) := by
  rw [quart_apply]
  congr 2
  exact Fin.ext (by rw [row_val (by show 256 * (t.val / 256) + t.val % 256 < 2048; omega)]; show 256 * (t.val / 256) + t.val % 256 = t.val; omega)

theorem stagedQ_apply (x : Vec Ideal S2048x128 .f32) :
    staged k0_pay59 k0_pay60 x (ix3 h t l) = if c : l.val < 64 then (x (ix2 t (lane h ⟨l.val, c⟩)) : EReal) * eighth else if l.val = 65 then 1 else 0 := by
  rw [staged_apply]
  match h with
  | 0 => rw [if_pos (show ((0 : Fin 2)).val = 0 from rfl), pay59_apply]; simp only [quart_row]
  | 1 => rw [if_neg (show ¬ ((1 : Fin 2)).val = 0 by decide), pay60_apply]; simp only [quart_row]
theorem stagedK_apply (x : Vec Ideal S2048x128 .f32) :
    staged k0_pay61 k0_pay62 x (ix3 h t l) = if c : l.val < 64 then (x (ix2 t (lane h ⟨l.val, c⟩)) : EReal) else if l.val = 64 then 1 else 0 := by
  rw [staged_apply]
  match h with
  | 0 => rw [if_pos (show ((0 : Fin 2)).val = 0 from rfl), pay61_apply]; simp only [quart_row]
  | 1 => rw [if_neg (show ¬ ((1 : Fin 2)).val = 0 by decide), pay62_apply]; simp only [quart_row]
theorem stagedV_apply (x : Vec Ideal S2048x128 .f32) :
    staged k0_pay63 k0_pay64 x (ix3 h t l) = if c : l.val < 64 then (x (ix2 t (lane h ⟨l.val, c⟩)) : EReal) else 0 := by
  rw [staged_apply]
  match h with
  | 0 => rw [if_pos (show ((0 : Fin 2)).val = 0 from rfl), pay63_apply]; simp only [quart_row]
  | 1 => rw [if_neg (show ¬ ((1 : Fin 2)).val = 0 by decide), pay64_apply]; simp only [quart_row]
theorem stagedD_apply (x : Vec Ideal S2048x128 .f32) :
    staged k0_pay65 k0_pay66 x (ix3 h t l) = if c : l.val < 64 then (x (ix2 t (lane h ⟨l.val, c⟩)) : EReal) else 0 := by
  rw [staged_apply]
  match h with
  | 0 => rw [if_pos (show ((0 : Fin 2)).val = 0 from rfl), pay65_apply]; simp only [quart_row]
  | 1 => rw [if_neg (show ¬ ((1 : Fin 2)).val = 0 by decide), pay66_apply]; simp only [quart_row]
end

/-- A sum over 128 lanes whose upper half is zero. -/
theorem sum_lower (f : Fin 128 → EReal) (hf : ∀ d : Fin 64, f ⟨64 + d.val, by omega⟩ = 0) : ∑ x, f x = ∑ d : Fin 64, f ⟨d.val, by omega⟩ := by
  have := Fin.sum_univ_add (a := 64) (b := 64) (fun i : Fin (64 + 64) => f i)
  refine this.trans ?_
  rw [show (∑ i : Fin 64, f (Fin.natAdd 64 i)) = 0 from Finset.sum_eq_zero fun d _ => hf d, add_zero]
  rfl

/-! ## The point's gradients -/

variable (q k v o d : Vec Ideal S2048x128 .f32) (lse : Vec Ideal S1x2048x2 .f32) (cr : Vec Ideal S1x2x2048 .f32)

/-- The point's blocks hold the two heads' data, their outputs and their saved normalisers. -/
structure BlockHolds (B : Fin 2 → Cert.Fox.Head) : Prop where
  q : ∀ h t l, q (ix2 t (lane h l)) = (((B h).q t l : ℝ) : EReal)
  k : ∀ h t l, k (ix2 t (lane h l)) = (((B h).k t l : ℝ) : EReal)
  v : ∀ h t l, v (ix2 t (lane h l)) = (((B h).v t l : ℝ) : EReal)
  o : ∀ h t l, o (ix2 t (lane h l)) = ((Cert.Fox.o (B h) t l : ℝ) : EReal)
  g : ∀ h t l, d (ix2 t (lane h l)) = (((B h).g t l : ℝ) : EReal)
  lse : ∀ h t, lse (ix3 (0 : Fin 1) t h) = ((Cert.Fox.lse (B h) t : ℝ) : EReal)
  C : ∀ h t, cr (ix3 (0 : Fin 1) h t) = (((B h).C t : ℝ) : EReal)

variable {q k v o d lse cr} {B : Fin 2 → Cert.Fox.Head} (H : BlockHolds q k v o d lse cr B) (h : Fin 2) (t u : Fin 2048) (l : Fin 64)
include H

theorem Px_eq : Px (ins q k v o d lse cr) h t u = (Cert.Fox.p (B h) t u : EReal) := by
  rw [← Cert.Fox.weight_eq]
  unfold Px Sx
  refine if_congr Iff.rfl (congrArg Ideal.exp ?_) rfl
  show (∑ x : Fin 128, (staged k0_pay59 k0_pay60 q (ix3 h t x) : EReal) * (staged k0_pay61 k0_pay62 k (ix3 h u x) : EReal)) - cr (ix3 (0 : Fin 1) h u) - lse (ix3 (0 : Fin 1) t h) = _
  rw [H.lse, H.C, sum_lower]
  · refine congrArg (fun s : EReal => s - _ - _) (Finset.sum_congr rfl fun x _ => ?_)
    rw [stagedQ_apply, stagedK_apply, dif_pos x.isLt, dif_pos x.isLt, H.q, H.k]
    rfl
  · intro x
    rw [stagedQ_apply, stagedK_apply, dif_neg (show ¬ 64 + x.val < 64 by omega), dif_neg (show ¬ 64 + x.val < 64 by omega)]
    by_cases c : 64 + x.val = 65
    · rw [if_neg (show ¬ 64 + x.val = 64 by omega), mul_zero]
    · rw [if_neg c, zero_mul]

theorem Gx_eq : Gx (ins q k v o d lse cr) h t u = (Cert.Fox.ds (B h) t u : EReal) := by
  rw [← Cert.Fox.grad_eq, ← Cert.Fox.delta_eq, ← Cert.Fox.dp_eq, ← Px_eq H]
  unfold Gx Dx
  refine congrArg (fun s : EReal => _ * s) (congrArg₂ (fun a b : EReal => a - b) ?_ ?_)
  · show (∑ x : Fin 128, (staged k0_pay65 k0_pay66 d (ix3 h t x) : EReal) * (staged k0_pay63 k0_pay64 v (ix3 h u x) : EReal)) = _
    rw [sum_lower]
    · refine Finset.sum_congr rfl fun x _ => ?_
      rw [stagedD_apply, stagedV_apply, dif_pos x.isLt, dif_pos x.isLt, H.g, H.v]
    · intro x
      rw [stagedD_apply, dif_neg (show ¬ 64 + x.val < 64 by omega), zero_mul]
  · show (∑ x : Fin 64, (d (ix2 t (lane h x)) : EReal) * (o (ix2 t (lane h x)) : EReal)) = _
    exact Finset.sum_congr rfl fun x _ => by rw [H.g, H.o]

theorem dq_block : dqF (ins q k v o d lse cr) (ix2 t (lane h l)) = (Cert.Fox.dq (B h) t l : EReal) := by
  rw [← Cert.Fox.dq_kernel]
  refine (dqF_apply _ h t l).trans (congrArg (fun s : EReal => s * eighth) (Finset.sum_congr rfl fun u _ => ?_))
  rw [Gx_eq H]
  show _ * (staged k0_pay61 k0_pay62 k (ix3 h u (⟨l.val, by omega⟩ : Fin 128)) : EReal) = _
  rw [stagedK_apply, dif_pos l.isLt, H.k]

theorem dk_block : dkF (ins q k v o d lse cr) (ix2 u (lane h l)) = (Cert.Fox.dk (B h) u l : EReal) := by
  rw [← Cert.Fox.dk_kernel]
  refine (dkF_apply _ h u l).trans (Finset.sum_congr rfl fun t _ => ?_)
  rw [Gx_eq H]
  show _ * (staged k0_pay59 k0_pay60 q (ix3 h t (⟨l.val, by omega⟩ : Fin 128)) : EReal) = _
  rw [stagedQ_apply, dif_pos l.isLt, H.q]
  rfl

theorem dv_block : dvF (ins q k v o d lse cr) (ix2 u (lane h l)) = (Cert.Fox.dv (B h) u l : EReal) := by
  rw [← Cert.Fox.dv_kernel]
  refine (dvF_apply _ h u l).trans (Finset.sum_congr rfl fun t _ => ?_)
  rw [Px_eq H]
  show _ * (staged k0_pay65 k0_pay66 d (ix3 h t (⟨l.val, by omega⟩ : Fin 128)) : EReal) = _
  rw [stagedD_apply, dif_pos l.isLt, H.g]

theorem dC_block : dcF (ins q k v o d lse cr) (ix3 (0 : Fin 1) t h) = (Cert.Fox.dC (B h) t : EReal) := by
  rw [← Cert.Fox.dC_kernel]
  refine (dcF_apply _ h t).trans (congrArg₂ (fun a b : EReal => a - b) (Finset.sum_congr rfl fun u _ => ?_) (Finset.sum_congr rfl fun t' _ => ?_))
  · rw [Gx_eq H]
    show _ * (staged k0_pay61 k0_pay62 k (ix3 h u (64 : Fin 128)) : EReal) = _
    rw [stagedK_apply, dif_neg (by decide), if_pos (by decide)]
  · rw [Gx_eq H]
    show _ * (staged k0_pay59 k0_pay60 q (ix3 h t' (65 : Fin 128)) : EReal) = _
    rw [stagedQ_apply, dif_neg (by decide), if_pos (by decide)]

end Cert.KernelIdeal.Fox
-- ==== Proof.KernelIdeal.Value.lean ====
/-
  The call's result arrays: every point's blocks hold two heads' data, the blocks it leaves hold the two heads' gradients, the eight points' blocks tile the arrays, and the
  host relays the gates' gradients by token and head. Each result is the reference's result, entry by entry.
-/
module

public import proofs.«01_k».proof.Proof.KernelIdeal.Host
public import proofs.«01_k».proof.Proof.KernelIdeal.Block
public import proofs.«01_k».proof.Proof.Gen.ReferenceIdeal.Read

@[expose] public section
set_option maxRecDepth 16384

noncomputable section
namespace Cert.KernelIdeal.Fox
open Idealize.ShloMosaic Idealize.ShloMosaic.VecWindow Idealize.SL.Sem
open Cert.KernelIdeal Cert.KernelIdeal.Gen
open Cert.Fox (Holds tok col pcol)

/-! ## Where a point's blocks lie -/

def bOf (t : Fin grid0.N) : Fin 2 := ⟨t.val / 4, by have := t.isLt; have := N_0; omega⟩
def nOf (t : Fin grid0.N) : Fin 4 := ⟨t.val % 4, Nat.mod_lt _ (by decide)⟩

theorem idx0 (t : Fin grid0.N) : win0_0.index t 0 = t.val / 4 ∧ win0_0.index t 1 = 0 + t.val % 4 := by
  rcases fin_N0 t with rfl | rfl | rfl | rfl | rfl | rfl | rfl | rfl <;> decide
theorem idx1 (t : Fin grid0.N) : win0_1.index t 0 = t.val / 4 ∧ win0_1.index t 1 = 4 + t.val % 4 := by
  rcases fin_N0 t with rfl | rfl | rfl | rfl | rfl | rfl | rfl | rfl <;> decide
theorem idx2 (t : Fin grid0.N) : win0_2.index t 0 = t.val / 4 ∧ win0_2.index t 1 = 8 + t.val % 4 := by
  rcases fin_N0 t with rfl | rfl | rfl | rfl | rfl | rfl | rfl | rfl <;> decide
theorem idx3 (t : Fin grid0.N) : win0_3.index t 0 = t.val / 4 ∧ win0_3.index t 1 = 0 + t.val % 4 := by
  rcases fin_N0 t with rfl | rfl | rfl | rfl | rfl | rfl | rfl | rfl <;> decide
theorem idx4 (t : Fin grid0.N) : win0_4.index t 0 = t.val / 4 ∧ win0_4.index t 1 = 0 + t.val % 4 := by
  rcases fin_N0 t with rfl | rfl | rfl | rfl | rfl | rfl | rfl | rfl <;> decide
theorem idx7 (t : Fin grid0.N) : win0_7.index t 0 = t.val / 4 ∧ win0_7.index t 1 = 0 + t.val % 4 := by
  rcases fin_N0 t with rfl | rfl | rfl | rfl | rfl | rfl | rfl | rfl <;> decide
theorem idx8 (t : Fin grid0.N) : win0_8.index t 0 = t.val / 4 ∧ win0_8.index t 1 = 0 + t.val % 4 := by
  rcases fin_N0 t with rfl | rfl | rfl | rfl | rfl | rfl | rfl | rfl <;> decide
theorem idx9 (t : Fin grid0.N) : win0_9.index t 0 = t.val / 4 ∧ win0_9.index t 1 = 0 + t.val % 4 := by
  rcases fin_N0 t with rfl | rfl | rfl | rfl | rfl | rfl | rfl | rfl <;> decide
theorem idx5 (t : Fin grid0.N) : win0_5.index t 0 = t.val ∧ win0_5.index t 1 = 0 ∧ win0_5.index t 2 = 0 := by
  rcases fin_N0 t with rfl | rfl | rfl | rfl | rfl | rfl | rfl | rfl <;> decide
theorem idx6 (t : Fin grid0.N) : win0_6.index t 0 = t.val ∧ win0_6.index t 1 = 0 ∧ win0_6.index t 2 = 0 := by
  rcases fin_N0 t with rfl | rfl | rfl | rfl | rfl | rfl | rfl | rfl <;> decide
theorem idx10 (t : Fin grid0.N) : win0_10.index t 0 = t.val ∧ win0_10.index t 1 = 0 ∧ win0_10.index t 2 = 0 := by
  rcases fin_N0 t with rfl | rfl | rfl | rfl | rfl | rfl | rfl | rfl <;> decide

/-! ## The blocks a point reads -/

section
variable (t : Fin grid0.N) (h : Fin 2) (s : Fin 2048) (l : Fin 64)

theorem read0 (y : Vec Ideal S4096x6144 .f32) : ((cfg0.win 0).blk t).view.read (Elt Ideal) y (ix2 s (lane h l)) = y (ix2 (tok (bOf t) s) (pcol 0 (by omega) (headOf (nOf t) h) l)) := by
  have hi := idx0 t
  rw [View.read_apply]
  refine congrArg y (funext fun a => Fin.ext ?_)
  match a with
  | 0 =>
    show win0_0.index t 0 * 2048 + 1 * s.val = t.val / 4 * 2048 + s.val
    rw [hi.1]; omega
  | 1 =>
    show win0_0.index t 1 * 128 + 1 * (64 * h.val + l.val) = 0 + ((t.val % 4 * 2 + h.val) * 64 + l.val)
    rw [hi.2]; omega
theorem read1 (y : Vec Ideal S4096x6144 .f32) : ((cfg0.win 1).blk t).view.read (Elt Ideal) y (ix2 s (lane h l)) = y (ix2 (tok (bOf t) s) (pcol 512 (by omega) (headOf (nOf t) h) l)) := by
  have hi := idx1 t
  rw [View.read_apply]
  refine congrArg y (funext fun a => Fin.ext ?_)
  match a with
  | 0 =>
    show win0_1.index t 0 * 2048 + 1 * s.val = t.val / 4 * 2048 + s.val
    rw [hi.1]; omega
  | 1 =>
    show win0_1.index t 1 * 128 + 1 * (64 * h.val + l.val) = 512 + ((t.val % 4 * 2 + h.val) * 64 + l.val)
    rw [hi.2]; omega
theorem read2 (y : Vec Ideal S4096x6144 .f32) : ((cfg0.win 2).blk t).view.read (Elt Ideal) y (ix2 s (lane h l)) = y (ix2 (tok (bOf t) s) (pcol 1024 (by omega) (headOf (nOf t) h) l)) := by
  have hi := idx2 t
  rw [View.read_apply]
  refine congrArg y (funext fun a => Fin.ext ?_)
  match a with
  | 0 =>
    show win0_2.index t 0 * 2048 + 1 * s.val = t.val / 4 * 2048 + s.val
    rw [hi.1]; omega
  | 1 =>
    show win0_2.index t 1 * 128 + 1 * (64 * h.val + l.val) = 1024 + ((t.val % 4 * 2 + h.val) * 64 + l.val)
    rw [hi.2]; omega
theorem read3 (y : Vec Ideal S4096x512 .f32) : ((cfg0.win 3).blk t).view.read (Elt Ideal) y (ix2 s (lane h l)) = y (ix2 (tok (bOf t) s) (col (headOf (nOf t) h) l)) := by
  have hi := idx3 t
  rw [View.read_apply]
  refine congrArg y (funext fun a => Fin.ext ?_)
  match a with
  | 0 =>
    show win0_3.index t 0 * 2048 + 1 * s.val = t.val / 4 * 2048 + s.val
    rw [hi.1]; omega
  | 1 =>
    show win0_3.index t 1 * 128 + 1 * (64 * h.val + l.val) = ((t.val % 4 * 2 + h.val) * 64 + l.val)
    rw [hi.2]; omega
theorem read4 (y : Vec Ideal S4096x512 .f32) : ((cfg0.win 4).blk t).view.read (Elt Ideal) y (ix2 s (lane h l)) = y (ix2 (tok (bOf t) s) (col (headOf (nOf t) h) l)) := by
  have hi := idx4 t
  rw [View.read_apply]
  refine congrArg y (funext fun a => Fin.ext ?_)
  match a with
  | 0 =>
    show win0_4.index t 0 * 2048 + 1 * s.val = t.val / 4 * 2048 + s.val
    rw [hi.1]; omega
  | 1 =>
    show win0_4.index t 1 * 128 + 1 * (64 * h.val + l.val) = ((t.val % 4 * 2 + h.val) * 64 + l.val)
    rw [hi.2]; omega
theorem read7 (y : Vec Ideal S4096x512 .bf16) : ((cfg0.win 7).blk t).view.read (Elt Ideal) y (ix2 s (lane h l)) = y (ix2 (tok (bOf t) s) (col (headOf (nOf t) h) l)) := by
  have hi := idx7 t
  rw [View.read_apply]
  refine congrArg y (funext fun a => Fin.ext ?_)
  match a with
  | 0 =>
    show win0_7.index t 0 * 2048 + 1 * s.val = t.val / 4 * 2048 + s.val
    rw [hi.1]; omega
  | 1 =>
    show win0_7.index t 1 * 128 + 1 * (64 * h.val + l.val) = ((t.val % 4 * 2 + h.val) * 64 + l.val)
    rw [hi.2]; omega
theorem read8 (y : Vec Ideal S4096x512 .bf16) : ((cfg0.win 8).blk t).view.read (Elt Ideal) y (ix2 s (lane h l)) = y (ix2 (tok (bOf t) s) (col (headOf (nOf t) h) l)) := by
  have hi := idx8 t
  rw [View.read_apply]
  refine congrArg y (funext fun a => Fin.ext ?_)
  match a with
  | 0 =>
    show win0_8.index t 0 * 2048 + 1 * s.val = t.val / 4 * 2048 + s.val
    rw [hi.1]; omega
  | 1 =>
    show win0_8.index t 1 * 128 + 1 * (64 * h.val + l.val) = ((t.val % 4 * 2 + h.val) * 64 + l.val)
    rw [hi.2]; omega
theorem read9 (y : Vec Ideal S4096x512 .bf16) : ((cfg0.win 9).blk t).view.read (Elt Ideal) y (ix2 s (lane h l)) = y (ix2 (tok (bOf t) s) (col (headOf (nOf t) h) l)) := by
  have hi := idx9 t
  rw [View.read_apply]
  refine congrArg y (funext fun a => Fin.ext ?_)
  match a with
  | 0 =>
    show win0_9.index t 0 * 2048 + 1 * s.val = t.val / 4 * 2048 + s.val
    rw [hi.1]; omega
  | 1 =>
    show win0_9.index t 1 * 128 + 1 * (64 * h.val + l.val) = ((t.val % 4 * 2 + h.val) * 64 + l.val)
    rw [hi.2]; omega
theorem read5 (y : Vec Ideal S8x2048x2 .f32) : ((cfg0.win 5).blk t).view.read (Elt Ideal) y (ix3 (0 : Fin 1) s h) = y (ix3 (pairOf (bOf t) (nOf t)) s h) := by
  have hi := idx5 t
  rw [View.read_apply]
  refine congrArg y (funext fun a => Fin.ext ?_)
  match a with
  | 0 =>
    show win0_5.index t 0 * 1 + 1 * 0 = t.val / 4 * 4 + t.val % 4
    rw [hi.1]; omega
  | 1 =>
    show win0_5.index t 1 * 2048 + 1 * s.val = s.val
    rw [hi.2.1]; omega
  | 2 =>
    show win0_5.index t 2 * 2 + 1 * h.val = h.val
    rw [hi.2.2]; omega
theorem read6 (y : Vec Ideal S8x2x2048 .f32) : ((cfg0.win 6).blk t).view.read (Elt Ideal) y (ix3 (0 : Fin 1) h s) = y (ix3 (pairOf (bOf t) (nOf t)) h s) := by
  have hi := idx6 t
  rw [View.read_apply]
  refine congrArg y (funext fun a => Fin.ext ?_)
  match a with
  | 0 =>
    show win0_6.index t 0 * 1 + 1 * 0 = t.val / 4 * 4 + t.val % 4
    rw [hi.1]; omega
  | 1 =>
    show win0_6.index t 1 * 2 + 1 * h.val = h.val
    rw [hi.2.1]; omega
  | 2 =>
    show win0_6.index t 2 * 2048 + 1 * s.val = s.val
    rw [hi.2.2]; omega
theorem read10 (y : Vec Ideal S8x2048x2 .f32) : ((cfg0.win 10).blk t).view.read (Elt Ideal) y (ix3 (0 : Fin 1) s h) = y (ix3 (pairOf (bOf t) (nOf t)) s h) := by
  have hi := idx10 t
  rw [View.read_apply]
  refine congrArg y (funext fun a => Fin.ext ?_)
  match a with
  | 0 =>
    show win0_10.index t 0 * 1 + 1 * 0 = t.val / 4 * 4 + t.val % 4
    rw [hi.1]; omega
  | 1 =>
    show win0_10.index t 1 * 2048 + 1 * s.val = s.val
    rw [hi.2.1]; omega
  | 2 =>
    show win0_10.index t 2 * 2 + 1 * h.val = h.val
    rw [hi.2.2]; omega

variable (m : (ℓ : Loc nD τ sig) → Buf (Elt Ideal) ℓ) (c : Dev nD)

theorem iblk0 : iblk m c 0 t = ((cfg0.win 0).blk t).view.read (Elt Ideal) (a0 m c) :=
  congrArg (((cfg0.win 0).blk t).view.read (Elt Ideal)) (V_arg0 m c)
theorem iblk1 : iblk m c 1 t = ((cfg0.win 1).blk t).view.read (Elt Ideal) (a0 m c) :=
  congrArg (((cfg0.win 1).blk t).view.read (Elt Ideal)) (V_arg0 m c)
theorem iblk2 : iblk m c 2 t = ((cfg0.win 2).blk t).view.read (Elt Ideal) (a0 m c) :=
  congrArg (((cfg0.win 2).blk t).view.read (Elt Ideal)) (V_arg0 m c)
theorem iblk3 : iblk m c 3 t = ((cfg0.win 3).blk t).view.read (Elt Ideal) (hO (a0 m c) (a1 m c)) :=
  congrArg (((cfg0.win 3).blk t).view.read (Elt Ideal)) (V_o m c)
theorem iblk4 : iblk m c 4 t = ((cfg0.win 4).blk t).view.read (Elt Ideal) (a2 m c) :=
  congrArg (((cfg0.win 4).blk t).view.read (Elt Ideal)) (V_arg2 m c)
theorem iblk5 : iblk m c 5 t = ((cfg0.win 5).blk t).view.read (Elt Ideal) (hLse (a0 m c) (a1 m c)) :=
  congrArg (((cfg0.win 5).blk t).view.read (Elt Ideal)) (V_lse m c)
theorem iblk6 : iblk m c 6 t = ((cfg0.win 6).blk t).view.read (Elt Ideal) (hCr (a1 m c)) :=
  congrArg (((cfg0.win 6).blk t).view.read (Elt Ideal)) (V_cr m c)

/-- A point's blocks hold its two heads. -/
theorem blockHolds {A : Fin 2 → Fin 8 → Cert.Fox.Head} (H : Holds (a0 m c) (a1 m c) (a2 m c) A) :
    BlockHolds (iblk m c 0 t) (iblk m c 1 t) (iblk m c 2 t) (iblk m c 3 t) (iblk m c 4 t) (iblk m c 5 t) (iblk m c 6 t) fun h => A (bOf t) (headOf (nOf t) h) where
  q h s l := (congrFun (iblk0 t m c) _).trans ((read0 t h s l _).trans (H.q _ _ _ _))
  k h s l := (congrFun (iblk1 t m c) _).trans ((read1 t h s l _).trans (H.k _ _ _ _))
  v h s l := (congrFun (iblk2 t m c) _).trans ((read2 t h s l _).trans (H.v _ _ _ _))
  o h s l := (congrFun (iblk3 t m c) _).trans ((read3 t h s l _).trans (hO_apply H _ _ _ _))
  g h s l := (congrFun (iblk4 t m c) _).trans ((read4 t h s l _).trans (H.g _ _ _ _))
  lse h s := (congrFun (iblk5 t m c) _).trans ((read5 t h s _).trans (hLse_apply H _ _ _ _))
  C h s := (congrFun (iblk6 t m c) _).trans ((read6 t h s _).trans (hCr_apply H _ _ _ _))

/-! ## The result arrays -/

theorem ix2_lane (j : S2048x128.Idx) : ∃ (s : Fin 2048) (h : Fin 2) (l : Fin 64), j = ix2 s (lane h l) := by
  have h1 : (j 1).val < 128 := (j 1).isLt
  refine ⟨j 0, ⟨(j 1).val / 64, by omega⟩, ⟨(j 1).val % 64, Nat.mod_lt _ (by decide)⟩, funext fun a => ?_⟩
  match a with
  | 0 => rfl
  | 1 => exact Fin.ext (by show (j 1).val = 64 * ((j 1).val / 64) + (j 1).val % 64; omega)
theorem ix3_gate (j : S1x2048x2.Idx) : ∃ (s : Fin 2048) (h : Fin 2), j = ix3 (0 : Fin 1) s h := by
  refine ⟨j 1, j 2, funext fun a => ?_⟩
  match a with
  | 0 => exact Subsingleton.elim (α := Fin 1) _ _
  | 1 => rfl
  | 2 => rfl

variable {A : Fin 2 → Fin 8 → Cert.Fox.Head} (H : Holds (a0 m c) (a1 m c) (a2 m c) A)

include H in
/-- Window 7's array ends at any array whose entries are the heads' gradients. -/
theorem final_dq (y : Vec Ideal S4096x512 .bf16) (hy : ∀ b h s l, y (ix2 (tok b s) (col h l)) = ((Cert.Fox.dq (A b h) s l : ℝ) : EReal)) :
    (dats m 0 c).arrAt 7 cfg0.N = y :=
  (dats m 0 c).arrAt_eq_of_cover 7 y (fun t _ => by
    show (cfg0.win 7).cut (grid0.coords t) ((dats m 0 c).after 7 t) = _
    rw [after_7]
    show dqF (insAt m c t) = _
    funext j
    obtain ⟨s, h, l, rfl⟩ := ix2_lane j
    exact (dq_block (blockHolds t m c H) h s l).trans ((hy _ _ _ _).symm.trans (read7 t h s l y).symm)) fun i => by
    have h0 : (i 0).val < 4096 := (i 0).isLt
    have h1 : (i 1).val < 512 := (i 1).isLt
    obtain ⟨t, ht⟩ : ∃ t : Fin grid0.N, t.val = (i 0).val / 2048 * 4 + (i 1).val / 128 := ⟨⟨(i 0).val / 2048 * 4 + (i 1).val / 128, by rw [N_0]; omega⟩, rfl⟩
    have hi := idx7 t
    refine ⟨t, flush0_7 t, ?_⟩
    show i ∈ ((View.whole main_v50_0).slice (win0_7.rect t)).set
    rw [View.set_slice_whole, Rect.mem_set_unit]
    intro a
    match a with
    | ⟨0, _⟩ =>
      show win0_7.index t 0 * 2048 ≤ (i 0 : Nat) ∧ (i 0 : Nat) < win0_7.index t 0 * 2048 + 2048
      rw [hi.1]; omega
    | ⟨1, _⟩ =>
      show win0_7.index t 1 * 128 ≤ (i 1 : Nat) ∧ (i 1 : Nat) < win0_7.index t 1 * 128 + 128
      rw [hi.2]; omega
include H in
/-- Window 8's array ends at any array whose entries are the heads' gradients. -/
theorem final_dk (y : Vec Ideal S4096x512 .bf16) (hy : ∀ b h s l, y (ix2 (tok b s) (col h l)) = ((Cert.Fox.dk (A b h) s l : ℝ) : EReal)) :
    (dats m 0 c).arrAt 8 cfg0.N = y :=
  (dats m 0 c).arrAt_eq_of_cover 8 y (fun t _ => by
    show (cfg0.win 8).cut (grid0.coords t) ((dats m 0 c).after 8 t) = _
    rw [after_8]
    show dkF (insAt m c t) = _
    funext j
    obtain ⟨s, h, l, rfl⟩ := ix2_lane j
    exact (dk_block (blockHolds t m c H) h s l).trans ((hy _ _ _ _).symm.trans (read8 t h s l y).symm)) fun i => by
    have h0 : (i 0).val < 4096 := (i 0).isLt
    have h1 : (i 1).val < 512 := (i 1).isLt
    obtain ⟨t, ht⟩ : ∃ t : Fin grid0.N, t.val = (i 0).val / 2048 * 4 + (i 1).val / 128 := ⟨⟨(i 0).val / 2048 * 4 + (i 1).val / 128, by rw [N_0]; omega⟩, rfl⟩
    have hi := idx8 t
    refine ⟨t, flush0_8 t, ?_⟩
    show i ∈ ((View.whole main_v50_1).slice (win0_8.rect t)).set
    rw [View.set_slice_whole, Rect.mem_set_unit]
    intro a
    match a with
    | ⟨0, _⟩ =>
      show win0_8.index t 0 * 2048 ≤ (i 0 : Nat) ∧ (i 0 : Nat) < win0_8.index t 0 * 2048 + 2048
      rw [hi.1]; omega
    | ⟨1, _⟩ =>
      show win0_8.index t 1 * 128 ≤ (i 1 : Nat) ∧ (i 1 : Nat) < win0_8.index t 1 * 128 + 128
      rw [hi.2]; omega
include H in
/-- Window 9's array ends at any array whose entries are the heads' gradients. -/
theorem final_dv (y : Vec Ideal S4096x512 .bf16) (hy : ∀ b h s l, y (ix2 (tok b s) (col h l)) = ((Cert.Fox.dv (A b h) s l : ℝ) : EReal)) :
    (dats m 0 c).arrAt 9 cfg0.N = y :=
  (dats m 0 c).arrAt_eq_of_cover 9 y (fun t _ => by
    show (cfg0.win 9).cut (grid0.coords t) ((dats m 0 c).after 9 t) = _
    rw [after_9]
    show dvF (insAt m c t) = _
    funext j
    obtain ⟨s, h, l, rfl⟩ := ix2_lane j
    exact (dv_block (blockHolds t m c H) h s l).trans ((hy _ _ _ _).symm.trans (read9 t h s l y).symm)) fun i => by
    have h0 : (i 0).val < 4096 := (i 0).isLt
    have h1 : (i 1).val < 512 := (i 1).isLt
    obtain ⟨t, ht⟩ : ∃ t : Fin grid0.N, t.val = (i 0).val / 2048 * 4 + (i 1).val / 128 := ⟨⟨(i 0).val / 2048 * 4 + (i 1).val / 128, by rw [N_0]; omega⟩, rfl⟩
    have hi := idx9 t
    refine ⟨t, flush0_9 t, ?_⟩
    show i ∈ ((View.whole main_v50_2).slice (win0_9.rect t)).set
    rw [View.set_slice_whole, Rect.mem_set_unit]
    intro a
    match a with
    | ⟨0, _⟩ =>
      show win0_9.index t 0 * 2048 ≤ (i 0 : Nat) ∧ (i 0 : Nat) < win0_9.index t 0 * 2048 + 2048
      rw [hi.1]; omega
    | ⟨1, _⟩ =>
      show win0_9.index t 1 * 128 ≤ (i 1 : Nat) ∧ (i 1 : Nat) < win0_9.index t 1 * 128 + 128
      rw [hi.2]; omega

include H in
/-- Window 10's array ends at any array whose entries are the heads' gate gradients. -/
theorem final_dc (y : Vec Ideal S8x2048x2 .f32) (hy : ∀ b n h s, y (ix3 (pairOf b n) s h) = ((Cert.Fox.dC (A b (headOf n h)) s : ℝ) : EReal)) :
    (dats m 0 c).arrAt 10 cfg0.N = y :=
  (dats m 0 c).arrAt_eq_of_cover 10 y (fun t _ => by
    show (cfg0.win 10).cut (grid0.coords t) ((dats m 0 c).after 10 t) = _
    rw [after_10]
    show dcF (insAt m c t) = _
    funext j
    obtain ⟨s, h, rfl⟩ := ix3_gate j
    exact (dC_block (blockHolds t m c H) h s).trans ((hy _ _ _ _).symm.trans (read10 t h s y).symm)) fun i => by
    have h0 : (i 0).val < 8 := (i 0).isLt
    have h1 : (i 1).val < 2048 := (i 1).isLt
    have h2 : (i 2).val < 2 := (i 2).isLt
    obtain ⟨t, ht⟩ : ∃ t : Fin grid0.N, t.val = (i 0).val := ⟨⟨(i 0).val, by rw [N_0]; omega⟩, rfl⟩
    have hi := idx10 t
    refine ⟨t, flush0_10 t, ?_⟩
    show i ∈ ((View.whole main_v50_3).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [hi.1]; omega
    | ⟨1, _⟩ =>
      show win0_10.index t 1 * 2048 ≤ (i 1 : Nat) ∧ (i 1 : Nat) < win0_10.index t 1 * 2048 + 2048
      rw [hi.2.1]; omega
    | ⟨2, _⟩ =>
      show win0_10.index t 2 * 2 ≤ (i 2 : Nat) ∧ (i 2 : Nat) < win0_10.index t 2 * 2 + 2
      rw [hi.2.2]; omega

/-! ## The gates' gradients relaid by the host -/

def relay (y : Vec Ideal S8x2048x2 .f32) : Vec Ideal S4096x8 .f32 :=
  shapeCast S4096x8 (transpose S2x2048x4x2 [0, 2, 1, 3] (shapeCast S2x4x2048x2 y shapeCasts_S8x2048x2_S2x4x2048x2) transposes_S2x4x2048x2_S2x2048x4x2_0_2_1_3)
    shapeCasts_S2x2048x4x2_S4096x8
theorem relay_apply (y : Vec Ideal S8x2048x2 .f32) (r : Fin 4096) (k : Fin 8) :
    relay y (ix2 r k) = y (ix3 (⟨r.val / 2048 * 4 + k.val / 2, by omega⟩ : Fin 8) (⟨r.val % 2048, Nat.mod_lt _ (by decide)⟩ : Fin 2048) (⟨k.val % 2, Nat.mod_lt _ (by decide)⟩ : Fin 2)) := by
  unfold relay
  pointwise

/-- The gates' gradients as the call leaves them. -/
def gates (A : Fin 2 → Fin 8 → Cert.Fox.Head) : Vec Ideal S8x2048x2 .f32 := fun i =>
  ((Cert.Fox.dC (A ⟨(i 0).val / 4, by have : (i 0).val < 8 := (i 0).isLt; omega⟩ (headOf ⟨(i 0).val % 4, Nat.mod_lt _ (by decide)⟩ (i 2))) (i 1) : ℝ) : EReal)

theorem gates_apply (b : Fin 2) (n : Fin 4) (h : Fin 2) (s : Fin 2048) : gates A (ix3 (pairOf b n) s h) = ((Cert.Fox.dC (A b (headOf n h)) s : ℝ) : EReal) := by
  have e1 : (⟨(pairOf b n).val / 4, by omega⟩ : Fin 2) = b := Fin.ext (by show (b.val * 4 + n.val) / 4 = b.val; omega)
  have e2 : (⟨(pairOf b n).val % 4, Nat.mod_lt _ (by decide)⟩ : Fin 4) = n := Fin.ext (by show (b.val * 4 + n.val) % 4 = n.val; omega)
  show ((Cert.Fox.dC (A ⟨(pairOf b n).val / 4, _⟩ (headOf ⟨(pairOf b n).val % 4, _⟩ h)) s : ℝ) : EReal) = _
  rw [e1, e2]

include H in
theorem tail_dc : (Pipeline.afterTail₀ cfgs (dats m) 0 (V0 m) [hostOps1] c main_v53 : Vec Ideal S4096x8 .f32) = relay (gates A) := by
  have e := (dats m 0 c).withArrays_arrAt sharedIn0 (V0 m c) (A_eq m c) 10
  rw [final_dc m c H (gates A) gates_apply] at e
  unfold Pipeline.afterTail₀
  rw [List.flatten_cons, List.flatten_nil, List.append_nil]
  after_reads_simp
  exact congrArg relay e

/-- Relaid, the gates' gradients are the reference's. -/
theorem relay_gates (y : Vec Ideal S4096x8 .f32) (hy : ∀ b h s, y (ix2 (tok b s) h) = ((Cert.Fox.dC (A b h) s : ℝ) : EReal)) : relay (gates A) = y := by
  funext i
  have h0 : (i 0).val < 4096 := (i 0).isLt
  have h1 : (i 1).val < 8 := (i 1).isLt
  have ei : i = ix2 (tok ⟨(i 0).val / 2048, by omega⟩ ⟨(i 0).val % 2048, Nat.mod_lt _ (by decide)⟩) (i 1 : Fin 8) := by
    funext a
    match a with
    | 0 => exact Fin.ext (by show (i 0).val = (i 0).val / 2048 * 2048 + (i 0).val % 2048; omega)
    | 1 => rfl
  have eh : headOf ⟨(i 1).val / 2, by omega⟩ ⟨(i 1).val % 2, Nat.mod_lt _ (by decide)⟩ = (i 1 : Fin 8) :=
    Fin.ext (by show (i 1).val / 2 * 2 + (i 1).val % 2 = (i 1).val; omega)
  refine Eq.trans ?_ ((hy ⟨(i 0).val / 2048, by omega⟩ (i 1) ⟨(i 0).val % 2048, Nat.mod_lt _ (by decide)⟩).symm.trans (congrArg y ei.symm))
  have ei' : i = ix2 (i 0 : Fin 4096) (i 1 : Fin 8) := by
    funext a
    match a with
    | 0 => rfl
    | 1 => rfl
  refine (congrArg (relay (gates A)) ei').trans ((relay_apply _ _ _).trans ?_)
  refine Eq.trans (gates_apply ⟨(i 0).val / 2048, by omega⟩ ⟨(i 1).val / 2, by omega⟩ ⟨(i 1).val % 2, Nat.mod_lt _ (by decide)⟩ ⟨(i 0).val % 2048, Nat.mod_lt _ (by decide)⟩) ?_
  rw [eh]

include H in
theorem results (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v50_0) = ReferenceIdeal.Read.val_main_v96 (a0 m c) (a1 m c) (a2 m c)
      ∧ r.2.mem ((c.tc : Thread nD τ).loc main_v50_1) = ReferenceIdeal.Read.val_main_v97 (a0 m c) (a1 m c) (a2 m c)
      ∧ r.2.mem ((c.tc : Thread nD τ).loc main_v50_2) = ReferenceIdeal.Read.val_main_v98 (a0 m c) (a1 m c) (a2 m c)
      ∧ r.2.mem ((c.tc : Thread nD τ).loc main_v53) = ReferenceIdeal.Read.val_main_v95 (a0 m c) (a1 m c) (a2 m c) :=
  ⟨((hr c).1 7).trans (final_dq m c H _ fun b h s l => Holds.dq_apply H b h s l),
    ((hr c).1 8).trans (final_dk m c H _ fun b h s l => Holds.dk_apply H b h s l),
    ((hr c).1 9).trans (final_dv m c H _ fun b h s l => Holds.dv_apply H b h s l),
    ((hr c).2 main_v53 (Pipeline.mem_restRefs_of main_v53 (by decide) (by decide))).trans
      ((tail_dc m c H).trans (relay_gates _ fun b h s => Holds.dC_apply H b h s))⟩
end

end Cert.KernelIdeal.Fox
-- ==== Proof.Reference.Finite.lean ====
/-
  The precondition read back: where every entry the heads are cut from is finite, the arrays hold real data.
-/
module

public import proofs.«01_k».proof.Proof.Reference.Read
public import proofs.«01_k».proof.Proof.Gen.Pre_finite
public import Idealize.ShloMosaic.Lib.ReduceAll
public import Idealize.ShloMosaic.Lib.Pointwise

@[expose] public section
set_option maxRecDepth 16384

noncomputable section
namespace Cert.Fox
open Idealize.ShloMosaic Cert.Pre_finite

theorem inf_word : Ideal.ofBits .f32 0x7F800000#32 = ⊤ := by
  simp [Ideal.ofBits, Ideal.ieee]

theorem real_of_lt {x : EReal} (h : max x (-x) < ⊤) : ((x.toReal : ℝ) : EReal) = x :=
  EReal.coe_toReal (fun e => by rw [e] at h; simp at h) (fun e => by rw [e] at h; simp at h)

theorem real_of_cmp {s : Shape} (x : Vec Ideal s .f32) (y : Vec Ideal s .f32) (i : s.Idx) (hy : (y i : EReal) = ⊤)
    (h : cmpf (F := Ideal) (φ := .f32) .olt (Host.absf (F := Ideal) (φ := .f32) x) y i = 1#1) : (((x i : EReal).toReal : ℝ) : EReal) = x i := by
  have h' : Ideal.cmp .olt (max (x i : EReal) (-(x i : EReal))) (y i) = 1#1 := h
  rw [hy] at h'
  refine real_of_lt ?_
  by_contra hn
  simp [Ideal.cmp, hn] at h'

variable (x0 : Vec Ideal Cert.Pre_finite.S4096x6144 .f32) (x1 : Vec Ideal Cert.Pre_finite.S4096x8 .f32) (x2 : Vec Ideal Cert.Pre_finite.S4096x512 .f32)

/-- The heads' real data, read off the arrays. -/
def heads (b : Fin 2) (h : Fin 8) : Head where
  q t d := (x0 (ix2 (tok b t) (pcol 0 (by omega) h d)) : EReal).toReal
  k t d := (x0 (ix2 (tok b t) (pcol 512 (by omega) h d)) : EReal).toReal
  v t d := (x0 (ix2 (tok b t) (pcol 1024 (by omega) h d)) : EReal).toReal
  g t d := (x2 (ix2 (tok b t) (col h d)) : EReal).toReal
  C t := (x1 (ix2 (tok b t) h) : EReal).toReal

instance : Subsingleton Cert.Pre_finite.S_.Idx := ⟨fun _ _ => funext fun a => a.elim0⟩

theorem holds_of_finite (h : Cert.Pre_finite.fn (F := Ideal) x0 x1 x2 = fun _ => 1#1) : Holds x0 x1 x2 (heads x0 x1 x2) := by
  have h0 := congrFun h (fun a => a.elim0)
  obtain ⟨h1, h2⟩ := IntOp.andi_eq_one.1 h0
  obtain ⟨h3, h4⟩ := IntOp.andi_eq_one.1 h1
  have p (r : Fin 4096) (n : ℕ) (hn : n ≤ 1024) (k : Fin 8) (d : Fin 64) :
      (((x0 (ix2 r (pcol n hn k d)) : EReal).toReal : ℝ) : EReal) = x0 (ix2 r (pcol n hn k d)) := by
    have e := Host.reduce_andi_all _ _ _ _ _ h3 (ix2 r (⟨n + (k.val * 64 + d.val), by omega⟩ : Fin 1536))
    have e' := real_of_cmp _ _ _ inf_word e
    have ex : (extractStridedSlice S4096x1536 ![0, 0] x0 Facts.slices_S4096x6144_S4096x1536_0_0) (ix2 r (⟨n + (k.val * 64 + d.val), by omega⟩ : Fin 1536))
        = x0 (ix2 r (pcol n hn k d)) := by
      unfold pcol
      pointwise
    beta_reduce at e'
    rw [ex] at e'
    exact e'
  have c (i : Cert.Pre_finite.S4096x8.Idx) : (((x1 i : EReal).toReal : ℝ) : EReal) = x1 i :=
    real_of_cmp _ _ _ inf_word (Host.reduce_andi_all _ _ _ _ _ h4 i)
  have g (i : Cert.Pre_finite.S4096x512.Idx) : (((x2 i : EReal).toReal : ℝ) : EReal) = x2 i :=
    real_of_cmp _ _ _ inf_word (Host.reduce_andi_all _ _ _ _ _ h2 i)
  exact ⟨fun _ _ _ _ => (p _ _ _ _ _).symm, fun _ _ _ _ => (p _ _ _ _ _).symm, fun _ _ _ _ => (p _ _ _ _ _).symm, fun _ _ _ _ => (g _).symm, fun _ _ _ => (c _).symm⟩

end Cert.Fox
-- ==== Proof.Products.Sum.lean ====
/-
  What the product calls share: a sum over 4096 taken as two halves of 2048, and the places of an axis in blocks.
-/
module

public import Idealize.ShloMosaic.PureOps.Ideal.Laws
public import Idealize.ShloMosaic.Lib.ValueIdx
public import Idealize.ShloMosaic.Lib.Pipeline.Value

@[expose] public section

noncomputable section
namespace Cert.Products
open Idealize.ShloMosaic

/-- Step `k` of half `b` of a contraction of 4096. -/
def half (b : Fin 2) (k : Fin 2048) : Fin 4096 := ⟨b.val * 2048 + k.val, by omega⟩

/-- A contraction of 4096 is the sum of its two halves. -/
theorem sum_halves (f : Fin 4096 → EReal) : (∑ k : Fin 2048, f (half 0 k)) + ∑ k : Fin 2048, f (half 1 k) = ∑ k, f k := by
  refine Eq.symm ((Fin.sum_univ_add (a := 2048) (b := 2048) (fun i : Fin (2048 + 2048) => f i)).trans ?_)
  refine congr (congrArg _ (Finset.sum_congr rfl fun k _ => congrArg f (Fin.ext ?_))) (Finset.sum_congr rfl fun k _ => congrArg f (Fin.ext ?_))
  · show k.val = 0 * 2048 + k.val
    omega
  · show 2048 + k.val = 1 * 2048 + k.val
    omega

/-- Place `r` of block `b` of an axis of 4096 in blocks of 1024. -/
def at4 (b : Fin 4) (r : Fin 1024) : Fin 4096 := ⟨b.val * 1024 + r.val, by omega⟩

/-- Place `r` of block `b` of an axis of 6144 in blocks of 1024. -/
def at6 (b : Fin 6) (r : Fin 1024) : Fin 6144 := ⟨b.val * 1024 + r.val, by omega⟩

/-- Step `k` of third `b` of a contraction of 6144. -/
def third (b : Fin 3) (k : Fin 2048) : Fin 6144 := ⟨b.val * 2048 + k.val, by omega⟩

/-- A contraction of 6144 is the sum of its three thirds. -/
theorem sum_thirds (f : Fin 6144 → EReal) :
    (∑ k : Fin 2048, f (third 0 k)) + (∑ k : Fin 2048, f (third 1 k)) + (∑ k : Fin 2048, f (third 2 k)) = ∑ k, f k := by
  refine Eq.symm ((Fin.sum_univ_add (a := 4096) (b := 2048) (fun i : Fin (4096 + 2048) => f i)).trans ?_)
  refine congr (congrArg _ ((sum_halves fun i => f (Fin.castAdd 2048 i)).symm.trans ?_)) (Finset.sum_congr rfl fun k _ => congrArg f (Fin.ext ?_))
  · refine congr (congrArg _ (Finset.sum_congr rfl fun k _ => congrArg f (Fin.ext ?_))) (Finset.sum_congr rfl fun k _ => congrArg f (Fin.ext ?_)) <;> rfl
  · show 4096 + k.val = 2 * 2048 + k.val
    omega

theorem zeros : (![0, 0] : Fin 2 → Nat) = fun _ => 0 := funext fun a => by fin_cases a <;> rfl

end Cert.Products
end
-- ==== Proof.Kernel2Ideal.Value.lean ====
/-
  The hidden layer's gradient: each of the sixteen result blocks is one product of whole rows, times twice the hidden layer's positive part, which vanishes where the
  reference's choice does.
-/
module

public import proofs.«01_k».proof.Proof.Products.Sum
public import proofs.«01_k».proof.Proof.Gen.Kernel2Ideal.Value
public import proofs.«01_k».proof.Proof.Gen.Reference2Ideal.Read
public import Idealize.ShloMosaic.Lib.Pointwise
public import Idealize.ShloMosaic.Lib.StableHlo.ReadAt

@[expose] public section
set_option maxRecDepth 16384

noncomputable section
namespace Cert.Kernel2Ideal.Product
open Idealize.ShloMosaic Idealize.ShloMosaic.Tactic Idealize.SL.Sem
open Cert.Kernel2Ideal Cert.Kernel2Ideal.Gen Cert.Products

section
variable (x y z : Vec Ideal S1024x1024 .bf16) (r q : Fin 1024)
/-- What a point leaves, over the blocks it stages. -/
theorem out_apply : (out0_3 x y z (ix2 r q) : EReal) = (∑ k : Fin 1024, (x (ix2 r k) : EReal) * (y (ix2 q k) : EReal)) * (z (ix2 r q) : EReal) := by
  unfold out0_3
  rw [View.canon_unit_zero zeros]
  simp only [View.ld_unit_zero (S := S1024x1024) zeros]
  pointwise [k0_pay1]
end

/-! ## Where a point's blocks lie -/

def iOf (t : Fin grid0.N) : Fin 4 := ⟨t.val / 4, by have := t.isLt; have := N_0; omega⟩
def jOf (t : Fin grid0.N) : Fin 4 := ⟨t.val % 4, Nat.mod_lt _ (by decide)⟩
theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel
theorem idx3 : ∀ t : Fin grid0.N, win0_3.index t 0 = t.val / 4 ∧ win0_3.index t 1 = t.val % 4 := by decide +kernel

section
variable (t : Fin grid0.N) (k : Fin 1024) (r q : Fin 1024)
theorem read0 (y : Vec Ideal S4096x1024 .bf16) : ((cfg0.win 0).blk t).view.read (Elt Ideal) y (ix2 r k) = y (ix2 (at4 (iOf t) r) k) := by
  have hi := idx0 t
  rw [View.read_apply]
  refine congrArg y (funext fun a => Fin.ext ?_)
  match a with
  | 0 =>
    show win0_0.index t 0 * 1024 + 1 * r.val = t.val / 4 * 1024 + r.val
    rw [hi.1]; omega
  | 1 =>
    show win0_0.index t 1 * 1024 + 1 * k.val = k.val
    rw [hi.2]; omega
theorem read1 (y : Vec Ideal S4096x1024 .bf16) : ((cfg0.win 1).blk t).view.read (Elt Ideal) y (ix2 q k) = y (ix2 (at4 (jOf t) q) k) := by
  have hi := idx1 t
  rw [View.read_apply]
  refine congrArg y (funext fun a => Fin.ext ?_)
  match a with
  | 0 =>
    show win0_1.index t 0 * 1024 + 1 * q.val = t.val % 4 * 1024 + q.val
    rw [hi.1]; omega
  | 1 =>
    show win0_1.index t 1 * 1024 + 1 * k.val = k.val
    rw [hi.2]; omega
theorem read2 (y : Vec Ideal S4096x4096 .bf16) : ((cfg0.win 2).blk t).view.read (Elt Ideal) y (ix2 r q) = y (ix2 (at4 (iOf t) r) (at4 (jOf t) q)) := by
  have hi := idx2 t
  rw [View.read_apply]
  refine congrArg y (funext fun a => Fin.ext ?_)
  match a with
  | 0 =>
    show win0_2.index t 0 * 1024 + 1 * r.val = t.val / 4 * 1024 + r.val
    rw [hi.1]; omega
  | 1 =>
    show win0_2.index t 1 * 1024 + 1 * q.val = t.val % 4 * 1024 + q.val
    rw [hi.2]; omega
theorem read3 (y : Vec Ideal S4096x4096 .bf16) : ((cfg0.win 3).blk t).view.read (Elt Ideal) y (ix2 r q) = y (ix2 (at4 (iOf t) r) (at4 (jOf t) q)) := by
  have hi := idx3 t
  rw [View.read_apply]
  refine congrArg y (funext fun a => Fin.ext ?_)
  match a with
  | 0 =>
    show win0_3.index t 0 * 1024 + 1 * r.val = t.val / 4 * 1024 + r.val
    rw [hi.1]; omega
  | 1 =>
    show win0_3.index t 1 * 1024 + 1 * q.val = t.val % 4 * 1024 + q.val
    rw [hi.2]; omega
end

/-! ## The arrays the call finds -/

section
variable (m : (ℓ : Loc nD τ sig) → Buf (Elt Ideal) ℓ) (c : Dev nD)
abbrev a0 : Vec Ideal S4096x4096 .f32 := m (c, Proc.devRef .tc main_arg0)
abbrev a1 : Vec Ideal S4096x1024 .f32 := m (c, Proc.devRef .tc main_arg1)
abbrev a2 : Vec Ideal S4096x1024 .f32 := m (c, Proc.devRef .tc main_arg2)

/-- Twice the positive part, as the reference writes it. -/
abbrev twice (x : Vec Ideal S4096x4096 .f32) : Vec Ideal S4096x4096 .f32 := Cert.Reference2Ideal.Read.val_main_v6 (F := Ideal) x

theorem V_0 : (V m c main_v2 : Vec Ideal S4096x1024 .bf16) = truncf (F := Ideal) (φ := .f32) .bf16 (a2 m c) bitsLt_bf16_f32 := by
  unfold Gen.V; after_reads_simp
theorem V_1 : (V m c main_v3 : Vec Ideal S4096x1024 .bf16) = truncf (F := Ideal) (φ := .f32) .bf16 (a1 m c) bitsLt_bf16_f32 := by
  unfold Gen.V; after_reads_simp
theorem V_2 : (V m c main_v6 : Vec Ideal S4096x4096 .bf16) = truncf (F := Ideal) (φ := .f32) .bf16 (twice (a0 m c)) bitsLt_bf16_f32 := by
  unfold Gen.V; after_reads_simp; rfl

variable (t : Fin grid0.N) (k : Fin 1024) (r q : Fin 1024)
theorem blk0 : (iblk m c 0 t (ix2 r k) : EReal) = a2 m c (ix2 (at4 (iOf t) r) k) :=
  (read0 t k r _).trans (congrFun (V_0 m c) _)
theorem blk1 : (iblk m c 1 t (ix2 q k) : EReal) = a1 m c (ix2 (at4 (jOf t) q) k) :=
  (read1 t k q _).trans (congrFun (V_1 m c) _)
theorem blk2 : (iblk m c 2 t (ix2 r q) : EReal) = twice (a0 m c) (ix2 (at4 (iOf t) r) (at4 (jOf t) q)) :=
  (read2 t r q _).trans (congrFun (V_2 m c) _)

/-- A block's entries. -/
theorem flushed_apply :
    ((dats m 0 c).flushed 3 t (ix2 r q) : EReal)
      = (∑ k : Fin 1024, (a2 m c (ix2 (at4 (iOf t) r) k) : EReal) * (a1 m c (ix2 (at4 (jOf t) q) k) : EReal)) * (twice (a0 m c) (ix2 (at4 (iOf t) r) (at4 (jOf t) q)) : EReal) := by
  rw [Value.flushed3 m c t]
  change (out0_3 (iblk m c 0 t) (iblk m c 1 t) (iblk m c 2 t) (ix2 r q) : EReal) = _
  rw [out_apply]
  simp only [blk0, blk1, blk2]

/-- Where an entry is not positive, twice its positive part is zero, and so is any multiple of it. -/
theorem gate (x d w : EReal) :
    Scalar.select (FloatOps.cmpf (F := Ideal) (φ := .f32) .ogt x (FloatOps.ofBits (F := Ideal) .f32 0x00000000#32))
      (d * (w * max x (FloatOps.ofBits (F := Ideal) .f32 0x00000000#32 : EReal))) (FloatOps.ofBits (F := Ideal) .f32 0x00000000#32 : EReal)
      = d * (w * max x (FloatOps.ofBits (F := Ideal) .f32 0x00000000#32 : EReal)) := by
  have hz : (FloatOps.ofBits (F := Ideal) .f32 0x00000000#32 : EReal) = 0 := Ideal.ofBits_zero_f32
  rw [hz, Ideal.cmpf_def]
  simp only [Ideal.cmp, Scalar.select_decide]
  by_cases h : (0 : EReal) < x
  · simp [h]
  · simp [h, max_eq_right (not_lt.mp h)]

/-- The reference's result at an index: where the hidden entry is not positive, twice its positive part is zero. -/
theorem ref_apply (x : Vec Ideal S4096x4096 .f32) (y z : Vec Ideal S4096x1024 .f32) (r q : Fin 4096) :
    (Cert.Reference2Ideal.Read.val_main_v12 (F := Ideal) x y z (ix2 r q) : EReal)
      = (∑ k : Fin 1024, (z (ix2 r k) : EReal) * (y (ix2 q k) : EReal)) * (twice x (ix2 r q) : EReal) := by
  have e : (Cert.Reference2Ideal.Read.val_main_v8 (F := Ideal) y z (ix2 r q) : EReal) = ∑ k : Fin 1024, (z (ix2 r k) : EReal) * (y (ix2 q k) : EReal) := by
    rw [Cert.Reference2Ideal.Read.val_main_v8_apply]
    refine Finset.sum_congr rfl fun k _ => congr (congrArg _ (congrArg z (funext fun a => ?_))) (congrArg y (funext fun a => ?_))
    · match a with | 0 => rfl | 1 => rfl
    · match a with | 0 => rfl | 1 => rfl
  rw [← e, Cert.Reference2Ideal.Read.val_main_v12_apply, Cert.Reference2Ideal.Read.val_main_v11_apply, Cert.Reference2Ideal.Read.val_main_v2_apply,
    Cert.Reference2Ideal.Read.val_main_v9_apply, Cert.Reference2Ideal.Read.val_main_v10_apply, Cert.Reference2Ideal.Read.val_main_v1_apply]
  rw [twice, Cert.Reference2Ideal.Read.val_main_v6_apply, Cert.Reference2Ideal.Read.val_main_v0_apply, Cert.Reference2Ideal.Read.val_main_call0_v0_apply,
    Cert.Reference2Ideal.Read.val_main_cst_apply, Cert.Reference2Ideal.Read.val_main_cst_2_apply, Cert.Reference2Ideal.Read.val_main_call0_cst_apply]
  exact gate _ _ _

/-- The result array is the reference's. -/
theorem result : (dats m 0 c).arrAt 3 cfg0.N = Cert.Reference2Ideal.Read.val_main_v12 (F := Ideal) (a0 m c) (a1 m c) (a2 m c) :=
  (dats m 0 c).arrAt_eq_of_cover 3 _ (fun t hf => by
    funext j
    obtain ⟨r, q, rfl⟩ : ∃ r q : Fin 1024, j = ix2 r q := ⟨j 0, j 1, funext fun a => by match a with | 0 => rfl | 1 => rfl⟩
    exact (flushed_apply m c t r q).trans ((ref_apply _ _ _ _ _).symm.trans (read3 t r q _).symm)) fun i => by
    have h0 : (i 0).val < 4096 := (i 0).isLt
    have h1 : (i 1).val < 4096 := (i 1).isLt
    obtain ⟨t, ht⟩ : ∃ t : Fin grid0.N, t.val = (i 0).val / 1024 * 4 + (i 1).val / 1024 := ⟨⟨(i 0).val / 1024 * 4 + (i 1).val / 1024, by rw [N_0]; omega⟩, rfl⟩
    have hi := idx3 t
    refine ⟨t, flush0_3 t, ?_⟩
    show i ∈ ((View.whole main_v7).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega
end

end Cert.Kernel2Ideal.Product
end
-- ==== Proof.Kernel3Ideal.Value.lean ====
/-
  The second layer's weight gradient, from the hidden layer's squared positive part: each of the four result blocks is accumulated over the two halves of the 4096 tokens,
  so its entries are the reference's sums.
-/
module

public import proofs.«01_k».proof.Proof.Products.Sum
public import proofs.«01_k».proof.Proof.Gen.Kernel3Ideal.Value
public import proofs.«01_k».proof.Proof.Gen.Reference3Ideal.Read
public import Idealize.ShloMosaic.Lib.Pointwise
public import Idealize.ShloMosaic.Lib.StableHlo.ReadAt

@[expose] public section
set_option maxRecDepth 16384

noncomputable section
namespace Cert.Kernel3Ideal.Product
open Idealize.ShloMosaic Idealize.ShloMosaic.Tactic Idealize.SL.Sem
open Cert.Kernel3Ideal Cert.Kernel3Ideal.Gen Cert.Products

/-! ## The body at a point, over the blocks it stages -/

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x y : Vec Ideal S2048x1024 .bf16) (s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

section
variable (x y : Vec Ideal S2048x1024 .bf16) (s : Vec Ideal S1024x1024 .f32) (r q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def iOf (t : Fin grid0.N) : Fin 4 := ⟨t.val / 2, by have := t.isLt; have := N_0; omega⟩
def kOf (t : Fin grid0.N) : Fin 2 := ⟨t.val % 2, Nat.mod_lt _ (by decide)⟩
theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

section
variable (t : Fin grid0.N) (k : Fin 2048) (r q : Fin 1024)
theorem read0 (y : Vec Ideal S4096x4096 .bf16) : ((cfg0.win 0).blk t).view.read (Elt Ideal) y (ix2 k r) = y (ix2 (half (kOf t) k) (at4 (iOf t) r)) := by
  have hi := idx0 t
  rw [View.read_apply]
  refine congrArg y (funext fun a => Fin.ext ?_)
  match a with
  | 0 =>
    show win0_0.index t 0 * 2048 + 1 * k.val = t.val % 2 * 2048 + k.val
    rw [hi.1]; omega
  | 1 =>
    show win0_0.index t 1 * 1024 + 1 * r.val = t.val / 2 * 1024 + r.val
    rw [hi.2]; omega
theorem read1 (y : Vec Ideal S4096x1024 .bf16) : ((cfg0.win 1).blk t).view.read (Elt Ideal) y (ix2 k q) = y (ix2 (half (kOf t) k) q) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = q.val
    rw [hi.2]; omega
theorem read2 (y : Vec Ideal S4096x1024 .bf16) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val / 2 * 1024 + r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x4096 .f32 := m (c, Proc.devRef .tc main_arg0)
abbrev a1 : Vec Ideal S4096x1024 .f32 := m (c, Proc.devRef .tc main_arg1)

/-- The hidden layer's squared positive part, as the reference writes it. -/
abbrev sq (x : Vec Ideal S4096x4096 .f32) : Vec Ideal S4096x4096 .f32 := Cert.Reference3Ideal.Read.val_main_v2 (F := Ideal) x

theorem V_0 : (V m c main_v3 : Vec Ideal S4096x4096 .bf16) = truncf (F := Ideal) (φ := .f32) .bf16 (sq (a0 m c)) bitsLt_bf16_f32 := by
  unfold Gen.V; after_reads_simp; rfl
theorem V_1 : (V m c main_v4 : Vec Ideal S4096x1024 .bf16) = truncf (F := Ideal) (φ := .f32) .bf16 (a1 m c) bitsLt_bf16_f32 := by
  unfold Gen.V; after_reads_simp

variable (t : Fin grid0.N) (k : Fin 2048) (r q : Fin 1024)
theorem blk0 : (iblk m c 0 t (ix2 k r) : EReal) = sq (a0 m c) (ix2 (half (kOf t) k) (at4 (iOf t) r)) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (sq (a0 m c) (ix2 k (at4 (iOf t) r)) : EReal) * (a1 m c (ix2 k q) : EReal) := by
  have hN := N_0
  obtain ⟨s, hs⟩ : ∃ s : Fin grid0.N, s.val = t.val - 1 := ⟨⟨t.val - 1, by have := t.isLt; omega⟩, rfl⟩
  have hj : iOf s = iOf t := Fin.ext (by show s.val / 2 = t.val / 2; omega)
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hj, hk, hk']
  exact sum_halves fun k => (sq (a0 m c) (ix2 k (at4 (iOf t) r)) : EReal) * (a1 m c (ix2 k q) : EReal)

/-- The reference's result at an index. -/
theorem ref_apply (x : Vec Ideal S4096x4096 .f32) (y : Vec Ideal S4096x1024 .f32) (r : Fin 4096) :
    (Cert.Reference3Ideal.Read.val_main_v6 (F := Ideal) x y (ix2 r q) : EReal) = ∑ k : Fin 4096, (sq x (ix2 k r) : EReal) * (y (ix2 k q) : EReal) := by
  rw [Cert.Reference3Ideal.Read.val_main_v6_apply, Cert.Reference3Ideal.Read.val_main_v5_apply, Cert.Reference3Ideal.Read.val_main_v4_apply]
  refine Finset.sum_congr rfl fun k _ => (mul_comm _ _).trans (congr (congrArg _ (congrArg (sq x) (funext fun a => ?_))) (congrArg y (funext fun a => ?_)))
  · match a with | 0 => rfl | 1 => rfl
  · match a with | 0 => rfl | 1 => rfl

/-- The result array is the reference's. -/
theorem result : (dats m 0 c).arrAt 2 cfg0.N = Cert.Reference3Ideal.Read.val_main_v6 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q ((flush0_2 t).mp hf)).trans ((ref_apply q _ _ _).symm.trans (read2 t r q _).symm)) fun i => by
    have h0 : (i 0).val < 4096 := (i 0).isLt
    have h1 : (i 1).val < 1024 := (i 1).isLt
    obtain ⟨t, ht⟩ : ∃ t : Fin grid0.N, t.val = (i 0).val / 1024 * 2 + 1 := ⟨⟨(i 0).val / 1024 * 2 + 1, by rw [N_0]; omega⟩, rfl⟩
    have hi := idx2 t
    refine ⟨t, (flush0_2 t).mpr (by omega), ?_⟩
    show i ∈ ((View.whole main_v5).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega
end

end Cert.Kernel3Ideal.Product
end
-- ==== Proof.Kernel4Ideal.Value.lean ====
/-
  The first layer's input gradient, with the residual path's scaled gradient added: each of the four result blocks is accumulated over the two halves of the 4096
  hidden entries, so its entries are the reference's sums.
-/
module

public import proofs.«01_k».proof.Proof.Products.Sum
public import proofs.«01_k».proof.Proof.Gen.Kernel4Ideal.Value
public import proofs.«01_k».proof.Proof.Gen.Reference4Ideal.Read
public import Idealize.ShloMosaic.Lib.Pointwise
public import Idealize.ShloMosaic.Lib.StableHlo.ReadAt

@[expose] public section
set_option maxRecDepth 16384

noncomputable section
namespace Cert.Kernel4Ideal.Product
open Idealize.ShloMosaic Idealize.ShloMosaic.Tactic Idealize.SL.Sem
open Cert.Kernel4Ideal Cert.Kernel4Ideal.Gen Cert.Products

/-! ## The body at a point, over the blocks it stages -/

section
variable (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) (x y : Vec Ideal S1024x2048 .bf16) (z s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 a7 h7 hc0 hc1 hc2 x y z = k0_pay2 x y := by
  unfold sout0_A_0
  rw [View.read_writes_eq_canon _ _ _ (scover0_A_0 c i a3 h3 a4 h4 a5 h5 a6 h6 a7 h7 hc0 hc1 hc2 x y z)]
  unfold kernelRun0_A
  dsimp only
  rw [View.canon_unit_zero zeros]
  simp only [View.readAt_eq_ld, h3.read_unread, h4.read_unread, View.ld_unit_zero (S := S1024x2048) zeros]

/-- A second point leaves the accumulator, its part added, plus the scaled block of the residual path. -/
theorem second (hc0 : ¬cond0_0 i) (hc1 : cond0_1 i) (hc2 : cond0_2 i) :
    out0_B_3 c i a3 h3 a4 h4 a5 h5 a6 h6 a7 h7 hc0 hc1 hc2 x y z s = k0_pay4 (k0_pay3 x y s) z := by
  unfold out0_B_3
  rw [View.read_writes_eq_canon _ _ _ (cover0_B_3 c i a3 h3 a4 h4 a5 h5 a6 h6 a7 h7 hc0 hc1 hc2 x y z s)]
  unfold kernelRun0_B
  dsimp only
  sl_unfold_words
  rw [View.canon_unit_zero zeros, View.readCov_unit_zero (S := S1024x1024) _ zeros]
  simp only [View.readAt_eq_ld, h3.read_unread, h4.read_unread, h5.read_unread, h7.read_unread, View.ld_unit_zero (S := S1024x2048) zeros, View.ld_unit_zero (S := S1024x1024) zeros]
end

/-- The residual path's scale. -/
def alpha : EReal := FloatOps.ofBits (F := Ideal) .f32 0x3FD744FD#32

section
variable (x y : Vec Ideal S1024x2048 .bf16) (z s : Vec Ideal S1024x1024 .f32) (r q : Fin 1024)
theorem pay2_apply : k0_pay2 x y (ix2 r q) = ∑ k : Fin 2048, (x (ix2 r k) : EReal) * (y (ix2 q k) : EReal) := by
  pointwise [k0_pay2, k0_pay1]
theorem pay4_apply : k0_pay4 (k0_pay3 x y s) z (ix2 r q)
    = ((s (ix2 r q) : EReal) + ∑ k : Fin 2048, (x (ix2 r k) : EReal) * (y (ix2 q k) : EReal)) + alpha * (z (ix2 r q) : EReal) := by
  pointwise [k0_pay4, k0_pay3, k0_pay1, alpha]
end

/-! ## Where a point's blocks lie -/

def iOf (t : Fin grid0.N) : Fin 4 := ⟨t.val / 2, by have := t.isLt; have := N_0; omega⟩
def kOf (t : Fin grid0.N) : Fin 2 := ⟨t.val % 2, Nat.mod_lt _ (by decide)⟩
theorem idx0 : ∀ t : Fin grid0.N, win0_0.index t 0 = t.val / 2 ∧ win0_0.index t 1 = t.val % 2 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = 0 := by decide +kernel
theorem idx3 : ∀ t : Fin grid0.N, win0_3.index t 0 = t.val / 2 ∧ win0_3.index t 1 = 0 := by decide +kernel

section
variable (t : Fin grid0.N) (k : Fin 2048) (r q : Fin 1024)
theorem read0 (y : Vec Ideal S4096x4096 .bf16) : ((cfg0.win 0).blk t).view.read (Elt Ideal) y (ix2 r k) = y (ix2 (at4 (iOf t) r) (half (kOf t) k)) := by
  have hi := idx0 t
  rw [View.read_apply]
  refine congrArg y (funext fun a => Fin.ext ?_)
  match a with
  | 0 =>
    show win0_0.index t 0 * 1024 + 1 * r.val = t.val / 2 * 1024 + r.val
    rw [hi.1]; omega
  | 1 =>
    show win0_0.index t 1 * 2048 + 1 * k.val = t.val % 2 * 2048 + k.val
    rw [hi.2]; omega
theorem read1 (y : Vec Ideal S1024x4096 .bf16) : ((cfg0.win 1).blk t).view.read (Elt Ideal) y (ix2 q k) = y (ix2 q (half (kOf t) k)) := by
  have hi := idx1 t
  rw [View.read_apply]
  refine congrArg y (funext fun a => Fin.ext ?_)
  match a with
  | 0 =>
    show win0_1.index t 0 * 1024 + 1 * q.val = q.val
    rw [hi.1]; omega
  | 1 =>
    show win0_1.index t 1 * 2048 + 1 * k.val = t.val % 2 * 2048 + k.val
    rw [hi.2]; omega
theorem read2 (y : Vec Ideal S4096x1024 .f32) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val / 2 * 1024 + r.val
    rw [hi.1]; omega
  | 1 =>
    show win0_2.index t 1 * 1024 + 1 * q.val = q.val
    rw [hi.2]; omega
theorem read3 (y : Vec Ideal S4096x1024 .f32) : ((cfg0.win 3).blk t).view.read (Elt Ideal) y (ix2 r q) = y (ix2 (at4 (iOf t) r) q) := by
  have hi := idx3 t
  rw [View.read_apply]
  refine congrArg y (funext fun a => Fin.ext ?_)
  match a with
  | 0 =>
    show win0_3.index t 0 * 1024 + 1 * r.val = t.val / 2 * 1024 + r.val
    rw [hi.1]; omega
  | 1 =>
    show win0_3.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x4096 .f32 := m (c, Proc.devRef .tc main_arg0)
abbrev a1 : Vec Ideal S1024x4096 .f32 := m (c, Proc.devRef .tc main_arg1)
abbrev a2 : Vec Ideal S4096x1024 .f32 := m (c, Proc.devRef .tc main_arg2)

theorem V_0 : (V m c main_v0 : Vec Ideal S4096x4096 .bf16) = truncf (F := Ideal) (φ := .f32) .bf16 (a0 m c) bitsLt_bf16_f32 := by
  unfold Gen.V; after_reads_simp
theorem V_1 : (V m c main_v1 : Vec Ideal S1024x4096 .bf16) = truncf (F := Ideal) (φ := .f32) .bf16 (a1 m c) bitsLt_bf16_f32 := by
  unfold Gen.V; after_reads_simp
theorem V_2 : (V m c main_arg2 : Vec Ideal S4096x1024 .f32) = a2 m c := V_main_arg2 m c

variable (t : Fin grid0.N) (k : Fin 2048) (r q : Fin 1024)
theorem blk0 : (iblk m c 0 t (ix2 r k) : EReal) = a0 m c (ix2 (at4 (iOf t) r) (half (kOf t) k)) :=
  (read0 t k r _).trans (congrFun (V_0 m c) _)
theorem blk1 : (iblk m c 1 t (ix2 q k) : EReal) = a1 m c (ix2 q (half (kOf t) k)) :=
  (read1 t k q _).trans (congrFun (V_1 m c) _)
theorem blk2 : (iblk m c 2 t (ix2 r q) : EReal) = a2 m c (ix2 (at4 (iOf t) r) q) :=
  (read2 t r q _).trans (congrFun (V_2 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the hidden entries, the residual path's added. -/
theorem flushed_apply (hf : t.val % 2 = 1) :
    ((dats m 0 c).flushed 3 t (ix2 r q) : EReal)
      = (∑ k : Fin 4096, (a0 m c (ix2 (at4 (iOf t) r) k) : EReal) * (a1 m c (ix2 q k) : EReal)) + alpha * (a2 m c (ix2 (at4 (iOf t) r) q) : EReal) := by
  have hN := N_0
  obtain ⟨s, hs⟩ : ∃ s : Fin grid0.N, s.val = t.val - 1 := ⟨⟨t.val - 1, by have := t.isLt; omega⟩, rfl⟩
  have hj : iOf s = iOf t := Fin.ext (by show s.val / 2 = t.val / 2; omega)
  have hk : kOf s = 0 := Fin.ext (by show s.val % 2 = 0; omega)
  have hk' : kOf t = 1 := Fin.ext (by show t.val % 2 = 1; omega)
  rw [Value.flushed3_B m c t (by omega) hf hf]
  change (out0_B_3 c (grid0.coords t) (ms0_0 t) (hs0_0 t) (ms0_1 t) (hs0_1 t) (ms0_2 t) (hs0_2 t) (ms0_3 t) (hs0_3 t) scM0_0 _ _ _ _ (iblk m c 0 t) (iblk m c 1 t) (iblk m c 2 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, blk2, hj, hk, hk']
  exact congrArg (· + _) (sum_halves fun k => (a0 m c (ix2 (at4 (iOf t) r) k) : EReal) * (a1 m c (ix2 q k) : EReal))

/-- The reference's result at an index. -/
theorem ref_apply (x : Vec Ideal S4096x4096 .f32) (y : Vec Ideal S1024x4096 .f32) (z : Vec Ideal S4096x1024 .f32) (r : Fin 4096) :
    (Cert.Reference4Ideal.Read.val_main_v7 (F := Ideal) x y z (ix2 r q) : EReal)
      = (∑ k : Fin 4096, (x (ix2 r k) : EReal) * (y (ix2 q k) : EReal)) + alpha * (z (ix2 r q) : EReal) := by
  rw [Cert.Reference4Ideal.Read.val_main_v7_apply, Cert.Reference4Ideal.Read.val_main_v5_apply, Cert.Reference4Ideal.Read.val_main_v6_apply,
    Cert.Reference4Ideal.Read.val_main_v4_apply]
  refine (add_comm (G := EReal) _ _).trans (congrArg (· + _) (Finset.sum_congr rfl fun k _ => congr (congrArg _ (congrArg x (funext fun a => ?_))) (congrArg y (funext fun a => ?_))))
  · match a with | 0 => rfl | 1 => rfl
  · match a with | 0 => rfl | 1 => rfl

/-- The result array is the reference's. -/
theorem result : (dats m 0 c).arrAt 3 cfg0.N = Cert.Reference4Ideal.Read.val_main_v7 (F := Ideal) (a0 m c) (a1 m c) (a2 m c) :=
  (dats m 0 c).arrAt_eq_of_cover 3 _ (fun t hf => by
    funext j
    obtain ⟨r, q, rfl⟩ : ∃ r q : Fin 1024, j = ix2 r q := ⟨j 0, j 1, funext fun a => by match a with | 0 => rfl | 1 => rfl⟩
    exact (flushed_apply m c t r q ((flush0_3 t).mp hf)).trans ((ref_apply q _ _ _ _).symm.trans (read3 t r q _).symm)) fun i => by
    have h0 : (i 0).val < 4096 := (i 0).isLt
    have h1 : (i 1).val < 1024 := (i 1).isLt
    obtain ⟨t, ht⟩ : ∃ t : Fin grid0.N, t.val = (i 0).val / 1024 * 2 + 1 := ⟨⟨(i 0).val / 1024 * 2 + 1, by rw [N_0]; omega⟩, rfl⟩
    have hi := idx3 t
    refine ⟨t, (flush0_3 t).mpr (by omega), ?_⟩
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega
end

end Cert.Kernel4Ideal.Product
end
-- ==== Proof.Kernel5Ideal.Value.lean ====
/-
  The first layer's weight gradient: each of the four result blocks is accumulated over the two halves of the 4096 tokens, so its entries are the reference's sums.
-/
module

public import proofs.«01_k».proof.Proof.Products.Sum
public import proofs.«01_k».proof.Proof.Gen.Kernel5Ideal.Value
public import proofs.«01_k».proof.Proof.Gen.Reference5Ideal.Read
public import Idealize.ShloMosaic.Lib.Pointwise
public import Idealize.ShloMosaic.Lib.StableHlo.ReadAt

@[expose] public section
set_option maxRecDepth 16384

noncomputable section
namespace Cert.Kernel5Ideal.Product
open Idealize.ShloMosaic Idealize.ShloMosaic.Tactic Idealize.SL.Sem
open Cert.Kernel5Ideal Cert.Kernel5Ideal.Gen Cert.Products

/-! ## The body at a point, over the blocks it stages -/

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x y : Vec Ideal S2048x1024 .bf16) (s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

section
variable (x y : Vec Ideal S2048x1024 .bf16) (s : Vec Ideal S1024x1024 .f32) (r q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def jOf (t : Fin grid0.N) : Fin 4 := ⟨t.val / 2, by have := t.isLt; have := N_0; omega⟩
def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = t.val / 2 := by decide +kernel
theorem idx2 : ∀ t : Fin grid0.N, win0_2.index t 0 = 0 ∧ win0_2.index t 1 = t.val / 2 := by decide +kernel

section
variable (t : Fin grid0.N) (k : Fin 2048) (r q : Fin 1024)
theorem read0 (y : Vec Ideal S4096x1024 .bf16) : ((cfg0.win 0).blk t).view.read (Elt Ideal) y (ix2 k r) = y (ix2 (half (kOf t) k) r) := by
  have hi := idx0 t
  rw [View.read_apply]
  refine congrArg y (funext fun a => Fin.ext ?_)
  match a with
  | 0 =>
    show win0_0.index t 0 * 2048 + 1 * k.val = t.val % 2 * 2048 + k.val
    rw [hi.1]; omega
  | 1 =>
    show win0_0.index t 1 * 1024 + 1 * r.val = r.val
    rw [hi.2]; omega
theorem read1 (y : Vec Ideal S4096x4096 .bf16) : ((cfg0.win 1).blk t).view.read (Elt Ideal) y (ix2 k q) = y (ix2 (half (kOf t) k) (at4 (jOf t) q)) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = t.val / 2 * 1024 + q.val
    rw [hi.2]; omega
theorem read2 (y : Vec Ideal S1024x4096 .bf16) : ((cfg0.win 2).blk t).view.read (Elt Ideal) y (ix2 r q) = y (ix2 r (at4 (jOf t) q)) := by
  have hi := idx2 t
  rw [View.read_apply]
  refine congrArg y (funext fun a => Fin.ext ?_)
  match a with
  | 0 =>
    show win0_2.index t 0 * 1024 + 1 * r.val = r.val
    rw [hi.1]; omega
  | 1 =>
    show win0_2.index t 1 * 1024 + 1 * q.val = t.val / 2 * 1024 + q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S4096x4096 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S4096x4096 .bf16) = truncf (F := Ideal) (φ := .f32) .bf16 (a1 m c) bitsLt_bf16_f32 := by
  unfold Gen.V; after_reads_simp

variable (t : Fin grid0.N) (k : Fin 2048) (r q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) (at4 (jOf t) q)) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k (at4 (jOf t) q)) : EReal) := by
  have hN := N_0
  obtain ⟨s, hs⟩ : ∃ s : Fin grid0.N, s.val = t.val - 1 := ⟨⟨t.val - 1, by have := t.isLt; omega⟩, rfl⟩
  have hj : jOf s = jOf t := Fin.ext (by show s.val / 2 = t.val / 2; omega)
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hj, hk, hk']
  exact sum_halves fun k => (a0 m c (ix2 k r) : EReal) * (a1 m c (ix2 k (at4 (jOf t) q)) : EReal)

/-- The reference's result at an index. -/
theorem ref_apply (x : Vec Ideal S4096x1024 .f32) (y : Vec Ideal S4096x4096 .f32) (q : Fin 4096) :
    (Cert.Reference5Ideal.Read.val_main_v4 (F := Ideal) x y (ix2 r q) : EReal) = ∑ k : Fin 4096, (x (ix2 k r) : EReal) * (y (ix2 k q) : EReal) := by
  rw [Cert.Reference5Ideal.Read.val_main_v4_apply, Cert.Reference5Ideal.Read.val_main_v3_apply, Cert.Reference5Ideal.Read.val_main_v2_apply]
  refine Finset.sum_congr rfl fun k _ => (mul_comm _ _).trans (congr (congrArg _ (congrArg x (funext fun a => ?_))) (congrArg y (funext fun a => ?_)))
  · match a with | 0 => rfl | 1 => rfl
  · match a with | 0 => rfl | 1 => rfl

/-- The result array is the reference's. -/
theorem result : (dats m 0 c).arrAt 2 cfg0.N = Cert.Reference5Ideal.Read.val_main_v4 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q ((flush0_2 t).mp hf)).trans ((ref_apply r _ _ _).symm.trans (read2 t r q _).symm)) fun i => by
    have h0 : (i 0).val < 1024 := (i 0).isLt
    have h1 : (i 1).val < 4096 := (i 1).isLt
    obtain ⟨t, ht⟩ : ∃ t : Fin grid0.N, t.val = (i 1).val / 1024 * 2 + 1 := ⟨⟨(i 1).val / 1024 * 2 + 1, by rw [N_0]; omega⟩, rfl⟩
    have hi := idx2 t
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega
end

end Cert.Kernel5Ideal.Product
end
-- ==== Proof.Kernel6Ideal.Value.lean ====
/-
  The input projection's weight gradient: each of the six result blocks is accumulated over the two halves of the 4096 tokens, so its entries are the reference's sums.
-/
module

public import proofs.«01_k».proof.Proof.Products.Sum
public import proofs.«01_k».proof.Proof.Gen.Kernel6Ideal.Value
public import proofs.«01_k».proof.Proof.Gen.Reference6Ideal.Read
public import Idealize.ShloMosaic.Lib.Pointwise
public import Idealize.ShloMosaic.Lib.StableHlo.ReadAt

@[expose] public section
set_option maxRecDepth 16384

noncomputable section
namespace Cert.Kernel6Ideal.Product
open Idealize.ShloMosaic Idealize.ShloMosaic.Tactic Idealize.SL.Sem
open Cert.Kernel6Ideal Cert.Kernel6Ideal.Gen Cert.Products

/-! ## The body at a point, over the blocks it stages -/

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x y : Vec Ideal S2048x1024 .bf16) (s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

section
variable (x y : Vec Ideal S2048x1024 .bf16) (s : Vec Ideal S1024x1024 .f32) (r q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def jOf (t : Fin grid0.N) : Fin 6 := ⟨t.val / 2, by have := t.isLt; have := N_0; omega⟩
def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = t.val / 2 := by decide +kernel
theorem idx2 : ∀ t : Fin grid0.N, win0_2.index t 0 = 0 ∧ win0_2.index t 1 = t.val / 2 := by decide +kernel

section
variable (t : Fin grid0.N) (k : Fin 2048) (r q : Fin 1024)
theorem read0 (y : Vec Ideal S4096x1024 .bf16) : ((cfg0.win 0).blk t).view.read (Elt Ideal) y (ix2 k r) = y (ix2 (half (kOf t) k) r) := by
  have hi := idx0 t
  rw [View.read_apply]
  refine congrArg y (funext fun a => Fin.ext ?_)
  match a with
  | 0 =>
    show win0_0.index t 0 * 2048 + 1 * k.val = t.val % 2 * 2048 + k.val
    rw [hi.1]; omega
  | 1 =>
    show win0_0.index t 1 * 1024 + 1 * r.val = r.val
    rw [hi.2]; omega
theorem read1 (y : Vec Ideal S4096x6144 .bf16) : ((cfg0.win 1).blk t).view.read (Elt Ideal) y (ix2 k q) = y (ix2 (half (kOf t) k) (at6 (jOf t) q)) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = t.val / 2 * 1024 + q.val
    rw [hi.2]; omega
theorem read2 (y : Vec Ideal S1024x6144 .bf16) : ((cfg0.win 2).blk t).view.read (Elt Ideal) y (ix2 r q) = y (ix2 r (at6 (jOf t) q)) := by
  have hi := idx2 t
  rw [View.read_apply]
  refine congrArg y (funext fun a => Fin.ext ?_)
  match a with
  | 0 =>
    show win0_2.index t 0 * 1024 + 1 * r.val = r.val
    rw [hi.1]; omega
  | 1 =>
    show win0_2.index t 1 * 1024 + 1 * q.val = t.val / 2 * 1024 + q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S4096x6144 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S4096x6144 .bf16) = truncf (F := Ideal) (φ := .f32) .bf16 (a1 m c) bitsLt_bf16_f32 := by
  unfold Gen.V; after_reads_simp

variable (t : Fin grid0.N) (k : Fin 2048) (r q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) (at6 (jOf t) q)) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k (at6 (jOf t) q)) : EReal) := by
  have hN := N_0
  obtain ⟨s, hs⟩ : ∃ s : Fin grid0.N, s.val = t.val - 1 := ⟨⟨t.val - 1, by have := t.isLt; omega⟩, rfl⟩
  have hj : jOf s = jOf t := Fin.ext (by show s.val / 2 = t.val / 2; omega)
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hj, hk, hk']
  exact sum_halves fun k => (a0 m c (ix2 k r) : EReal) * (a1 m c (ix2 k (at6 (jOf t) q)) : EReal)

/-- The reference's result at an index. -/
theorem ref_apply (x : Vec Ideal S4096x1024 .f32) (y : Vec Ideal S4096x6144 .f32) (q : Fin 6144) :
    (Cert.Reference6Ideal.Read.val_main_v4 (F := Ideal) x y (ix2 r q) : EReal) = ∑ k : Fin 4096, (x (ix2 k r) : EReal) * (y (ix2 k q) : EReal) := by
  rw [Cert.Reference6Ideal.Read.val_main_v4_apply, Cert.Reference6Ideal.Read.val_main_v3_apply, Cert.Reference6Ideal.Read.val_main_v2_apply]
  refine Finset.sum_congr rfl fun k _ => (mul_comm _ _).trans (congr (congrArg _ (congrArg x (funext fun a => ?_))) (congrArg y (funext fun a => ?_)))
  · match a with | 0 => rfl | 1 => rfl
  · match a with | 0 => rfl | 1 => rfl

/-- The result array is the reference's. -/
theorem result : (dats m 0 c).arrAt 2 cfg0.N = Cert.Reference6Ideal.Read.val_main_v4 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q ((flush0_2 t).mp hf)).trans ((ref_apply r _ _ _).symm.trans (read2 t r q _).symm)) fun i => by
    have h0 : (i 0).val < 1024 := (i 0).isLt
    have h1 : (i 1).val < 6144 := (i 1).isLt
    obtain ⟨t, ht⟩ : ∃ t : Fin grid0.N, t.val = (i 1).val / 1024 * 2 + 1 := ⟨⟨(i 1).val / 1024 * 2 + 1, by rw [N_0]; omega⟩, rfl⟩
    have hi := idx2 t
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega
end

end Cert.Kernel6Ideal.Product
end
-- ==== Proof.Kernel7Ideal.Value.lean ====
/-
  The input projection's input gradient, with the residual path's scaled gradient added: each of the four result blocks is accumulated over three thirds of the 6144 lanes,
  so its entries are the reference's sums.
-/
module

public import proofs.«01_k».proof.Proof.Products.Sum
public import proofs.«01_k».proof.Proof.Gen.Kernel7Ideal.Value
public import proofs.«01_k».proof.Proof.Gen.Reference7Ideal.Read
public import Idealize.ShloMosaic.Lib.Pointwise
public import Idealize.ShloMosaic.Lib.StableHlo.ReadAt

@[expose] public section
set_option maxRecDepth 16384

noncomputable section
namespace Cert.Kernel7Ideal.Product
open Idealize.ShloMosaic Idealize.ShloMosaic.Tactic Idealize.SL.Sem
open Cert.Kernel7Ideal Cert.Kernel7Ideal.Gen Cert.Products

/-! ## The body at a point, over the blocks it stages -/

section
variable (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) (x y : Vec Ideal S1024x2048 .bf16) (z s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 a7 h7 hc0 hc1 hc2 x y z = k0_pay2 x y := by
  unfold sout0_A_0
  rw [View.read_writes_eq_canon _ _ _ (scover0_A_0 c i a3 h3 a4 h4 a5 h5 a6 h6 a7 h7 hc0 hc1 hc2 x y z)]
  unfold kernelRun0_A
  dsimp only
  rw [View.canon_unit_zero zeros]
  simp only [View.readAt_eq_ld, h3.read_unread, h4.read_unread, View.ld_unit_zero (S := S1024x2048) zeros]

/-- A second point adds its part. -/
theorem second (hc0 : ¬cond0_0 i) (hc1 : cond0_1 i) (hc2 : ¬cond0_2 i) :
    sout0_B_0 c i a3 h3 a4 h4 a5 h5 a6 h6 a7 h7 hc0 hc1 hc2 x y z s = k0_pay3 x y s := by
  unfold sout0_B_0
  rw [View.read_writes_eq_canon _ _ _ (scover0_B_0 c i a3 h3 a4 h4 a5 h5 a6 h6 a7 h7 hc0 hc1 hc2 x y z s)]
  unfold kernelRun0_B
  dsimp only
  rw [View.canon_unit_zero zeros]
  simp only [View.readAt_eq_ld, h3.read_unread, h4.read_unread, h7.read_unread, View.ld_unit_zero (S := S1024x2048) zeros, View.ld_unit_zero (S := S1024x1024) zeros]

/-- A third point leaves the accumulator, its part added, plus the scaled block of the residual path. -/
theorem last (hc0 : ¬cond0_0 i) (hc1 : cond0_1 i) (hc2 : cond0_2 i) :
    out0_C_3 c i a3 h3 a4 h4 a5 h5 a6 h6 a7 h7 hc0 hc1 hc2 x y z s = k0_pay4 (k0_pay3 x y s) z := by
  unfold out0_C_3
  rw [View.read_writes_eq_canon _ _ _ (cover0_C_3 c i a3 h3 a4 h4 a5 h5 a6 h6 a7 h7 hc0 hc1 hc2 x y z s)]
  unfold kernelRun0_C
  dsimp only
  sl_unfold_words
  rw [View.canon_unit_zero zeros, View.readCov_unit_zero (S := S1024x1024) _ zeros]
  simp only [View.readAt_eq_ld, h3.read_unread, h4.read_unread, h5.read_unread, h7.read_unread, View.ld_unit_zero (S := S1024x2048) zeros, View.ld_unit_zero (S := S1024x1024) zeros]
end

/-- The residual path's scale. -/
def alpha : EReal := FloatOps.ofBits (F := Ideal) .f32 0x3FD744FD#32

section
variable (x y : Vec Ideal S1024x2048 .bf16) (z s : Vec Ideal S1024x1024 .f32) (r q : Fin 1024)
theorem pay2_apply : k0_pay2 x y (ix2 r q) = ∑ k : Fin 2048, (x (ix2 r k) : EReal) * (y (ix2 q k) : EReal) := by
  pointwise [k0_pay2, k0_pay1]
theorem pay3_apply : k0_pay3 x y s (ix2 r q) = (s (ix2 r q) : EReal) + ∑ k : Fin 2048, (x (ix2 r k) : EReal) * (y (ix2 q k) : EReal) := by
  pointwise [k0_pay3, k0_pay1]
theorem pay4_apply : k0_pay4 (k0_pay3 x y s) z (ix2 r q)
    = ((s (ix2 r q) : EReal) + ∑ k : Fin 2048, (x (ix2 r k) : EReal) * (y (ix2 q k) : EReal)) + alpha * (z (ix2 r q) : EReal) := by
  pointwise [k0_pay4, k0_pay3, k0_pay1, alpha]
end

/-! ## Where a point's blocks lie -/

def iOf (t : Fin grid0.N) : Fin 4 := ⟨t.val / 3, by have := t.isLt; have := N_0; omega⟩
def kOf (t : Fin grid0.N) : Fin 3 := ⟨t.val % 3, Nat.mod_lt _ (by decide)⟩
theorem idx0 : ∀ t : Fin grid0.N, win0_0.index t 0 = t.val / 3 ∧ win0_0.index t 1 = t.val % 3 := by decide +kernel
theorem idx1 : ∀ t : Fin grid0.N, win0_1.index t 0 = 0 ∧ win0_1.index t 1 = t.val % 3 := by decide +kernel
theorem idx2 : ∀ t : Fin grid0.N, win0_2.index t 0 = t.val / 3 ∧ win0_2.index t 1 = 0 := by decide +kernel
theorem idx3 : ∀ t : Fin grid0.N, win0_3.index t 0 = t.val / 3 ∧ win0_3.index t 1 = 0 := by decide +kernel

section
variable (t : Fin grid0.N) (k : Fin 2048) (r q : Fin 1024)
theorem read0 (y : Vec Ideal S4096x6144 .bf16) : ((cfg0.win 0).blk t).view.read (Elt Ideal) y (ix2 r k) = y (ix2 (at4 (iOf t) r) (third (kOf t) k)) := by
  have hi := idx0 t
  rw [View.read_apply]
  refine congrArg y (funext fun a => Fin.ext ?_)
  match a with
  | 0 =>
    show win0_0.index t 0 * 1024 + 1 * r.val = t.val / 3 * 1024 + r.val
    rw [hi.1]; omega
  | 1 =>
    show win0_0.index t 1 * 2048 + 1 * k.val = t.val % 3 * 2048 + k.val
    rw [hi.2]; omega
theorem read1 (y : Vec Ideal S1024x6144 .bf16) : ((cfg0.win 1).blk t).view.read (Elt Ideal) y (ix2 q k) = y (ix2 q (third (kOf t) k)) := by
  have hi := idx1 t
  rw [View.read_apply]
  refine congrArg y (funext fun a => Fin.ext ?_)
  match a with
  | 0 =>
    show win0_1.index t 0 * 1024 + 1 * q.val = q.val
    rw [hi.1]; omega
  | 1 =>
    show win0_1.index t 1 * 2048 + 1 * k.val = t.val % 3 * 2048 + k.val
    rw [hi.2]; omega
theorem read2 (y : Vec Ideal S4096x1024 .f32) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val / 3 * 1024 + r.val
    rw [hi.1]; omega
  | 1 =>
    show win0_2.index t 1 * 1024 + 1 * q.val = q.val
    rw [hi.2]; omega
theorem read3 (y : Vec Ideal S4096x1024 .f32) : ((cfg0.win 3).blk t).view.read (Elt Ideal) y (ix2 r q) = y (ix2 (at4 (iOf t) r) q) := by
  have hi := idx3 t
  rw [View.read_apply]
  refine congrArg y (funext fun a => Fin.ext ?_)
  match a with
  | 0 =>
    show win0_3.index t 0 * 1024 + 1 * r.val = t.val / 3 * 1024 + r.val
    rw [hi.1]; omega
  | 1 =>
    show win0_3.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x6144 .f32 := m (c, Proc.devRef .tc main_arg0)
abbrev a1 : Vec Ideal S1024x6144 .f32 := m (c, Proc.devRef .tc main_arg1)
abbrev a2 : Vec Ideal S4096x1024 .f32 := m (c, Proc.devRef .tc main_arg2)

theorem V_0 : (V m c main_v0 : Vec Ideal S4096x6144 .bf16) = truncf (F := Ideal) (φ := .f32) .bf16 (a0 m c) bitsLt_bf16_f32 := by
  unfold Gen.V; after_reads_simp
theorem V_1 : (V m c main_v1 : Vec Ideal S1024x6144 .bf16) = truncf (F := Ideal) (φ := .f32) .bf16 (a1 m c) bitsLt_bf16_f32 := by
  unfold Gen.V; after_reads_simp
theorem V_2 : (V m c main_arg2 : Vec Ideal S4096x1024 .f32) = a2 m c := V_main_arg2 m c

variable (t : Fin grid0.N) (k : Fin 2048) (r q : Fin 1024)
theorem blk0 : (iblk m c 0 t (ix2 r k) : EReal) = a0 m c (ix2 (at4 (iOf t) r) (third (kOf t) k)) :=
  (read0 t k r _).trans (congrFun (V_0 m c) _)
theorem blk1 : (iblk m c 1 t (ix2 q k) : EReal) = a1 m c (ix2 q (third (kOf t) k)) :=
  (read1 t k q _).trans (congrFun (V_1 m c) _)
theorem blk2 : (iblk m c 2 t (ix2 r q) : EReal) = a2 m c (ix2 (at4 (iOf t) r) q) :=
  (read2 t r q _).trans (congrFun (V_2 m c) _)

/-- What the accumulator holds after a first point. -/
theorem left (h0 : t.val % 3 = 0) : (outsAt0 m c t.val t.isLt).2 = k0_pay2 (iblk m c 0 t) (iblk m c 1 t) := by
  rw [outsAt0_A m c t h0 (by omega) (by omega)]
  dsimp only
  rw [first]

/-- What it holds after a second point. -/
theorem left' (h1 : t.val % 3 = 1) (s : Fin grid0.N) (hs : s.val = t.val - 1) :
    (outsAt0 m c t.val t.isLt).2 = k0_pay3 (iblk m c 0 t) (iblk m c 1 t) (k0_pay2 (iblk m c 0 s) (iblk m c 1 s)) := by
  rw [outsAt0_B m c t (by omega) (by omega) (by omega)]
  dsimp only
  rw [second]
  have e : ∀ n (h : n < cfg0.N), n = s.val → (outsAt0 m c n h).2 = k0_pay2 (iblk m c 0 s) (iblk m c 1 s) := by
    rintro _ _ rfl
    exact left m c s (by omega)
  rw [e _ _ hs.symm]

/-- A block's entries are whole sums over the projection's lanes, the residual path's added. -/
theorem flushed_apply (hf : t.val % 3 = 2) :
    ((dats m 0 c).flushed 3 t (ix2 r q) : EReal)
      = (∑ k : Fin 6144, (a0 m c (ix2 (at4 (iOf t) r) k) : EReal) * (a1 m c (ix2 q k) : EReal)) + alpha * (a2 m c (ix2 (at4 (iOf t) r) q) : EReal) := by
  have hN := N_0
  obtain ⟨s, hs⟩ : ∃ s : Fin grid0.N, s.val = t.val - 1 := ⟨⟨t.val - 1, by have := t.isLt; omega⟩, rfl⟩
  obtain ⟨u, hu⟩ : ∃ u : Fin grid0.N, u.val = s.val - 1 := ⟨⟨s.val - 1, by have := s.isLt; omega⟩, rfl⟩
  have hi : iOf s = iOf t := Fin.ext (by show s.val / 3 = t.val / 3; omega)
  have hi' : iOf u = iOf t := Fin.ext (by show u.val / 3 = t.val / 3; omega)
  have hk : kOf u = 0 := Fin.ext (by show u.val % 3 = 0; omega)
  have hk' : kOf s = 1 := Fin.ext (by show s.val % 3 = 1; omega)
  have hk'' : kOf t = 2 := Fin.ext (by show t.val % 3 = 2; omega)
  rw [Value.flushed3_C m c t (by omega) (by omega) hf]
  change (out0_C_3 c (grid0.coords t) (ms0_0 t) (hs0_0 t) (ms0_1 t) (hs0_1 t) (ms0_2 t) (hs0_2 t) (ms0_3 t) (hs0_3 t) scM0_0 _ _ _ _ (iblk m c 0 t) (iblk m c 1 t) (iblk m c 2 t) _ (ix2 r q) : EReal) = _
  rw [last, pay4_apply]
  have e : ∀ n (h : n < cfg0.N), n = s.val → (outsAt0 m c n h).2 = k0_pay3 (iblk m c 0 s) (iblk m c 1 s) (k0_pay2 (iblk m c 0 u) (iblk m c 1 u)) := by
    rintro _ _ rfl
    exact left' m c s (by omega) u hu
  rw [e _ _ hs.symm, pay3_apply, pay2_apply]
  simp only [blk0, blk1, blk2, hi, hi', hk, hk', hk'']
  exact congrArg (· + _) (sum_thirds fun k => (a0 m c (ix2 (at4 (iOf t) r) k) : EReal) * (a1 m c (ix2 q k) : EReal))

/-- The reference's result at an index. -/
theorem ref_apply (x : Vec Ideal S4096x6144 .f32) (y : Vec Ideal S1024x6144 .f32) (z : Vec Ideal S4096x1024 .f32) (r : Fin 4096) :
    (Cert.Reference7Ideal.Read.val_main_v7 (F := Ideal) x y z (ix2 r q) : EReal)
      = (∑ k : Fin 6144, (x (ix2 r k) : EReal) * (y (ix2 q k) : EReal)) + alpha * (z (ix2 r q) : EReal) := by
  rw [Cert.Reference7Ideal.Read.val_main_v7_apply, Cert.Reference7Ideal.Read.val_main_v5_apply, Cert.Reference7Ideal.Read.val_main_v6_apply,
    Cert.Reference7Ideal.Read.val_main_v4_apply]
  refine (add_comm (G := EReal) _ _).trans (congrArg (· + _) (Finset.sum_congr rfl fun k _ => congr (congrArg _ (congrArg x (funext fun a => ?_))) (congrArg y (funext fun a => ?_))))
  · match a with | 0 => rfl | 1 => rfl
  · match a with | 0 => rfl | 1 => rfl

/-- The result array is the reference's. -/
theorem result : (dats m 0 c).arrAt 3 cfg0.N = Cert.Reference7Ideal.Read.val_main_v7 (F := Ideal) (a0 m c) (a1 m c) (a2 m c) :=
  (dats m 0 c).arrAt_eq_of_cover 3 _ (fun t hf => by
    funext j
    obtain ⟨r, q, rfl⟩ : ∃ r q : Fin 1024, j = ix2 r q := ⟨j 0, j 1, funext fun a => by match a with | 0 => rfl | 1 => rfl⟩
    exact (flushed_apply m c t r q ((flush0_3 t).mp hf)).trans ((ref_apply q _ _ _ _).symm.trans (read3 t r q _).symm)) fun i => by
    have h0 : (i 0).val < 4096 := (i 0).isLt
    have h1 : (i 1).val < 1024 := (i 1).isLt
    obtain ⟨t, ht⟩ : ∃ t : Fin grid0.N, t.val = (i 0).val / 1024 * 3 + 2 := ⟨⟨(i 0).val / 1024 * 3 + 2, by rw [N_0]; omega⟩, rfl⟩
    have hi := idx3 t
    refine ⟨t, (flush0_3 t).mpr (by omega), ?_⟩
    show i ∈ ((View.whole main_v2).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega
end

end Cert.Kernel7Ideal.Product
end
-- ==== Proof.Kernel8Ideal.Value.lean ====
/-
  The input projection: each of the twenty-four result blocks is one product of whole rows and columns.
-/
module

public import proofs.«01_k».proof.Proof.Products.Sum
public import proofs.«01_k».proof.Proof.Gen.Kernel8Ideal.Value
public import proofs.«01_k».proof.Proof.Gen.Reference8Ideal.Read
public import Idealize.ShloMosaic.Lib.Pointwise
public import Idealize.ShloMosaic.Lib.StableHlo.ReadAt

@[expose] public section
set_option maxRecDepth 16384

noncomputable section
namespace Cert.Kernel8Ideal.Product
open Idealize.ShloMosaic Idealize.ShloMosaic.Tactic Idealize.SL.Sem
open Cert.Kernel8Ideal Cert.Kernel8Ideal.Gen Cert.Products

section
variable (x y : Vec Ideal S1024x1024 .bf16) (r q : Fin 1024)
/-- What a point leaves, over the blocks it stages. -/
theorem out2_apply : (out0_2 x y (ix2 r q) : EReal) = ∑ k : Fin 1024, (x (ix2 r k) : EReal) * (y (ix2 k q) : EReal) := by
  unfold out0_2
  rw [View.canon_unit_zero zeros]
  simp only [View.ld_unit_zero (S := S1024x1024) zeros]
  pointwise [k0_pay1]
end

/-! ## Where a point's blocks lie -/

def iOf (t : Fin grid0.N) : Fin 4 := ⟨t.val / 6, by have := t.isLt; have := N_0; omega⟩
def jOf (t : Fin grid0.N) : Fin 6 := ⟨t.val % 6, Nat.mod_lt _ (by decide)⟩
theorem idx0 : ∀ t : Fin grid0.N, win0_0.index t 0 = t.val / 6 ∧ win0_0.index t 1 = 0 := by decide +kernel
theorem idx1 : ∀ t : Fin grid0.N, win0_1.index t 0 = 0 ∧ win0_1.index t 1 = t.val % 6 := by decide +kernel
theorem idx2 : ∀ t : Fin grid0.N, win0_2.index t 0 = t.val / 6 ∧ win0_2.index t 1 = t.val % 6 := by decide +kernel

section
variable (t : Fin grid0.N) (k : Fin 1024) (r q : Fin 1024)
theorem read0 (y : Vec Ideal S4096x1024 .bf16) : ((cfg0.win 0).blk t).view.read (Elt Ideal) y (ix2 r k) = y (ix2 (at4 (iOf t) r) k) := by
  have hi := idx0 t
  rw [View.read_apply]
  refine congrArg y (funext fun a => Fin.ext ?_)
  match a with
  | 0 =>
    show win0_0.index t 0 * 1024 + 1 * r.val = t.val / 6 * 1024 + r.val
    rw [hi.1]; omega
  | 1 =>
    show win0_0.index t 1 * 1024 + 1 * k.val = k.val
    rw [hi.2]; omega
theorem read1 (y : Vec Ideal S1024x6144 .bf16) : ((cfg0.win 1).blk t).view.read (Elt Ideal) y (ix2 k q) = y (ix2 k (at6 (jOf t) q)) := by
  have hi := idx1 t
  rw [View.read_apply]
  refine congrArg y (funext fun a => Fin.ext ?_)
  match a with
  | 0 =>
    show win0_1.index t 0 * 1024 + 1 * k.val = k.val
    rw [hi.1]; omega
  | 1 =>
    show win0_1.index t 1 * 1024 + 1 * q.val = t.val % 6 * 1024 + q.val
    rw [hi.2]; omega
theorem read2 (y : Vec Ideal S4096x6144 .f32) : ((cfg0.win 2).blk t).view.read (Elt Ideal) y (ix2 r q) = y (ix2 (at4 (iOf t) r) (at6 (jOf t) q)) := by
  have hi := idx2 t
  rw [View.read_apply]
  refine congrArg y (funext fun a => Fin.ext ?_)
  match a with
  | 0 =>
    show win0_2.index t 0 * 1024 + 1 * r.val = t.val / 6 * 1024 + r.val
    rw [hi.1]; omega
  | 1 =>
    show win0_2.index t 1 * 1024 + 1 * q.val = t.val % 6 * 1024 + q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S1024x6144 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S1024x6144 .bf16) = truncf (F := Ideal) (φ := .f32) .bf16 (a1 m c) bitsLt_bf16_f32 := by
  unfold Gen.V; after_reads_simp

variable (t : Fin grid0.N) (k : Fin 1024) (r q : Fin 1024)
theorem blk0 : (iblk m c 0 t (ix2 r k) : EReal) = a0 m c (ix2 (at4 (iOf t) r) k) :=
  (read0 t k r _).trans (congrFun (V_0 m c) _)
theorem blk1 : (iblk m c 1 t (ix2 k q) : EReal) = a1 m c (ix2 k (at6 (jOf t) q)) :=
  (read1 t k q _).trans (congrFun (V_1 m c) _)

/-- A block's entries. -/
theorem flushed_apply :
    ((dats m 0 c).flushed 2 t (ix2 r q) : EReal) = ∑ k : Fin 1024, (a0 m c (ix2 (at4 (iOf t) r) k) : EReal) * (a1 m c (ix2 k (at6 (jOf t) q)) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x1024 .f32) (y : Vec Ideal S1024x6144 .f32) (r : Fin 4096) (q : Fin 6144) :
    (Cert.Reference8Ideal.Read.val_main_v0 (F := Ideal) x y (ix2 r q) : EReal) = ∑ k : Fin 1024, (x (ix2 r k) : EReal) * (y (ix2 k q) : EReal) := by
  rw [Cert.Reference8Ideal.Read.val_main_v0_apply]
  refine Finset.sum_congr rfl fun k _ => congr (congrArg _ (congrArg x (funext fun a => ?_))) (congrArg y (funext fun a => ?_))
  · match a with | 0 => rfl | 1 => rfl
  · match a with | 0 => rfl | 1 => rfl

/-- The result array is the reference's. -/
theorem result : (dats m 0 c).arrAt 2 cfg0.N = Cert.Reference8Ideal.Read.val_main_v0 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q).trans ((ref_apply _ _ _ _).symm.trans (read2 t r q _).symm)) fun i => by
    have h0 : (i 0).val < 4096 := (i 0).isLt
    have h1 : (i 1).val < 6144 := (i 1).isLt
    obtain ⟨t, ht⟩ : ∃ t : Fin grid0.N, t.val = (i 0).val / 1024 * 6 + (i 1).val / 1024 := ⟨⟨(i 0).val / 1024 * 6 + (i 1).val / 1024, by rw [N_0]; omega⟩, rfl⟩
    have hi := idx2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

end

end Cert.Kernel8Ideal.Product
end
-- ==== Proof.Kernel9Ideal.Value.lean ====
/-
  The first layer with its activation: each of the sixteen result blocks is one product of whole rows and columns, its positive part squared and doubled.
-/
module

public import proofs.«01_k».proof.Proof.Products.Sum
public import proofs.«01_k».proof.Proof.Gen.Kernel9Ideal.Value
public import proofs.«01_k».proof.Proof.Gen.Reference9Ideal.Read
public import Idealize.ShloMosaic.Lib.Pointwise
public import Idealize.ShloMosaic.Lib.StableHlo.ReadAt

@[expose] public section
set_option maxRecDepth 16384

noncomputable section
namespace Cert.Kernel9Ideal.Product
open Idealize.ShloMosaic Idealize.ShloMosaic.Tactic Idealize.SL.Sem
open Cert.Kernel9Ideal Cert.Kernel9Ideal.Gen Cert.Products

/-- The square of the positive part, and twice it. -/
def sq (x : EReal) : EReal := max x (FloatOps.ofBits (F := Ideal) .f32 0x00000000#32 : EReal) * max x (FloatOps.ofBits (F := Ideal) .f32 0x00000000#32 : EReal)
def twice (x : EReal) : EReal := (FloatOps.ofBits (F := Ideal) .f32 0x40000000#32 : EReal) * max x (FloatOps.ofBits (F := Ideal) .f32 0x00000000#32 : EReal)

section
variable (x y : Vec Ideal S1024x1024 .bf16) (r q : Fin 1024)
/-- What a point leaves, over the blocks it stages. -/
theorem out2_apply : (out0_2 x y (ix2 r q) : EReal) = sq (∑ k : Fin 1024, (x (ix2 r k) : EReal) * (y (ix2 k q) : EReal)) := by
  unfold out0_2
  rw [View.canon_unit_zero zeros]
  simp only [View.ld_unit_zero (S := S1024x1024) zeros]
  pointwise [k0_pay2, k0_pay1, sq]
/-- What a point leaves, over the blocks it stages. -/
theorem out3_apply : (out0_3 x y (ix2 r q) : EReal) = twice (∑ k : Fin 1024, (x (ix2 r k) : EReal) * (y (ix2 k q) : EReal)) := by
  unfold out0_3
  rw [View.canon_unit_zero zeros]
  simp only [View.ld_unit_zero (S := S1024x1024) zeros]
  pointwise [k0_pay3, k0_pay1, twice]
end

/-! ## Where a point's blocks lie -/

def iOf (t : Fin grid0.N) : Fin 4 := ⟨t.val / 4, by have := t.isLt; have := N_0; omega⟩
def jOf (t : Fin grid0.N) : Fin 4 := ⟨t.val % 4, Nat.mod_lt _ (by decide)⟩
theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
theorem idx3 : ∀ t : Fin grid0.N, win0_3.index t 0 = t.val / 4 ∧ win0_3.index t 1 = t.val % 4 := by decide +kernel

section
variable (t : Fin grid0.N) (k : Fin 1024) (r q : Fin 1024)
theorem read0 (y : Vec Ideal S4096x1024 .bf16) : ((cfg0.win 0).blk t).view.read (Elt Ideal) y (ix2 r k) = y (ix2 (at4 (iOf t) r) k) := by
  have hi := idx0 t
  rw [View.read_apply]
  refine congrArg y (funext fun a => Fin.ext ?_)
  match a with
  | 0 =>
    show win0_0.index t 0 * 1024 + 1 * r.val = t.val / 4 * 1024 + r.val
    rw [hi.1]; omega
  | 1 =>
    show win0_0.index t 1 * 1024 + 1 * k.val = k.val
    rw [hi.2]; omega
theorem read1 (y : Vec Ideal S1024x4096 .bf16) : ((cfg0.win 1).blk t).view.read (Elt Ideal) y (ix2 k q) = y (ix2 k (at4 (jOf t) q)) := by
  have hi := idx1 t
  rw [View.read_apply]
  refine congrArg y (funext fun a => Fin.ext ?_)
  match a with
  | 0 =>
    show win0_1.index t 0 * 1024 + 1 * k.val = k.val
    rw [hi.1]; omega
  | 1 =>
    show win0_1.index t 1 * 1024 + 1 * q.val = t.val % 4 * 1024 + q.val
    rw [hi.2]; omega
theorem read2 (y : Vec Ideal S4096x4096 .bf16) : ((cfg0.win 2).blk t).view.read (Elt Ideal) y (ix2 r q) = y (ix2 (at4 (iOf t) r) (at4 (jOf t) q)) := by
  have hi := idx2 t
  rw [View.read_apply]
  refine congrArg y (funext fun a => Fin.ext ?_)
  match a with
  | 0 =>
    show win0_2.index t 0 * 1024 + 1 * r.val = t.val / 4 * 1024 + r.val
    rw [hi.1]; omega
  | 1 =>
    show win0_2.index t 1 * 1024 + 1 * q.val = t.val % 4 * 1024 + q.val
    rw [hi.2]; omega
theorem read3 (y : Vec Ideal S4096x4096 .bf16) : ((cfg0.win 3).blk t).view.read (Elt Ideal) y (ix2 r q) = y (ix2 (at4 (iOf t) r) (at4 (jOf t) q)) := by
  have hi := idx3 t
  rw [View.read_apply]
  refine congrArg y (funext fun a => Fin.ext ?_)
  match a with
  | 0 =>
    show win0_3.index t 0 * 1024 + 1 * r.val = t.val / 4 * 1024 + r.val
    rw [hi.1]; omega
  | 1 =>
    show win0_3.index t 1 * 1024 + 1 * q.val = t.val % 4 * 1024 + q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S1024x4096 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S1024x4096 .bf16) = truncf (F := Ideal) (φ := .f32) .bf16 (a1 m c) bitsLt_bf16_f32 := by
  unfold Gen.V; after_reads_simp

variable (t : Fin grid0.N) (k : Fin 1024) (r q : Fin 1024)
theorem blk0 : (iblk m c 0 t (ix2 r k) : EReal) = a0 m c (ix2 (at4 (iOf t) r) k) :=
  (read0 t k r _).trans (congrFun (V_0 m c) _)
theorem blk1 : (iblk m c 1 t (ix2 k q) : EReal) = a1 m c (ix2 k (at4 (jOf t) q)) :=
  (read1 t k q _).trans (congrFun (V_1 m c) _)

/-- The reference's product at an index. -/
theorem dot_apply (x : Vec Ideal S4096x1024 .f32) (y : Vec Ideal S1024x4096 .f32) (r : Fin 4096) (q : Fin 4096) :
    (Cert.Reference9Ideal.Read.val_main_v0 (F := Ideal) x y (ix2 r q) : EReal) = ∑ k : Fin 1024, (x (ix2 r k) : EReal) * (y (ix2 k q) : EReal) := by
  rw [Cert.Reference9Ideal.Read.val_main_v0_apply]
  refine Finset.sum_congr rfl fun k _ => congr (congrArg _ (congrArg x (funext fun a => ?_))) (congrArg y (funext fun a => ?_))
  · match a with | 0 => rfl | 1 => rfl
  · match a with | 0 => rfl | 1 => rfl

/-- A block's entries. -/
theorem flushed2_apply :
    ((dats m 0 c).flushed 2 t (ix2 r q) : EReal) = sq (∑ k : Fin 1024, (a0 m c (ix2 (at4 (iOf t) r) k) : EReal) * (a1 m c (ix2 k (at4 (jOf t) q)) : EReal)) := by
  rw [Value.flushed2 m c t]
  change (out0_2 (iblk m c 0 t) (iblk m c 1 t) (ix2 r q) : EReal) = _
  rw [out2_apply]
  simp only [blk0, blk1]

/-- The reference's result at an index. -/
theorem ref2_apply (x : Vec Ideal S4096x1024 .f32) (y : Vec Ideal S1024x4096 .f32) (r : Fin 4096) (q : Fin 4096) :
    (Cert.Reference9Ideal.Read.val_main_v3 (F := Ideal) x y (ix2 r q) : EReal) = sq (∑ k : Fin 1024, (x (ix2 r k) : EReal) * (y (ix2 k q) : EReal)) := by
  rw [Cert.Reference9Ideal.Read.val_main_v3_apply, Cert.Reference9Ideal.Read.val_main_v2_apply, Cert.Reference9Ideal.Read.val_main_v1_apply, dot_apply]
  rfl

/-- The result array is the reference's. -/
theorem result2 : (dats m 0 c).arrAt 2 cfg0.N = Cert.Reference9Ideal.Read.val_main_v3 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed2_apply m c t r q).trans ((ref2_apply _ _ _ _).symm.trans (read2 t r q _).symm)) fun i => by
    have h0 : (i 0).val < 4096 := (i 0).isLt
    have h1 : (i 1).val < 4096 := (i 1).isLt
    obtain ⟨t, ht⟩ : ∃ t : Fin grid0.N, t.val = (i 0).val / 1024 * 4 + (i 1).val / 1024 := ⟨⟨(i 0).val / 1024 * 4 + (i 1).val / 1024, by rw [N_0]; omega⟩, rfl⟩
    have hi := idx2 t
    refine ⟨t, flush0_2 t, ?_⟩
    show i ∈ ((View.whole main_v2_0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

/-- A block's entries. -/
theorem flushed3_apply :
    ((dats m 0 c).flushed 3 t (ix2 r q) : EReal) = twice (∑ k : Fin 1024, (a0 m c (ix2 (at4 (iOf t) r) k) : EReal) * (a1 m c (ix2 k (at4 (jOf t) q)) : EReal)) := by
  rw [Value.flushed3 m c t]
  change (out0_3 (iblk m c 0 t) (iblk m c 1 t) (ix2 r q) : EReal) = _
  rw [out3_apply]
  simp only [blk0, blk1]

/-- The reference's result at an index. -/
theorem ref3_apply (x : Vec Ideal S4096x1024 .f32) (y : Vec Ideal S1024x4096 .f32) (r : Fin 4096) (q : Fin 4096) :
    (Cert.Reference9Ideal.Read.val_main_v6 (F := Ideal) x y (ix2 r q) : EReal) = twice (∑ k : Fin 1024, (x (ix2 r k) : EReal) * (y (ix2 k q) : EReal)) := by
  rw [Cert.Reference9Ideal.Read.val_main_v6_apply, Cert.Reference9Ideal.Read.val_main_v5_apply, Cert.Reference9Ideal.Read.val_main_v1_apply, dot_apply]
  rfl

/-- The result array is the reference's. -/
theorem result3 : (dats m 0 c).arrAt 3 cfg0.N = Cert.Reference9Ideal.Read.val_main_v6 (F := Ideal) (a0 m c) (a1 m c) :=
  (dats m 0 c).arrAt_eq_of_cover 3 _ (fun t hf => by
    funext j
    obtain ⟨r, q, rfl⟩ : ∃ r q : Fin 1024, j = ix2 r q := ⟨j 0, j 1, funext fun a => by match a with | 0 => rfl | 1 => rfl⟩
    exact (flushed3_apply m c t r q).trans ((ref3_apply _ _ _ _).symm.trans (read3 t r q _).symm)) fun i => by
    have h0 : (i 0).val < 4096 := (i 0).isLt
    have h1 : (i 1).val < 4096 := (i 1).isLt
    obtain ⟨t, ht⟩ : ∃ t : Fin grid0.N, t.val = (i 0).val / 1024 * 4 + (i 1).val / 1024 := ⟨⟨(i 0).val / 1024 * 4 + (i 1).val / 1024, by rw [N_0]; omega⟩, rfl⟩
    have hi := idx3 t
    refine ⟨t, flush0_3 t, ?_⟩
    show i ∈ ((View.whole main_v2_1).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [hi.1]; omega
    | ⟨1, _⟩ =>
      show win0_3.index t 1 * 1024 ≤ (i 1 : Nat) ∧ (i 1 : Nat) < win0_3.index t 1 * 1024 + 1024
      rw [hi.2]; omega

end

end Cert.Kernel9Ideal.Product
end
-- ==== Proof.Kernel10Ideal.Value.lean ====
/-
  The second layer, from the hidden layer's squared positive part: each of the four result blocks is accumulated over the two halves of the 4096 hidden entries, so its
  entries are the reference's sums.
-/
module

public import proofs.«01_k».proof.Proof.Products.Sum
public import proofs.«01_k».proof.Proof.Gen.Kernel10Ideal.Value
public import proofs.«01_k».proof.Proof.Gen.Reference10Ideal.Read
public import Idealize.ShloMosaic.Lib.Pointwise
public import Idealize.ShloMosaic.Lib.StableHlo.ReadAt

@[expose] public section
set_option maxRecDepth 16384

noncomputable section
namespace Cert.Kernel10Ideal.Product
open Idealize.ShloMosaic Idealize.ShloMosaic.Tactic Idealize.SL.Sem
open Cert.Kernel10Ideal Cert.Kernel10Ideal.Gen Cert.Products

/-! ## The body at a point, over the blocks it stages -/

section
variable (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec Ideal S1024x2048 .bf16) (y : Vec Ideal S2048x1024 .bf16) (s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S1024x2048) zeros, View.ld_unit_zero (S := S2048x1024) zeros]

/-- A second point leaves the accumulator, its part added. -/
theorem second (hc0 : ¬cond0_0 i) (hc1 : cond0_1 i) (hc2 : cond0_2 i) :
    out0_B_2 c i a3 h3 a4 h4 a5 h5 a6 h6 hc0 hc1 hc2 x y s = k0_pay3 x y s := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S1024x2048) zeros, View.ld_unit_zero (S := S2048x1024) zeros, View.ld_unit_zero (S := S1024x1024) zeros]
end

section
variable (x : Vec Ideal S1024x2048 .bf16) (y : Vec Ideal S2048x1024 .bf16) (s : Vec Ideal S1024x1024 .f32) (r q : Fin 1024)
theorem pay2_apply : k0_pay2 x y (ix2 r q) = ∑ k : Fin 2048, (x (ix2 r k) : EReal) * (y (ix2 k q) : EReal) := by
  pointwise [k0_pay2, k0_pay1]
theorem pay3_apply : k0_pay3 x y s (ix2 r q) = (s (ix2 r q) : EReal) + ∑ k : Fin 2048, (x (ix2 r k) : EReal) * (y (ix2 k q) : EReal) := by
  pointwise [k0_pay3, k0_pay1]
end

/-! ## Where a point's blocks lie -/

def iOf (t : Fin grid0.N) : Fin 4 := ⟨t.val / 2, by have := t.isLt; have := N_0; omega⟩
def kOf (t : Fin grid0.N) : Fin 2 := ⟨t.val % 2, Nat.mod_lt _ (by decide)⟩
theorem idx0 : ∀ t : Fin grid0.N, win0_0.index t 0 = t.val / 2 ∧ win0_0.index t 1 = t.val % 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

section
variable (t : Fin grid0.N) (k : Fin 2048) (r q : Fin 1024)
theorem read0 (y : Vec Ideal S4096x4096 .bf16) : ((cfg0.win 0).blk t).view.read (Elt Ideal) y (ix2 r k) = y (ix2 (at4 (iOf t) r) (half (kOf t) k)) := by
  have hi := idx0 t
  rw [View.read_apply]
  refine congrArg y (funext fun a => Fin.ext ?_)
  match a with
  | 0 =>
    show win0_0.index t 0 * 1024 + 1 * r.val = t.val / 2 * 1024 + r.val
    rw [hi.1]; omega
  | 1 =>
    show win0_0.index t 1 * 2048 + 1 * k.val = t.val % 2 * 2048 + k.val
    rw [hi.2]; omega
theorem read1 (y : Vec Ideal S4096x1024 .bf16) : ((cfg0.win 1).blk t).view.read (Elt Ideal) y (ix2 k q) = y (ix2 (half (kOf t) k) q) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = q.val
    rw [hi.2]; omega
theorem read2 (y : Vec Ideal S4096x1024 .f32) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val / 2 * 1024 + r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x4096 .f32 := m (c, Proc.devRef .tc main_arg0)
abbrev a1 : Vec Ideal S4096x1024 .f32 := m (c, Proc.devRef .tc main_arg1)

/-- The hidden layer's squared positive part, as the reference writes it. -/
abbrev sq (x : Vec Ideal S4096x4096 .f32) : Vec Ideal S4096x4096 .f32 := Cert.Reference10Ideal.Read.val_main_v1 (F := Ideal) x

theorem V_0 : (V m c main_v3 : Vec Ideal S4096x4096 .bf16) = truncf (F := Ideal) (φ := .f32) .bf16 (sq (a0 m c)) bitsLt_bf16_f32 := by
  unfold Gen.V; after_reads_simp; rfl
theorem V_1 : (V m c main_v4 : Vec Ideal S4096x1024 .bf16) = truncf (F := Ideal) (φ := .f32) .bf16 (a1 m c) bitsLt_bf16_f32 := by
  unfold Gen.V; after_reads_simp

variable (t : Fin grid0.N) (k : Fin 2048) (r q : Fin 1024)
theorem blk0 : (iblk m c 0 t (ix2 r k) : EReal) = sq (a0 m c) (ix2 (at4 (iOf t) r) (half (kOf t) k)) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the hidden entries. -/
theorem flushed_apply (hf : t.val % 2 = 1) :
    ((dats m 0 c).flushed 2 t (ix2 r q) : EReal) = ∑ k : Fin 4096, (sq (a0 m c) (ix2 (at4 (iOf t) r) k) : EReal) * (a1 m c (ix2 k q) : EReal) := by
  have hN := N_0
  obtain ⟨s, hs⟩ : ∃ s : Fin grid0.N, s.val = t.val - 1 := ⟨⟨t.val - 1, by have := t.isLt; omega⟩, rfl⟩
  have hj : iOf s = iOf t := Fin.ext (by show s.val / 2 = t.val / 2; omega)
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay3_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hj, hk, hk']
  exact sum_halves fun k => (sq (a0 m c) (ix2 (at4 (iOf t) r) k) : EReal) * (a1 m c (ix2 k q) : EReal)

/-- The reference's result at an index. -/
theorem ref_apply (x : Vec Ideal S4096x4096 .f32) (y : Vec Ideal S4096x1024 .f32) (r : Fin 4096) :
    (Cert.Reference10Ideal.Read.val_main_v2 (F := Ideal) x y (ix2 r q) : EReal) = ∑ k : Fin 4096, (sq x (ix2 r k) : EReal) * (y (ix2 k q) : EReal) := by
  rw [Cert.Reference10Ideal.Read.val_main_v2_apply]
  refine Finset.sum_congr rfl fun k _ => congr (congrArg _ (congrArg (sq x) (funext fun a => ?_))) (congrArg y (funext fun a => ?_))
  · match a with | 0 => rfl | 1 => rfl
  · match a with | 0 => rfl | 1 => rfl

/-- The result array is the reference's. -/
theorem result : (dats m 0 c).arrAt 2 cfg0.N = Cert.Reference10Ideal.Read.val_main_v2 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q ((flush0_2 t).mp hf)).trans ((ref_apply q _ _ _).symm.trans (read2 t r q _).symm)) fun i => by
    have h0 : (i 0).val < 4096 := (i 0).isLt
    have h1 : (i 1).val < 1024 := (i 1).isLt
    obtain ⟨t, ht⟩ : ∃ t : Fin grid0.N, t.val = (i 0).val / 1024 * 2 + 1 := ⟨⟨(i 0).val / 1024 * 2 + 1, by rw [N_0]; omega⟩, rfl⟩
    have hi := idx2 t
    refine ⟨t, (flush0_2 t).mpr (by omega), ?_⟩
    show i ∈ ((View.whole main_v5).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega
end

end Cert.Kernel10Ideal.Product
end
-- ==== Proof.Kernel11Ideal.Value.lean ====
/-
  The output projection's input gradient: each of the four result blocks is one product of whole rows.
-/
module

public import proofs.«01_k».proof.Proof.Products.Sum
public import proofs.«01_k».proof.Proof.Gen.Kernel11Ideal.Value
public import proofs.«01_k».proof.Proof.Gen.Reference11Ideal.Read
public import Idealize.ShloMosaic.Lib.Pointwise
public import Idealize.ShloMosaic.Lib.StableHlo.ReadAt

@[expose] public section
set_option maxRecDepth 16384

noncomputable section
namespace Cert.Kernel11Ideal.Product
open Idealize.ShloMosaic Idealize.ShloMosaic.Tactic Idealize.SL.Sem
open Cert.Kernel11Ideal Cert.Kernel11Ideal.Gen Cert.Products

section
variable (x y : Vec Ideal S1024x1024 .bf16) (r q : Fin 1024)
/-- What a point leaves, over the blocks it stages. -/
theorem out2_apply : (out0_2 x y (ix2 r q) : EReal) = ∑ k : Fin 1024, (x (ix2 r k) : EReal) * (y (ix2 q k) : EReal) := by
  unfold out0_2
  rw [View.canon_unit_zero zeros]
  simp only [View.ld_unit_zero (S := S1024x1024) zeros]
  pointwise [k0_pay1]
end

/-! ## Where a point's blocks lie -/

def iOf (t : Fin grid0.N) : Fin 4 := ⟨t.val, by have := t.isLt; have := N_0; omega⟩
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

section
variable (t : Fin grid0.N) (k : Fin 1024) (r q : Fin 1024)
theorem read0 (y : Vec Ideal S4096x1024 .bf16) : ((cfg0.win 0).blk t).view.read (Elt Ideal) y (ix2 r k) = y (ix2 (at4 (iOf t) r) k) := by
  have hi := idx0 t
  rw [View.read_apply]
  refine congrArg y (funext fun a => Fin.ext ?_)
  match a with
  | 0 =>
    show win0_0.index t 0 * 1024 + 1 * r.val = t.val * 1024 + r.val
    rw [hi.1]; omega
  | 1 =>
    show win0_0.index t 1 * 1024 + 1 * k.val = k.val
    rw [hi.2]; omega
theorem read1 (y : Vec Ideal S1024x1024 .bf16) : ((cfg0.win 1).blk t).view.read (Elt Ideal) y (ix2 q k) = y (ix2 q k) := by
  have hi := idx1 t
  rw [View.read_apply]
  refine congrArg y (funext fun a => Fin.ext ?_)
  match a with
  | 0 =>
    show win0_1.index t 0 * 1024 + 1 * q.val = q.val
    rw [hi.1]; omega
  | 1 =>
    show win0_1.index t 1 * 1024 + 1 * k.val = k.val
    rw [hi.2]; omega
theorem read2 (y : Vec Ideal S4096x1024 .f32) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val * 1024 + r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S1024x1024 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S1024x1024 .bf16) = truncf (F := Ideal) (φ := .f32) .bf16 (a1 m c) bitsLt_bf16_f32 := by
  unfold Gen.V; after_reads_simp

variable (t : Fin grid0.N) (k : Fin 1024) (r q : Fin 1024)
theorem blk0 : (iblk m c 0 t (ix2 r k) : EReal) = a0 m c (ix2 (at4 (iOf t) r) k) :=
  (read0 t k r _).trans (congrFun (V_0 m c) _)
theorem blk1 : (iblk m c 1 t (ix2 q k) : EReal) = a1 m c (ix2 q k) :=
  (read1 t k q _).trans (congrFun (V_1 m c) _)

/-- A block's entries. -/
theorem flushed_apply :
    ((dats m 0 c).flushed 2 t (ix2 r q) : EReal) = ∑ k : Fin 1024, (a0 m c (ix2 (at4 (iOf t) r) k) : EReal) * (a1 m c (ix2 q k) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x1024 .f32) (y : Vec Ideal S1024x1024 .f32) (r : Fin 4096) (q : Fin 1024) :
    (Cert.Reference11Ideal.Read.val_main_v2 (F := Ideal) x y (ix2 r q) : EReal) = ∑ k : Fin 1024, (x (ix2 r k) : EReal) * (y (ix2 q k) : EReal) := by
  rw [Cert.Reference11Ideal.Read.val_main_v2_apply]
  refine Finset.sum_congr rfl fun k _ => congr (congrArg _ (congrArg x (funext fun a => ?_))) (congrArg y (funext fun a => ?_))
  · match a with | 0 => rfl | 1 => rfl
  · match a with | 0 => rfl | 1 => rfl

/-- The result array is the reference's. -/
theorem result : (dats m 0 c).arrAt 2 cfg0.N = Cert.Reference11Ideal.Read.val_main_v2 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q).trans ((ref_apply _ _ _ _).symm.trans (read2 t r q _).symm)) fun i => by
    have h0 : (i 0).val < 4096 := (i 0).isLt
    have h1 : (i 1).val < 1024 := (i 1).isLt
    obtain ⟨t, ht⟩ : ∃ t : Fin grid0.N, t.val = (i 0).val / 1024 := ⟨⟨(i 0).val / 1024, by rw [N_0]; omega⟩, rfl⟩
    have hi := idx2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

end

end Cert.Kernel11Ideal.Product
end
-- ==== Proof.Kernel12Ideal.Value.lean ====
/-
  The output projection's weight gradient: its one result block is accumulated over the two halves of the 4096 tokens, so its entries are the reference's sums.
-/
module

public import proofs.«01_k».proof.Proof.Products.Sum
public import proofs.«01_k».proof.Proof.Gen.Kernel12Ideal.Value
public import proofs.«01_k».proof.Proof.Gen.Reference12Ideal.Read
public import Idealize.ShloMosaic.Lib.Pointwise
public import Idealize.ShloMosaic.Lib.StableHlo.ReadAt

@[expose] public section
set_option maxRecDepth 16384

noncomputable section
namespace Cert.Kernel12Ideal.Product
open Idealize.ShloMosaic Idealize.ShloMosaic.Tactic Idealize.SL.Sem
open Cert.Kernel12Ideal Cert.Kernel12Ideal.Gen Cert.Products

/-! ## The body at a point, over the blocks it stages -/

section
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x y : Vec Ideal S2048x1024 .bf16) (s : Vec Ideal S1024x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

section
variable (x y : Vec Ideal S2048x1024 .bf16) (s : Vec Ideal S1024x1024 .f32) (r q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = 0 ∧ win0_2.index t 1 = 0 := by decide +kernel

section
variable (t : Fin grid0.N) (k : Fin 2048) (r q : Fin 1024)
theorem read0 (y : Vec Ideal S4096x1024 .bf16) : ((cfg0.win 0).blk t).view.read (Elt Ideal) y (ix2 k r) = y (ix2 (half (kOf t) k) r) := by
  have hi := idx0 t
  rw [View.read_apply]
  refine congrArg y (funext fun a => Fin.ext ?_)
  match a with
  | 0 =>
    show win0_0.index t 0 * 2048 + 1 * k.val = t.val % 2 * 2048 + k.val
    rw [hi.1]; omega
  | 1 =>
    show win0_0.index t 1 * 1024 + 1 * r.val = r.val
    rw [hi.2]; omega
theorem read1 (y : Vec Ideal S4096x1024 .bf16) : ((cfg0.win 1).blk t).view.read (Elt Ideal) y (ix2 k q) = y (ix2 (half (kOf t) k) q) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = q.val
    rw [hi.2]; omega
theorem read2 (y : Vec Ideal S1024x1024 .bf16) : ((cfg0.win 2).blk t).view.read (Elt Ideal) y (ix2 r q) = y (ix2 r q) := by
  have hi := idx2 t
  rw [View.read_apply]
  refine congrArg y (funext fun a => Fin.ext ?_)
  match a with
  | 0 =>
    show win0_2.index t 0 * 1024 + 1 * r.val = r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S4096x1024 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S4096x1024 .bf16) = truncf (F := Ideal) (φ := .f32) .bf16 (a1 m c) bitsLt_bf16_f32 := by
  unfold Gen.V; after_reads_simp

variable (t : Fin grid0.N) (k : Fin 2048) (r q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k q) : EReal) := by
  have hN := N_0
  obtain ⟨s, hs⟩ : ∃ s : Fin grid0.N, s.val = t.val - 1 := ⟨⟨t.val - 1, by have := t.isLt; omega⟩, rfl⟩
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hk, hk']
  exact sum_halves fun k => (a0 m c (ix2 k r) : EReal) * (a1 m c (ix2 k q) : EReal)

/-- The reference's result at an index. -/
theorem ref_apply (x : Vec Ideal S4096x1024 .f32) (y : Vec Ideal S4096x1024 .f32) (q : Fin 1024) :
    (Cert.Reference12Ideal.Read.val_main_v4 (F := Ideal) x y (ix2 r q) : EReal) = ∑ k : Fin 4096, (x (ix2 k r) : EReal) * (y (ix2 k q) : EReal) := by
  rw [Cert.Reference12Ideal.Read.val_main_v4_apply, Cert.Reference12Ideal.Read.val_main_v3_apply, Cert.Reference12Ideal.Read.val_main_v2_apply]
  refine Finset.sum_congr rfl fun k _ => (mul_comm _ _).trans (congr (congrArg _ (congrArg x (funext fun a => ?_))) (congrArg y (funext fun a => ?_)))
  · match a with | 0 => rfl | 1 => rfl
  · match a with | 0 => rfl | 1 => rfl

/-- The result array is the reference's. -/
theorem result : (dats m 0 c).arrAt 2 cfg0.N = Cert.Reference12Ideal.Read.val_main_v4 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q ((flush0_2 t).mp hf)).trans ((ref_apply r _ _ _).symm.trans (read2 t r q _).symm)) fun i => by
    have h0 : (i 0).val < 1024 := (i 0).isLt
    have h1 : (i 1).val < 1024 := (i 1).isLt
    obtain ⟨t, ht⟩ : ∃ t : Fin grid0.N, t.val = 1 := ⟨⟨1, by rw [N_0]; omega⟩, rfl⟩
    have hi := idx2 t
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega
end

end Cert.Kernel12Ideal.Product
end
-- ==== Proof.Kernel13Ideal.Value.lean ====
/-
  The output projection: each of the four result blocks is one product of whole rows and columns.
-/
module

public import proofs.«01_k».proof.Proof.Products.Sum
public import proofs.«01_k».proof.Proof.Gen.Kernel13Ideal.Value
public import proofs.«01_k».proof.Proof.Gen.Reference13Ideal.Read
public import Idealize.ShloMosaic.Lib.Pointwise
public import Idealize.ShloMosaic.Lib.StableHlo.ReadAt

@[expose] public section
set_option maxRecDepth 16384

noncomputable section
namespace Cert.Kernel13Ideal.Product
open Idealize.ShloMosaic Idealize.ShloMosaic.Tactic Idealize.SL.Sem
open Cert.Kernel13Ideal Cert.Kernel13Ideal.Gen Cert.Products

section
variable (x y : Vec Ideal S1024x1024 .bf16) (r q : Fin 1024)
/-- What a point leaves, over the blocks it stages. -/
theorem out2_apply : (out0_2 x y (ix2 r q) : EReal) = ∑ k : Fin 1024, (x (ix2 r k) : EReal) * (y (ix2 k q) : EReal) := by
  unfold out0_2
  rw [View.canon_unit_zero zeros]
  simp only [View.ld_unit_zero (S := S1024x1024) zeros]
  pointwise [k0_pay1]
end

/-! ## Where a point's blocks lie -/

def iOf (t : Fin grid0.N) : Fin 4 := ⟨t.val, by have := t.isLt; have := N_0; omega⟩
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

section
variable (t : Fin grid0.N) (k : Fin 1024) (r q : Fin 1024)
theorem read0 (y : Vec Ideal S4096x1024 .bf16) : ((cfg0.win 0).blk t).view.read (Elt Ideal) y (ix2 r k) = y (ix2 (at4 (iOf t) r) k) := by
  have hi := idx0 t
  rw [View.read_apply]
  refine congrArg y (funext fun a => Fin.ext ?_)
  match a with
  | 0 =>
    show win0_0.index t 0 * 1024 + 1 * r.val = t.val * 1024 + r.val
    rw [hi.1]; omega
  | 1 =>
    show win0_0.index t 1 * 1024 + 1 * k.val = k.val
    rw [hi.2]; omega
theorem read1 (y : Vec Ideal S1024x1024 .bf16) : ((cfg0.win 1).blk t).view.read (Elt Ideal) y (ix2 k q) = y (ix2 k q) := by
  have hi := idx1 t
  rw [View.read_apply]
  refine congrArg y (funext fun a => Fin.ext ?_)
  match a with
  | 0 =>
    show win0_1.index t 0 * 1024 + 1 * k.val = k.val
    rw [hi.1]; omega
  | 1 =>
    show win0_1.index t 1 * 1024 + 1 * q.val = q.val
    rw [hi.2]; omega
theorem read2 (y : Vec Ideal S4096x1024 .f32) : ((cfg0.win 2).blk t).view.read (Elt Ideal) y (ix2 r q) = y (ix2 (at4 (iOf t) r) q) := by
  have hi := idx2 t
  rw [View.read_apply]
  refine congrArg y (funext fun a => Fin.ext ?_)
  match a with
  | 0 =>
    show win0_2.index t 0 * 1024 + 1 * r.val = t.val * 1024 + r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S1024x1024 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S1024x1024 .bf16) = truncf (F := Ideal) (φ := .f32) .bf16 (a1 m c) bitsLt_bf16_f32 := by
  unfold Gen.V; after_reads_simp

variable (t : Fin grid0.N) (k : Fin 1024) (r q : Fin 1024)
theorem blk0 : (iblk m c 0 t (ix2 r k) : EReal) = a0 m c (ix2 (at4 (iOf t) r) k) :=
  (read0 t k r _).trans (congrFun (V_0 m c) _)
theorem blk1 : (iblk m c 1 t (ix2 k q) : EReal) = a1 m c (ix2 k q) :=
  (read1 t k q _).trans (congrFun (V_1 m c) _)

/-- A block's entries. -/
theorem flushed_apply :
    ((dats m 0 c).flushed 2 t (ix2 r q) : EReal) = ∑ k : Fin 1024, (a0 m c (ix2 (at4 (iOf t) r) k) : EReal) * (a1 m c (ix2 k q) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x1024 .f32) (y : Vec Ideal S1024x1024 .f32) (r : Fin 4096) (q : Fin 1024) :
    (Cert.Reference13Ideal.Read.val_main_v0 (F := Ideal) x y (ix2 r q) : EReal) = ∑ k : Fin 1024, (x (ix2 r k) : EReal) * (y (ix2 k q) : EReal) := by
  rw [Cert.Reference13Ideal.Read.val_main_v0_apply]
  refine Finset.sum_congr rfl fun k _ => congr (congrArg _ (congrArg x (funext fun a => ?_))) (congrArg y (funext fun a => ?_))
  · match a with | 0 => rfl | 1 => rfl
  · match a with | 0 => rfl | 1 => rfl

/-- The result array is the reference's. -/
theorem result : (dats m 0 c).arrAt 2 cfg0.N = Cert.Reference13Ideal.Read.val_main_v0 (F := Ideal) (a0 m c) (a1 m c) :=
  (dats m 0 c).arrAt_eq_of_cover 2 _ (fun t hf => by
    funext j
    obtain ⟨r, q, rfl⟩ : ∃ r q : Fin 1024, j = ix2 r q := ⟨j 0, j 1, funext fun a => by match a with | 0 => rfl | 1 => rfl⟩
    exact (flushed_apply m c t r q).trans ((ref_apply _ _ _ _).symm.trans (read2 t r q _).symm)) fun i => by
    have h0 : (i 0).val < 4096 := (i 0).isLt
    have h1 : (i 1).val < 1024 := (i 1).isLt
    obtain ⟨t, ht⟩ : ∃ t : Fin grid0.N, t.val = (i 0).val / 1024 := ⟨⟨(i 0).val / 1024, by rw [N_0]; omega⟩, rfl⟩
    have hi := idx2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [hi.1]; omega
    | ⟨1, _⟩ =>
      show win0_2.index t 1 * 1024 ≤ (i 1 : Nat) ∧ (i 1 : Nat) < win0_2.index t 1 * 1024 + 1024
      rw [hi.2]; omega

end

end Cert.Kernel13Ideal.Product
end
-- ==== Proof.Kernel14Ideal.Value.lean ====
/-
  A branch's weight gradient: its one result block is accumulated over the two halves of the 4096 tokens, so its entries are the reference's sums.
-/
module

public import proofs.«01_k».proof.Proof.Products.Sum
public import proofs.«01_k».proof.Proof.Gen.Kernel14Ideal.Value
public import proofs.«01_k».proof.Proof.Gen.Reference14Ideal.Read
public import Idealize.ShloMosaic.Lib.Pointwise
public import Idealize.ShloMosaic.Lib.StableHlo.ReadAt

@[expose] public section
set_option maxRecDepth 16384

noncomputable section
namespace Cert.Kernel14Ideal.Product
open Idealize.ShloMosaic Idealize.ShloMosaic.Tactic Idealize.SL.Sem
open Cert.Kernel14Ideal Cert.Kernel14Ideal.Gen Cert.Products

/-! ## The body at a point, over the blocks it stages -/

section
variable (c : Dev nD) (i : grid0.Coords) (a3 : Memref sig .tc .vmem S2048x512 .f32) (h3 : a3.IsWhole) (a4 : Memref sig .tc .vmem S2048x1024 .bf16) (h4 : a4.IsWhole)
  (a5 : Memref sig .tc .vmem S512x1024 .bf16) (h5 : a5.IsWhole) (a6 : Memref sig .tc .vmem S512x1024 .f32) (h6 : a6.IsWhole)
  (x : Vec Ideal S2048x512 .f32) (y : Vec Ideal S2048x1024 .bf16) (s : Vec Ideal S512x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x512) zeros, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S512x1024) _ zeros]
  simp only [View.readAt_eq_ld, h3.read_unread, h4.read_unread, h6.read_unread, View.ld_unit_zero (S := S2048x512) zeros, View.ld_unit_zero (S := S2048x1024) zeros, View.ld_unit_zero (S := S512x1024) zeros]
end

section
variable (x : Vec Ideal S2048x512 .f32) (y : Vec Ideal S2048x1024 .bf16) (s : Vec Ideal S512x1024 .f32) (r : Fin 512) (q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = 0 ∧ win0_2.index t 1 = 0 := by decide +kernel

section
variable (t : Fin grid0.N) (k : Fin 2048) (r : Fin 512) (q : Fin 1024)
theorem read0 (y : Vec Ideal S4096x512 .f32) : ((cfg0.win 0).blk t).view.read (Elt Ideal) y (ix2 k r) = y (ix2 (half (kOf t) k) r) := by
  have hi := idx0 t
  rw [View.read_apply]
  refine congrArg y (funext fun a => Fin.ext ?_)
  match a with
  | 0 =>
    show win0_0.index t 0 * 2048 + 1 * k.val = t.val % 2 * 2048 + k.val
    rw [hi.1]; omega
  | 1 =>
    show win0_0.index t 1 * 512 + 1 * r.val = r.val
    rw [hi.2]; omega
theorem read1 (y : Vec Ideal S4096x1024 .bf16) : ((cfg0.win 1).blk t).view.read (Elt Ideal) y (ix2 k q) = y (ix2 (half (kOf t) k) q) := by
  have hi := idx1 t
  rw [View.read_apply]
  refine congrArg y (funext fun a => Fin.ext ?_)
  match a with
  | 0 =>
    show win0_1.index t 0 * 2048 + 1 * k.val = t.val % 2 * 2048 + k.val
    rw [hi.1]; omega
  | 1 =>
    show win0_1.index t 1 * 1024 + 1 * q.val = q.val
    rw [hi.2]; omega
theorem read2 (y : Vec Ideal S512x1024 .bf16) : ((cfg0.win 2).blk t).view.read (Elt Ideal) y (ix2 r q) = y (ix2 r q) := by
  have hi := idx2 t
  rw [View.read_apply]
  refine congrArg y (funext fun a => Fin.ext ?_)
  match a with
  | 0 =>
    show win0_2.index t 0 * 512 + 1 * r.val = r.val
    rw [hi.1]; omega
  | 1 =>
    show win0_2.index t 1 * 1024 + 1 * q.val = q.val
    rw [hi.2]; omega
end

/-! ## The arrays the call finds -/

section
variable (m : (ℓ : Loc nD τ sig) → Buf (Elt Ideal) ℓ) (c : Dev nD)
abbrev a0 : Vec Ideal S4096x512 .f32 := m (c, Proc.devRef .tc main_arg0)
abbrev a1 : Vec Ideal S4096x1024 .f32 := m (c, Proc.devRef .tc main_arg1)

theorem V_0 : (V m c main_arg0 : Vec Ideal S4096x512 .f32) = a0 m c := V_main_arg0 m c
theorem V_1 : (V m c main_v0 : Vec Ideal S4096x1024 .bf16) = truncf (F := Ideal) (φ := .f32) .bf16 (a1 m c) bitsLt_bf16_f32 := by
  unfold Gen.V; after_reads_simp

variable (t : Fin grid0.N) (k : Fin 2048) (r : Fin 512) (q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k q) : EReal) := by
  have hN := N_0
  obtain ⟨s, hs⟩ : ∃ s : Fin grid0.N, s.val = t.val - 1 := ⟨⟨t.val - 1, by have := t.isLt; omega⟩, rfl⟩
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hk, hk']
  exact sum_halves fun k => (a0 m c (ix2 k r) : EReal) * (a1 m c (ix2 k q) : EReal)

/-- The reference's result at an index. -/
theorem ref_apply (x : Vec Ideal S4096x512 .f32) (y : Vec Ideal S4096x1024 .f32) (q : Fin 1024) :
    (Cert.Reference14Ideal.Read.val_main_v4 (F := Ideal) x y (ix2 r q) : EReal) = ∑ k : Fin 4096, (x (ix2 k r) : EReal) * (y (ix2 k q) : EReal) := by
  rw [Cert.Reference14Ideal.Read.val_main_v4_apply, Cert.Reference14Ideal.Read.val_main_v3_apply, Cert.Reference14Ideal.Read.val_main_v2_apply]
  refine Finset.sum_congr rfl fun k _ => (mul_comm _ _).trans (congr (congrArg _ (congrArg x (funext fun a => ?_))) (congrArg y (funext fun a => ?_)))
  · match a with | 0 => rfl | 1 => rfl
  · match a with | 0 => rfl | 1 => rfl

/-- The result array is the reference's. -/
theorem result : (dats m 0 c).arrAt 2 cfg0.N = Cert.Reference14Ideal.Read.val_main_v4 (F := Ideal) (a0 m c) (a1 m c) :=
  (dats m 0 c).arrAt_eq_of_cover 2 _ (fun t hf => by
    funext j
    obtain ⟨r, q, rfl⟩ : ∃ (r : Fin 512) (q : Fin 1024), j = ix2 r q := ⟨j 0, j 1, funext fun a => by match a with | 0 => rfl | 1 => rfl⟩
    exact (flushed_apply m c t r q ((flush0_2 t).mp hf)).trans ((ref_apply r _ _ _).symm.trans (read2 t r q _).symm)) fun i => by
    have h0 : (i 0).val < 512 := (i 0).isLt
    have h1 : (i 1).val < 1024 := (i 1).isLt
    obtain ⟨t, ht⟩ : ∃ t : Fin grid0.N, t.val = 1 := ⟨⟨1, by rw [N_0]; omega⟩, rfl⟩
    have hi := idx2 t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 1024 ≤ (i 1 : Nat) ∧ (i 1 : Nat) < win0_2.index t 1 * 1024 + 1024
      rw [hi.2]; omega
end

end Cert.Kernel14Ideal.Product
end
-- ==== Proof.Products.Merge.lean ====
/-
  What the two halves of the gated merge share: a branch's gate and product, their gradients, and the places of rows in blocks of 256.
-/
module

public import proofs.«01_k».proof.Proof.Products.Sum
public import Idealize.ShloMosaic.Lib.Pointwise

@[expose] public section

noncomputable section
namespace Cert.Products
open Idealize.ShloMosaic

/-- Row `r` of block `b` of 4096 rows in blocks of 256. -/
def at16 (b : Fin 16) (r : Fin 256) : Fin 4096 := ⟨b.val * 256 + r.val, by omega⟩

/-- Lane `q` of branch `n`'s gate: the gates are the last three of the projection's six parts. -/
def lane (n : Fin 3) (q : Fin 1024) : Fin 6144 := ⟨(n.val + 3) * 1024 + q.val, by omega⟩

/-! ## The merge, branch by branch -/

section
variable (dm : (⟨2, ![4096, 1024]⟩ : Shape).Idx → EReal) (o : (⟨2, ![4096, 512]⟩ : Shape).Idx → EReal)
  (w : (⟨3, ![3, 512, 1024]⟩ : Shape).Idx → EReal) (p : (⟨2, ![4096, 6144]⟩ : Shape).Idx → EReal) (n : Fin 3)

/-- Branch `n`'s gate. -/
def gate (r : Fin 4096) (q : Fin 1024) : EReal := Ideal.logistic (p (ix2 r (lane n q)))
/-- Branch `n`'s product. -/
def branch (r : Fin 4096) (q : Fin 1024) : EReal := ∑ k : Fin 512, o (ix2 r k) * w (ix3 n k q)
/-- The gradient of branch `n`'s product. -/
def dbranch (r : Fin 4096) (q : Fin 1024) : EReal := dm (ix2 r q) * gate p n r q
/-- The gradient of branch `n`'s gate before the sigmoid. -/
def dgate (r : Fin 4096) (q : Fin 1024) : EReal := dm (ix2 r q) * branch o w n r q * gate p n r q * (1 - gate p n r q)
/-- The gradient of branch `n`'s input. -/
def dinput (r : Fin 4096) (k : Fin 512) : EReal := ∑ q : Fin 1024, dbranch dm p n r q * w (ix3 n k q)
end

theorem one_word : Ideal.ofBits .f32 0x3F800000#32 = 1 := by
  simp [Ideal.ofBits, Ideal.ieee]
  rw [← EReal.coe_mul, ← EReal.coe_one]
  norm_num

/-- The host's sigmoid, spelt out, is the logistic function. -/
theorem sigmoid_word (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x))) = Ideal.logistic x := by
  rw [one_word]
  rfl

/-! ## Indices -/

section
variable {a b d : Nat} {α : Type}
theorem at2 (y : (⟨2, ![a, b]⟩ : Shape).Idx → α) (i : (⟨2, ![a, b]⟩ : Shape).Idx) (r : Fin a) (q : Fin b)
    (h0 : (i 0).val = r.val) (h1 : (i 1).val = q.val) : y i = y (ix2 r q) :=
  congrArg y (funext fun x => Fin.ext (by match x with | 0 => exact h0 | 1 => exact h1))
theorem at3 (y : (⟨3, ![a, b, d]⟩ : Shape).Idx → α) (i : (⟨3, ![a, b, d]⟩ : Shape).Idx) (r : Fin a) (q : Fin b) (u : Fin d)
    (h0 : (i 0).val = r.val) (h1 : (i 1).val = q.val) (h2 : (i 2).val = u.val) : y i = y (ix3 r q u) :=
  congrArg y (funext fun x => Fin.ext (by match x with | 0 => exact h0 | 1 => exact h1 | 2 => exact h2))
theorem ext2 {f g : (⟨2, ![a, b]⟩ : Shape).Idx → α} (h : ∀ r q, f (ix2 r q) = g (ix2 r q)) : f = g :=
  funext fun i => (at2 f i (i 0) (i 1) rfl rfl).trans ((h _ _).trans (at2 g i (i 0) (i 1) rfl rfl).symm)
end

theorem place {i b n r : Nat} (h : i = b) : i * n + 1 * r = b * n + r := by rw [h, Nat.one_mul]
theorem place0 {i n r : Nat} (h : i = 0) : i * n + 1 * r = r := by rw [h, Nat.one_mul, Nat.zero_mul, Nat.zero_add]

/-- Branch `n`'s weights, as a body loads them. -/
theorem ld_weight (n : Fin 3) (x : Vec Ideal ⟨3, ![3, 512, 1024]⟩ .bf16) (f : Fin 3 → Nat) (inb) (h0 : f 0 = n.val) (h1 : f 1 = 0) (h2 : f 2 = 0)
    (k : Fin 512) (q : Fin 1024) :
    View.ld x (Rect.unit (s := ⟨3, ![3, 512, 1024]⟩) f (⟨3, ![1, 512, 1024]⟩ : Shape).size inb) (ix3 (0 : Fin 1) k q) = x (ix3 n k q) :=
  at3 x _ n k q (by show f 0 + 1 * 0 = n.val; omega) (by show f 1 + 1 * k.val = k.val; omega) (by show f 2 + 1 * q.val = q.val; omega)

/-- A point's number, as a block of rows. -/
def bOf {N : Nat} (hN : N = 16) (t : Fin N) : Fin 16 := ⟨t.val, hN ▸ t.isLt⟩

/-! ## How the plain computation reads its gates and its weights -/

theorem host_gate (n : Fin 3) (p : (⟨2, ![4096, 6144]⟩ : Shape).Idx → EReal) (f : Fin 2 → Nat)
    (h : (⟨2, ![4096, 6144]⟩ : Shape).Slices f ⟨2, ![4096, 1024]⟩) (h0 : f 0 = 0) (h1 : f 1 = (n.val + 3) * 1024) (r : Fin 4096) (q : Fin 1024) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32)
          (extractStridedSlice ⟨2, ![4096, 1024]⟩ f p h (ix2 r q))))) = gate p n r q :=
  (sigmoid_word _).trans (congrArg Ideal.logistic (at2 p _ r (lane n q)
    (by show f 0 + r.val = r.val; rw [h0, Nat.zero_add]) (by show f 1 + q.val = (n.val + 3) * 1024 + q.val; rw [h1])))

/-- The gate's gradient as the plain computation groups it. -/
theorem host_dgate {x b g d e s : EReal} (hx : x = d) (hb : b = e) (hg : g = s) :
    x * b * (g * (Ideal.ofBits .f32 0x3F800000#32 - g)) = d * e * s * (1 - s) := by
  rw [hx, hb, hg, one_word, mul_assoc (d * e)]

theorem host_weight {α : Type} (n : Fin 3) (w : (⟨3, ![3, 512, 1024]⟩ : Shape).Idx → α) (f : Fin 3 → Nat)
    (h : (⟨3, ![3, 512, 1024]⟩ : Shape).Slices f ⟨3, ![1, 512, 1024]⟩) (hc : (⟨3, ![1, 512, 1024]⟩ : Shape).ShapeCasts ⟨2, ![512, 1024]⟩)
    (h0 : f 0 = n.val) (h1 : f 1 = 0) (h2 : f 2 = 0) (k : Fin 512) (q : Fin 1024) :
    shapeCast ⟨2, ![512, 1024]⟩ (extractStridedSlice ⟨3, ![1, 512, 1024]⟩ f w h) hc (ix2 k q) = w (ix3 n k q) :=
  (shapeCast_apply _ hc _ (ix3 (0 : Fin 1) k q) (by
    rewrite [Shape.rowMajor_val_three, Shape.rowMajor_val_two]
    show (0 * 512 + k.val) * 1024 + q.val = k.val * 1024 + q.val
    omega)).trans
  (at3 w _ n k q (by show f 0 + 0 = n.val; rw [h0, Nat.add_zero]) (by show f 1 + k.val = k.val; rw [h1, Nat.zero_add]) (by show f 2 + q.val = q.val; rw [h2, Nat.zero_add]))

/-- The block of 256 whole rows that holds a row. -/
theorem mem_rows {n : Nat} (f : Fin 2 → Nat) (inb) (i : (⟨2, ![4096, n]⟩ : Shape).Idx)
    (h0 : f 0 = (i 0).val / 256) (h1 : f 1 = 0) :
    i ∈ (Rect.unit (s := ⟨2, ![4096, n]⟩) (fun a => f a * (![256, n] : Fin 2 → Nat) a) ![256, n] inb).set := by
  rw [Rect.mem_set_unit]
  intro a
  match a with
  | ⟨0, _⟩ =>
    show f 0 * 256 ≤ (i 0 : Nat) ∧ (i 0 : Nat) < f 0 * 256 + 256
    rw [h0]; omega
  | ⟨1, _⟩ =>
    have hi : (i 1).val < n := (i 1).isLt
    show f 1 * n ≤ (i 1 : Nat) ∧ (i 1 : Nat) < f 1 * n + n
    rw [h1]; omega

end Cert.Products
end
-- ==== Proof.Kernel15Ideal.Value.lean ====
/-
  The backward half of the gated merge: each of the sixteen blocks of 256 rows leaves, for each of the three branches,
  the gradients of its gate, its product and its input.
-/
module

public import proofs.«01_k».proof.Proof.Products.Merge
public import proofs.«01_k».proof.Proof.Gen.Kernel15Ideal.Value
public import proofs.«01_k».proof.Proof.Gen.Reference15Ideal.Read
public import Idealize.ShloMosaic.Lib.Pointwise
public import Idealize.ShloMosaic.Lib.StableHlo.ReadAt

@[expose] public section
set_option maxRecDepth 16384

noncomputable section
namespace Cert.Kernel15Ideal.Product
open Idealize.ShloMosaic Idealize.ShloMosaic.Tactic Idealize.SL.Sem
open Cert.Kernel15Ideal Cert.Kernel15Ideal.Gen Cert.Products

/-! ## What the body computes for a branch -/

section
variable (d g : Vec Ideal S256x1024 .f32) (o : Vec Ideal S256x512 .f32) (w : Vec Ideal S1x512x1024 .bf16) (r : Fin 256) (q : Fin 1024) (k : Fin 512)
theorem pay3_apply : (k0_pay3 d g (ix2 r q) : EReal) = (d (ix2 r q) : EReal) * Ideal.logistic (g (ix2 r q)) := by
  unfold k0_pay3
  pointwise [k0_pay2]
theorem pay4_apply : (k0_pay4 d o w g (ix2 r q) : EReal)
    = (d (ix2 r q) : EReal) * (∑ k : Fin 512, (o (ix2 r k) : EReal) * (w (ix3 0 k q) : EReal)) * Ideal.logistic (g (ix2 r q))
      * (1 - Ideal.logistic (g (ix2 r q))) := by
  unfold k0_pay4
  pointwise [k0_pay2]
theorem pay5_apply : (k0_pay5 d g w (ix2 r k) : EReal)
    = ∑ q : Fin 1024, (d (ix2 r q) : EReal) * Ideal.logistic (g (ix2 r q)) * (w (ix3 0 k q) : EReal) := by
  unfold k0_pay5
  pointwise [k0_pay2, k0_pay3]

/-! The other two branches compute the same. -/

theorem pay9_eq : k0_pay9 d (k0_pay6 o w) g = k0_pay4 d o w g := rfl
theorem pay10_eq : k0_pay10 d g w = k0_pay5 d g w := rfl
theorem pay1_eq : k0_pay1 (k0_pay12 d g) w = k0_pay5 d g w := rfl
end

/-! A branch's three gradients over blocks that hold rows of the arrays. -/

section
variable (dm : Vec Ideal S4096x1024 .f32) (o : Vec Ideal S4096x512 .f32) (w : Vec Ideal S3x512x1024 .f32) (p : Vec Ideal S4096x6144 .f32)
  (n : Fin 3) (x g : Vec Ideal S256x1024 .f32) (y : Vec Ideal S256x512 .f32) (v : Vec Ideal S3x512x1024 .bf16)
  (f : Fin 3 → Nat) (inb : ∀ a, f a + S1x512x1024.size a ≤ S3x512x1024.size a) (h0 : f 0 = n.val) (h1 : f 1 = 0) (h2 : f 2 = 0)
  (r : Fin 256) (R : Fin 4096)
  (hx : ∀ q, (x (ix2 r q) : EReal) = dm (ix2 R q)) (hg : ∀ q, (g (ix2 r q) : EReal) = p (ix2 R (lane n q)))
  (hy : ∀ k, (y (ix2 r k) : EReal) = o (ix2 R k)) (hv : ∀ k q, (v (ix3 n k q) : EReal) = w (ix3 n k q))
include hx hg in
theorem of_dbranch (q : Fin 1024) : (k0_pay3 (View.ld x r0_0) (View.ld g r0_0) (ix2 r q) : EReal) = dbranch dm p n R q := by
  simp only [View.ld_unit_zero (S := S256x1024) zeros]
  rw [pay3_apply, hx, hg]
  rfl
include hx hg hy hv h0 h1 h2 in
theorem of_dgate (q : Fin 1024) :
    (k0_pay4 (View.ld x r0_0) (View.ld y r0_1) (View.ld v (Rect.unit (s := S3x512x1024) f S1x512x1024.size inb)) (View.ld g r0_0) (ix2 r q) : EReal)
      = dgate dm o w p n R q := by
  simp only [View.ld_unit_zero (S := S256x1024) zeros, View.ld_unit_zero (S := S256x512) zeros]
  rw [pay4_apply]
  simp only [ld_weight n v f inb h0 h1 h2, hx, hg, hy, hv]
  rfl
include hx hg hv h0 h1 h2 in
theorem of_dinput (k : Fin 512) :
    (k0_pay5 (View.ld x r0_0) (View.ld g r0_0) (View.ld v (Rect.unit (s := S3x512x1024) f S1x512x1024.size inb)) (ix2 r k) : EReal)
      = dinput dm w p n R k := by
  simp only [View.ld_unit_zero (S := S256x1024) zeros]
  rw [pay5_apply]
  simp only [ld_weight n v f inb h0 h1 h2, hx, hg, hv]
  rfl
end

/-! ## Where a point's blocks lie -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx5 : ∀ t : Fin grid0.N, win0_5.index t 0 = t.val ∧ win0_5.index t 1 = 3 := by decide +kernel
theorem idx6 : ∀ t : Fin grid0.N, win0_6.index t 0 = t.val ∧ win0_6.index t 1 = 4 := by decide +kernel
theorem idx7 : ∀ t : Fin grid0.N, win0_7.index t 0 = t.val ∧ win0_7.index t 1 = 5 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx15 : ∀ t : Fin grid0.N, win0_15.index t 0 = t.val ∧ win0_15.index t 1 = 0 := by decide +kernel
theorem idx16 : ∀ t : Fin grid0.N, win0_16.index t 0 = t.val ∧ win0_16.index t 1 = 0 := by decide +kernel
theorem idx4 : ∀ t : Fin grid0.N, win0_4.index t 0 = 0 ∧ win0_4.index t 1 = 0 ∧ win0_4.index t 2 = 0 := by decide +kernel

/-- The rows point `t` handles. -/
abbrev rOf (t : Fin grid0.N) (r : Fin 256) : Fin 4096 := at16 (bOf N_0 t) r

section
variable (t : Fin grid0.N) (r : Fin 256) (q : Fin 1024) (k : Fin 512)
theorem read0 (y : Vec Ideal S4096x1024 .f32) : ((cfg0.win 0).blk t).view.read (Elt Ideal) y (ix2 r q) = y (ix2 (rOf t r) q) :=
  (View.read_apply ..).trans (at2 y _ _ _ (place (idx0 t).1) (place0 (idx0 t).2))
theorem read1 (y : Vec Ideal S4096x512 .f32) : ((cfg0.win 1).blk t).view.read (Elt Ideal) y (ix2 r k) = y (ix2 (rOf t r) k) :=
  (View.read_apply ..).trans (at2 y _ _ _ (place (idx1 t).1) (place0 (idx1 t).2))
theorem read2 (y : Vec Ideal S4096x512 .f32) : ((cfg0.win 2).blk t).view.read (Elt Ideal) y (ix2 r k) = y (ix2 (rOf t r) k) :=
  (View.read_apply ..).trans (at2 y _ _ _ (place (idx2 t).1) (place0 (idx2 t).2))
theorem read3 (y : Vec Ideal S4096x512 .f32) : ((cfg0.win 3).blk t).view.read (Elt Ideal) y (ix2 r k) = y (ix2 (rOf t r) k) :=
  (View.read_apply ..).trans (at2 y _ _ _ (place (idx3 t).1) (place0 (idx3 t).2))
theorem read8 (y : Vec Ideal S4096x1024 .bf16) : ((cfg0.win 8).blk t).view.read (Elt Ideal) y (ix2 r q) = y (ix2 (rOf t r) q) :=
  (View.read_apply ..).trans (at2 y _ _ _ (place (idx8 t).1) (place0 (idx8 t).2))
theorem read9 (y : Vec Ideal S4096x1024 .bf16) : ((cfg0.win 9).blk t).view.read (Elt Ideal) y (ix2 r q) = y (ix2 (rOf t r) q) :=
  (View.read_apply ..).trans (at2 y _ _ _ (place (idx9 t).1) (place0 (idx9 t).2))
theorem read10 (y : Vec Ideal S4096x1024 .bf16) : ((cfg0.win 10).blk t).view.read (Elt Ideal) y (ix2 r q) = y (ix2 (rOf t r) q) :=
  (View.read_apply ..).trans (at2 y _ _ _ (place (idx10 t).1) (place0 (idx10 t).2))
theorem read11 (y : Vec Ideal S4096x512 .f32) : ((cfg0.win 11).blk t).view.read (Elt Ideal) y (ix2 r k) = y (ix2 (rOf t r) k) :=
  (View.read_apply ..).trans (at2 y _ _ _ (place (idx11 t).1) (place0 (idx11 t).2))
theorem read12 (y : Vec Ideal S4096x512 .f32) : ((cfg0.win 12).blk t).view.read (Elt Ideal) y (ix2 r k) = y (ix2 (rOf t r) k) :=
  (View.read_apply ..).trans (at2 y _ _ _ (place (idx12 t).1) (place0 (idx12 t).2))
theorem read13 (y : Vec Ideal S4096x512 .f32) : ((cfg0.win 13).blk t).view.read (Elt Ideal) y (ix2 r k) = y (ix2 (rOf t r) k) :=
  (View.read_apply ..).trans (at2 y _ _ _ (place (idx13 t).1) (place0 (idx13 t).2))
theorem read14 (y : Vec Ideal S4096x1024 .bf16) : ((cfg0.win 14).blk t).view.read (Elt Ideal) y (ix2 r q) = y (ix2 (rOf t r) q) :=
  (View.read_apply ..).trans (at2 y _ _ _ (place (idx14 t).1) (place0 (idx14 t).2))
theorem read15 (y : Vec Ideal S4096x1024 .bf16) : ((cfg0.win 15).blk t).view.read (Elt Ideal) y (ix2 r q) = y (ix2 (rOf t r) q) :=
  (View.read_apply ..).trans (at2 y _ _ _ (place (idx15 t).1) (place0 (idx15 t).2))
theorem read16 (y : Vec Ideal S4096x1024 .bf16) : ((cfg0.win 16).blk t).view.read (Elt Ideal) y (ix2 r q) = y (ix2 (rOf t r) q) :=
  (View.read_apply ..).trans (at2 y _ _ _ (place (idx16 t).1) (place0 (idx16 t).2))
theorem read4 (n : Fin 3) (y : Vec Ideal S3x512x1024 .bf16) : ((cfg0.win 4).blk t).view.read (Elt Ideal) y (ix3 n k q) = y (ix3 n k q) :=
  (View.read_apply ..).trans (at3 y _ _ _ _ (place0 (idx4 t).1) (place0 (idx4 t).2.1) (place0 (idx4 t).2.2))
theorem read5 (y : Vec Ideal S4096x6144 .f32) : ((cfg0.win 5).blk t).view.read (Elt Ideal) y (ix2 r q) = y (ix2 (rOf t r) (lane 0 q)) :=
  (View.read_apply ..).trans (at2 y _ _ _ (place (idx5 t).1) (place (idx5 t).2))
theorem read6 (y : Vec Ideal S4096x6144 .f32) : ((cfg0.win 6).blk t).view.read (Elt Ideal) y (ix2 r q) = y (ix2 (rOf t r) (lane 1 q)) :=
  (View.read_apply ..).trans (at2 y _ _ _ (place (idx6 t).1) (place (idx6 t).2))
theorem read7 (y : Vec Ideal S4096x6144 .f32) : ((cfg0.win 7).blk t).view.read (Elt Ideal) y (ix2 r q) = y (ix2 (rOf t r) (lane 2 q)) :=
  (View.read_apply ..).trans (at2 y _ _ _ (place (idx7 t).1) (place (idx7 t).2))
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S4096x512 .f32 := m (c, Proc.devRef .tc main_arg1)
abbrev a2 : Vec Ideal S4096x512 .f32 := m (c, Proc.devRef .tc main_arg2)
abbrev a3 : Vec Ideal S4096x512 .f32 := m (c, Proc.devRef .tc main_arg3)
abbrev a4 : Vec Ideal S3x512x1024 .f32 := m (c, Proc.devRef .tc main_arg4)
abbrev a5 : Vec Ideal S4096x6144 .f32 := m (c, Proc.devRef .tc main_arg5)

theorem V_4 : (V m c main_v0 : Vec Ideal S3x512x1024 .bf16) = truncf (F := Ideal) (φ := .f32) .bf16 (a4 m c) bitsLt_bf16_f32 := by
  unfold Gen.V; after_reads_simp

variable (t : Fin grid0.N) (r : Fin 256) (q : Fin 1024) (k : Fin 512)
theorem blk0 : (iblk m c 0 t (ix2 r q) : EReal) = a0 m c (ix2 (rOf t r) q) := (read0 t r q _).trans (congrFun (V_main_arg0 m c) _)
theorem blk1 : (iblk m c 1 t (ix2 r k) : EReal) = a1 m c (ix2 (rOf t r) k) := (read1 t r k _).trans (congrFun (V_main_arg1 m c) _)
theorem blk2 : (iblk m c 2 t (ix2 r k) : EReal) = a2 m c (ix2 (rOf t r) k) := (read2 t r k _).trans (congrFun (V_main_arg2 m c) _)
theorem blk3 : (iblk m c 3 t (ix2 r k) : EReal) = a3 m c (ix2 (rOf t r) k) := (read3 t r k _).trans (congrFun (V_main_arg3 m c) _)
theorem blk4 (n : Fin 3) : (iblk m c 4 t (ix3 n k q) : EReal) = a4 m c (ix3 n k q) := (read4 t q k n _).trans (congrFun (V_4 m c) _)
theorem blk5 : (iblk m c 5 t (ix2 r q) : EReal) = a5 m c (ix2 (rOf t r) (lane 0 q)) := (read5 t r q _).trans (congrFun (V_main_arg5 m c) _)
theorem blk6 : (iblk m c 6 t (ix2 r q) : EReal) = a5 m c (ix2 (rOf t r) (lane 1 q)) := (read6 t r q _).trans (congrFun (V_main_arg5 m c) _)
theorem blk7 : (iblk m c 7 t (ix2 r q) : EReal) = a5 m c (ix2 (rOf t r) (lane 2 q)) := (read7 t r q _).trans (congrFun (V_main_arg5 m c) _)

/-! ## A block's entries -/

theorem flushed8 : ((dats m 0 c).flushed 8 t (ix2 r q) : EReal) = dgate (a0 m c) (a1 m c) (a4 m c) (a5 m c) 0 (rOf t r) q := by
  rw [Value.flushed8 m c t]
  change (out0_8 (iblk m c 0 t) (iblk m c 1 t) (iblk m c 2 t) (iblk m c 3 t) (iblk m c 4 t) (iblk m c 5 t) (iblk m c 6 t) (iblk m c 7 t) (ix2 r q) : EReal) = _
  unfold out0_8
  rw [View.canon_unit_zero zeros]
  exact of_dgate _ _ _ _ 0 _ _ _ _ ![0, 0, 0] _ rfl rfl rfl r _ (fun q => blk0 m c t r q) (fun q => blk5 m c t r q) (fun k => blk1 m c t r k) (fun k q => blk4 m c t q k 0) q
theorem flushed9 : ((dats m 0 c).flushed 9 t (ix2 r q) : EReal) = dgate (a0 m c) (a2 m c) (a4 m c) (a5 m c) 1 (rOf t r) q := by
  rw [Value.flushed9 m c t]
  change (out0_9 (iblk m c 0 t) (iblk m c 1 t) (iblk m c 2 t) (iblk m c 3 t) (iblk m c 4 t) (iblk m c 5 t) (iblk m c 6 t) (iblk m c 7 t) (ix2 r q) : EReal) = _
  unfold out0_9
  rw [View.canon_unit_zero zeros, pay9_eq]
  exact of_dgate _ _ _ _ 1 _ _ _ _ ![1, 0, 0] _ rfl rfl rfl r _ (fun q => blk0 m c t r q) (fun q => blk6 m c t r q) (fun k => blk2 m c t r k) (fun k q => blk4 m c t q k 1) q
theorem flushed10 : ((dats m 0 c).flushed 10 t (ix2 r q) : EReal) = dgate (a0 m c) (a3 m c) (a4 m c) (a5 m c) 2 (rOf t r) q := by
  rw [Value.flushed10 m c t]
  change (out0_10 (iblk m c 0 t) (iblk m c 1 t) (iblk m c 2 t) (iblk m c 3 t) (iblk m c 4 t) (iblk m c 5 t) (iblk m c 6 t) (iblk m c 7 t) (ix2 r q) : EReal) = _
  unfold out0_10
  rw [View.canon_unit_zero zeros]
  exact of_dgate _ _ _ _ 2 _ _ _ _ ![2, 0, 0] _ rfl rfl rfl r _ (fun q => blk0 m c t r q) (fun q => blk7 m c t r q) (fun k => blk3 m c t r k) (fun k q => blk4 m c t q k 2) q
theorem flushed11 : ((dats m 0 c).flushed 11 t (ix2 r k) : EReal) = dinput (a0 m c) (a4 m c) (a5 m c) 0 (rOf t r) k := by
  rw [Value.flushed11 m c t]
  change (out0_11 (iblk m c 0 t) (iblk m c 1 t) (iblk m c 2 t) (iblk m c 3 t) (iblk m c 4 t) (iblk m c 5 t) (iblk m c 6 t) (iblk m c 7 t) (ix2 r k) : EReal) = _
  unfold out0_11
  rw [View.canon_unit_zero zeros]
  exact of_dinput _ _ _ 0 _ _ _ ![0, 0, 0] _ rfl rfl rfl r _ (fun q => blk0 m c t r q) (fun q => blk5 m c t r q) (fun k q => blk4 m c t q k 0) k
theorem flushed12 : ((dats m 0 c).flushed 12 t (ix2 r k) : EReal) = dinput (a0 m c) (a4 m c) (a5 m c) 1 (rOf t r) k := by
  rw [Value.flushed12 m c t]
  change (out0_12 (iblk m c 0 t) (iblk m c 1 t) (iblk m c 2 t) (iblk m c 3 t) (iblk m c 4 t) (iblk m c 5 t) (iblk m c 6 t) (iblk m c 7 t) (ix2 r k) : EReal) = _
  unfold out0_12
  rw [View.canon_unit_zero zeros, pay10_eq]
  exact of_dinput _ _ _ 1 _ _ _ ![1, 0, 0] _ rfl rfl rfl r _ (fun q => blk0 m c t r q) (fun q => blk6 m c t r q) (fun k q => blk4 m c t q k 1) k
theorem flushed13 : ((dats m 0 c).flushed 13 t (ix2 r k) : EReal) = dinput (a0 m c) (a4 m c) (a5 m c) 2 (rOf t r) k := by
  rw [Value.flushed13 m c t]
  change (out0_13 (iblk m c 0 t) (iblk m c 1 t) (iblk m c 2 t) (iblk m c 3 t) (iblk m c 4 t) (iblk m c 5 t) (iblk m c 6 t) (iblk m c 7 t) (ix2 r k) : EReal) = _
  unfold out0_13 k0_pay14
  rw [View.canon_unit_zero zeros, pay1_eq]
  exact of_dinput _ _ _ 2 _ _ _ ![2, 0, 0] _ rfl rfl rfl r _ (fun q => blk0 m c t r q) (fun q => blk7 m c t r q) (fun k q => blk4 m c t q k 2) k
theorem flushed14 : ((dats m 0 c).flushed 14 t (ix2 r q) : EReal) = dbranch (a0 m c) (a5 m c) 0 (rOf t r) q := by
  rw [Value.flushed14 m c t]
  change (out0_14 (iblk m c 0 t) (iblk m c 1 t) (iblk m c 2 t) (iblk m c 3 t) (iblk m c 4 t) (iblk m c 5 t) (iblk m c 6 t) (iblk m c 7 t) (ix2 r q) : EReal) = _
  unfold out0_14
  rw [View.canon_unit_zero zeros]
  exact of_dbranch _ _ 0 _ _ r _ (fun q => blk0 m c t r q) (fun q => blk5 m c t r q) q
theorem flushed15 : ((dats m 0 c).flushed 15 t (ix2 r q) : EReal) = dbranch (a0 m c) (a5 m c) 1 (rOf t r) q := by
  rw [Value.flushed15 m c t]
  change (out0_15 (iblk m c 0 t) (iblk m c 1 t) (iblk m c 2 t) (iblk m c 3 t) (iblk m c 4 t) (iblk m c 5 t) (iblk m c 6 t) (iblk m c 7 t) (ix2 r q) : EReal) = _
  unfold out0_15
  rw [View.canon_unit_zero zeros]
  exact of_dbranch _ _ 1 _ _ r _ (fun q => blk0 m c t r q) (fun q => blk6 m c t r q) q
theorem flushed16 : ((dats m 0 c).flushed 16 t (ix2 r q) : EReal) = dbranch (a0 m c) (a5 m c) 2 (rOf t r) q := by
  rw [Value.flushed16 m c t]
  change (out0_16 (iblk m c 0 t) (iblk m c 1 t) (iblk m c 2 t) (iblk m c 3 t) (iblk m c 4 t) (iblk m c 5 t) (iblk m c 6 t) (iblk m c 7 t) (ix2 r q) : EReal) = _
  unfold out0_16
  rw [View.canon_unit_zero zeros]
  exact of_dbranch _ _ 2 _ _ r _ (fun q => blk0 m c t r q) (fun q => blk7 m c t r q) q
end

/-! ## The reference's results at an index -/

section
open Cert.Reference15Ideal.Read
variable (dm : Vec Ideal S4096x1024 .f32) (o : Vec Ideal S4096x512 .f32) (w : Vec Ideal S3x512x1024 .f32) (p : Vec Ideal S4096x6144 .f32)
  (r : Fin 4096) (q : Fin 1024) (k : Fin 512)
theorem ref_gate0 : (val_main_v17 (F := Ideal) p (ix2 r q) : EReal) = gate p 0 r q := host_gate 0 p _ _ rfl rfl r q
theorem ref_weight0 : (val_main_v4 (F := Ideal) w (ix2 k q) : EReal) = w (ix3 0 k q) := host_weight 0 w ![0, 0, 0] _ _ rfl rfl rfl k q
theorem ref_branch0 : (val_main_v5 (F := Ideal) o w (ix2 r q) : EReal) = branch o w 0 r q := by
  rw [val_main_v5_apply]
  exact Finset.sum_congr rfl fun k _ => congr (congrArg _ (at2 o _ r k rfl rfl)) ((at2 _ _ k q rfl rfl).trans (ref_weight0 w q k))
theorem ref_gate1 : (val_main_v27 (F := Ideal) p (ix2 r q) : EReal) = gate p 1 r q := host_gate 1 p _ _ rfl rfl r q
theorem ref_weight1 : (val_main_v7 (F := Ideal) w (ix2 k q) : EReal) = w (ix3 1 k q) := host_weight 1 w ![1, 0, 0] _ _ rfl rfl rfl k q
theorem ref_branch1 : (val_main_v8 (F := Ideal) o w (ix2 r q) : EReal) = branch o w 1 r q := by
  rw [val_main_v8_apply]
  exact Finset.sum_congr rfl fun k _ => congr (congrArg _ (at2 o _ r k rfl rfl)) ((at2 _ _ k q rfl rfl).trans (ref_weight1 w q k))
theorem ref_gate2 : (val_main_v37 (F := Ideal) p (ix2 r q) : EReal) = gate p 2 r q := host_gate 2 p _ _ rfl rfl r q
theorem ref_weight2 : (val_main_v10 (F := Ideal) w (ix2 k q) : EReal) = w (ix3 2 k q) := host_weight 2 w ![2, 0, 0] _ _ rfl rfl rfl k q
theorem ref_branch2 : (val_main_v11 (F := Ideal) o w (ix2 r q) : EReal) = branch o w 2 r q := by
  rw [val_main_v11_apply]
  exact Finset.sum_congr rfl fun k _ => congr (congrArg _ (at2 o _ r k rfl rfl)) ((at2 _ _ k q rfl rfl).trans (ref_weight2 w q k))
theorem ref_dv44 : (val_main_v44 (F := Ideal) dm (ix2 r q) : EReal) = dm (ix2 r q) := shapeCast_apply dm _ _ _ rfl
theorem ref_dv45 : (val_main_v45 (F := Ideal) dm (ix2 r q) : EReal) = dm (ix2 r q) := shapeCast_apply dm _ _ _ rfl
theorem ref_dbranch0 : (val_main_v61 (F := Ideal) dm p (ix2 r q) : EReal) = dbranch dm p 0 r q :=
  (congr (congrArg _ (ref_gate0 p r q)) (ref_dv44 dm r q)).trans (mul_comm _ _)
theorem ref_dgate0 : (val_main_v58 (F := Ideal) dm o w p (ix2 r q) : EReal) = dgate dm o w p 0 r q :=
  (host_dgate (ref_dv44 dm r q) (ref_branch0 o w r q) (ref_gate0 p r q))
theorem ref_dinput0 : (val_main_v57 (F := Ideal) dm w p (ix2 r k) : EReal) = dinput dm w p 0 r k := by
  rw [val_main_v57_apply]
  exact Finset.sum_congr rfl fun q _ => congr (congrArg _ ((at2 _ _ r q rfl rfl).trans (ref_dbranch0 dm p r q))) ((at2 _ _ k q rfl rfl).trans (ref_weight0 w q k))
theorem ref_dbranch1 : (val_main_v62 (F := Ideal) dm p (ix2 r q) : EReal) = dbranch dm p 1 r q :=
  (congr (congrArg _ (ref_gate1 p r q)) (ref_dv44 dm r q)).trans (mul_comm _ _)
theorem ref_dgate1 : (val_main_v59 (F := Ideal) dm o w p (ix2 r q) : EReal) = dgate dm o w p 1 r q :=
  (host_dgate (ref_dv44 dm r q) (ref_branch1 o w r q) (ref_gate1 p r q))
theorem ref_dinput1 : (val_main_v56 (F := Ideal) dm w p (ix2 r k) : EReal) = dinput dm w p 1 r k := by
  rw [val_main_v56_apply]
  exact Finset.sum_congr rfl fun q _ => congr (congrArg _ ((at2 _ _ r q rfl rfl).trans (ref_dbranch1 dm p r q))) ((at2 _ _ k q rfl rfl).trans (ref_weight1 w q k))
theorem ref_dbranch2 : (val_main_v63 (F := Ideal) dm p (ix2 r q) : EReal) = dbranch dm p 2 r q :=
  (congr (congrArg _ (ref_gate2 p r q)) (ref_dv45 dm r q)).trans (mul_comm _ _)
theorem ref_dgate2 : (val_main_v60 (F := Ideal) dm o w p (ix2 r q) : EReal) = dgate dm o w p 2 r q :=
  (host_dgate (ref_dv45 dm r q) (ref_branch2 o w r q) (ref_gate2 p r q))
theorem ref_dinput2 : (val_main_v55 (F := Ideal) dm w p (ix2 r k) : EReal) = dinput dm w p 2 r k := by
  rw [val_main_v55_apply]
  exact Finset.sum_congr rfl fun q _ => congr (congrArg _ ((at2 _ _ r q rfl rfl).trans (ref_dbranch2 dm p r q))) ((at2 _ _ k q rfl rfl).trans (ref_weight2 w q k))
end

/-! ## The result arrays are the reference's -/

section
open Cert.Reference15Ideal.Read
variable (m : (ℓ : Loc nD τ sig) → Buf (Elt Ideal) ℓ) (c : Dev nD)
/-- The point that handles a row. -/
def tOf (R : Nat) (h : R < 4096) : Fin grid0.N := ⟨R / 256, by rw [N_0]; omega⟩
theorem result8 : (dats m 0 c).arrAt 8 cfg0.N = val_main_v58 (F := Ideal) (a0 m c) (a1 m c) (a4 m c) (a5 m c) :=
  (dats m 0 c).arrAt_eq_of_cover 8 _ (fun t _ => ext2 fun r q =>
    (flushed8 m c t r q).trans ((ref_dgate0 _ _ _ _ _ _).symm.trans (read8 t r q _).symm)) fun i =>
    ⟨tOf _ (i 0).isLt, flush0_8 _, by
      show i ∈ ((View.whole main_v1_0).slice (win0_8.rect (tOf _ (i 0).isLt))).set
      rw [View.set_slice_whole]
      exact mem_rows (win0_8.index (tOf _ (i 0).isLt)) _ i (idx8 _).1 (idx8 _).2⟩
theorem result9 : (dats m 0 c).arrAt 9 cfg0.N = val_main_v59 (F := Ideal) (a0 m c) (a2 m c) (a4 m c) (a5 m c) :=
  (dats m 0 c).arrAt_eq_of_cover 9 _ (fun t _ => ext2 fun r q =>
    (flushed9 m c t r q).trans ((ref_dgate1 _ _ _ _ _ _).symm.trans (read9 t r q _).symm)) fun i =>
    ⟨tOf _ (i 0).isLt, flush0_9 _, by
      show i ∈ ((View.whole main_v1_1).slice (win0_9.rect (tOf _ (i 0).isLt))).set
      rw [View.set_slice_whole]
      exact mem_rows (win0_9.index (tOf _ (i 0).isLt)) _ i (idx9 _).1 (idx9 _).2⟩
theorem result10 : (dats m 0 c).arrAt 10 cfg0.N = val_main_v60 (F := Ideal) (a0 m c) (a3 m c) (a4 m c) (a5 m c) :=
  (dats m 0 c).arrAt_eq_of_cover 10 _ (fun t _ => ext2 fun r q =>
    (flushed10 m c t r q).trans ((ref_dgate2 _ _ _ _ _ _).symm.trans (read10 t r q _).symm)) fun i =>
    ⟨tOf _ (i 0).isLt, flush0_10 _, by
      show i ∈ ((View.whole main_v1_2).slice (win0_10.rect (tOf _ (i 0).isLt))).set
      rw [View.set_slice_whole]
      exact mem_rows (win0_10.index (tOf _ (i 0).isLt)) _ i (idx10 _).1 (idx10 _).2⟩
theorem result11 : (dats m 0 c).arrAt 11 cfg0.N = val_main_v57 (F := Ideal) (a0 m c) (a4 m c) (a5 m c) :=
  (dats m 0 c).arrAt_eq_of_cover 11 _ (fun t _ => ext2 fun r q =>
    (flushed11 m c t r q).trans ((ref_dinput0 _ _ _ _ _).symm.trans (read11 t r q _).symm)) fun i =>
    ⟨tOf _ (i 0).isLt, flush0_11 _, by
      show i ∈ ((View.whole main_v1_3).slice (win0_11.rect (tOf _ (i 0).isLt))).set
      rw [View.set_slice_whole]
      exact mem_rows (win0_11.index (tOf _ (i 0).isLt)) _ i (idx11 _).1 (idx11 _).2⟩
theorem result12 : (dats m 0 c).arrAt 12 cfg0.N = val_main_v56 (F := Ideal) (a0 m c) (a4 m c) (a5 m c) :=
  (dats m 0 c).arrAt_eq_of_cover 12 _ (fun t _ => ext2 fun r q =>
    (flushed12 m c t r q).trans ((ref_dinput1 _ _ _ _ _).symm.trans (read12 t r q _).symm)) fun i =>
    ⟨tOf _ (i 0).isLt, flush0_12 _, by
      show i ∈ ((View.whole main_v1_4).slice (win0_12.rect (tOf _ (i 0).isLt))).set
      rw [View.set_slice_whole]
      exact mem_rows (win0_12.index (tOf _ (i 0).isLt)) _ i (idx12 _).1 (idx12 _).2⟩
theorem result13 : (dats m 0 c).arrAt 13 cfg0.N = val_main_v55 (F := Ideal) (a0 m c) (a4 m c) (a5 m c) :=
  (dats m 0 c).arrAt_eq_of_cover 13 _ (fun t _ => ext2 fun r q =>
    (flushed13 m c t r q).trans ((ref_dinput2 _ _ _ _ _).symm.trans (read13 t r q _).symm)) fun i =>
    ⟨tOf _ (i 0).isLt, flush0_13 _, by
      show i ∈ ((View.whole main_v1_5).slice (win0_13.rect (tOf _ (i 0).isLt))).set
      rw [View.set_slice_whole]
      exact mem_rows (win0_13.index (tOf _ (i 0).isLt)) _ i (idx13 _).1 (idx13 _).2⟩
theorem result14 : (dats m 0 c).arrAt 14 cfg0.N = val_main_v61 (F := Ideal) (a0 m c) (a5 m c) :=
  (dats m 0 c).arrAt_eq_of_cover 14 _ (fun t _ => ext2 fun r q =>
    (flushed14 m c t r q).trans ((ref_dbranch0 _ _ _ _).symm.trans (read14 t r q _).symm)) fun i =>
    ⟨tOf _ (i 0).isLt, flush0_14 _, by
      show i ∈ ((View.whole main_v1_6).slice (win0_14.rect (tOf _ (i 0).isLt))).set
      rw [View.set_slice_whole]
      exact mem_rows (win0_14.index (tOf _ (i 0).isLt)) _ i (idx14 _).1 (idx14 _).2⟩
theorem result15 : (dats m 0 c).arrAt 15 cfg0.N = val_main_v62 (F := Ideal) (a0 m c) (a5 m c) :=
  (dats m 0 c).arrAt_eq_of_cover 15 _ (fun t _ => ext2 fun r q =>
    (flushed15 m c t r q).trans ((ref_dbranch1 _ _ _ _).symm.trans (read15 t r q _).symm)) fun i =>
    ⟨tOf _ (i 0).isLt, flush0_15 _, by
      show i ∈ ((View.whole main_v1_7).slice (win0_15.rect (tOf _ (i 0).isLt))).set
      rw [View.set_slice_whole]
      exact mem_rows (win0_15.index (tOf _ (i 0).isLt)) _ i (idx15 _).1 (idx15 _).2⟩
theorem result16 : (dats m 0 c).arrAt 16 cfg0.N = val_main_v63 (F := Ideal) (a0 m c) (a5 m c) :=
  (dats m 0 c).arrAt_eq_of_cover 16 _ (fun t _ => ext2 fun r q =>
    (flushed16 m c t r q).trans ((ref_dbranch2 _ _ _ _).symm.trans (read16 t r q _).symm)) fun i =>
    ⟨tOf _ (i 0).isLt, flush0_16 _, by
      show i ∈ ((View.whole main_v1_8).slice (win0_16.rect (tOf _ (i 0).isLt))).set
      rw [View.set_slice_whole]
      exact mem_rows (win0_16.index (tOf _ (i 0).isLt)) _ i (idx16 _).1 (idx16 _).2⟩
end

end Cert.Kernel15Ideal.Product
end
-- ==== Proof.Kernel16Ideal.Value.lean ====
/-
  The gated merge: each of the sixteen blocks of 256 rows is the sum of the three branches' gated products.
-/
module

public import proofs.«01_k».proof.Proof.Products.Merge
public import proofs.«01_k».proof.Proof.Gen.Kernel16Ideal.Value
public import proofs.«01_k».proof.Proof.Gen.Reference16Ideal.Read
public import Idealize.ShloMosaic.Lib.Pointwise
public import Idealize.ShloMosaic.Lib.StableHlo.ReadAt

@[expose] public section
set_option maxRecDepth 16384

noncomputable section
namespace Cert.Kernel16Ideal.Product
open Idealize.ShloMosaic Idealize.ShloMosaic.Tactic Idealize.SL.Sem
open Cert.Kernel16Ideal Cert.Kernel16Ideal.Gen Cert.Products

/-- A branch of the body over the blocks it stages. -/
def term (o : Vec Ideal S256x512 .f32) (w : Vec Ideal S3x512x1024 .bf16) (g : Vec Ideal S256x1024 .f32) (n : Fin 3) (r : Fin 256) (q : Fin 1024) : EReal :=
  Ideal.logistic (g (ix2 r q)) * ∑ k : Fin 512, (o (ix2 r k) : EReal) * (w (ix3 n k q) : EReal)

section
variable (x0 x1 x2 : Vec Ideal S256x512 .f32) (x3 : Vec Ideal S3x512x1024 .bf16) (x4 x5 x6 : Vec Ideal S256x1024 .f32) (r : Fin 256) (q : Fin 1024)
theorem pay1_apply (w0 w1 w2 : Vec Ideal S1x512x1024 .bf16) : (k0_pay1 x0 w0 x4 x1 w1 x5 x2 w2 x6 (ix2 r q) : EReal)
    = Ideal.logistic (x4 (ix2 r q)) * (∑ k : Fin 512, (x0 (ix2 r k) : EReal) * (w0 (ix3 0 k q) : EReal))
      + Ideal.logistic (x5 (ix2 r q)) * (∑ k : Fin 512, (x1 (ix2 r k) : EReal) * (w1 (ix3 0 k q) : EReal))
      + Ideal.logistic (x6 (ix2 r q)) * (∑ k : Fin 512, (x2 (ix2 r k) : EReal) * (w2 (ix3 0 k q) : EReal)) := by
  unfold k0_pay1
  pointwise []
/-- What a point leaves, over the blocks it stages. -/
theorem out7_apply : (out0_7 x0 x1 x2 x3 x4 x5 x6 (ix2 r q) : EReal) = term x0 x3 x4 0 r q + term x1 x3 x5 1 r q + term x2 x3 x6 2 r q := by
  unfold out0_7
  rw [View.canon_unit_zero zeros]
  simp only [View.ld_unit_zero (S := S256x1024) zeros, View.ld_unit_zero (S := S256x512) zeros]
  rw [pay1_apply]
  simp only [ld_weight 0 x3 ![0, 0, 0] _ rfl rfl rfl, ld_weight 1 x3 ![1, 0, 0] _ rfl rfl rfl, ld_weight 2 x3 ![2, 0, 0] _ rfl rfl rfl]
  rfl
end

/-! ## Where a point's blocks lie -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 3 := by decide +kernel
theorem idx5 : ∀ t : Fin grid0.N, win0_5.index t 0 = t.val ∧ win0_5.index t 1 = 4 := by decide +kernel
theorem idx6 : ∀ t : Fin grid0.N, win0_6.index t 0 = t.val ∧ win0_6.index t 1 = 5 := by decide +kernel
theorem idx7 : ∀ t : Fin grid0.N, win0_7.index t 0 = t.val ∧ win0_7.index t 1 = 0 := by decide +kernel
theorem idx3 : ∀ t : Fin grid0.N, win0_3.index t 0 = 0 ∧ win0_3.index t 1 = 0 ∧ win0_3.index t 2 = 0 := by decide +kernel

/-- The rows point `t` handles. -/
abbrev rOf (t : Fin grid0.N) (r : Fin 256) : Fin 4096 := at16 (bOf N_0 t) r

section
variable (t : Fin grid0.N) (r : Fin 256) (q : Fin 1024) (k : Fin 512)
theorem read0 (y : Vec Ideal S4096x512 .f32) : ((cfg0.win 0).blk t).view.read (Elt Ideal) y (ix2 r k) = y (ix2 (rOf t r) k) :=
  (View.read_apply ..).trans (at2 y _ _ _ (place (idx0 t).1) (place0 (idx0 t).2))
theorem read1 (y : Vec Ideal S4096x512 .f32) : ((cfg0.win 1).blk t).view.read (Elt Ideal) y (ix2 r k) = y (ix2 (rOf t r) k) :=
  (View.read_apply ..).trans (at2 y _ _ _ (place (idx1 t).1) (place0 (idx1 t).2))
theorem read2 (y : Vec Ideal S4096x512 .f32) : ((cfg0.win 2).blk t).view.read (Elt Ideal) y (ix2 r k) = y (ix2 (rOf t r) k) :=
  (View.read_apply ..).trans (at2 y _ _ _ (place (idx2 t).1) (place0 (idx2 t).2))
theorem read7 (y : Vec Ideal S4096x1024 .bf16) : ((cfg0.win 7).blk t).view.read (Elt Ideal) y (ix2 r q) = y (ix2 (rOf t r) q) :=
  (View.read_apply ..).trans (at2 y _ _ _ (place (idx7 t).1) (place0 (idx7 t).2))
theorem read3 (n : Fin 3) (y : Vec Ideal S3x512x1024 .bf16) : ((cfg0.win 3).blk t).view.read (Elt Ideal) y (ix3 n k q) = y (ix3 n k q) :=
  (View.read_apply ..).trans (at3 y _ _ _ _ (place0 (idx3 t).1) (place0 (idx3 t).2.1) (place0 (idx3 t).2.2))
theorem read4 (y : Vec Ideal S4096x6144 .f32) : ((cfg0.win 4).blk t).view.read (Elt Ideal) y (ix2 r q) = y (ix2 (rOf t r) (lane 0 q)) :=
  (View.read_apply ..).trans (at2 y _ _ _ (place (idx4 t).1) (place (idx4 t).2))
theorem read5 (y : Vec Ideal S4096x6144 .f32) : ((cfg0.win 5).blk t).view.read (Elt Ideal) y (ix2 r q) = y (ix2 (rOf t r) (lane 1 q)) :=
  (View.read_apply ..).trans (at2 y _ _ _ (place (idx5 t).1) (place (idx5 t).2))
theorem read6 (y : Vec Ideal S4096x6144 .f32) : ((cfg0.win 6).blk t).view.read (Elt Ideal) y (ix2 r q) = y (ix2 (rOf t r) (lane 2 q)) :=
  (View.read_apply ..).trans (at2 y _ _ _ (place (idx6 t).1) (place (idx6 t).2))
end

/-! ## The arrays the call finds -/

section
variable (m : (ℓ : Loc nD τ sig) → Buf (Elt Ideal) ℓ) (c : Dev nD)
abbrev a0 : Vec Ideal S4096x512 .f32 := m (c, Proc.devRef .tc main_arg0)
abbrev a1 : Vec Ideal S4096x512 .f32 := m (c, Proc.devRef .tc main_arg1)
abbrev a2 : Vec Ideal S4096x512 .f32 := m (c, Proc.devRef .tc main_arg2)
abbrev a3 : Vec Ideal S3x512x1024 .f32 := m (c, Proc.devRef .tc main_arg3)
abbrev a4 : Vec Ideal S4096x6144 .f32 := m (c, Proc.devRef .tc main_arg4)

theorem V_3 : (V m c main_v0 : Vec Ideal S3x512x1024 .bf16) = truncf (F := Ideal) (φ := .f32) .bf16 (a3 m c) bitsLt_bf16_f32 := by
  unfold Gen.V; after_reads_simp

variable (t : Fin grid0.N) (r : Fin 256) (q : Fin 1024) (k : Fin 512)
theorem blk0 : (iblk m c 0 t (ix2 r k) : EReal) = a0 m c (ix2 (rOf t r) k) := (read0 t r k _).trans (congrFun (V_main_arg0 m c) _)
theorem blk1 : (iblk m c 1 t (ix2 r k) : EReal) = a1 m c (ix2 (rOf t r) k) := (read1 t r k _).trans (congrFun (V_main_arg1 m c) _)
theorem blk2 : (iblk m c 2 t (ix2 r k) : EReal) = a2 m c (ix2 (rOf t r) k) := (read2 t r k _).trans (congrFun (V_main_arg2 m c) _)
theorem blk3 (n : Fin 3) : (iblk m c 3 t (ix3 n k q) : EReal) = a3 m c (ix3 n k q) := (read3 t q k n _).trans (congrFun (V_3 m c) _)
theorem blk4 : (iblk m c 4 t (ix2 r q) : EReal) = a4 m c (ix2 (rOf t r) (lane 0 q)) := (read4 t r q _).trans (congrFun (V_main_arg4 m c) _)
theorem blk5 : (iblk m c 5 t (ix2 r q) : EReal) = a4 m c (ix2 (rOf t r) (lane 1 q)) := (read5 t r q _).trans (congrFun (V_main_arg4 m c) _)
theorem blk6 : (iblk m c 6 t (ix2 r q) : EReal) = a4 m c (ix2 (rOf t r) (lane 2 q)) := (read6 t r q _).trans (congrFun (V_main_arg4 m c) _)

/-- A block's entries. -/
theorem flushed_apply : ((dats m 0 c).flushed 7 t (ix2 r q) : EReal)
    = gate (a4 m c) 0 (rOf t r) q * branch (a0 m c) (a3 m c) 0 (rOf t r) q + gate (a4 m c) 1 (rOf t r) q * branch (a1 m c) (a3 m c) 1 (rOf t r) q
      + gate (a4 m c) 2 (rOf t r) q * branch (a2 m c) (a3 m c) 2 (rOf t r) q := by
  rw [Value.flushed7 m c t]
  change (out0_7 (iblk m c 0 t) (iblk m c 1 t) (iblk m c 2 t) (iblk m c 3 t) (iblk m c 4 t) (iblk m c 5 t) (iblk m c 6 t) (ix2 r q) : EReal) = _
  rw [out7_apply]
  unfold term
  simp only [blk0, blk1, blk2, blk3, blk4, blk5, blk6]
  rfl
end

/-! ## The reference's result at an index -/

section
open Cert.Reference16Ideal.Read
variable (o : Vec Ideal S4096x512 .f32) (w : Vec Ideal S3x512x1024 .f32) (p : Vec Ideal S4096x6144 .f32) (r : Fin 4096) (q : Fin 1024) (k : Fin 512)
theorem ref_gate0 : (val_main_v17 (F := Ideal) p (ix2 r q) : EReal) = gate p 0 r q := host_gate 0 p _ _ rfl rfl r q
theorem ref_weight0 : (val_main_v4 (F := Ideal) w (ix2 k q) : EReal) = w (ix3 0 k q) := host_weight 0 w ![0, 0, 0] _ _ rfl rfl rfl k q
theorem ref_branch0 : (val_main_v5 (F := Ideal) o w (ix2 r q) : EReal) = branch o w 0 r q := by
  rw [val_main_v5_apply]
  exact Finset.sum_congr rfl fun k _ => congr (congrArg _ (at2 o _ r k rfl rfl)) ((at2 _ _ k q rfl rfl).trans (ref_weight0 w q k))
theorem ref_gate1 : (val_main_v24 (F := Ideal) p (ix2 r q) : EReal) = gate p 1 r q := host_gate 1 p _ _ rfl rfl r q
theorem ref_weight1 : (val_main_v7 (F := Ideal) w (ix2 k q) : EReal) = w (ix3 1 k q) := host_weight 1 w ![1, 0, 0] _ _ rfl rfl rfl k q
theorem ref_branch1 : (val_main_v8 (F := Ideal) o w (ix2 r q) : EReal) = branch o w 1 r q := by
  rw [val_main_v8_apply]
  exact Finset.sum_congr rfl fun k _ => congr (congrArg _ (at2 o _ r k rfl rfl)) ((at2 _ _ k q rfl rfl).trans (ref_weight1 w q k))
theorem ref_gate2 : (val_main_v31 (F := Ideal) p (ix2 r q) : EReal) = gate p 2 r q := host_gate 2 p _ _ rfl rfl r q
theorem ref_weight2 : (val_main_v10 (F := Ideal) w (ix2 k q) : EReal) = w (ix3 2 k q) := host_weight 2 w ![2, 0, 0] _ _ rfl rfl rfl k q
theorem ref_branch2 : (val_main_v11 (F := Ideal) o w (ix2 r q) : EReal) = branch o w 2 r q := by
  rw [val_main_v11_apply]
  exact Finset.sum_congr rfl fun k _ => congr (congrArg _ (at2 o _ r k rfl rfl)) ((at2 _ _ k q rfl rfl).trans (ref_weight2 w q k))
theorem ref_apply (x0 x1 x2 : Vec Ideal S4096x512 .f32) : (val_main_v35 (F := Ideal) x0 x1 x2 w p (ix2 r q) : EReal)
    = gate p 0 r q * branch x0 w 0 r q + gate p 1 r q * branch x1 w 1 r q + gate p 2 r q * branch x2 w 2 r q := by
  rw [← ref_gate0, ← ref_gate1, ← ref_gate2, ← ref_branch0, ← ref_branch1, ← ref_branch2]
  rfl
end

variable (m : (ℓ : Loc nD τ sig) → Buf (Elt Ideal) ℓ) (c : Dev nD)
/-- The point that handles a row. -/
def tOf (R : Nat) (h : R < 4096) : Fin grid0.N := ⟨R / 256, by rw [N_0]; omega⟩
/-- The result array is the reference's. -/
theorem result : (dats m 0 c).arrAt 7 cfg0.N = Cert.Reference16Ideal.Read.val_main_v35 (F := Ideal) (a0 m c) (a1 m c) (a2 m c) (a3 m c) (a4 m c) :=
  (dats m 0 c).arrAt_eq_of_cover 7 _ (fun t _ => ext2 fun r q =>
    (flushed_apply m c t r q).trans ((ref_apply _ _ _ _ _ _ _).symm.trans (read7 t r q _).symm)) fun i =>
    ⟨tOf _ (i 0).isLt, flush0_7 _, by
      show i ∈ ((View.whole main_v1).slice (win0_7.rect (tOf _ (i 0).isLt))).set
      rw [View.set_slice_whole]
      exact mem_rows (win0_7.index (tOf _ (i 0).isLt)) _ i (idx7 _).1 (idx7 _).2⟩

end Cert.Kernel16Ideal.Product
end
-- ==== Proof.Products.Tiles.lean ====
/-
  What the products by the small weights share: the four blocks of 1024 rows, and where a block of whole rows lies.
-/
module

public import proofs.«01_k».proof.Proof.Products.Merge

@[expose] public section

noncomputable section
namespace Cert.Products
open Idealize.ShloMosaic

/-- A point's number, as one of four blocks of rows. -/
def block4 {N : Nat} (hN : N = 4) (t : Fin N) : Fin 4 := ⟨t.val, hN ▸ t.isLt⟩

/-- The point whose block of 1024 rows holds row `i`. -/
def point4 {N : Nat} (hN : N = 4) (i : Nat) (hi : i < 4096) : Fin N := ⟨i / 1024, by omega⟩

/-- The only point. -/
def point1 {N : Nat} (hN : N = 1) : Fin N := ⟨0, by omega⟩

/-- The second of two points. -/
def point2 {N : Nat} (hN : N = 2) : Fin N := ⟨1, by omega⟩

/-- A row lies in the block of `h` whole rows its number names. -/
theorem mem_tile {a h n : Nat} (hh : 0 < h) (f : Fin 2 → Nat) (inb) (i : (⟨2, ![a, n]⟩ : Shape).Idx)
    (h0 : f 0 = (i 0).val / h) (h1 : f 1 = 0) :
    i ∈ (Rect.unit (s := ⟨2, ![a, n]⟩) (fun x => f x * (![h, n] : Fin 2 → Nat) x) ![h, n] inb).set := by
  rw [Rect.mem_set_unit]
  intro x
  match x with
  | ⟨0, _⟩ =>
    show f 0 * h ≤ (i 0 : Nat) ∧ (i 0 : Nat) < f 0 * h + h
    rw [h0]
    exact ⟨Nat.div_mul_le_self _ _, Nat.lt_div_mul_add hh⟩
  | ⟨1, _⟩ =>
    have hi : (i 1).val < n := (i 1).isLt
    show f 1 * n ≤ (i 1 : Nat) ∧ (i 1 : Nat) < f 1 * n + n
    rw [h1]; omega

/-- The one block there is holds every row. -/
theorem mem_whole {a n : Nat} (f : Fin 2 → Nat) (inb) (i : (⟨2, ![a, n]⟩ : Shape).Idx) (h0 : f 0 = 0) (h1 : f 1 = 0) :
    i ∈ (Rect.unit (s := ⟨2, ![a, n]⟩) (fun x => f x * (![a, n] : Fin 2 → Nat) x) ![a, n] inb).set :=
  have hi : (i 0).val < a := (i 0).isLt
  mem_tile (Nat.zero_lt_of_lt hi) f inb i (h0.trans (Nat.div_eq_of_lt hi).symm) h1

end Cert.Products
end
-- ==== Proof.Kernel17Ideal.Value.lean ====
/-
  The queries' up-projection: each of the four result blocks is one product of whole rows and columns.
-/
module

public import proofs.«01_k».proof.Proof.Products.Tiles
public import proofs.«01_k».proof.Proof.Gen.Kernel17Ideal.Value
public import proofs.«01_k».proof.Proof.Gen.Reference17Ideal.Read
public import Idealize.ShloMosaic.Lib.Pointwise
public import Idealize.ShloMosaic.Lib.StableHlo.ReadAt

@[expose] public section
set_option maxRecDepth 16384

noncomputable section
namespace Cert.Kernel17Ideal.Product
open Idealize.ShloMosaic Idealize.ShloMosaic.Tactic Idealize.SL.Sem
open Cert.Kernel17Ideal Cert.Kernel17Ideal.Gen Cert.Products

/-- What a point leaves, over the blocks it stages. -/
theorem out2_apply (x : Vec Ideal S1024x384 .bf16) (y : Vec Ideal S384x1024 .bf16) (r q : Fin 1024) :
    (out0_2 x y (ix2 r q) : EReal) = ∑ k : Fin 384, (x (ix2 r k) : EReal) * (y (ix2 k q) : EReal) := by
  unfold out0_2
  rw [View.canon_unit_zero zeros]
  simp only [View.ld_unit_zero (S := S1024x384) zeros, View.ld_unit_zero (S := S384x1024) zeros]
  pointwise [k0_pay1]

/-! ## Where a point's blocks lie -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The rows point `t` handles. -/
abbrev rOf (t : Fin grid0.N) (r : Fin 1024) : Fin 4096 := at4 (block4 N_0 t) r

section
variable (t : Fin grid0.N) (k : Fin 384) (r q : Fin 1024)
theorem read0 (y : Vec Ideal S4096x384 .bf16) : ((cfg0.win 0).blk t).view.read (Elt Ideal) y (ix2 r k) = y (ix2 (rOf t r) k) :=
  (View.read_apply ..).trans (at2 y _ _ _ (place (idx0 t).1) (place0 (idx0 t).2))
theorem read1 (y : Vec Ideal S384x1024 .bf16) : ((cfg0.win 1).blk t).view.read (Elt Ideal) y (ix2 k q) = y (ix2 k q) :=
  (View.read_apply ..).trans (at2 y _ _ _ (place0 (idx1 t).1) (place0 (idx1 t).2))
theorem read2 (y : Vec Ideal S4096x1024 .f32) : ((cfg0.win 2).blk t).view.read (Elt Ideal) y (ix2 r q) = y (ix2 (rOf t r) q) :=
  (View.read_apply ..).trans (at2 y _ _ _ (place (idx2 t).1) (place0 (idx2 t).2))
end

/-! ## The arrays the call finds -/

section
variable (m : (ℓ : Loc nD τ sig) → Buf (Elt Ideal) ℓ) (c : Dev nD)
abbrev a0 : Vec Ideal S4096x384 .f32 := m (c, Proc.devRef .tc main_arg0)
abbrev a1 : Vec Ideal S384x1024 .f32 := m (c, Proc.devRef .tc main_arg1)

theorem V_0 : (V m c main_v0 : Vec Ideal S4096x384 .bf16) = truncf (F := Ideal) (φ := .f32) .bf16 (a0 m c) bitsLt_bf16_f32 := by
  unfold Gen.V; after_reads_simp
theorem V_1 : (V m c main_v1 : Vec Ideal S384x1024 .bf16) = truncf (F := Ideal) (φ := .f32) .bf16 (a1 m c) bitsLt_bf16_f32 := by
  unfold Gen.V; after_reads_simp

variable (t : Fin grid0.N) (k : Fin 384) (r q : Fin 1024)
theorem blk0 : (iblk m c 0 t (ix2 r k) : EReal) = a0 m c (ix2 (rOf t r) k) := (read0 t k r _).trans (congrFun (V_0 m c) _)
theorem blk1 : (iblk m c 1 t (ix2 k q) : EReal) = a1 m c (ix2 k q) := (read1 t k q _).trans (congrFun (V_1 m c) _)

/-- A block's entries. -/
theorem flushed_apply :
    ((dats m 0 c).flushed 2 t (ix2 r q) : EReal) = ∑ k : Fin 384, (a0 m c (ix2 (rOf t r) k) : EReal) * (a1 m c (ix2 k q) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x384 .f32) (y : Vec Ideal S384x1024 .f32) (r : Fin 4096) (q : Fin 1024) :
    (Cert.Reference17Ideal.Read.val_main_v0 (F := Ideal) x y (ix2 r q) : EReal) = ∑ k : Fin 384, (x (ix2 r k) : EReal) * (y (ix2 k q) : EReal) := by
  rw [Cert.Reference17Ideal.Read.val_main_v0_apply]
  exact Finset.sum_congr rfl fun k _ => congr (congrArg _ (at2 x _ r k rfl rfl)) (at2 y _ k q rfl rfl)

/-- The result array is the reference's. -/
theorem result : (dats m 0 c).arrAt 2 cfg0.N = Cert.Reference17Ideal.Read.val_main_v0 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point4 N_0 _ (i 0).isLt, flush0_2 _, by
      show i ∈ ((View.whole main_v2).slice (win0_2.rect (point4 N_0 _ (i 0).isLt))).set
      rw [View.set_slice_whole]
      exact mem_tile (by decide) (win0_2.index (point4 N_0 _ (i 0).isLt)) _ i (idx2 _).1 (idx2 _).2⟩
end

end Cert.Kernel17Ideal.Product
end
-- ==== Proof.Kernel18Ideal.Value.lean ====
/-
  The keys and values' up-projection: each of the four result blocks is one product of whole rows and columns.
-/
module

public import proofs.«01_k».proof.Proof.Products.Tiles
public import proofs.«01_k».proof.Proof.Gen.Kernel18Ideal.Value
public import proofs.«01_k».proof.Proof.Gen.Reference18Ideal.Read
public import Idealize.ShloMosaic.Lib.Pointwise
public import Idealize.ShloMosaic.Lib.StableHlo.ReadAt

@[expose] public section
set_option maxRecDepth 16256

noncomputable section
namespace Cert.Kernel18Ideal.Product
open Idealize.ShloMosaic Idealize.ShloMosaic.Tactic Idealize.SL.Sem
open Cert.Kernel18Ideal Cert.Kernel18Ideal.Gen Cert.Products

/-- What a point leaves, over the blocks it stages. -/
theorem out2_apply (x : Vec Ideal S1024x256 .bf16) (y : Vec Ideal S256x1024 .bf16) (r q : Fin 1024) :
    (out0_2 x y (ix2 r q) : EReal) = ∑ k : Fin 256, (x (ix2 r k) : EReal) * (y (ix2 k q) : EReal) := by
  unfold out0_2
  rw [View.canon_unit_zero zeros]
  simp only [View.ld_unit_zero (S := S1024x256) zeros, View.ld_unit_zero (S := S256x1024) zeros]
  pointwise [k0_pay1]

/-! ## Where a point's blocks lie -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The rows point `t` handles. -/
abbrev rOf (t : Fin grid0.N) (r : Fin 1024) : Fin 4096 := at4 (block4 N_0 t) r

section
variable (t : Fin grid0.N) (k : Fin 256) (r q : Fin 1024)
theorem read0 (y : Vec Ideal S4096x256 .bf16) : ((cfg0.win 0).blk t).view.read (Elt Ideal) y (ix2 r k) = y (ix2 (rOf t r) k) :=
  (View.read_apply ..).trans (at2 y _ _ _ (place (idx0 t).1) (place0 (idx0 t).2))
theorem read1 (y : Vec Ideal S256x1024 .bf16) : ((cfg0.win 1).blk t).view.read (Elt Ideal) y (ix2 k q) = y (ix2 k q) :=
  (View.read_apply ..).trans (at2 y _ _ _ (place0 (idx1 t).1) (place0 (idx1 t).2))
theorem read2 (y : Vec Ideal S4096x1024 .f32) : ((cfg0.win 2).blk t).view.read (Elt Ideal) y (ix2 r q) = y (ix2 (rOf t r) q) :=
  (View.read_apply ..).trans (at2 y _ _ _ (place (idx2 t).1) (place0 (idx2 t).2))
end

/-! ## The arrays the call finds -/

section
variable (m : (ℓ : Loc nD τ sig) → Buf (Elt Ideal) ℓ) (c : Dev nD)
abbrev a0 : Vec Ideal S4096x256 .f32 := m (c, Proc.devRef .tc main_arg0)
abbrev a1 : Vec Ideal S256x1024 .f32 := m (c, Proc.devRef .tc main_arg1)

theorem V_0 : (V m c main_v0 : Vec Ideal S4096x256 .bf16) = truncf (F := Ideal) (φ := .f32) .bf16 (a0 m c) bitsLt_bf16_f32 := by
  unfold Gen.V; after_reads_simp
theorem V_1 : (V m c main_v1 : Vec Ideal S256x1024 .bf16) = truncf (F := Ideal) (φ := .f32) .bf16 (a1 m c) bitsLt_bf16_f32 := by
  unfold Gen.V; after_reads_simp

variable (t : Fin grid0.N) (k : Fin 256) (r q : Fin 1024)
theorem blk0 : (iblk m c 0 t (ix2 r k) : EReal) = a0 m c (ix2 (rOf t r) k) := (read0 t k r _).trans (congrFun (V_0 m c) _)
theorem blk1 : (iblk m c 1 t (ix2 k q) : EReal) = a1 m c (ix2 k q) := (read1 t k q _).trans (congrFun (V_1 m c) _)

/-- A block's entries. -/
theorem flushed_apply :
    ((dats m 0 c).flushed 2 t (ix2 r q) : EReal) = ∑ k : Fin 256, (a0 m c (ix2 (rOf t r) k) : EReal) * (a1 m c (ix2 k q) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x256 .f32) (y : Vec Ideal S256x1024 .f32) (r : Fin 4096) (q : Fin 1024) :
    (Cert.Reference18Ideal.Read.val_main_v0 (F := Ideal) x y (ix2 r q) : EReal) = ∑ k : Fin 256, (x (ix2 r k) : EReal) * (y (ix2 k q) : EReal) := by
  rw [Cert.Reference18Ideal.Read.val_main_v0_apply]
  exact Finset.sum_congr rfl fun k _ => congr (congrArg _ (at2 x _ r k rfl rfl)) (at2 y _ k q rfl rfl)

/-- The result array is the reference's. -/
theorem result : (dats m 0 c).arrAt 2 cfg0.N = Cert.Reference18Ideal.Read.val_main_v0 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point4 N_0 _ (i 0).isLt, flush0_2 _, by
      show i ∈ ((View.whole main_v2).slice (win0_2.rect (point4 N_0 _ (i 0).isLt))).set
      rw [View.set_slice_whole]
      exact mem_tile (by decide) (win0_2.index (point4 N_0 _ (i 0).isLt)) _ i (idx2 _).1 (idx2 _).2⟩
end

end Cert.Kernel18Ideal.Product
end
-- ==== Proof.Kernel19Ideal.Value.lean ====
/-
  The queries' up-projection's weight gradient: its one result block is accumulated over the two halves of the 4096 tokens, so its entries are the reference's sums.
-/
module

public import proofs.«01_k».proof.Proof.Products.Tiles
public import proofs.«01_k».proof.Proof.Gen.Kernel19Ideal.Value
public import proofs.«01_k».proof.Proof.Gen.Reference19Ideal.Read
public import Idealize.ShloMosaic.Lib.Pointwise
public import Idealize.ShloMosaic.Lib.StableHlo.ReadAt

@[expose] public section
set_option maxRecDepth 16384

noncomputable section
namespace Cert.Kernel19Ideal.Product
open Idealize.ShloMosaic Idealize.ShloMosaic.Tactic Idealize.SL.Sem
open Cert.Kernel19Ideal Cert.Kernel19Ideal.Gen Cert.Products

/-! ## The body at a point, over the blocks it stages -/

section
variable (c : Dev nD) (i : grid0.Coords) (a3 : Memref sig .tc .vmem S2048x384 .bf16) (h3 : a3.IsWhole) (a4 : Memref sig .tc .vmem S2048x1024 .bf16) (h4 : a4.IsWhole)
  (a5 : Memref sig .tc .vmem S384x1024 .bf16) (h5 : a5.IsWhole) (a6 : Memref sig .tc .vmem S384x1024 .f32) (h6 : a6.IsWhole)
  (x : Vec Ideal S2048x384 .bf16) (y : Vec Ideal S2048x1024 .bf16) (s : Vec Ideal S384x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x384) zeros, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S384x1024) _ zeros]
  simp only [View.readAt_eq_ld, h3.read_unread, h4.read_unread, h6.read_unread, View.ld_unit_zero (S := S2048x384) zeros, View.ld_unit_zero (S := S2048x1024) zeros, View.ld_unit_zero (S := S384x1024) zeros]
end

section
variable (x : Vec Ideal S2048x384 .bf16) (y : Vec Ideal S2048x1024 .bf16) (s : Vec Ideal S384x1024 .f32) (r : Fin 384) (q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = 0 ∧ win0_2.index t 1 = 0 := by decide +kernel

section
variable (t : Fin grid0.N) (k : Fin 2048) (r : Fin 384) (q : Fin 1024)
theorem read0 (y : Vec Ideal S4096x384 .bf16) : ((cfg0.win 0).blk t).view.read (Elt Ideal) y (ix2 k r) = y (ix2 (half (kOf t) k) r) :=
  (View.read_apply ..).trans (at2 y _ _ _ (place (idx0 t).1) (place0 (idx0 t).2))
theorem read1 (y : Vec Ideal S4096x1024 .bf16) : ((cfg0.win 1).blk t).view.read (Elt Ideal) y (ix2 k q) = y (ix2 (half (kOf t) k) q) :=
  (View.read_apply ..).trans (at2 y _ _ _ (place (idx1 t).1) (place0 (idx1 t).2))
theorem read2 (y : Vec Ideal S384x1024 .bf16) : ((cfg0.win 2).blk t).view.read (Elt Ideal) y (ix2 r q) = y (ix2 r q) :=
  (View.read_apply ..).trans (at2 y _ _ _ (place0 (idx2 t).1) (place0 (idx2 t).2))
end

/-! ## The arrays the call finds -/

section
variable (m : (ℓ : Loc nD τ sig) → Buf (Elt Ideal) ℓ) (c : Dev nD)
abbrev a0 : Vec Ideal S4096x384 .f32 := m (c, Proc.devRef .tc main_arg0)
abbrev a1 : Vec Ideal S4096x1024 .f32 := m (c, Proc.devRef .tc main_arg1)

theorem V_0 : (V m c main_v0 : Vec Ideal S4096x384 .bf16) = truncf (F := Ideal) (φ := .f32) .bf16 (a0 m c) bitsLt_bf16_f32 := by
  unfold Gen.V; after_reads_simp
theorem V_1 : (V m c main_v1 : Vec Ideal S4096x1024 .bf16) = truncf (F := Ideal) (φ := .f32) .bf16 (a1 m c) bitsLt_bf16_f32 := by
  unfold Gen.V; after_reads_simp

variable (t : Fin grid0.N) (k : Fin 2048) (r : Fin 384) (q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k q) : EReal) := by
  have hN := N_0
  obtain ⟨s, hs⟩ : ∃ s : Fin grid0.N, s.val = t.val - 1 := ⟨⟨t.val - 1, by have := t.isLt; omega⟩, rfl⟩
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hk, hk']
  exact sum_halves fun k => (a0 m c (ix2 k r) : EReal) * (a1 m c (ix2 k q) : EReal)

/-- The reference's result at an index. -/
theorem ref_apply (x : Vec Ideal S4096x384 .f32) (y : Vec Ideal S4096x1024 .f32) (q : Fin 1024) :
    (Cert.Reference19Ideal.Read.val_main_v4 (F := Ideal) x y (ix2 r q) : EReal) = ∑ k : Fin 4096, (x (ix2 k r) : EReal) * (y (ix2 k q) : EReal) := by
  rw [Cert.Reference19Ideal.Read.val_main_v4_apply, Cert.Reference19Ideal.Read.val_main_v3_apply, Cert.Reference19Ideal.Read.val_main_v2_apply]
  exact Finset.sum_congr rfl fun k _ => (mul_comm _ _).trans (congr (congrArg _ (at2 x _ k r rfl rfl)) (at2 y _ k q rfl rfl))

/-- The result array is the reference's. -/
theorem result : (dats m 0 c).arrAt 2 cfg0.N = Cert.Reference19Ideal.Read.val_main_v4 (F := Ideal) (a0 m c) (a1 m c) :=
  (dats m 0 c).arrAt_eq_of_cover 2 _ (fun t hf => ext2 fun r q =>
      (flushed_apply m c t r q ((flush0_2 t).mp hf)).trans ((ref_apply r _ _ _).symm.trans (read2 t r q _).symm)) fun i =>
    ⟨point2 N_0, (flush0_2 _).mpr rfl, by
      show i ∈ ((View.whole main_v2).slice (win0_2.rect (point2 N_0))).set
      rw [View.set_slice_whole]
      exact mem_whole (win0_2.index (point2 N_0)) _ i (idx2 _).1 (idx2 _).2⟩
end

end Cert.Kernel19Ideal.Product
end
-- ==== Proof.Kernel20Ideal.Value.lean ====
/-
  The queries' up-projection's input gradient: each of the four result blocks is one product of whole rows.
-/
module

public import proofs.«01_k».proof.Proof.Products.Tiles
public import proofs.«01_k».proof.Proof.Gen.Kernel20Ideal.Value
public import proofs.«01_k».proof.Proof.Gen.Reference20Ideal.Read
public import Idealize.ShloMosaic.Lib.Pointwise
public import Idealize.ShloMosaic.Lib.StableHlo.ReadAt

@[expose] public section
set_option maxRecDepth 16384

noncomputable section
namespace Cert.Kernel20Ideal.Product
open Idealize.ShloMosaic Idealize.ShloMosaic.Tactic Idealize.SL.Sem
open Cert.Kernel20Ideal Cert.Kernel20Ideal.Gen Cert.Products

/-- What a point leaves, over the blocks it stages. -/
theorem out2_apply (x : Vec Ideal S1024x1024 .bf16) (y : Vec Ideal S384x1024 .bf16) (r : Fin 1024) (q : Fin 384) :
    (out0_2 x y (ix2 r q) : EReal) = ∑ k : Fin 1024, (x (ix2 r k) : EReal) * (y (ix2 q k) : EReal) := by
  unfold out0_2
  rw [View.canon_unit_zero zeros]
  simp only [View.ld_unit_zero (S := S1024x1024) zeros, View.ld_unit_zero (S := S384x1024) zeros]
  pointwise [k0_pay1]

/-! ## Where a point's blocks lie -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The rows point `t` handles. -/
abbrev rOf (t : Fin grid0.N) (r : Fin 1024) : Fin 4096 := at4 (block4 N_0 t) r

section
variable (t : Fin grid0.N) (k r : Fin 1024) (q : Fin 384)
theorem read0 (y : Vec Ideal S4096x1024 .bf16) : ((cfg0.win 0).blk t).view.read (Elt Ideal) y (ix2 r k) = y (ix2 (rOf t r) k) :=
  (View.read_apply ..).trans (at2 y _ _ _ (place (idx0 t).1) (place0 (idx0 t).2))
theorem read1 (y : Vec Ideal S384x1024 .bf16) : ((cfg0.win 1).blk t).view.read (Elt Ideal) y (ix2 q k) = y (ix2 q k) :=
  (View.read_apply ..).trans (at2 y _ _ _ (place0 (idx1 t).1) (place0 (idx1 t).2))
theorem read2 (y : Vec Ideal S4096x384 .f32) : ((cfg0.win 2).blk t).view.read (Elt Ideal) y (ix2 r q) = y (ix2 (rOf t r) q) :=
  (View.read_apply ..).trans (at2 y _ _ _ (place (idx2 t).1) (place0 (idx2 t).2))
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S384x1024 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S384x1024 .bf16) = truncf (F := Ideal) (φ := .f32) .bf16 (a1 m c) bitsLt_bf16_f32 := by
  unfold Gen.V; after_reads_simp

variable (t : Fin grid0.N) (k r : Fin 1024) (q : Fin 384)
theorem blk0 : (iblk m c 0 t (ix2 r k) : EReal) = a0 m c (ix2 (rOf t r) k) := (read0 t k r _).trans (congrFun (V_0 m c) _)
theorem blk1 : (iblk m c 1 t (ix2 q k) : EReal) = a1 m c (ix2 q k) := (read1 t k q _).trans (congrFun (V_1 m c) _)

/-- A block's entries. -/
theorem flushed_apply :
    ((dats m 0 c).flushed 2 t (ix2 r q) : EReal) = ∑ k : Fin 1024, (a0 m c (ix2 (rOf t r) k) : EReal) * (a1 m c (ix2 q k) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x1024 .f32) (y : Vec Ideal S384x1024 .f32) (r : Fin 4096) (q : Fin 384) :
    (Cert.Reference20Ideal.Read.val_main_v2 (F := Ideal) x y (ix2 r q) : EReal) = ∑ k : Fin 1024, (x (ix2 r k) : EReal) * (y (ix2 q k) : EReal) := by
  rw [Cert.Reference20Ideal.Read.val_main_v2_apply]
  exact Finset.sum_congr rfl fun k _ => congr (congrArg _ (at2 x _ r k rfl rfl)) (at2 y _ q k rfl rfl)

/-- The result array is the reference's. -/
theorem result : (dats m 0 c).arrAt 2 cfg0.N = Cert.Reference20Ideal.Read.val_main_v2 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point4 N_0 _ (i 0).isLt, flush0_2 _, by
      show i ∈ ((View.whole main_v2).slice (win0_2.rect (point4 N_0 _ (i 0).isLt))).set
      rw [View.set_slice_whole]
      exact mem_tile (by decide) (win0_2.index (point4 N_0 _ (i 0).isLt)) _ i (idx2 _).1 (idx2 _).2⟩
end

end Cert.Kernel20Ideal.Product
end
-- ==== Proof.Kernel21Ideal.Value.lean ====
/-
  The keys and values' up-projection's weight gradient: its one result block is accumulated over the two halves of the 4096 tokens, so its entries are the reference's sums.
-/
module

public import proofs.«01_k».proof.Proof.Products.Tiles
public import proofs.«01_k».proof.Proof.Gen.Kernel21Ideal.Value
public import proofs.«01_k».proof.Proof.Gen.Reference21Ideal.Read
public import Idealize.ShloMosaic.Lib.Pointwise
public import Idealize.ShloMosaic.Lib.StableHlo.ReadAt

@[expose] public section
set_option maxRecDepth 16256

noncomputable section
namespace Cert.Kernel21Ideal.Product
open Idealize.ShloMosaic Idealize.ShloMosaic.Tactic Idealize.SL.Sem
open Cert.Kernel21Ideal Cert.Kernel21Ideal.Gen Cert.Products

/-! ## The body at a point, over the blocks it stages -/

section
variable (c : Dev nD) (i : grid0.Coords) (a3 : Memref sig .tc .vmem S2048x256 .bf16) (h3 : a3.IsWhole) (a4 : Memref sig .tc .vmem S2048x1024 .bf16) (h4 : a4.IsWhole)
  (a5 : Memref sig .tc .vmem S256x1024 .bf16) (h5 : a5.IsWhole) (a6 : Memref sig .tc .vmem S256x1024 .f32) (h6 : a6.IsWhole)
  (x : Vec Ideal S2048x256 .bf16) (y : Vec Ideal S2048x1024 .bf16) (s : Vec Ideal S256x1024 .f32)

/-- A first point leaves its part of the product in the accumulator. -/
theorem first (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros]
  simp only [View.readAt_eq_ld, h3.read_unread, h4.read_unread, View.ld_unit_zero (S := S2048x256) zeros, View.ld_unit_zero (S := S2048x1024) zeros]

/-- A second point leaves the rounded accumulator, its part added. -/
theorem second (hc0 : ¬cond0_0 i) (hc1 : cond0_1 i) (hc2 : cond0_2 i) :
    out0_B_2 c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero zeros, View.readCov_unit_zero (S := S256x1024) _ zeros]
  simp only [View.readAt_eq_ld, h3.read_unread, h4.read_unread, h6.read_unread, View.ld_unit_zero (S := S2048x256) zeros, View.ld_unit_zero (S := S2048x1024) zeros, View.ld_unit_zero (S := S256x1024) zeros]
end

section
variable (x : Vec Ideal S2048x256 .bf16) (y : Vec Ideal S2048x1024 .bf16) (s : Vec Ideal S256x1024 .f32) (r : Fin 256) (q : Fin 1024)
theorem pay2_apply : k0_pay2 x y (ix2 r q) = ∑ k : Fin 2048, (x (ix2 k r) : EReal) * (y (ix2 k q) : EReal) := by
  pointwise [k0_pay2, k0_pay1]
theorem pay4_apply : k0_pay4 (k0_pay3 x y s) (ix2 r q) = (s (ix2 r q) : EReal) + ∑ k : Fin 2048, (x (ix2 k r) : EReal) * (y (ix2 k q) : EReal) := by
  pointwise [k0_pay4, k0_pay3, k0_pay1]
end

/-! ## Where a point's blocks lie -/

def kOf (t : Fin grid0.N) : Fin 2 := ⟨t.val % 2, Nat.mod_lt _ (by decide)⟩
theorem idx0 : ∀ t : Fin grid0.N, win0_0.index t 0 = t.val % 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = 0 ∧ win0_2.index t 1 = 0 := by decide +kernel

section
variable (t : Fin grid0.N) (k : Fin 2048) (r : Fin 256) (q : Fin 1024)
theorem read0 (y : Vec Ideal S4096x256 .bf16) : ((cfg0.win 0).blk t).view.read (Elt Ideal) y (ix2 k r) = y (ix2 (half (kOf t) k) r) :=
  (View.read_apply ..).trans (at2 y _ _ _ (place (idx0 t).1) (place0 (idx0 t).2))
theorem read1 (y : Vec Ideal S4096x1024 .bf16) : ((cfg0.win 1).blk t).view.read (Elt Ideal) y (ix2 k q) = y (ix2 (half (kOf t) k) q) :=
  (View.read_apply ..).trans (at2 y _ _ _ (place (idx1 t).1) (place0 (idx1 t).2))
theorem read2 (y : Vec Ideal S256x1024 .bf16) : ((cfg0.win 2).blk t).view.read (Elt Ideal) y (ix2 r q) = y (ix2 r q) :=
  (View.read_apply ..).trans (at2 y _ _ _ (place0 (idx2 t).1) (place0 (idx2 t).2))
end

/-! ## The arrays the call finds -/

section
variable (m : (ℓ : Loc nD τ sig) → Buf (Elt Ideal) ℓ) (c : Dev nD)
abbrev a0 : Vec Ideal S4096x256 .f32 := m (c, Proc.devRef .tc main_arg0)
abbrev a1 : Vec Ideal S4096x1024 .f32 := m (c, Proc.devRef .tc main_arg1)

theorem V_0 : (V m c main_v0 : Vec Ideal S4096x256 .bf16) = truncf (F := Ideal) (φ := .f32) .bf16 (a0 m c) bitsLt_bf16_f32 := by
  unfold Gen.V; after_reads_simp
theorem V_1 : (V m c main_v1 : Vec Ideal S4096x1024 .bf16) = truncf (F := Ideal) (φ := .f32) .bf16 (a1 m c) bitsLt_bf16_f32 := by
  unfold Gen.V; after_reads_simp

variable (t : Fin grid0.N) (k : Fin 2048) (r : Fin 256) (q : Fin 1024)
theorem blk0 : (iblk m c 0 t (ix2 k r) : EReal) = a0 m c (ix2 (half (kOf t) k) r) :=
  (read0 t k r _).trans (congrFun (V_0 m c) _)
theorem blk1 : (iblk m c 1 t (ix2 k q) : EReal) = a1 m c (ix2 (half (kOf t) k) q) :=
  (read1 t k q _).trans (congrFun (V_1 m c) _)

/-- What the accumulator holds after a first point. -/
theorem left (h0 : t.val % 2 = 0) : (outsAt0 m c t.val t.isLt).2 = k0_pay2 (iblk m c 0 t) (iblk m c 1 t) := by
  rw [outsAt0_A m c t h0 (by omega) (by omega)]
  dsimp only
  rw [first]

/-- A block's entries are whole sums over the tokens. -/
theorem flushed_apply (hf : t.val % 2 = 1) :
    ((dats m 0 c).flushed 2 t (ix2 r q) : EReal) = ∑ k : Fin 4096, (a0 m c (ix2 k r) : EReal) * (a1 m c (ix2 k q) : EReal) := by
  have hN := N_0
  obtain ⟨s, hs⟩ : ∃ s : Fin grid0.N, s.val = t.val - 1 := ⟨⟨t.val - 1, by have := t.isLt; omega⟩, rfl⟩
  have hk : kOf s = 0 := Fin.ext (by show s.val % 2 = 0; omega)
  have hk' : kOf t = 1 := Fin.ext (by show t.val % 2 = 1; omega)
  rw [Value.flushed2_B m c t (by omega) hf hf]
  change (out0_B_2 c (grid0.coords t) (ms0_0 t) (hs0_0 t) (ms0_1 t) (hs0_1 t) (ms0_2 t) (hs0_2 t) scM0_0 _ _ _ _ (iblk m c 0 t) (iblk m c 1 t) _ (ix2 r q) : EReal) = _
  rw [second, pay4_apply]
  have e : ∀ n (h : n < cfg0.N), n = s.val → (outsAt0 m c n h).2 = k0_pay2 (iblk m c 0 s) (iblk m c 1 s) := by
    rintro _ _ rfl
    exact left m c s (by omega)
  rw [e _ _ hs.symm, pay2_apply]
  simp only [blk0, blk1, hk, hk']
  exact sum_halves fun k => (a0 m c (ix2 k r) : EReal) * (a1 m c (ix2 k q) : EReal)

/-- The reference's result at an index. -/
theorem ref_apply (x : Vec Ideal S4096x256 .f32) (y : Vec Ideal S4096x1024 .f32) (q : Fin 1024) :
    (Cert.Reference21Ideal.Read.val_main_v4 (F := Ideal) x y (ix2 r q) : EReal) = ∑ k : Fin 4096, (x (ix2 k r) : EReal) * (y (ix2 k q) : EReal) := by
  rw [Cert.Reference21Ideal.Read.val_main_v4_apply, Cert.Reference21Ideal.Read.val_main_v3_apply, Cert.Reference21Ideal.Read.val_main_v2_apply]
  exact Finset.sum_congr rfl fun k _ => (mul_comm _ _).trans (congr (congrArg _ (at2 x _ k r rfl rfl)) (at2 y _ k q rfl rfl))

/-- The result array is the reference's. -/
theorem result : (dats m 0 c).arrAt 2 cfg0.N = Cert.Reference21Ideal.Read.val_main_v4 (F := Ideal) (a0 m c) (a1 m c) :=
  (dats m 0 c).arrAt_eq_of_cover 2 _ (fun t hf => ext2 fun r q =>
      (flushed_apply m c t r q ((flush0_2 t).mp hf)).trans ((ref_apply r _ _ _).symm.trans (read2 t r q _).symm)) fun i =>
    ⟨point2 N_0, (flush0_2 _).mpr rfl, by
      show i ∈ ((View.whole main_v2).slice (win0_2.rect (point2 N_0))).set
      rw [View.set_slice_whole]
      exact mem_whole (win0_2.index (point2 N_0)) _ i (idx2 _).1 (idx2 _).2⟩
end

end Cert.Kernel21Ideal.Product
end
-- ==== Proof.Kernel22Ideal.Value.lean ====
/-
  The keys and values' up-projection's input gradient: each of the four result blocks is one product of whole rows.
-/
module

public import proofs.«01_k».proof.Proof.Products.Tiles
public import proofs.«01_k».proof.Proof.Gen.Kernel22Ideal.Value
public import proofs.«01_k».proof.Proof.Gen.Reference22Ideal.Read
public import Idealize.ShloMosaic.Lib.Pointwise
public import Idealize.ShloMosaic.Lib.StableHlo.ReadAt

@[expose] public section
set_option maxRecDepth 16256

noncomputable section
namespace Cert.Kernel22Ideal.Product
open Idealize.ShloMosaic Idealize.ShloMosaic.Tactic Idealize.SL.Sem
open Cert.Kernel22Ideal Cert.Kernel22Ideal.Gen Cert.Products

/-- What a point leaves, over the blocks it stages. -/
theorem out2_apply (x : Vec Ideal S1024x1024 .bf16) (y : Vec Ideal S256x1024 .bf16) (r : Fin 1024) (q : Fin 256) :
    (out0_2 x y (ix2 r q) : EReal) = ∑ k : Fin 1024, (x (ix2 r k) : EReal) * (y (ix2 q k) : EReal) := by
  unfold out0_2
  rw [View.canon_unit_zero zeros]
  simp only [View.ld_unit_zero (S := S1024x1024) zeros, View.ld_unit_zero (S := S256x1024) zeros]
  pointwise [k0_pay1]

/-! ## Where a point's blocks lie -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- The rows point `t` handles. -/
abbrev rOf (t : Fin grid0.N) (r : Fin 1024) : Fin 4096 := at4 (block4 N_0 t) r

section
variable (t : Fin grid0.N) (k r : Fin 1024) (q : Fin 256)
theorem read0 (y : Vec Ideal S4096x1024 .bf16) : ((cfg0.win 0).blk t).view.read (Elt Ideal) y (ix2 r k) = y (ix2 (rOf t r) k) :=
  (View.read_apply ..).trans (at2 y _ _ _ (place (idx0 t).1) (place0 (idx0 t).2))
theorem read1 (y : Vec Ideal S256x1024 .bf16) : ((cfg0.win 1).blk t).view.read (Elt Ideal) y (ix2 q k) = y (ix2 q k) :=
  (View.read_apply ..).trans (at2 y _ _ _ (place0 (idx1 t).1) (place0 (idx1 t).2))
theorem read2 (y : Vec Ideal S4096x256 .f32) : ((cfg0.win 2).blk t).view.read (Elt Ideal) y (ix2 r q) = y (ix2 (rOf t r) q) :=
  (View.read_apply ..).trans (at2 y _ _ _ (place (idx2 t).1) (place0 (idx2 t).2))
end

/-! ## The arrays the call finds -/

section
variable (m : (ℓ : Loc nD τ sig) → Buf (Elt Ideal) ℓ) (c : Dev nD)
abbrev a0 : Vec Ideal S4096x1024 .f32 := m (c, Proc.devRef .tc main_arg0)
abbrev a1 : Vec Ideal S256x1024 .f32 := m (c, Proc.devRef .tc main_arg1)

theorem V_0 : (V m c main_v0 : Vec Ideal S4096x1024 .bf16) = truncf (F := Ideal) (φ := .f32) .bf16 (a0 m c) bitsLt_bf16_f32 := by
  unfold Gen.V; after_reads_simp
theorem V_1 : (V m c main_v1 : Vec Ideal S256x1024 .bf16) = truncf (F := Ideal) (φ := .f32) .bf16 (a1 m c) bitsLt_bf16_f32 := by
  unfold Gen.V; after_reads_simp

variable (t : Fin grid0.N) (k r : Fin 1024) (q : Fin 256)
theorem blk0 : (iblk m c 0 t (ix2 r k) : EReal) = a0 m c (ix2 (rOf t r) k) := (read0 t k r _).trans (congrFun (V_0 m c) _)
theorem blk1 : (iblk m c 1 t (ix2 q k) : EReal) = a1 m c (ix2 q k) := (read1 t k q _).trans (congrFun (V_1 m c) _)

/-- A block's entries. -/
theorem flushed_apply :
    ((dats m 0 c).flushed 2 t (ix2 r q) : EReal) = ∑ k : Fin 1024, (a0 m c (ix2 (rOf t r) k) : EReal) * (a1 m c (ix2 q k) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S4096x1024 .f32) (y : Vec Ideal S256x1024 .f32) (r : Fin 4096) (q : Fin 256) :
    (Cert.Reference22Ideal.Read.val_main_v2 (F := Ideal) x y (ix2 r q) : EReal) = ∑ k : Fin 1024, (x (ix2 r k) : EReal) * (y (ix2 q k) : EReal) := by
  rw [Cert.Reference22Ideal.Read.val_main_v2_apply]
  exact Finset.sum_congr rfl fun k _ => congr (congrArg _ (at2 x _ r k rfl rfl)) (at2 y _ q k rfl rfl)

/-- The result array is the reference's. -/
theorem result : (dats m 0 c).arrAt 2 cfg0.N = Cert.Reference22Ideal.Read.val_main_v2 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point4 N_0 _ (i 0).isLt, flush0_2 _, by
      show i ∈ ((View.whole main_v2).slice (win0_2.rect (point4 N_0 _ (i 0).isLt))).set
      rw [View.set_slice_whole]
      exact mem_tile (by decide) (win0_2.index (point4 N_0 _ (i 0).isLt)) _ i (idx2 _).1 (idx2 _).2⟩
end

end Cert.Kernel22Ideal.Product
end
-- ==== Proof.Kernel23Ideal.Value.lean ====
/-
  The memory's projection: its one result block is one product of whole rows and columns.
-/
module

public import proofs.«01_k».proof.Proof.Products.Tiles
public import proofs.«01_k».proof.Proof.Gen.Kernel23Ideal.Value
public import proofs.«01_k».proof.Proof.Gen.Reference23Ideal.Read
public import Idealize.ShloMosaic.Lib.Pointwise
public import Idealize.ShloMosaic.Lib.StableHlo.ReadAt

@[expose] public section
set_option maxRecDepth 16384

noncomputable section
namespace Cert.Kernel23Ideal.Product
open Idealize.ShloMosaic Idealize.ShloMosaic.Tactic Idealize.SL.Sem
open Cert.Kernel23Ideal Cert.Kernel23Ideal.Gen Cert.Products

/-- What the point leaves, over the blocks it stages. -/
theorem out2_apply (x : Vec Ideal S512x1024 .f32) (y : Vec Ideal S1024x1024 .bf16) (r : Fin 512) (q : Fin 1024) :
    (out0_2 x y (ix2 r q) : EReal) = ∑ k : Fin 1024, (x (ix2 r k) : EReal) * (y (ix2 k q) : EReal) := by
  unfold out0_2
  rw [View.canon_unit_zero zeros]
  simp only [View.ld_unit_zero (S := S512x1024) zeros, View.ld_unit_zero (S := S1024x1024) zeros]
  pointwise [k0_pay1]

/-! ## The point's blocks are the whole arrays -/

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel

section
variable (t : Fin grid0.N) (r : Fin 512) (k q : Fin 1024)
theorem read0 (y : Vec Ideal S512x1024 .f32) : ((cfg0.win 0).blk t).view.read (Elt Ideal) y (ix2 r k) = y (ix2 r k) :=
  (View.read_apply ..).trans (at2 y _ _ _ (place0 (idx0 t).1) (place0 (idx0 t).2))
theorem read1 (y : Vec Ideal S1024x1024 .bf16) : ((cfg0.win 1).blk t).view.read (Elt Ideal) y (ix2 k q) = y (ix2 k q) :=
  (View.read_apply ..).trans (at2 y _ _ _ (place0 (idx1 t).1) (place0 (idx1 t).2))
theorem read2 (y : Vec Ideal S512x1024 .f32) : ((cfg0.win 2).blk t).view.read (Elt Ideal) y (ix2 r q) = y (ix2 r q) :=
  (View.read_apply ..).trans (at2 y _ _ _ (place0 (idx2 t).1) (place0 (idx2 t).2))
end

/-! ## The arrays the call finds -/

section
variable (m : (ℓ : Loc nD τ sig) → Buf (Elt Ideal) ℓ) (c : Dev nD)
abbrev a0 : Vec Ideal S512x1024 .f32 := m (c, Proc.devRef .tc main_arg0)
abbrev a1 : Vec Ideal S1024x1024 .f32 := m (c, Proc.devRef .tc main_arg1)

theorem V_0 : (V m c main_arg0 : Vec Ideal S512x1024 .f32) = a0 m c := V_main_arg0 m c
theorem V_1 : (V m c main_v0 : Vec Ideal S1024x1024 .bf16) = truncf (F := Ideal) (φ := .f32) .bf16 (a1 m c) bitsLt_bf16_f32 := by
  unfold Gen.V; after_reads_simp

variable (t : Fin grid0.N) (r : Fin 512) (k q : Fin 1024)
theorem blk0 : (iblk m c 0 t (ix2 r k) : EReal) = a0 m c (ix2 r k) := (read0 t r k _).trans (congrFun (V_0 m c) _)
theorem blk1 : (iblk m c 1 t (ix2 k q) : EReal) = a1 m c (ix2 k q) := (read1 t k q _).trans (congrFun (V_1 m c) _)

/-- The block's entries. -/
theorem flushed_apply :
    ((dats m 0 c).flushed 2 t (ix2 r q) : EReal) = ∑ k : Fin 1024, (a0 m c (ix2 r k) : EReal) * (a1 m c (ix2 k q) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S512x1024 .f32) (y : Vec Ideal S1024x1024 .f32) :
    (Cert.Reference23Ideal.Read.val_main_v0 (F := Ideal) x y (ix2 r q) : EReal) = ∑ k : Fin 1024, (x (ix2 r k) : EReal) * (y (ix2 k q) : EReal) := by
  rw [Cert.Reference23Ideal.Read.val_main_v0_apply]
  exact Finset.sum_congr rfl fun k _ => congr (congrArg _ (at2 x _ r k rfl rfl)) (at2 y _ k q rfl rfl)

/-- The result array is the reference's. -/
theorem result : (dats m 0 c).arrAt 2 cfg0.N = Cert.Reference23Ideal.Read.val_main_v0 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point1 N_0, flush0_2 _, by
      show i ∈ ((View.whole main_v1).slice (win0_2.rect (point1 N_0))).set
      rw [View.set_slice_whole]
      exact mem_whole (win0_2.index (point1 N_0)) _ i (idx2 _).1 (idx2 _).2⟩
end

end Cert.Kernel23Ideal.Product
end
-- ==== Proof.Kernel24Ideal.Value.lean ====
/-
  The memory's projection's weight gradient: its one result block is one product of whole columns.
-/
module

public import proofs.«01_k».proof.Proof.Products.Tiles
public import proofs.«01_k».proof.Proof.Gen.Kernel24Ideal.Value
public import proofs.«01_k».proof.Proof.Gen.Reference24Ideal.Read
public import Idealize.ShloMosaic.Lib.Pointwise
public import Idealize.ShloMosaic.Lib.StableHlo.ReadAt

@[expose] public section
set_option maxRecDepth 16384

noncomputable section
namespace Cert.Kernel24Ideal.Product
open Idealize.ShloMosaic Idealize.ShloMosaic.Tactic Idealize.SL.Sem
open Cert.Kernel24Ideal Cert.Kernel24Ideal.Gen Cert.Products

/-- What the point leaves, over the blocks it stages. -/
theorem out2_apply (x : Vec Ideal S512x1024 .f32) (y : Vec Ideal S512x1024 .bf16) (r q : Fin 1024) :
    (out0_2 x y (ix2 r q) : EReal) = ∑ k : Fin 512, (x (ix2 k r) : EReal) * (y (ix2 k q) : EReal) := by
  unfold out0_2
  rw [View.canon_unit_zero zeros]
  simp only [View.ld_unit_zero (S := S512x1024) zeros]
  pointwise [k0_pay1]

/-! ## The point's blocks are the whole arrays -/

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel

section
variable (t : Fin grid0.N) (k : Fin 512) (r q : Fin 1024)
theorem read0 (y : Vec Ideal S512x1024 .f32) : ((cfg0.win 0).blk t).view.read (Elt Ideal) y (ix2 k r) = y (ix2 k r) :=
  (View.read_apply ..).trans (at2 y _ _ _ (place0 (idx0 t).1) (place0 (idx0 t).2))
theorem read1 (y : Vec Ideal S512x1024 .bf16) : ((cfg0.win 1).blk t).view.read (Elt Ideal) y (ix2 k q) = y (ix2 k q) :=
  (View.read_apply ..).trans (at2 y _ _ _ (place0 (idx1 t).1) (place0 (idx1 t).2))
theorem read2 (y : Vec Ideal S1024x1024 .bf16) : ((cfg0.win 2).blk t).view.read (Elt Ideal) y (ix2 r q) = y (ix2 r q) :=
  (View.read_apply ..).trans (at2 y _ _ _ (place0 (idx2 t).1) (place0 (idx2 t).2))
end

/-! ## The arrays the call finds -/

section
variable (m : (ℓ : Loc nD τ sig) → Buf (Elt Ideal) ℓ) (c : Dev nD)
abbrev a0 : Vec Ideal S512x1024 .f32 := m (c, Proc.devRef .tc main_arg0)
abbrev a1 : Vec Ideal S512x1024 .f32 := m (c, Proc.devRef .tc main_arg1)

theorem V_0 : (V m c main_arg0 : Vec Ideal S512x1024 .f32) = a0 m c := V_main_arg0 m c
theorem V_1 : (V m c main_v0 : Vec Ideal S512x1024 .bf16) = truncf (F := Ideal) (φ := .f32) .bf16 (a1 m c) bitsLt_bf16_f32 := by
  unfold Gen.V; after_reads_simp

variable (t : Fin grid0.N) (k : Fin 512) (r q : Fin 1024)
theorem blk0 : (iblk m c 0 t (ix2 k r) : EReal) = a0 m c (ix2 k r) := (read0 t k r _).trans (congrFun (V_0 m c) _)
theorem blk1 : (iblk m c 1 t (ix2 k q) : EReal) = a1 m c (ix2 k q) := (read1 t k q _).trans (congrFun (V_1 m c) _)

/-- The block's entries. -/
theorem flushed_apply :
    ((dats m 0 c).flushed 2 t (ix2 r q) : EReal) = ∑ k : Fin 512, (a0 m c (ix2 k r) : EReal) * (a1 m c (ix2 k q) : EReal) := by
  rw [Value.flushed2 m c t]
  change (out0_2 (iblk m c 0 t) (iblk m c 1 t) (ix2 r q) : EReal) = _
  rw [out2_apply]
  simp only [blk0, blk1]

/-- The reference's result at an index. -/
theorem ref_apply (x : Vec Ideal S512x1024 .f32) (y : Vec Ideal S512x1024 .f32) :
    (Cert.Reference24Ideal.Read.val_main_v4 (F := Ideal) x y (ix2 r q) : EReal) = ∑ k : Fin 512, (x (ix2 k r) : EReal) * (y (ix2 k q) : EReal) := by
  rw [Cert.Reference24Ideal.Read.val_main_v4_apply, Cert.Reference24Ideal.Read.val_main_v3_apply, Cert.Reference24Ideal.Read.val_main_v2_apply]
  exact Finset.sum_congr rfl fun k _ => (mul_comm _ _).trans (congr (congrArg _ (at2 x _ k r rfl rfl)) (at2 y _ k q rfl rfl))

/-- The result array is the reference's. -/
theorem result : (dats m 0 c).arrAt 2 cfg0.N = Cert.Reference24Ideal.Read.val_main_v4 (F := Ideal) (a0 m c) (a1 m c) :=
  (dats m 0 c).arrAt_eq_of_cover 2 _ (fun t _ => ext2 fun r q =>
      (flushed_apply m c t r q).trans ((ref_apply ..).symm.trans (read2 t r q _).symm)) fun i =>
    ⟨point1 N_0, flush0_2 _, by
      show i ∈ ((View.whole main_v1).slice (win0_2.rect (point1 N_0))).set
      rw [View.set_slice_whole]
      exact mem_whole (win0_2.index (point1 N_0)) _ i (idx2 _).1 (idx2 _).2⟩
end

end Cert.Kernel24Ideal.Product
end
-- ==== Proof.Products.Adam.lean ====
/-
  What the optimiser's calls share: the update of one array of a weight's numbers, and the sum of the gradient's parts.
-/
module

public import proofs.«01_k».proof.Proof.Products.Tiles
public import Idealize.ShloMosaic.Lib.Pointwise

@[expose] public section

noncomputable section
namespace Cert.Products
open Idealize.ShloMosaic

section
variable {S : Shape}

/-- The new first moment, of the old one and the gradient. -/
def moment1 (m g : FVec Ideal S .f32) : FVec Ideal S .f32 := fun i =>
  FloatOps.addf (FloatOps.mulf (FloatOps.ofBits .f32 0x3F666666#32) (m i)) (FloatOps.mulf (FloatOps.ofBits .f32 0x3DCCCCCD#32) (g i))

/-- The new second moment, of the old one and the gradient. -/
def moment2 (v g : FVec Ideal S .f32) : FVec Ideal S .f32 := fun i =>
  FloatOps.addf (FloatOps.mulf (FloatOps.ofBits .f32 0x3F7FBE77#32) (v i))
    (FloatOps.mulf (FloatOps.ofBits .f32 0x3A83126F#32) (FloatOps.mulf (g i) (g i)))

/-- The weight's change, of the weight and the new moments. -/
def change (w m v : FVec Ideal S .f32) : FVec Ideal S .f32 := fun i =>
  FloatOps.mulf (FloatOps.ofBits .f32 0xBA83126F#32)
    (FloatOps.addf
      (FloatOps.hostDivf (FloatOps.hostDivf (m i) (FloatOps.ofBits .f32 0x3F26BD02#32))
        (FloatOps.addf (FloatOps.hostUnary .sqrt (FloatOps.hostDivf (v i) (FloatOps.ofBits .f32 0x3C231ACC#32))) (FloatOps.ofBits .f32 0x322BCC77#32)))
      (FloatOps.mulf (FloatOps.ofBits .f32 0x3C23D70A#32) (w i)))
end

/-- Row `r` of block `t` of 512 rows. -/
def rowOf {N R : Nat} (h : N * 512 = R) (t : Fin N) (r : Fin 512) : Fin R := ⟨t.val * 512 + r.val, by omega⟩

/-- Four parts, added one after the other, are their sum. -/
theorem sum_four (p : Fin 4 → EReal) : p 0 + p 1 + p 2 + p 3 = Ideal.ofBits .f32 0x00000000#32 + ∑ k : Fin 4, p k := by
  rw [Ideal.ofBits_zero_f32, zero_add, Fin.sum_univ_four]

/-- Eight parts, added one after the other, are their sum. -/
theorem sum_eight (p : Fin 8 → EReal) : p 0 + p 1 + p 2 + p 3 + p 4 + p 5 + p 6 + p 7 = Ideal.ofBits .f32 0x00000000#32 + ∑ k : Fin 8, p k := by
  rw [Ideal.ofBits_zero_f32, zero_add, Fin.sum_univ_eight]

end Cert.Products
end
-- ==== Proof.Kernel25Ideal.Value.lean ====
/-
  The optimiser's step of a weight of 512 rows: the gradient is the sum of its four parts, the rest goes entry by entry.
-/
module

public import proofs.«01_k».proof.Proof.Products.Adam
public import proofs.«01_k».proof.Proof.Gen.Kernel25Ideal.Value
public import proofs.«01_k».proof.Proof.Gen.Reference25Ideal.Read

@[expose] public section
set_option maxRecDepth 16384

noncomputable section
namespace Cert.Kernel25Ideal.Product
open Idealize.ShloMosaic Idealize.ShloMosaic.Tactic Idealize.SL.Sem
open Cert.Kernel25Ideal Cert.Kernel25Ideal.Gen Cert.Products Cert.Reference25Ideal.Read

variable (w m v : Vec Ideal S512x1024 .f32) (p : Vec Ideal S4x512x1024 .bf16)

theorem grad : Value.G4 w m v p = val_main_v1 (F := Ideal) p :=
  ext2 fun r q => by
    rw [val_main_v1_apply]
    refine Eq.trans ?_ ((sum_four (fun k => p (ix3 k r q))).trans (congrArg (_ + ·) (Finset.sum_congr rfl fun k _ => (at3 p _ k r q rfl rfl rfl).symm)))
    pointwise [k0_pay2]
theorem first : Value.G6 w m v p = val_main_v6 (F := Ideal) m p := congrArg (moment1 m) (grad w m v p)
theorem second : Value.G7 w m v p = val_main_v12 (F := Ideal) v p := congrArg (moment2 v) (grad w m v p)
theorem step : Value.G5 w m v p = val_main_v25 (F := Ideal) w m v p :=
  congrArg₂ (change w) (first w m v p) (second w m v p)

end Cert.Kernel25Ideal.Product
end
-- ==== Proof.Kernel26Ideal.Value.lean ====
/-
  The optimiser's step of a norm's scale: the gradient is the sum of its eight parts, the rest goes entry by entry.
-/
module

public import proofs.«01_k».proof.Proof.Products.Adam
public import proofs.«01_k».proof.Proof.Gen.Kernel26Ideal.Value
public import proofs.«01_k».proof.Proof.Gen.Reference26Ideal.Read

@[expose] public section
set_option maxRecDepth 16384

noncomputable section
namespace Cert.Kernel26Ideal.Product
open Idealize.ShloMosaic Idealize.ShloMosaic.Tactic Idealize.SL.Sem
open Cert.Kernel26Ideal Cert.Kernel26Ideal.Gen Cert.Products Cert.Reference26Ideal.Read

variable (w m v : Vec Ideal S4x1024 .f32) (p : Vec Ideal S8x4x1024 .f32)

theorem grad : Value.G4 w m v p = val_main_v0 (F := Ideal) p :=
  ext2 fun r q => by
    rw [val_main_v0_apply]
    refine Eq.trans ?_ ((sum_eight (fun k => p (ix3 k r q))).trans (congrArg (_ + ·) (Finset.sum_congr rfl fun k _ => (at3 p _ k r q rfl rfl rfl).symm)))
    pointwise [k0_pay5, k0_pay3]
theorem first : Value.G6 w m v p = val_main_v5 (F := Ideal) m p :=
  congrArg₂ moment1 (View.ld_unit_zero (S := S4x1024) zeros _ m) (grad w m v p)
theorem second : Value.G7 w m v p = val_main_v11 (F := Ideal) v p :=
  congrArg (moment2 v) (grad w m v p)
theorem step : Value.G5 w m v p = val_main_v24 (F := Ideal) w m v p :=
  congrArg₂ (change w) (first w m v p) (second w m v p)

end Cert.Kernel26Ideal.Product
end
-- ==== Proof.Kernel27Ideal.Value.lean ====
/-
  The optimiser's step of the entry norm's scale: the gradient is the sum of its eight parts, the rest goes entry by entry.
-/
module

public import proofs.«01_k».proof.Proof.Products.Adam
public import proofs.«01_k».proof.Proof.Gen.Kernel27Ideal.Value
public import proofs.«01_k».proof.Proof.Gen.Reference27Ideal.Read

@[expose] public section
set_option maxRecDepth 16384

noncomputable section
namespace Cert.Kernel27Ideal.Product
open Idealize.ShloMosaic Idealize.ShloMosaic.Tactic Idealize.SL.Sem
open Cert.Kernel27Ideal Cert.Kernel27Ideal.Gen Cert.Products Cert.Reference27Ideal.Read

variable (w m v : Vec Ideal S1x1024 .f32) (p : Vec Ideal S8x1x1024 .f32)

theorem grad : Value.G4 w m v p = val_main_v0 (F := Ideal) p :=
  ext2 fun r q => by
    rw [Subsingleton.elim r 0, val_main_v0_apply]
    refine Eq.trans ?_ ((sum_eight (fun k => p (ix3 k 0 q))).trans (congrArg (_ + ·) (Finset.sum_congr rfl fun k _ => (at3 p _ k 0 q rfl rfl rfl).symm)))
    pointwise [k0_pay5, k0_pay3]
theorem first : Value.G6 w m v p = val_main_v5 (F := Ideal) m p :=
  congrArg₂ moment1 (View.ld_unit_zero (S := S1x1024) zeros _ m) (grad w m v p)
theorem second : Value.G7 w m v p = val_main_v11 (F := Ideal) v p :=
  congrArg (moment2 v) (grad w m v p)
theorem step : Value.G5 w m v p = val_main_v24 (F := Ideal) w m v p :=
  congrArg₂ (change w) (first w m v p) (second w m v p)

end Cert.Kernel27Ideal.Product
end
-- ==== Proof.Kernel28Ideal.Value.lean ====
/-
  The optimiser's step of the forget gate's bias: the gradient is the sum of its eight parts, the rest goes entry by entry.
-/
module

public import proofs.«01_k».proof.Proof.Products.Adam
public import proofs.«01_k».proof.Proof.Gen.Kernel28Ideal.Value
public import proofs.«01_k».proof.Proof.Gen.Reference28Ideal.Read

@[expose] public section
set_option maxRecDepth 16384

noncomputable section
namespace Cert.Kernel28Ideal.Product
open Idealize.ShloMosaic Idealize.ShloMosaic.Tactic Idealize.SL.Sem
open Cert.Kernel28Ideal Cert.Kernel28Ideal.Gen Cert.Products Cert.Reference28Ideal.Read

variable (w m v : Vec Ideal S4x8 .f32) (p : Vec Ideal S8x4x8 .f32)

theorem grad : Value.G4 w m v p = val_main_v0 (F := Ideal) p :=
  ext2 fun r q => by
    rw [val_main_v0_apply]
    refine Eq.trans ?_ ((sum_eight (fun k => p (ix3 k r q))).trans (congrArg (_ + ·) (Finset.sum_congr rfl fun k _ => (at3 p _ k r q rfl rfl rfl).symm)))
    pointwise [k0_pay5, k0_pay3]
theorem first : Value.G6 w m v p = val_main_v5 (F := Ideal) m p :=
  congrArg₂ moment1 (View.ld_unit_zero (S := S4x8) zeros _ m) (grad w m v p)
theorem second : Value.G7 w m v p = val_main_v11 (F := Ideal) v p :=
  congrArg (moment2 v) (grad w m v p)
theorem step : Value.G5 w m v p = val_main_v24 (F := Ideal) w m v p :=
  congrArg₂ (change w) (first w m v p) (second w m v p)

end Cert.Kernel28Ideal.Product
end
-- ==== Proof.Kernel29Ideal.Value.lean ====
/-
  The optimiser's step of the queries' norm: the gradient is the sum of its eight parts, the rest goes entry by entry.
-/
module

public import proofs.«01_k».proof.Proof.Products.Adam
public import proofs.«01_k».proof.Proof.Gen.Kernel29Ideal.Value
public import proofs.«01_k».proof.Proof.Gen.Reference29Ideal.Read

@[expose] public section
set_option maxRecDepth 16384

noncomputable section
namespace Cert.Kernel29Ideal.Product
open Idealize.ShloMosaic Idealize.ShloMosaic.Tactic Idealize.SL.Sem
open Cert.Kernel29Ideal Cert.Kernel29Ideal.Gen Cert.Products Cert.Reference29Ideal.Read

variable (w m v : Vec Ideal S4x384 .f32) (p : Vec Ideal S8x4x384 .f32)

theorem grad : Value.G4 w m v p = val_main_v0 (F := Ideal) p :=
  ext2 fun r q => by
    rw [val_main_v0_apply]
    refine Eq.trans ?_ ((sum_eight (fun k => p (ix3 k r q))).trans (congrArg (_ + ·) (Finset.sum_congr rfl fun k _ => (at3 p _ k r q rfl rfl rfl).symm)))
    pointwise [k0_pay5, k0_pay3]
theorem first : Value.G6 w m v p = val_main_v5 (F := Ideal) m p :=
  congrArg₂ moment1 (View.ld_unit_zero (S := S4x384) zeros _ m) (grad w m v p)
theorem second : Value.G7 w m v p = val_main_v11 (F := Ideal) v p :=
  congrArg (moment2 v) (grad w m v p)
theorem step : Value.G5 w m v p = val_main_v24 (F := Ideal) w m v p :=
  congrArg₂ (change w) (first w m v p) (second w m v p)

end Cert.Kernel29Ideal.Product
end
-- ==== Proof.Kernel30Ideal.Value.lean ====
/-
  The optimiser's step of the keys' and values' norm: the gradient is the sum of its eight parts, the rest goes entry by entry.
-/
module

public import proofs.«01_k».proof.Proof.Products.Adam
public import proofs.«01_k».proof.Proof.Gen.Kernel30Ideal.Value
public import proofs.«01_k».proof.Proof.Gen.Reference30Ideal.Read

@[expose] public section
set_option maxRecDepth 16384

noncomputable section
namespace Cert.Kernel30Ideal.Product
open Idealize.ShloMosaic Idealize.ShloMosaic.Tactic Idealize.SL.Sem
open Cert.Kernel30Ideal Cert.Kernel30Ideal.Gen Cert.Products Cert.Reference30Ideal.Read

variable (w m v : Vec Ideal S4x256 .f32) (p : Vec Ideal S8x4x256 .f32)

theorem grad : Value.G4 w m v p = val_main_v0 (F := Ideal) p :=
  ext2 fun r q => by
    rw [val_main_v0_apply]
    refine Eq.trans ?_ ((sum_eight (fun k => p (ix3 k r q))).trans (congrArg (_ + ·) (Finset.sum_congr rfl fun k _ => (at3 p _ k r q rfl rfl rfl).symm)))
    pointwise [k0_pay5, k0_pay3]
theorem first : Value.G6 w m v p = val_main_v5 (F := Ideal) m p :=
  congrArg₂ moment1 (View.ld_unit_zero (S := S4x256) zeros _ m) (grad w m v p)
theorem second : Value.G7 w m v p = val_main_v11 (F := Ideal) v p :=
  congrArg (moment2 v) (grad w m v p)
theorem step : Value.G5 w m v p = val_main_v24 (F := Ideal) w m v p :=
  congrArg₂ (change w) (first w m v p) (second w m v p)

end Cert.Kernel30Ideal.Product
end
-- ==== Proof.Kernel31Ideal.Value.lean ====
/-
  The optimiser's step of the keys' and values' up-projection, block of 512 rows by block.
-/
module

public import proofs.«01_k».proof.Proof.Products.Adam
public import proofs.«01_k».proof.Proof.Gen.Kernel31Ideal.Value
public import proofs.«01_k».proof.Proof.Gen.Reference31Ideal.Read

@[expose] public section
set_option maxRecDepth 16384

noncomputable section
namespace Cert.Kernel31Ideal.Product
open Idealize.ShloMosaic Idealize.ShloMosaic.Tactic Idealize.SL.Sem
open Cert.Kernel31Ideal Cert.Kernel31Ideal.Gen Cert.Products Cert.Reference31Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 1024 := rowOf (congrArg (· * 512) N_0) t r

theorem blk3 (k : Fin 4) (r : Fin 512) (q : Fin 128) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S1024x128 .f32) : Vec Ideal S512x128 .f32 := ((cfg0.win 4).blk t).view.read (Elt Ideal) y
theorem rd_apply (y : Vec Ideal S1024x128 .f32) (r : Fin 512) (q : Fin 128) : rd t y (ix2 r q) = y (ix2 (row t r) q) :=
  (View.read_apply ..).trans (at2 y _ _ _ (place (idx t).2.1) (place0 (idx t).2.2))

theorem cover (i : S1024x128.Idx) : ∃ t, i ∈ (win0_4.rect t).set :=
  have hi : (i 0).val < 1024 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x128 .f32) (p : Vec Ideal S4x512x128 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x128) zeros, View.ld_unit_zero (S := S512x128) zeros]
  exact ⟨rfl, rfl, rfl⟩

theorem out_grad (w x y : Vec Ideal S512x128 .f32) (p : Vec Ideal S4x512x128 .bf16) (r : Fin 512) (q : Fin 128) :
    (out0_4 w x y p (ix2 r q) : EReal) = p (ix3 0 r q) + p (ix3 1 r q) + p (ix3 2 r q) + p (ix3 3 r q) := by
  unfold out0_4
  rw [View.canon_unit_zero zeros]
  pointwise [k0_pay2]

theorem grad : out0_4 (iblk m c 0 t) (iblk m c 1 t) (iblk m c 2 t) (iblk m c 3 t) = rd t (val_main_v1 (F := Ideal) (V m c main_arg3)) :=
  ext2 fun r q => by
    rw [out_grad, rd_apply, val_main_v1_apply]
    simp only [blk3]
    exact (sum_four (fun k => V m c main_arg3 (ix3 k (row t r) q))).trans
      (congrArg (_ + ·) (Finset.sum_congr rfl fun k _ => (at3 (V m c main_arg3) _ k (row t r) q rfl rfl rfl).symm))

theorem result4 : (dats m 0 c).arrAt 4 cfg0.N = val_main_v1 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v25 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v6 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v12 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel31Ideal.Product
end
-- ==== Proof.Kernel32Ideal.Value.lean ====
/-
  The optimiser's step of the branches' weight, block of 512 rows by block.
-/
module

public import proofs.«01_k».proof.Proof.Products.Adam
public import proofs.«01_k».proof.Proof.Gen.Kernel32Ideal.Value
public import proofs.«01_k».proof.Proof.Gen.Reference32Ideal.Read

@[expose] public section
set_option maxRecDepth 16384

noncomputable section
namespace Cert.Kernel32Ideal.Product
open Idealize.ShloMosaic Idealize.ShloMosaic.Tactic Idealize.SL.Sem
open Cert.Kernel32Ideal Cert.Kernel32Ideal.Gen Cert.Products Cert.Reference32Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 6144 := rowOf (congrArg (· * 512) N_0) t r

theorem blk3 (k : Fin 4) (r : Fin 512) (q : Fin 128) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S6144x128 .f32) : Vec Ideal S512x128 .f32 := ((cfg0.win 4).blk t).view.read (Elt Ideal) y
theorem rd_apply (y : Vec Ideal S6144x128 .f32) (r : Fin 512) (q : Fin 128) : rd t y (ix2 r q) = y (ix2 (row t r) q) :=
  (View.read_apply ..).trans (at2 y _ _ _ (place (idx t).2.1) (place0 (idx t).2.2))

theorem cover (i : S6144x128.Idx) : ∃ t, i ∈ (win0_4.rect t).set :=
  have hi : (i 0).val < 6144 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x128 .f32) (p : Vec Ideal S4x512x128 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x128) zeros, View.ld_unit_zero (S := S512x128) zeros]
  exact ⟨rfl, rfl, rfl⟩

theorem out_grad (w x y : Vec Ideal S512x128 .f32) (p : Vec Ideal S4x512x128 .bf16) (r : Fin 512) (q : Fin 128) :
    (out0_4 w x y p (ix2 r q) : EReal) = p (ix3 0 r q) + p (ix3 1 r q) + p (ix3 2 r q) + p (ix3 3 r q) := by
  unfold out0_4
  rw [View.canon_unit_zero zeros]
  pointwise [k0_pay2]

theorem grad : out0_4 (iblk m c 0 t) (iblk m c 1 t) (iblk m c 2 t) (iblk m c 3 t) = rd t (val_main_v1 (F := Ideal) (V m c main_arg3)) :=
  ext2 fun r q => by
    rw [out_grad, rd_apply, val_main_v1_apply]
    simp only [blk3]
    exact (sum_four (fun k => V m c main_arg3 (ix3 k (row t r) q))).trans
      (congrArg (_ + ·) (Finset.sum_congr rfl fun k _ => (at3 (V m c main_arg3) _ k (row t r) q rfl rfl rfl).symm))

theorem result4 : (dats m 0 c).arrAt 4 cfg0.N = val_main_v1 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v25 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v6 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v12 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel32Ideal.Product
end
-- ==== Proof.Kernel33Ideal.Value.lean ====
/-
  The optimiser's step of the first feed-forward weight, block of 512 rows by block.
-/
module

public import proofs.«01_k».proof.Proof.Products.Adam
public import proofs.«01_k».proof.Proof.Gen.Kernel33Ideal.Value
public import proofs.«01_k».proof.Proof.Gen.Reference33Ideal.Read

@[expose] public section
set_option maxRecDepth 16384

noncomputable section
namespace Cert.Kernel33Ideal.Product
open Idealize.ShloMosaic Idealize.ShloMosaic.Tactic Idealize.SL.Sem
open Cert.Kernel33Ideal Cert.Kernel33Ideal.Gen Cert.Products Cert.Reference33Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 4096 := rowOf (congrArg (· * 512) N_0) t r

theorem blk3 (k : Fin 4) (r : Fin 512) (q : Fin 512) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S4096x512 .f32) : Vec Ideal S512x512 .f32 := ((cfg0.win 4).blk t).view.read (Elt Ideal) y
theorem rd_apply (y : Vec Ideal S4096x512 .f32) (r : Fin 512) (q : Fin 512) : rd t y (ix2 r q) = y (ix2 (row t r) q) :=
  (View.read_apply ..).trans (at2 y _ _ _ (place (idx t).2.1) (place0 (idx t).2.2))

theorem cover (i : S4096x512.Idx) : ∃ t, i ∈ (win0_4.rect t).set :=
  have hi : (i 0).val < 4096 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x512 .f32) (p : Vec Ideal S4x512x512 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x512) zeros, View.ld_unit_zero (S := S512x512) zeros]
  exact ⟨rfl, rfl, rfl⟩

theorem out_grad (w x y : Vec Ideal S512x512 .f32) (p : Vec Ideal S4x512x512 .bf16) (r : Fin 512) (q : Fin 512) :
    (out0_4 w x y p (ix2 r q) : EReal) = p (ix3 0 r q) + p (ix3 1 r q) + p (ix3 2 r q) + p (ix3 3 r q) := by
  unfold out0_4
  rw [View.canon_unit_zero zeros]
  pointwise [k0_pay2]

theorem grad : out0_4 (iblk m c 0 t) (iblk m c 1 t) (iblk m c 2 t) (iblk m c 3 t) = rd t (val_main_v1 (F := Ideal) (V m c main_arg3)) :=
  ext2 fun r q => by
    rw [out_grad, rd_apply, val_main_v1_apply]
    simp only [blk3]
    exact (sum_four (fun k => V m c main_arg3 (ix3 k (row t r) q))).trans
      (congrArg (_ + ·) (Finset.sum_congr rfl fun k _ => (at3 (V m c main_arg3) _ k (row t r) q rfl rfl rfl).symm))

theorem result4 : (dats m 0 c).arrAt 4 cfg0.N = val_main_v1 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v25 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v6 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v12 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel33Ideal.Product
end
-- ==== Proof.Kernel34Ideal.Value.lean ====
/-
  The optimiser's step of the second feed-forward weight, block of 512 rows by block.
-/
module

public import proofs.«01_k».proof.Proof.Products.Adam
public import proofs.«01_k».proof.Proof.Gen.Kernel34Ideal.Value
public import proofs.«01_k».proof.Proof.Gen.Reference34Ideal.Read

@[expose] public section
set_option maxRecDepth 16384

noncomputable section
namespace Cert.Kernel34Ideal.Product
open Idealize.ShloMosaic Idealize.ShloMosaic.Tactic Idealize.SL.Sem
open Cert.Kernel34Ideal Cert.Kernel34Ideal.Gen Cert.Products Cert.Reference34Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 2048 := rowOf (congrArg (· * 512) N_0) t r

theorem blk3 (k : Fin 4) (r : Fin 512) (q : Fin 1024) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S2048x1024 .f32) : Vec Ideal S512x1024 .f32 := ((cfg0.win 4).blk t).view.read (Elt Ideal) y
theorem rd_apply (y : Vec Ideal S2048x1024 .f32) (r : Fin 512) (q : Fin 1024) : rd t y (ix2 r q) = y (ix2 (row t r) q) :=
  (View.read_apply ..).trans (at2 y _ _ _ (place (idx t).2.1) (place0 (idx t).2.2))

theorem cover (i : S2048x1024.Idx) : ∃ t, i ∈ (win0_4.rect t).set :=
  have hi : (i 0).val < 2048 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x1024 .f32) (p : Vec Ideal S4x512x1024 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x1024) zeros, View.ld_unit_zero (S := S512x1024) zeros]
  exact ⟨rfl, rfl, rfl⟩

theorem out_grad (w x y : Vec Ideal S512x1024 .f32) (p : Vec Ideal S4x512x1024 .bf16) (r : Fin 512) (q : Fin 1024) :
    (out0_4 w x y p (ix2 r q) : EReal) = p (ix3 0 r q) + p (ix3 1 r q) + p (ix3 2 r q) + p (ix3 3 r q) := by
  unfold out0_4
  rw [View.canon_unit_zero zeros]
  pointwise [k0_pay2]

theorem grad : out0_4 (iblk m c 0 t) (iblk m c 1 t) (iblk m c 2 t) (iblk m c 3 t) = rd t (val_main_v1 (F := Ideal) (V m c main_arg3)) :=
  ext2 fun r q => by
    rw [out_grad, rd_apply, val_main_v1_apply]
    simp only [blk3]
    exact (sum_four (fun k => V m c main_arg3 (ix3 k (row t r) q))).trans
      (congrArg (_ + ·) (Finset.sum_congr rfl fun k _ => (at3 (V m c main_arg3) _ k (row t r) q rfl rfl rfl).symm))

theorem result4 : (dats m 0 c).arrAt 4 cfg0.N = val_main_v1 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v25 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v6 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v12 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel34Ideal.Product
end
-- ==== Proof.Kernel35Ideal.Value.lean ====
/-
  The optimiser's step of the queries' up-projection, block of 512 rows by block.
-/
module

public import proofs.«01_k».proof.Proof.Products.Adam
public import proofs.«01_k».proof.Proof.Gen.Kernel35Ideal.Value
public import proofs.«01_k».proof.Proof.Gen.Reference35Ideal.Read

@[expose] public section
set_option maxRecDepth 16384

noncomputable section
namespace Cert.Kernel35Ideal.Product
open Idealize.ShloMosaic Idealize.ShloMosaic.Tactic Idealize.SL.Sem
open Cert.Kernel35Ideal Cert.Kernel35Ideal.Gen Cert.Products Cert.Reference35Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 1536 := rowOf (congrArg (· * 512) N_0) t r

theorem blk3 (k : Fin 4) (r : Fin 512) (q : Fin 128) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S1536x96 .f32) : Vec Ideal S512x96 .f32 := ((cfg0.win 4).blk t).view.read (Elt Ideal) y
theorem rd_apply (y : Vec Ideal S1536x96 .f32) (r : Fin 512) (q : Fin 96) : rd t y (ix2 r q) = y (ix2 (row t r) q) :=
  (View.read_apply ..).trans (at2 y _ _ _ (place (idx t).2.1) (place0 (idx t).2.2))

theorem cover (i : S1536x96.Idx) : ∃ t, i ∈ (win0_4.rect t).set :=
  have hi : (i 0).val < 1536 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x96 .f32) (p : Vec Ideal S4x512x128 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x96) zeros, View.ld_unit_zero (S := S512x96) zeros]
  exact ⟨rfl, rfl, rfl⟩

theorem out_grad (w x y : Vec Ideal S512x96 .f32) (p : Vec Ideal S4x512x128 .bf16) (r : Fin 512) (q : Fin 96) :
    (out0_4 w x y p (ix2 r q) : EReal) = p (ix3 0 r (q.castLE (by decide))) + p (ix3 1 r (q.castLE (by decide))) + p (ix3 2 r (q.castLE (by decide))) + p (ix3 3 r (q.castLE (by decide))) := by
  unfold out0_4
  rw [View.canon_unit_zero zeros]
  pointwise [k0_pay2]
  rfl

theorem grad : out0_4 (iblk m c 0 t) (iblk m c 1 t) (iblk m c 2 t) (iblk m c 3 t) = rd t (val_main_v2 (F := Ideal) (V m c main_arg3)) :=
  ext2 fun r q => by
    rw [out_grad, rd_apply, val_main_v2_apply]
    simp only [blk3]
    exact (sum_four (fun k => V m c main_arg3 (ix3 k (row t r) (q.castLE (by decide))))).trans
      (congrArg (_ + ·) (Finset.sum_congr rfl fun k _ => (at3 (V m c main_arg3) _ k (row t r) (q.castLE (by decide)) (Nat.zero_add _) (Nat.zero_add _) (Nat.zero_add _)).symm))

theorem result4 : (dats m 0 c).arrAt 4 cfg0.N = val_main_v2 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v26 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v7 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v13 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel35Ideal.Product
end
-- ==== Proof.Kernel36Ideal.Value.lean ====
/-
  The optimiser's step of the input projection, block of 512 rows by block.
-/
module

public import proofs.«01_k».proof.Proof.Products.Adam
public import proofs.«01_k».proof.Proof.Gen.Kernel36Ideal.Value
public import proofs.«01_k».proof.Proof.Gen.Reference36Ideal.Read

@[expose] public section
set_option maxRecDepth 16384

noncomputable section
namespace Cert.Kernel36Ideal.Product
open Idealize.ShloMosaic Idealize.ShloMosaic.Tactic Idealize.SL.Sem
open Cert.Kernel36Ideal Cert.Kernel36Ideal.Gen Cert.Products Cert.Reference36Ideal.Read

theorem idx : ∀ t : Fin grid0.N, (win0_3.index t 0 = 0 ∧ win0_3.index t 1 = t.val ∧ win0_3.index t 2 = 0) ∧
    win0_4.index t 0 = t.val ∧ win0_4.index t 1 = 0 := by decide +kernel

variable (t : Fin grid0.N) (m : (ℓ : Loc nD τ sig) → Buf (Elt Ideal) ℓ) (c : Dev nD)

abbrev row (r : Fin 512) : Fin 4096 := rowOf (congrArg (· * 512) N_0) t r

theorem blk3 (k : Fin 4) (r : Fin 512) (q : Fin 768) : iblk m c 3 t (ix3 k r q) = V m c main_arg3 (ix3 k (row t r) q) :=
  (View.read_apply ..).trans (at3 (V m c main_arg3) _ _ _ _ (place0 (idx t).1.1) (place (idx t).1.2.1) (place0 (idx t).1.2.2))

abbrev rd (y : Vec Ideal S4096x725 .f32) : Vec Ideal S512x725 .f32 := ((cfg0.win 4).blk t).view.read (Elt Ideal) y
theorem rd_apply (y : Vec Ideal S4096x725 .f32) (r : Fin 512) (q : Fin 725) : rd t y (ix2 r q) = y (ix2 (row t r) q) :=
  (View.read_apply ..).trans (at2 y _ _ _ (place (idx t).2.1) (place0 (idx t).2.2))

theorem cover (i : S4096x725.Idx) : ∃ t, i ∈ (win0_4.rect t).set :=
  have hi : (i 0).val < 4096 := (i 0).isLt
  ⟨⟨(i 0).val / 512, by rw [N_0]; omega⟩, mem_tile (by decide) (win0_4.index _) _ i (idx _).2.1 (idx _).2.2⟩

/-- What a point leaves, from its gradient's block. -/
theorem out (w x y : Vec Ideal S512x725 .f32) (p : Vec Ideal S4x512x768 .bf16) :
    out0_6 w x y p = moment1 x (out0_4 w x y p) ∧ out0_7 w x y p = moment2 y (out0_4 w x y p) ∧
      out0_5 w x y p = change w (moment1 x (out0_4 w x y p)) (moment2 y (out0_4 w x y p)) := by
  unfold out0_5 out0_6 out0_7 out0_4
  simp only [View.canon_unit_zero (S := S512x725) zeros, View.ld_unit_zero (S := S512x725) zeros]
  exact ⟨rfl, rfl, rfl⟩

theorem out_grad (w x y : Vec Ideal S512x725 .f32) (p : Vec Ideal S4x512x768 .bf16) (r : Fin 512) (q : Fin 725) :
    (out0_4 w x y p (ix2 r q) : EReal) = p (ix3 0 r (q.castLE (by decide))) + p (ix3 1 r (q.castLE (by decide))) + p (ix3 2 r (q.castLE (by decide))) + p (ix3 3 r (q.castLE (by decide))) := by
  unfold out0_4
  rw [View.canon_unit_zero zeros]
  pointwise [k0_pay2]
  rfl

theorem grad : out0_4 (iblk m c 0 t) (iblk m c 1 t) (iblk m c 2 t) (iblk m c 3 t) = rd t (val_main_v2 (F := Ideal) (V m c main_arg3)) :=
  ext2 fun r q => by
    rw [out_grad, rd_apply, val_main_v2_apply]
    simp only [blk3]
    exact (sum_four (fun k => V m c main_arg3 (ix3 k (row t r) (q.castLE (by decide))))).trans
      (congrArg (_ + ·) (Finset.sum_congr rfl fun k _ => (at3 (V m c main_arg3) _ k (row t r) (q.castLE (by decide)) (Nat.zero_add _) (Nat.zero_add _) (Nat.zero_add _)).symm))

theorem result4 : (dats m 0 c).arrAt 4 cfg0.N = val_main_v2 (F := Ideal) (V m c main_arg3) :=
  (dats m 0 c).arrAt_eq_of_cover 4 _ (fun t _ => (Value.flushed4 m c t).trans (grad t m c)) fun i =>
    (cover i).imp fun t h => ⟨flush0_4 t, (View.set_slice_whole main_v0_0 (win0_4.rect t)).symm ▸ h⟩
theorem result5 : (dats m 0 c).arrAt 5 cfg0.N = val_main_v26 (F := Ideal) (V m c main_arg0) (V m c main_arg1) (V m c main_arg2) (V m c main_arg3) :=
  (dats m 0 c).arrAt_eq_of_cover 5 _ (fun t _ => (Value.flushed5 m c t).trans ((out ..).2.2.trans (congrArg (fun g => change (rd t (V m c main_arg0)) (moment1 (rd t (V m c main_arg1)) g) (moment2 (rd t (V m c main_arg2)) g)) (grad t m c)))) fun i =>
    (cover i).imp fun t h => ⟨flush0_5 t, (View.set_slice_whole main_v0_1 (win0_5.rect t)).symm ▸ h⟩
theorem result6 : (dats m 0 c).arrAt 6 cfg0.N = val_main_v7 (F := Ideal) (V m c main_arg1) (V m c main_arg3) :=
  (dats m 0 c).arrAt_eq_of_cover 6 _ (fun t _ => (Value.flushed6 m c t).trans ((out ..).1.trans (congrArg (moment1 (rd t (V m c main_arg1))) (grad t m c)))) fun i =>
    (cover i).imp fun t h => ⟨flush0_6 t, (View.set_slice_whole main_v0_2 (win0_6.rect t)).symm ▸ h⟩
theorem result7 : (dats m 0 c).arrAt 7 cfg0.N = val_main_v13 (F := Ideal) (V m c main_arg2) (V m c main_arg3) :=
  (dats m 0 c).arrAt_eq_of_cover 7 _ (fun t _ => (Value.flushed7 m c t).trans ((out ..).2.1.trans (congrArg (moment2 (rd t (V m c main_arg2))) (grad t m c)))) fun i =>
    (cover i).imp fun t h => ⟨flush0_7 t, (View.set_slice_whole main_v0_3 (win0_7.rect t)).symm ▸ h⟩

end Cert.Kernel36Ideal.Product
end
-- ==== Proof.lean ====
module

public import proofs.«01_k».proof.Defs
public import proofs.«01_k».proof.Proof.Kernel.Run
public import proofs.«01_k».proof.Proof.KernelIdeal.Run
public import proofs.«01_k».proof.Proof.KernelIdeal.Value
public import proofs.«01_k».proof.Proof.Reference.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Kernel2Ideal.Value
public import proofs.«01_k».proof.Proof.Gen.Kernel2.Frame
public import proofs.«01_k».proof.Proof.Kernel3Ideal.Value
public import proofs.«01_k».proof.Proof.Gen.Kernel3.Frame
public import proofs.«01_k».proof.Proof.Kernel4Ideal.Value
public import proofs.«01_k».proof.Proof.Gen.Kernel4.Frame
public import proofs.«01_k».proof.Proof.Kernel5Ideal.Value
public import proofs.«01_k».proof.Proof.Gen.Kernel5.Frame
public import proofs.«01_k».proof.Proof.Kernel6Ideal.Value
public import proofs.«01_k».proof.Proof.Gen.Kernel6.Frame
public import proofs.«01_k».proof.Proof.Kernel7Ideal.Value
public import proofs.«01_k».proof.Proof.Gen.Kernel7.Frame
public import proofs.«01_k».proof.Proof.Kernel8Ideal.Value
public import proofs.«01_k».proof.Proof.Gen.Kernel8.Frame
public import proofs.«01_k».proof.Proof.Kernel9Ideal.Value
public import proofs.«01_k».proof.Proof.Gen.Kernel9.Frame
public import proofs.«01_k».proof.Proof.Kernel10Ideal.Value
public import proofs.«01_k».proof.Proof.Gen.Kernel10.Frame
public import proofs.«01_k».proof.Proof.Kernel11Ideal.Value
public import proofs.«01_k».proof.Proof.Gen.Kernel11.Frame
public import proofs.«01_k».proof.Proof.Kernel12Ideal.Value
public import proofs.«01_k».proof.Proof.Gen.Kernel12.Frame
public import proofs.«01_k».proof.Proof.Kernel13Ideal.Value
public import proofs.«01_k».proof.Proof.Gen.Kernel13.Frame
public import proofs.«01_k».proof.Proof.Kernel14Ideal.Value
public import proofs.«01_k».proof.Proof.Gen.Kernel14.Frame
public import proofs.«01_k».proof.Proof.Kernel15Ideal.Value
public import proofs.«01_k».proof.Proof.Gen.Kernel15.Frame
public import proofs.«01_k».proof.Proof.Kernel16Ideal.Value
public import proofs.«01_k».proof.Proof.Gen.Kernel16.Frame
public import proofs.«01_k».proof.Proof.Kernel17Ideal.Value
public import proofs.«01_k».proof.Proof.Gen.Kernel17.Frame
public import proofs.«01_k».proof.Proof.Kernel18Ideal.Value
public import proofs.«01_k».proof.Proof.Gen.Kernel18.Frame
public import proofs.«01_k».proof.Proof.Kernel19Ideal.Value
public import proofs.«01_k».proof.Proof.Gen.Kernel19.Frame
public import proofs.«01_k».proof.Proof.Kernel20Ideal.Value
public import proofs.«01_k».proof.Proof.Gen.Kernel20.Frame
public import proofs.«01_k».proof.Proof.Kernel21Ideal.Value
public import proofs.«01_k».proof.Proof.Gen.Kernel21.Frame
public import proofs.«01_k».proof.Proof.Kernel22Ideal.Value
public import proofs.«01_k».proof.Proof.Gen.Kernel22.Frame
public import proofs.«01_k».proof.Proof.Kernel23Ideal.Value
public import proofs.«01_k».proof.Proof.Gen.Kernel23.Frame
public import proofs.«01_k».proof.Proof.Kernel24Ideal.Value
public import proofs.«01_k».proof.Proof.Gen.Kernel24.Frame
public import proofs.«01_k».proof.Proof.Kernel25Ideal.Value
public import proofs.«01_k».proof.Proof.Gen.Kernel25.Frame
public import proofs.«01_k».proof.Proof.Kernel26Ideal.Value
public import proofs.«01_k».proof.Proof.Gen.Kernel26.Frame
public import proofs.«01_k».proof.Proof.Kernel27Ideal.Value
public import proofs.«01_k».proof.Proof.Gen.Kernel27.Frame
public import proofs.«01_k».proof.Proof.Kernel28Ideal.Value
public import proofs.«01_k».proof.Proof.Gen.Kernel28.Frame
public import proofs.«01_k».proof.Proof.Kernel29Ideal.Value
public import proofs.«01_k».proof.Proof.Gen.Kernel29.Frame
public import proofs.«01_k».proof.Proof.Kernel30Ideal.Value
public import proofs.«01_k».proof.Proof.Gen.Kernel30.Frame
public import proofs.«01_k».proof.Proof.Kernel31Ideal.Value
public import proofs.«01_k».proof.Proof.Gen.Kernel31.Frame
public import proofs.«01_k».proof.Proof.Kernel32Ideal.Value
public import proofs.«01_k».proof.Proof.Gen.Kernel32.Frame
public import proofs.«01_k».proof.Proof.Kernel33Ideal.Value
public import proofs.«01_k».proof.Proof.Gen.Kernel33.Frame
public import proofs.«01_k».proof.Proof.Kernel34Ideal.Value
public import proofs.«01_k».proof.Proof.Gen.Kernel34.Frame
public import proofs.«01_k».proof.Proof.Kernel35Ideal.Value
public import proofs.«01_k».proof.Proof.Gen.Kernel35.Frame
public import proofs.«01_k».proof.Proof.Kernel36Ideal.Value
public import proofs.«01_k».proof.Proof.Gen.Kernel36.Frame
public import Idealize.ShloMosaic.Adequacy
public import Idealize.ShloMosaic.Init
public import Idealize.ShloMosaic.Lib.Quiescent

@[expose] public section

noncomputable section

namespace Cert.Proof

open Idealize.ShloMosaic Idealize.SL.Sem

theorem reference_quiet (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2, sem_eq_zero_of_no_sems (by decide) r.2⟩) (Cert.ReferenceIdeal.Value.run m ρ)

theorem value : Cert.algebraic_KernelIdeal_ReferenceIdeal_pre_finite := fun m g m' g' hp ha =>
  ⟨fun c => Cert.ReferenceIdeal.Read.val_main_v96 (Cert.KernelIdeal.Fox.a0 m c) (Cert.KernelIdeal.Fox.a1 m c) (Cert.KernelIdeal.Fox.a2 m c),
    fun c => Cert.ReferenceIdeal.Read.val_main_v97 (Cert.KernelIdeal.Fox.a0 m c) (Cert.KernelIdeal.Fox.a1 m c) (Cert.KernelIdeal.Fox.a2 m c),
    fun c => Cert.ReferenceIdeal.Read.val_main_v98 (Cert.KernelIdeal.Fox.a0 m c) (Cert.KernelIdeal.Fox.a1 m c) (Cert.KernelIdeal.Fox.a2 m c),
    fun c => Cert.ReferenceIdeal.Read.val_main_v95 (Cert.KernelIdeal.Fox.a0 m c) (Cert.KernelIdeal.Fox.a1 m c) (Cert.KernelIdeal.Fox.a2 m c),
    (θ_run _ _ _).mono (fun r h c => by
      obtain ⟨h1, h2⟩ := h
      obtain ⟨e0, e1, e2, e3⟩ := Cert.KernelIdeal.Fox.results m c (Cert.Fox.holds_of_finite _ _ _ (hp c)) r h1
      exact ⟨e0, e1, e2, e3, h2.1 c⟩) (θ_run_and (Cert.KernelIdeal.Fox.run m g) (Cert.KernelIdeal.Fox.quiet m g)),
    (θ_run _ _ _).mono (fun r h c => by
      obtain ⟨e0, e1, e2, e3, e4⟩ := h c
      obtain ⟨b0, b1, b2⟩ := ha c
      have f0 : m' (c, Proc.devRef .tc Cert.ReferenceIdeal.main_arg0) = Cert.KernelIdeal.Fox.a0 m c := b0
      have f1 : m' (c, Proc.devRef .tc Cert.ReferenceIdeal.main_arg1) = Cert.KernelIdeal.Fox.a1 m c := b1
      have f2 : m' (c, Proc.devRef .tc Cert.ReferenceIdeal.main_arg2) = Cert.KernelIdeal.Fox.a2 m c := b2
      exact ⟨e0.trans ((Cert.ReferenceIdeal.Read.val_main_v96_eq m' c).trans (congr (congr (congrArg (Cert.ReferenceIdeal.Read.val_main_v96 (F := Ideal)) f0) f1) f2)),
        e1.trans ((Cert.ReferenceIdeal.Read.val_main_v97_eq m' c).trans (congr (congr (congrArg (Cert.ReferenceIdeal.Read.val_main_v97 (F := Ideal)) f0) f1) f2)),
        e2.trans ((Cert.ReferenceIdeal.Read.val_main_v98_eq m' c).trans (congr (congr (congrArg (Cert.ReferenceIdeal.Read.val_main_v98 (F := Ideal)) f0) f1) f2)),
        e3.trans ((Cert.ReferenceIdeal.Read.val_main_v95_eq m' c).trans (congr (congr (congrArg (Cert.ReferenceIdeal.Read.val_main_v95 (F := Ideal)) f0) f1) f2)), e4⟩) (Cert.ReferenceIdeal.Value.run m' g')⟩

open Kernel2Ideal.Product Reference2Ideal.Read in
theorem value2 : algebraic_Kernel2Ideal_Reference2Ideal := fun m g m' g' _ ha =>
  ⟨fun c => val_main_v12 (a0 m c) (a1 m c) (a2 m c),
    (θ_run _ _ _).mono (fun r h c => ⟨(h c).1.trans (result m c), (h c).2⟩) (Kernel2Ideal.Value.run_blocks m g),
    (θ_run _ _ _).mono (fun r h c => by
      obtain ⟨e0, k⟩ := h c
      obtain ⟨b0, b1, b2⟩ := ha c
      exact ⟨e0.trans (congr (congr (congrArg (val_main_v12 (F := Ideal)) b0) b1) b2 :), k⟩) (Reference2Ideal.Value.run m' g')⟩

open Kernel3Ideal.Product Reference3Ideal.Read in
theorem value3 : algebraic_Kernel3Ideal_Reference3Ideal := fun m g m' g' _ ha =>
  ⟨fun c => val_main_v6 (a0 m c) (a1 m c),
    (θ_run _ _ _).mono (fun r h c => ⟨(h c).1.trans (result m c), (h c).2⟩) (Kernel3Ideal.Value.run_blocks m g),
    (θ_run _ _ _).mono (fun r h c => by
      obtain ⟨e0, k⟩ := h c
      obtain ⟨b0, b1⟩ := ha c
      exact ⟨e0.trans (congr (congrArg (val_main_v6 (F := Ideal)) b0) b1 :), k⟩) (Reference3Ideal.Value.run m' g')⟩

open Kernel4Ideal.Product Reference4Ideal.Read in
theorem value4 : algebraic_Kernel4Ideal_Reference4Ideal := fun m g m' g' _ ha =>
  ⟨fun c => val_main_v7 (a0 m c) (a1 m c) (a2 m c),
    (θ_run _ _ _).mono (fun r h c => ⟨(h c).1.trans (result m c), (h c).2⟩) (Kernel4Ideal.Value.run_blocks m g),
    (θ_run _ _ _).mono (fun r h c => by
      obtain ⟨e0, k⟩ := h c
      obtain ⟨b0, b1, b2⟩ := ha c
      exact ⟨e0.trans (congr (congr (congrArg (val_main_v7 (F := Ideal)) b0) b1) b2 :), k⟩) (Reference4Ideal.Value.run m' g')⟩

open Kernel5Ideal.Product Reference5Ideal.Read in
theorem value5 : algebraic_Kernel5Ideal_Reference5Ideal := fun m g m' g' _ ha =>
  ⟨fun c => val_main_v4 (a0 m c) (a1 m c),
    (θ_run _ _ _).mono (fun r h c => ⟨(h c).1.trans (result m c), (h c).2⟩) (Kernel5Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference5Ideal.Value.run m' g')⟩

open Kernel6Ideal.Product Reference6Ideal.Read in
theorem value6 : algebraic_Kernel6Ideal_Reference6Ideal := fun m g m' g' _ ha =>
  ⟨fun c => val_main_v4 (a0 m c) (a1 m c),
    (θ_run _ _ _).mono (fun r h c => ⟨(h c).1.trans (result m c), (h c).2⟩) (Kernel6Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference6Ideal.Value.run m' g')⟩

open Kernel7Ideal.Product Reference7Ideal.Read in
theorem value7 : algebraic_Kernel7Ideal_Reference7Ideal := fun m g m' g' _ ha =>
  ⟨fun c => val_main_v7 (a0 m c) (a1 m c) (a2 m c),
    (θ_run _ _ _).mono (fun r h c => ⟨(h c).1.trans (result m c), (h c).2⟩) (Kernel7Ideal.Value.run_blocks m g),
    (θ_run _ _ _).mono (fun r h c => by
      obtain ⟨e0, k⟩ := h c
      obtain ⟨b0, b1, b2⟩ := ha c
      exact ⟨e0.trans (congr (congr (congrArg (val_main_v7 (F := Ideal)) b0) b1) b2 :), k⟩) (Reference7Ideal.Value.run m' g')⟩

open Kernel8Ideal.Product Reference8Ideal.Read in
theorem value8 : algebraic_Kernel8Ideal_Reference8Ideal := fun m g m' g' _ ha =>
  ⟨fun c => val_main_v0 (a0 m c) (a1 m c),
    (θ_run _ _ _).mono (fun r h c => ⟨(h c).1.trans (result m c), (h c).2⟩) (Kernel8Ideal.Value.run_blocks m g),
    (θ_run _ _ _).mono (fun r h c => by
      obtain ⟨e0, k⟩ := h c
      obtain ⟨b0, b1⟩ := ha c
      exact ⟨e0.trans (congr (congrArg (val_main_v0 (F := Ideal)) b0) b1 :), k⟩) (Reference8Ideal.Value.run m' g')⟩

open Kernel9Ideal.Product Reference9Ideal.Read in
theorem value9 : algebraic_Kernel9Ideal_Reference9Ideal := fun m g m' g' _ ha =>
  ⟨fun c => val_main_v3 (a0 m c) (a1 m c),
    fun c => val_main_v6 (a0 m c) (a1 m c),
    (θ_run _ _ _).mono (fun r h c => ⟨(h c).1.trans (result2 m c), (h c).2.1.trans (result3 m c), (h c).2.2⟩) (Kernel9Ideal.Value.run_blocks m g),
    (θ_run _ _ _).mono (fun r h c => by
      obtain ⟨e0, e1, k⟩ := h c
      obtain ⟨b0, b1⟩ := ha c
      exact ⟨e0.trans (congr (congrArg (val_main_v3 (F := Ideal)) b0) b1 :),
        e1.trans (congr (congrArg (val_main_v6 (F := Ideal)) b0) b1 :), k⟩) (Reference9Ideal.Value.run m' g')⟩

open Kernel10Ideal.Product Reference10Ideal.Read in
theorem value10 : algebraic_Kernel10Ideal_Reference10Ideal := fun m g m' g' _ ha =>
  ⟨fun c => val_main_v2 (a0 m c) (a1 m c),
    (θ_run _ _ _).mono (fun r h c => ⟨(h c).1.trans (result m c), (h c).2⟩) (Kernel10Ideal.Value.run_blocks m g),
    (θ_run _ _ _).mono (fun r h c => by
      obtain ⟨e0, k⟩ := h c
      obtain ⟨b0, b1⟩ := ha c
      exact ⟨e0.trans (congr (congrArg (val_main_v2 (F := Ideal)) b0) b1 :), k⟩) (Reference10Ideal.Value.run m' g')⟩

open Kernel11Ideal.Product Reference11Ideal.Read in
theorem value11 : algebraic_Kernel11Ideal_Reference11Ideal := fun m g m' g' _ ha =>
  ⟨fun c => val_main_v2 (a0 m c) (a1 m c),
    (θ_run _ _ _).mono (fun r h c => ⟨(h c).1.trans (result m c), (h c).2⟩) (Kernel11Ideal.Value.run_blocks m g),
    (θ_run _ _ _).mono (fun r h c => by
      obtain ⟨e0, k⟩ := h c
      obtain ⟨b0, b1⟩ := ha c
      exact ⟨e0.trans (congr (congrArg (val_main_v2 (F := Ideal)) b0) b1 :), k⟩) (Reference11Ideal.Value.run m' g')⟩

open Kernel12Ideal.Product Reference12Ideal.Read in
theorem value12 : algebraic_Kernel12Ideal_Reference12Ideal := fun m g m' g' _ ha =>
  ⟨fun c => val_main_v4 (a0 m c) (a1 m c),
    (θ_run _ _ _).mono (fun r h c => ⟨(h c).1.trans (result m c), (h c).2⟩) (Kernel12Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference12Ideal.Value.run m' g')⟩

open Kernel13Ideal.Product Reference13Ideal.Read in
theorem value13 : algebraic_Kernel13Ideal_Reference13Ideal := fun m g m' g' _ ha =>
  ⟨fun c => val_main_v0 (a0 m c) (a1 m c),
    (θ_run _ _ _).mono (fun r h c => ⟨(h c).1.trans (result m c), (h c).2⟩) (Kernel13Ideal.Value.run_blocks m g),
    (θ_run _ _ _).mono (fun r h c => by
      obtain ⟨e0, k⟩ := h c
      obtain ⟨b0, b1⟩ := ha c
      exact ⟨e0.trans (congr (congrArg (val_main_v0 (F := Ideal)) b0) b1 :), k⟩) (Reference13Ideal.Value.run m' g')⟩

open Kernel14Ideal.Product Reference14Ideal.Read in
theorem value14 : algebraic_Kernel14Ideal_Reference14Ideal := fun m g m' g' _ ha =>
  ⟨fun c => val_main_v4 (a0 m c) (a1 m c),
    (θ_run _ _ _).mono (fun r h c => ⟨(h c).1.trans (result m c), (h c).2⟩) (Kernel14Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference14Ideal.Value.run m' g')⟩

open Kernel15Ideal.Product Reference15Ideal.Read in
theorem value15 : algebraic_Kernel15Ideal_Reference15Ideal := fun m g m' g' _ ha =>
  ⟨fun c => val_main_v58 (a0 m c) (a1 m c) (a4 m c) (a5 m c),
    fun c => val_main_v59 (a0 m c) (a2 m c) (a4 m c) (a5 m c),
    fun c => val_main_v60 (a0 m c) (a3 m c) (a4 m c) (a5 m c),
    fun c => val_main_v57 (a0 m c) (a4 m c) (a5 m c),
    fun c => val_main_v56 (a0 m c) (a4 m c) (a5 m c),
    fun c => val_main_v55 (a0 m c) (a4 m c) (a5 m c),
    fun c => val_main_v61 (a0 m c) (a5 m c),
    fun c => val_main_v62 (a0 m c) (a5 m c),
    fun c => val_main_v63 (a0 m c) (a5 m c),
    (θ_run _ _ _).mono (fun r h c => ⟨(h c).1.trans (result8 m c), (h c).2.1.trans (result9 m c), (h c).2.2.1.trans (result10 m c), (h c).2.2.2.1.trans (result11 m c), (h c).2.2.2.2.1.trans (result12 m c), (h c).2.2.2.2.2.1.trans (result13 m c), (h c).2.2.2.2.2.2.1.trans (result14 m c), (h c).2.2.2.2.2.2.2.1.trans (result15 m c), (h c).2.2.2.2.2.2.2.2.1.trans (result16 m c), (h c).2.2.2.2.2.2.2.2.2⟩) (Kernel15Ideal.Value.run_blocks m g),
    (θ_run _ _ _).mono (fun r h c => by
      obtain ⟨e0, e1, e2, e3, e4, e5, e6, e7, e8, k⟩ := h c
      obtain ⟨b0, b1, b2, b3, b4, b5⟩ := ha c
      exact ⟨e0.trans (congr (congr (congr (congrArg (val_main_v58 (F := Ideal)) b0) b1) b4) b5 :),
        e1.trans (congr (congr (congr (congrArg (val_main_v59 (F := Ideal)) b0) b2) b4) b5 :),
        e2.trans (congr (congr (congr (congrArg (val_main_v60 (F := Ideal)) b0) b3) b4) b5 :),
        e3.trans (congr (congr (congrArg (val_main_v57 (F := Ideal)) b0) b4) b5 :),
        e4.trans (congr (congr (congrArg (val_main_v56 (F := Ideal)) b0) b4) b5 :),
        e5.trans (congr (congr (congrArg (val_main_v55 (F := Ideal)) b0) b4) b5 :),
        e6.trans (congr (congrArg (val_main_v61 (F := Ideal)) b0) b5 :),
        e7.trans (congr (congrArg (val_main_v62 (F := Ideal)) b0) b5 :),
        e8.trans (congr (congrArg (val_main_v63 (F := Ideal)) b0) b5 :), k⟩) (Reference15Ideal.Value.run m' g')⟩

open Kernel16Ideal.Product Reference16Ideal.Read in
theorem value16 : algebraic_Kernel16Ideal_Reference16Ideal := fun m g m' g' _ ha =>
  ⟨fun c => val_main_v35 (a0 m c) (a1 m c) (a2 m c) (a3 m c) (a4 m c),
    (θ_run _ _ _).mono (fun r h c => ⟨(h c).1.trans (result m c), (h c).2⟩) (Kernel16Ideal.Value.run_blocks m g),
    (θ_run _ _ _).mono (fun r h c => by
      obtain ⟨e0, k⟩ := h c
      obtain ⟨b0, b1, b2, b3, b4⟩ := ha c
      exact ⟨e0.trans (congr (congr (congr (congr (congrArg (val_main_v35 (F := Ideal)) b0) b1) b2) b3) b4 :), k⟩) (Reference16Ideal.Value.run m' g')⟩

open Kernel17Ideal.Product Reference17Ideal.Read in
theorem value17 : algebraic_Kernel17Ideal_Reference17Ideal := fun m g m' g' _ ha =>
  ⟨fun c => val_main_v0 (a0 m c) (a1 m c),
    (θ_run _ _ _).mono (fun r h c => ⟨(h c).1.trans (result m c), (h c).2⟩) (Kernel17Ideal.Value.run_blocks m g),
    (θ_run _ _ _).mono (fun r h c => by
      obtain ⟨e0, k⟩ := h c
      obtain ⟨b0, b1⟩ := ha c
      exact ⟨e0.trans (congr (congrArg (val_main_v0 (F := Ideal)) b0) b1 :), k⟩) (Reference17Ideal.Value.run m' g')⟩

open Kernel18Ideal.Product Reference18Ideal.Read in
theorem value18 : algebraic_Kernel18Ideal_Reference18Ideal := fun m g m' g' _ ha =>
  ⟨fun c => val_main_v0 (a0 m c) (a1 m c),
    (θ_run _ _ _).mono (fun r h c => ⟨(h c).1.trans (result m c), (h c).2⟩) (Kernel18Ideal.Value.run_blocks m g),
    (θ_run _ _ _).mono (fun r h c => by
      obtain ⟨e0, k⟩ := h c
      obtain ⟨b0, b1⟩ := ha c
      exact ⟨e0.trans (congr (congrArg (val_main_v0 (F := Ideal)) b0) b1 :), k⟩) (Reference18Ideal.Value.run m' g')⟩

open Kernel19Ideal.Product Reference19Ideal.Read in
theorem value19 : algebraic_Kernel19Ideal_Reference19Ideal := fun m g m' g' _ ha =>
  ⟨fun c => val_main_v4 (a0 m c) (a1 m c),
    (θ_run _ _ _).mono (fun r h c => ⟨(h c).1.trans (result m c), (h c).2⟩) (Kernel19Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference19Ideal.Value.run m' g')⟩

open Kernel20Ideal.Product Reference20Ideal.Read in
theorem value20 : algebraic_Kernel20Ideal_Reference20Ideal := fun m g m' g' _ ha =>
  ⟨fun c => val_main_v2 (a0 m c) (a1 m c),
    (θ_run _ _ _).mono (fun r h c => ⟨(h c).1.trans (result m c), (h c).2⟩) (Kernel20Ideal.Value.run_blocks m g),
    (θ_run _ _ _).mono (fun r h c => by
      obtain ⟨e0, k⟩ := h c
      obtain ⟨b0, b1⟩ := ha c
      exact ⟨e0.trans (congr (congrArg (val_main_v2 (F := Ideal)) b0) b1 :), k⟩) (Reference20Ideal.Value.run m' g')⟩

open Kernel21Ideal.Product Reference21Ideal.Read in
theorem value21 : algebraic_Kernel21Ideal_Reference21Ideal := fun m g m' g' _ ha =>
  ⟨fun c => val_main_v4 (a0 m c) (a1 m c),
    (θ_run _ _ _).mono (fun r h c => ⟨(h c).1.trans (result m c), (h c).2⟩) (Kernel21Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference21Ideal.Value.run m' g')⟩

open Kernel22Ideal.Product Reference22Ideal.Read in
theorem value22 : algebraic_Kernel22Ideal_Reference22Ideal := fun m g m' g' _ ha =>
  ⟨fun c => val_main_v2 (a0 m c) (a1 m c),
    (θ_run _ _ _).mono (fun r h c => ⟨(h c).1.trans (result m c), (h c).2⟩) (Kernel22Ideal.Value.run_blocks m g),
    (θ_run _ _ _).mono (fun r h c => by
      obtain ⟨e0, k⟩ := h c
      obtain ⟨b0, b1⟩ := ha c
      exact ⟨e0.trans (congr (congrArg (val_main_v2 (F := Ideal)) b0) b1 :), k⟩) (Reference22Ideal.Value.run m' g')⟩

open Kernel23Ideal.Product Reference23Ideal.Read in
theorem value23 : algebraic_Kernel23Ideal_Reference23Ideal := fun m g m' g' _ ha =>
  ⟨fun c => val_main_v0 (a0 m c) (a1 m c),
    (θ_run _ _ _).mono (fun r h c => ⟨(h c).1.trans (result m c), (h c).2⟩) (Kernel23Ideal.Value.run_blocks m g),
    (θ_run _ _ _).mono (fun r h c => by
      obtain ⟨e0, k⟩ := h c
      obtain ⟨b0, b1⟩ := ha c
      exact ⟨e0.trans (congr (congrArg (val_main_v0 (F := Ideal)) b0) b1 :), k⟩) (Reference23Ideal.Value.run m' g')⟩

open Kernel24Ideal.Product Reference24Ideal.Read in
theorem value24 : algebraic_Kernel24Ideal_Reference24Ideal := fun m g m' g' _ ha =>
  ⟨fun c => val_main_v4 (a0 m c) (a1 m c),
    (θ_run _ _ _).mono (fun r h c => ⟨(h c).1.trans (result m c), (h c).2⟩) (Kernel24Ideal.Value.run_blocks m g),
    (θ_run _ _ _).mono (fun r h c => by
      obtain ⟨e0, k⟩ := h c
      obtain ⟨b0, b1⟩ := ha c
      exact ⟨e0.trans (congr (congrArg (val_main_v4 (F := Ideal)) b0) b1 :), k⟩) (Reference24Ideal.Value.run m' g')⟩

open Kernel25Ideal Reference25Ideal.Read in
theorem value25 : algebraic_Kernel25Ideal_Reference25Ideal := fun m g m' g' _ ha =>
  ⟨fun c => val_main_v1 (Gen.V m c main_arg3),
    fun c => val_main_v25 (Gen.V m c main_arg0) (Gen.V m c main_arg1) (Gen.V m c main_arg2) (Gen.V m c main_arg3),
    fun c => val_main_v6 (Gen.V m c main_arg1) (Gen.V m c main_arg3),
    fun c => val_main_v12 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v1 (F := Ideal)) b3 :),
        e1.trans (congr (congr (congr (congrArg (val_main_v25 (F := Ideal)) b0) b1) b2) b3 :),
        e2.trans (congr (congrArg (val_main_v6 (F := Ideal)) b1) b3 :),
        e3.trans (congr (congrArg (val_main_v12 (F := Ideal)) b2) b3 :), k⟩) (Reference25Ideal.Value.run m' g')⟩

open Kernel26Ideal Reference26Ideal.Read in
theorem value26 : algebraic_Kernel26Ideal_Reference26Ideal := fun m g m' g' _ ha =>
  ⟨fun c => val_main_v0 (Gen.V m c main_arg3),
    fun c => val_main_v24 (Gen.V m c main_arg0) (Gen.V m c main_arg1) (Gen.V m c main_arg2) (Gen.V m c main_arg3),
    fun c => val_main_v5 (Gen.V m c main_arg1) (Gen.V m c main_arg3),
    fun c => val_main_v11 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v0 (F := Ideal)) b3 :),
        e1.trans (congr (congr (congr (congrArg (val_main_v24 (F := Ideal)) b0) b1) b2) b3 :),
        e2.trans (congr (congrArg (val_main_v5 (F := Ideal)) b1) b3 :),
        e3.trans (congr (congrArg (val_main_v11 (F := Ideal)) b2) b3 :), k⟩) (Reference26Ideal.Value.run m' g')⟩

open Kernel27Ideal Reference27Ideal.Read in
theorem value27 : algebraic_Kernel27Ideal_Reference27Ideal := fun m g m' g' _ ha =>
  ⟨fun c => val_main_v0 (Gen.V m c main_arg3),
    fun c => val_main_v24 (Gen.V m c main_arg0) (Gen.V m c main_arg1) (Gen.V m c main_arg2) (Gen.V m c main_arg3),
    fun c => val_main_v5 (Gen.V m c main_arg1) (Gen.V m c main_arg3),
    fun c => val_main_v11 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v0 (F := Ideal)) b3 :),
        e1.trans (congr (congr (congr (congrArg (val_main_v24 (F := Ideal)) b0) b1) b2) b3 :),
        e2.trans (congr (congrArg (val_main_v5 (F := Ideal)) b1) b3 :),
        e3.trans (congr (congrArg (val_main_v11 (F := Ideal)) b2) b3 :), k⟩) (Reference27Ideal.Value.run m' g')⟩

open Kernel28Ideal Reference28Ideal.Read in
theorem value28 : algebraic_Kernel28Ideal_Reference28Ideal := fun m g m' g' _ ha =>
  ⟨fun c => val_main_v0 (Gen.V m c main_arg3),
    fun c => val_main_v24 (Gen.V m c main_arg0) (Gen.V m c main_arg1) (Gen.V m c main_arg2) (Gen.V m c main_arg3),
    fun c => val_main_v5 (Gen.V m c main_arg1) (Gen.V m c main_arg3),
    fun c => val_main_v11 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v0 (F := Ideal)) b3 :),
        e1.trans (congr (congr (congr (congrArg (val_main_v24 (F := Ideal)) b0) b1) b2) b3 :),
        e2.trans (congr (congrArg (val_main_v5 (F := Ideal)) b1) b3 :),
        e3.trans (congr (congrArg (val_main_v11 (F := Ideal)) b2) b3 :), k⟩) (Reference28Ideal.Value.run m' g')⟩

open Kernel29Ideal Reference29Ideal.Read in
theorem value29 : algebraic_Kernel29Ideal_Reference29Ideal := fun m g m' g' _ ha =>
  ⟨fun c => val_main_v0 (Gen.V m c main_arg3),
    fun c => val_main_v24 (Gen.V m c main_arg0) (Gen.V m c main_arg1) (Gen.V m c main_arg2) (Gen.V m c main_arg3),
    fun c => val_main_v5 (Gen.V m c main_arg1) (Gen.V m c main_arg3),
    fun c => val_main_v11 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v0 (F := Ideal)) b3 :),
        e1.trans (congr (congr (congr (congrArg (val_main_v24 (F := Ideal)) b0) b1) b2) b3 :),
        e2.trans (congr (congrArg (val_main_v5 (F := Ideal)) b1) b3 :),
        e3.trans (congr (congrArg (val_main_v11 (F := Ideal)) b2) b3 :), k⟩) (Reference29Ideal.Value.run m' g')⟩

open Kernel30Ideal Reference30Ideal.Read in
theorem value30 : algebraic_Kernel30Ideal_Reference30Ideal := fun m g m' g' _ ha =>
  ⟨fun c => val_main_v0 (Gen.V m c main_arg3),
    fun c => val_main_v24 (Gen.V m c main_arg0) (Gen.V m c main_arg1) (Gen.V m c main_arg2) (Gen.V m c main_arg3),
    fun c => val_main_v5 (Gen.V m c main_arg1) (Gen.V m c main_arg3),
    fun c => val_main_v11 (Gen.V m c main_arg2) (Gen.V m c main_arg3),
    (θ_run _ _ _).mono (fun r h c => ⟨(h c).1.trans (Product.grad _ _ _ _), (h c).2.1.trans (Product.step _ _ _ _), (h c).2.2.1.trans (Product.first _ _ _ _), (h c).2.2.2.1.trans (Product.second _ _ _ _), (h c).2.2.2.2⟩) (Value.run m g),
    (θ_run _ _ _).mono (fun r h c => by
      obtain ⟨e0, e1, e2, e3, k⟩ := h c
      obtain ⟨b0, b1, b2, b3⟩ := ha c
      exact ⟨e0.trans (congrArg (val_main_v0 (F := Ideal)) b3 :),
        e1.trans (congr (congr (congr (congrArg (val_main_v24 (F := Ideal)) b0) b1) b2) b3 :),
        e2.trans (congr (congrArg (val_main_v5 (F := Ideal)) b1) b3 :),
        e3.trans (congr (congrArg (val_main_v11 (F := Ideal)) b2) b3 :), k⟩) (Reference30Ideal.Value.run m' g')⟩

open Kernel31Ideal Reference31Ideal.Read in
theorem value31 : algebraic_Kernel31Ideal_Reference31Ideal := fun m g m' g' _ ha =>
  ⟨fun c => val_main_v1 (Gen.V m c main_arg3),
    fun c => val_main_v25 (Gen.V m c main_arg0) (Gen.V m c main_arg1) (Gen.V m c main_arg2) (Gen.V m c main_arg3),
    fun c => val_main_v6 (Gen.V m c main_arg1) (Gen.V m c main_arg3),
    fun c => val_main_v12 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v1 (F := Ideal)) b3 :),
        e1.trans (congr (congr (congr (congrArg (val_main_v25 (F := Ideal)) b0) b1) b2) b3 :),
        e2.trans (congr (congrArg (val_main_v6 (F := Ideal)) b1) b3 :),
        e3.trans (congr (congrArg (val_main_v12 (F := Ideal)) b2) b3 :), k⟩) (Reference31Ideal.Value.run m' g')⟩

open Kernel32Ideal Reference32Ideal.Read in
theorem value32 : algebraic_Kernel32Ideal_Reference32Ideal := fun m g m' g' _ ha =>
  ⟨fun c => val_main_v1 (Gen.V m c main_arg3),
    fun c => val_main_v25 (Gen.V m c main_arg0) (Gen.V m c main_arg1) (Gen.V m c main_arg2) (Gen.V m c main_arg3),
    fun c => val_main_v6 (Gen.V m c main_arg1) (Gen.V m c main_arg3),
    fun c => val_main_v12 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v1 (F := Ideal)) b3 :),
        e1.trans (congr (congr (congr (congrArg (val_main_v25 (F := Ideal)) b0) b1) b2) b3 :),
        e2.trans (congr (congrArg (val_main_v6 (F := Ideal)) b1) b3 :),
        e3.trans (congr (congrArg (val_main_v12 (F := Ideal)) b2) b3 :), k⟩) (Reference32Ideal.Value.run m' g')⟩

open Kernel33Ideal Reference33Ideal.Read in
theorem value33 : algebraic_Kernel33Ideal_Reference33Ideal := fun m g m' g' _ ha =>
  ⟨fun c => val_main_v1 (Gen.V m c main_arg3),
    fun c => val_main_v25 (Gen.V m c main_arg0) (Gen.V m c main_arg1) (Gen.V m c main_arg2) (Gen.V m c main_arg3),
    fun c => val_main_v6 (Gen.V m c main_arg1) (Gen.V m c main_arg3),
    fun c => val_main_v12 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v1 (F := Ideal)) b3 :),
        e1.trans (congr (congr (congr (congrArg (val_main_v25 (F := Ideal)) b0) b1) b2) b3 :),
        e2.trans (congr (congrArg (val_main_v6 (F := Ideal)) b1) b3 :),
        e3.trans (congr (congrArg (val_main_v12 (F := Ideal)) b2) b3 :), k⟩) (Reference33Ideal.Value.run m' g')⟩

open Kernel34Ideal Reference34Ideal.Read in
theorem value34 : algebraic_Kernel34Ideal_Reference34Ideal := fun m g m' g' _ ha =>
  ⟨fun c => val_main_v1 (Gen.V m c main_arg3),
    fun c => val_main_v25 (Gen.V m c main_arg0) (Gen.V m c main_arg1) (Gen.V m c main_arg2) (Gen.V m c main_arg3),
    fun c => val_main_v6 (Gen.V m c main_arg1) (Gen.V m c main_arg3),
    fun c => val_main_v12 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v1 (F := Ideal)) b3 :),
        e1.trans (congr (congr (congr (congrArg (val_main_v25 (F := Ideal)) b0) b1) b2) b3 :),
        e2.trans (congr (congrArg (val_main_v6 (F := Ideal)) b1) b3 :),
        e3.trans (congr (congrArg (val_main_v12 (F := Ideal)) b2) b3 :), k⟩) (Reference34Ideal.Value.run m' g')⟩

open Kernel35Ideal Reference35Ideal.Read in
theorem value35 : algebraic_Kernel35Ideal_Reference35Ideal := fun m g m' g' _ ha =>
  ⟨fun c => val_main_v2 (Gen.V m c main_arg3),
    fun c => val_main_v26 (Gen.V m c main_arg0) (Gen.V m c main_arg1) (Gen.V m c main_arg2) (Gen.V m c main_arg3),
    fun c => val_main_v7 (Gen.V m c main_arg1) (Gen.V m c main_arg3),
    fun c => val_main_v13 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v2 (F := Ideal)) b3 :),
        e1.trans (congr (congr (congr (congrArg (val_main_v26 (F := Ideal)) b0) b1) b2) b3 :),
        e2.trans (congr (congrArg (val_main_v7 (F := Ideal)) b1) b3 :),
        e3.trans (congr (congrArg (val_main_v13 (F := Ideal)) b2) b3 :), k⟩) (Reference35Ideal.Value.run m' g')⟩

open Kernel36Ideal Reference36Ideal.Read in
theorem value36 : algebraic_Kernel36Ideal_Reference36Ideal := fun m g m' g' _ ha =>
  ⟨fun c => val_main_v2 (Gen.V m c main_arg3),
    fun c => val_main_v26 (Gen.V m c main_arg0) (Gen.V m c main_arg1) (Gen.V m c main_arg2) (Gen.V m c main_arg3),
    fun c => val_main_v7 (Gen.V m c main_arg1) (Gen.V m c main_arg3),
    fun c => val_main_v13 (Gen.V m c main_arg2) (Gen.V m c main_arg3),
    (θ_run _ _ _).mono (fun r h c => ⟨(h c).1.trans (Product.result4 m c), (h c).2.1.trans (Product.result5 m c), (h c).2.2.1.trans (Product.result6 m c), (h c).2.2.2.1.trans (Product.result7 m c), (h c).2.2.2.2⟩) (Value.run_blocks m g),
    (θ_run _ _ _).mono (fun r h c => by
      obtain ⟨e0, e1, e2, e3, k⟩ := h c
      obtain ⟨b0, b1, b2, b3⟩ := ha c
      exact ⟨e0.trans (congrArg (val_main_v2 (F := Ideal)) b3 :),
        e1.trans (congr (congr (congr (congrArg (val_main_v26 (F := Ideal)) b0) b1) b2) b3 :),
        e2.trans (congr (congrArg (val_main_v7 (F := Ideal)) b1) b3 :),
        e3.trans (congr (congrArg (val_main_v13 (F := Ideal)) b2) b3 :), k⟩) (Reference36Ideal.Value.run m' g')⟩

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Kernel33.Gen.facts, Kernel33Ideal.Gen.facts, Reference33Ideal.Gen.facts,
  Kernel34.Gen.facts, Kernel34Ideal.Gen.facts, Reference34Ideal.Gen.facts,
  Kernel35.Gen.facts, Kernel35Ideal.Gen.facts, Reference35Ideal.Gen.facts,
  Kernel36.Gen.facts, Kernel36Ideal.Gen.facts, Reference36Ideal.Gen.facts,
  Pre_finite.Gen.facts,
  fun m ρ _ => Kernel.Fox.quiet m ρ,
  fun m ρ _ => KernelIdeal.Fox.quiet m ρ,
  fun m ρ _ => KernelIdeal.Fox.quiet m ρ,
  fun m ρ _ => reference_quiet m ρ,
  fun m ρ _ => reference_quiet m ρ,
  fun m ρ _ => Kernel2.Gen.frame m ρ, fun m ρ _ => Kernel2Ideal.Gen.frame m ρ, fun m ρ _ =>
  (θ_run _ _ _).mono (fun r h => ⟨fun c => (h c).2, sem_eq_zero_of_no_sems (by decide) r.2⟩) (Reference2Ideal.Value.run m ρ),
  fun m ρ _ => Kernel3.Gen.frame m ρ, fun m ρ _ => Kernel3Ideal.Gen.frame m ρ, fun m ρ _ =>
  (θ_run _ _ _).mono (fun r h => ⟨fun c => (h c).2, sem_eq_zero_of_no_sems (by decide) r.2⟩) (Reference3Ideal.Value.run m ρ),
  fun m ρ _ => Kernel4.Gen.frame m ρ, fun m ρ _ => Kernel4Ideal.Gen.frame m ρ, fun m ρ _ =>
  (θ_run _ _ _).mono (fun r h => ⟨fun c => (h c).2, sem_eq_zero_of_no_sems (by decide) r.2⟩) (Reference4Ideal.Value.run m ρ),
  fun m ρ _ => Kernel5.Gen.frame m ρ, fun m ρ _ => Kernel5Ideal.Gen.frame m ρ, fun m ρ _ =>
  (θ_run _ _ _).mono (fun r h => ⟨fun c => (h c).2, sem_eq_zero_of_no_sems (by decide) r.2⟩) (Reference5Ideal.Value.run m ρ),
  fun m ρ _ => Kernel6.Gen.frame m ρ, fun m ρ _ => Kernel6Ideal.Gen.frame m ρ, fun m ρ _ =>
  (θ_run _ _ _).mono (fun r h => ⟨fun c => (h c).2, sem_eq_zero_of_no_sems (by decide) r.2⟩) (Reference6Ideal.Value.run m ρ),
  fun m ρ _ => Kernel7.Gen.frame m ρ, fun m ρ _ => Kernel7Ideal.Gen.frame m ρ, fun m ρ _ =>
  (θ_run _ _ _).mono (fun r h => ⟨fun c => (h c).2, sem_eq_zero_of_no_sems (by decide) r.2⟩) (Reference7Ideal.Value.run m ρ),
  fun m ρ _ => Kernel8.Gen.frame m ρ, fun m ρ _ => Kernel8Ideal.Gen.frame m ρ, fun m ρ _ =>
  (θ_run _ _ _).mono (fun r h => ⟨fun c => (h c).2, sem_eq_zero_of_no_sems (by decide) r.2⟩) (Reference8Ideal.Value.run m ρ),
  fun m ρ _ => Kernel9.Gen.frame m ρ, fun m ρ _ => Kernel9Ideal.Gen.frame m ρ, fun m ρ _ =>
  (θ_run _ _ _).mono (fun r h => ⟨fun c => (h c).2.2, sem_eq_zero_of_no_sems (by decide) r.2⟩) (Reference9Ideal.Value.run m ρ),
  fun m ρ _ => Kernel10.Gen.frame m ρ, fun m ρ _ => Kernel10Ideal.Gen.frame m ρ, fun m ρ _ =>
  (θ_run _ _ _).mono (fun r h => ⟨fun c => (h c).2, sem_eq_zero_of_no_sems (by decide) r.2⟩) (Reference10Ideal.Value.run m ρ),
  fun m ρ _ => Kernel11.Gen.frame m ρ, fun m ρ _ => Kernel11Ideal.Gen.frame m ρ, fun m ρ _ =>
  (θ_run _ _ _).mono (fun r h => ⟨fun c => (h c).2, sem_eq_zero_of_no_sems (by decide) r.2⟩) (Reference11Ideal.Value.run m ρ),
  fun m ρ _ => Kernel12.Gen.frame m ρ, fun m ρ _ => Kernel12Ideal.Gen.frame m ρ, fun m ρ _ =>
  (θ_run _ _ _).mono (fun r h => ⟨fun c => (h c).2, sem_eq_zero_of_no_sems (by decide) r.2⟩) (Reference12Ideal.Value.run m ρ),
  fun m ρ _ => Kernel13.Gen.frame m ρ, fun m ρ _ => Kernel13Ideal.Gen.frame m ρ, fun m ρ _ =>
  (θ_run _ _ _).mono (fun r h => ⟨fun c => (h c).2, sem_eq_zero_of_no_sems (by decide) r.2⟩) (Reference13Ideal.Value.run m ρ),
  fun m ρ _ => Kernel14.Gen.frame m ρ, fun m ρ _ => Kernel14Ideal.Gen.frame m ρ, fun m ρ _ =>
  (θ_run _ _ _).mono (fun r h => ⟨fun c => (h c).2, sem_eq_zero_of_no_sems (by decide) r.2⟩) (Reference14Ideal.Value.run m ρ),
  fun m ρ _ => Kernel15.Gen.frame m ρ, fun m ρ _ => Kernel15Ideal.Gen.frame m ρ, fun m ρ _ =>
  (θ_run _ _ _).mono (fun r h => ⟨fun c => (h c).2.2.2.2.2.2.2.2.2, sem_eq_zero_of_no_sems (by decide) r.2⟩) (Reference15Ideal.Value.run m ρ),
  fun m ρ _ => Kernel16.Gen.frame m ρ, fun m ρ _ => Kernel16Ideal.Gen.frame m ρ, fun m ρ _ =>
  (θ_run _ _ _).mono (fun r h => ⟨fun c => (h c).2, sem_eq_zero_of_no_sems (by decide) r.2⟩) (Reference16Ideal.Value.run m ρ),
  fun m ρ _ => Kernel17.Gen.frame m ρ, fun m ρ _ => Kernel17Ideal.Gen.frame m ρ, fun m ρ _ =>
  (θ_run _ _ _).mono (fun r h => ⟨fun c => (h c).2, sem_eq_zero_of_no_sems (by decide) r.2⟩) (Reference17Ideal.Value.run m ρ),
  fun m ρ _ => Kernel18.Gen.frame m ρ, fun m ρ _ => Kernel18Ideal.Gen.frame m ρ, fun m ρ _ =>
  (θ_run _ _ _).mono (fun r h => ⟨fun c => (h c).2, sem_eq_zero_of_no_sems (by decide) r.2⟩) (Reference18Ideal.Value.run m ρ),
  fun m ρ _ => Kernel19.Gen.frame m ρ, fun m ρ _ => Kernel19Ideal.Gen.frame m ρ, fun m ρ _ =>
  (θ_run _ _ _).mono (fun r h => ⟨fun c => (h c).2, sem_eq_zero_of_no_sems (by decide) r.2⟩) (Reference19Ideal.Value.run m ρ),
  fun m ρ _ => Kernel20.Gen.frame m ρ, fun m ρ _ => Kernel20Ideal.Gen.frame m ρ, fun m ρ _ =>
  (θ_run _ _ _).mono (fun r h => ⟨fun c => (h c).2, sem_eq_zero_of_no_sems (by decide) r.2⟩) (Reference20Ideal.Value.run m ρ),
  fun m ρ _ => Kernel21.Gen.frame m ρ, fun m ρ _ => Kernel21Ideal.Gen.frame m ρ, fun m ρ _ =>
  (θ_run _ _ _).mono (fun r h => ⟨fun c => (h c).2, sem_eq_zero_of_no_sems (by decide) r.2⟩) (Reference21Ideal.Value.run m ρ),
  fun m ρ _ => Kernel22.Gen.frame m ρ, fun m ρ _ => Kernel22Ideal.Gen.frame m ρ, fun m ρ _ =>
  (θ_run _ _ _).mono (fun r h => ⟨fun c => (h c).2, sem_eq_zero_of_no_sems (by decide) r.2⟩) (Reference22Ideal.Value.run m ρ),
  fun m ρ _ => Kernel23.Gen.frame m ρ, fun m ρ _ => Kernel23Ideal.Gen.frame m ρ, fun m ρ _ =>
  (θ_run _ _ _).mono (fun r h => ⟨fun c => (h c).2, sem_eq_zero_of_no_sems (by decide) r.2⟩) (Reference23Ideal.Value.run m ρ),
  fun m ρ _ => Kernel24.Gen.frame m ρ, fun m ρ _ => Kernel24Ideal.Gen.frame m ρ, fun m ρ _ =>
  (θ_run _ _ _).mono (fun r h => ⟨fun c => (h c).2, sem_eq_zero_of_no_sems (by decide) r.2⟩) (Reference24Ideal.Value.run m ρ),
  fun m ρ _ => Kernel25.Gen.frame m ρ, fun m ρ _ => Kernel25Ideal.Gen.frame m ρ, fun m ρ _ =>
  (θ_run _ _ _).mono (fun r h => ⟨fun c => (h c).2.2.2.2, sem_eq_zero_of_no_sems (by decide) r.2⟩) (Reference25Ideal.Value.run m ρ),
  fun m ρ _ => Kernel26.Gen.frame m ρ, fun m ρ _ => Kernel26Ideal.Gen.frame m ρ, fun m ρ _ =>
  (θ_run _ _ _).mono (fun r h => ⟨fun c => (h c).2.2.2.2, sem_eq_zero_of_no_sems (by decide) r.2⟩) (Reference26Ideal.Value.run m ρ),
  fun m ρ _ => Kernel27.Gen.frame m ρ, fun m ρ _ => Kernel27Ideal.Gen.frame m ρ, fun m ρ _ =>
  (θ_run _ _ _).mono (fun r h => ⟨fun c => (h c).2.2.2.2, sem_eq_zero_of_no_sems (by decide) r.2⟩) (Reference27Ideal.Value.run m ρ),
  fun m ρ _ => Kernel28.Gen.frame m ρ, fun m ρ _ => Kernel28Ideal.Gen.frame m ρ, fun m ρ _ =>
  (θ_run _ _ _).mono (fun r h => ⟨fun c => (h c).2.2.2.2, sem_eq_zero_of_no_sems (by decide) r.2⟩) (Reference28Ideal.Value.run m ρ),
  fun m ρ _ => Kernel29.Gen.frame m ρ, fun m ρ _ => Kernel29Ideal.Gen.frame m ρ, fun m ρ _ =>
  (θ_run _ _ _).mono (fun r h => ⟨fun c => (h c).2.2.2.2, sem_eq_zero_of_no_sems (by decide) r.2⟩) (Reference29Ideal.Value.run m ρ),
  fun m ρ _ => Kernel30.Gen.frame m ρ, fun m ρ _ => Kernel30Ideal.Gen.frame m ρ, fun m ρ _ =>
  (θ_run _ _ _).mono (fun r h => ⟨fun c => (h c).2.2.2.2, sem_eq_zero_of_no_sems (by decide) r.2⟩) (Reference30Ideal.Value.run m ρ),
  fun m ρ _ => Kernel31.Gen.frame m ρ, fun m ρ _ => Kernel31Ideal.Gen.frame m ρ, fun m ρ _ =>
  (θ_run _ _ _).mono (fun r h => ⟨fun c => (h c).2.2.2.2, sem_eq_zero_of_no_sems (by decide) r.2⟩) (Reference31Ideal.Value.run m ρ),
  fun m ρ _ => Kernel32.Gen.frame m ρ, fun m ρ _ => Kernel32Ideal.Gen.frame m ρ, fun m ρ _ =>
  (θ_run _ _ _).mono (fun r h => ⟨fun c => (h c).2.2.2.2, sem_eq_zero_of_no_sems (by decide) r.2⟩) (Reference32Ideal.Value.run m ρ),
  fun m ρ _ => Kernel33.Gen.frame m ρ, fun m ρ _ => Kernel33Ideal.Gen.frame m ρ, fun m ρ _ =>
  (θ_run _ _ _).mono (fun r h => ⟨fun c => (h c).2.2.2.2, sem_eq_zero_of_no_sems (by decide) r.2⟩) (Reference33Ideal.Value.run m ρ),
  fun m ρ _ => Kernel34.Gen.frame m ρ, fun m ρ _ => Kernel34Ideal.Gen.frame m ρ, fun m ρ _ =>
  (θ_run _ _ _).mono (fun r h => ⟨fun c => (h c).2.2.2.2, sem_eq_zero_of_no_sems (by decide) r.2⟩) (Reference34Ideal.Value.run m ρ),
  fun m ρ _ => Kernel35.Gen.frame m ρ, fun m ρ _ => Kernel35Ideal.Gen.frame m ρ, fun m ρ _ =>
  (θ_run _ _ _).mono (fun r h => ⟨fun c => (h c).2.2.2.2, sem_eq_zero_of_no_sems (by decide) r.2⟩) (Reference35Ideal.Value.run m ρ),
  fun m ρ _ => Kernel36.Gen.frame m ρ, fun m ρ _ => Kernel36Ideal.Gen.frame m ρ, fun m ρ _ =>
  (θ_run _ _ _).mono (fun r h => ⟨fun c => (h c).2.2.2.2, sem_eq_zero_of_no_sems (by decide) r.2⟩) (Reference36Ideal.Value.run m ρ),
  IdealRules.named_const.statement KernelIdeal.κ "mask" .f32 0xF149F2CA#32 ⊥ rfl,
  value,
  trivial, value2,
  trivial, value3,
  trivial, value4,
  trivial, value5,
  trivial, value6,
  trivial, value7,
  trivial, value8,
  trivial, value9,
  trivial, value10,
  trivial, value11,
  trivial, value12,
  trivial, value13,
  trivial, value14,
  trivial, value15,
  trivial, value16,
  trivial, value17,
  trivial, value18,
  trivial, value19,
  trivial, value20,
  trivial, value21,
  trivial, value22,
  trivial, value23,
  trivial, value24,
  trivial, value25,
  trivial, value26,
  trivial, value27,
  trivial, value28,
  trivial, value29,
  trivial, value30,
  trivial, value31,
  trivial, value32,
  trivial, value33,
  trivial, value34,
  trivial, value35,
  trivial, value36⟩

end Cert.Proof

end
